-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelPre (m : (ℓ : Loc Cert.KernelPre.nD Cert.KernelPre.τ Cert.KernelPre.sig) → Buf (Elt Bits) ℓ) : Prop :=
  True

def Pre_KernelPreIdeal (m : (ℓ : Loc Cert.KernelPreIdeal.nD Cert.KernelPreIdeal.τ Cert.KernelPreIdeal.sig) → Buf (Elt Ideal) ℓ) : Prop :=
  True

def Pre_ReferencePreIdeal (m : (ℓ : Loc Cert.ReferencePreIdeal.nD Cert.ReferencePreIdeal.τ Cert.ReferencePreIdeal.sig) → Buf (Elt Ideal) ℓ) : Prop :=
  True

def Pre_KernelMod (m : (ℓ : Loc Cert.KernelMod.nD Cert.KernelMod.τ Cert.KernelMod.sig) → Buf (Elt Bits) ℓ) : Prop :=
  True

def Pre_KernelModIdeal (m : (ℓ : Loc Cert.KernelModIdeal.nD Cert.KernelModIdeal.τ Cert.KernelModIdeal.sig) → Buf (Elt Ideal) ℓ) : Prop :=
  True

def Pre_KernelModIdeal_above_bottom [hPre_above_bottom : Cert.Pre_above_bottom.Facts] (m : (ℓ : Loc Cert.KernelModIdeal.nD Cert.KernelModIdeal.τ Cert.KernelModIdeal.sig) → Buf (Elt Ideal) ℓ) : Prop :=
  ∀ c : Dev Cert.KernelModIdeal.nD,
    (Cert.Pre_above_bottom.fn (F := Ideal) (m ((c.tc : Thread Cert.KernelModIdeal.nD Cert.KernelModIdeal.τ).loc Cert.KernelModIdeal.main_arg0)) (m ((c.tc : Thread Cert.KernelModIdeal.nD Cert.KernelModIdeal.τ).loc Cert.KernelModIdeal.main_arg1)) (m ((c.tc : Thread Cert.KernelModIdeal.nD Cert.KernelModIdeal.τ).loc Cert.KernelModIdeal.main_arg2))) = (fun _ => 1#1)

def Pre_ReferenceModIdeal (m : (ℓ : Loc Cert.ReferenceModIdeal.nD Cert.ReferenceModIdeal.τ Cert.ReferenceModIdeal.sig) → Buf (Elt Ideal) ℓ) : Prop :=
  True

def Pre_ReferenceModIdeal_above_bottom [hPre_above_bottom : Cert.Pre_above_bottom.Facts] (m : (ℓ : Loc Cert.ReferenceModIdeal.nD Cert.ReferenceModIdeal.τ Cert.ReferenceModIdeal.sig) → Buf (Elt Ideal) ℓ) : Prop :=
  ∀ c : Dev Cert.ReferenceModIdeal.nD,
    (Cert.Pre_above_bottom.fn (F := Ideal) (m ((c.tc : Thread Cert.ReferenceModIdeal.nD Cert.ReferenceModIdeal.τ).loc Cert.ReferenceModIdeal.main_arg0)) (m ((c.tc : Thread Cert.ReferenceModIdeal.nD Cert.ReferenceModIdeal.τ).loc Cert.ReferenceModIdeal.main_arg1)) (m ((c.tc : Thread Cert.ReferenceModIdeal.nD Cert.ReferenceModIdeal.τ).loc Cert.ReferenceModIdeal.main_arg2))) = (fun _ => 1#1)

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3)
      ∧ r.2.mem ((c.tc : Thread Cert.KernelDown.nD Cert.KernelDown.τ).loc Cert.KernelDown.main_arg4) = m ((c.tc : Thread Cert.KernelDown.nD Cert.KernelDown.τ).loc Cert.KernelDown.main_arg4))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6)
      ∧ r.2.mem ((c.tc : Thread Cert.KernelOut.nD Cert.KernelOut.τ).loc Cert.KernelOut.main_arg7) = m ((c.tc : Thread Cert.KernelOut.nD Cert.KernelOut.τ).loc Cert.KernelOut.main_arg7)
      ∧ r.2.mem ((c.tc : Thread Cert.KernelOut.nD Cert.KernelOut.τ).loc Cert.KernelOut.main_arg8) = m ((c.tc : Thread Cert.KernelOut.nD Cert.KernelOut.τ).loc Cert.KernelOut.main_arg8)
      ∧ r.2.mem ((c.tc : Thread Cert.KernelOut.nD Cert.KernelOut.τ).loc Cert.KernelOut.main_arg9) = m ((c.tc : Thread Cert.KernelOut.nD Cert.KernelOut.τ).loc Cert.KernelOut.main_arg9))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
      ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7)
      ∧ r.2.mem ((c.tc : Thread Cert.KernelOutIdeal.nD Cert.KernelOutIdeal.τ).loc Cert.KernelOutIdeal.main_arg8) = m ((c.tc : Thread Cert.KernelOutIdeal.nD Cert.KernelOutIdeal.τ).loc Cert.KernelOutIdeal.main_arg8)
      ∧ r.2.mem ((c.tc : Thread Cert.KernelOutIdeal.nD Cert.KernelOutIdeal.τ).loc Cert.KernelOutIdeal.main_arg9) = m ((c.tc : Thread Cert.KernelOutIdeal.nD Cert.KernelOutIdeal.τ).loc Cert.KernelOutIdeal.main_arg9))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6)
      ∧ r.2.mem ((c.tc : Thread Cert.ReferenceOutIdeal.nD Cert.ReferenceOutIdeal.τ).loc Cert.ReferenceOutIdeal.main_arg7) = m ((c.tc : Thread Cert.ReferenceOutIdeal.nD Cert.ReferenceOutIdeal.τ).loc Cert.ReferenceOutIdeal.main_arg7)
      ∧ r.2.mem ((c.tc : Thread Cert.ReferenceOutIdeal.nD Cert.ReferenceOutIdeal.τ).loc Cert.ReferenceOutIdeal.main_arg8) = m ((c.tc : Thread Cert.ReferenceOutIdeal.nD Cert.ReferenceOutIdeal.τ).loc Cert.ReferenceOutIdeal.main_arg8)
      ∧ r.2.mem ((c.tc : Thread Cert.ReferenceOutIdeal.nD Cert.ReferenceOutIdeal.τ).loc Cert.ReferenceOutIdeal.main_arg9) = m ((c.tc : Thread Cert.ReferenceOutIdeal.nD Cert.ReferenceOutIdeal.τ).loc Cert.ReferenceOutIdeal.main_arg9))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelPre [hKernelPre : Cert.KernelPre.Facts] : Prop :=
  ∀ (m : (ℓ : Loc Cert.KernelPre.nD Cert.KernelPre.τ Cert.KernelPre.sig) → Buf (Elt Bits) ℓ) (g : Dev Cert.KernelPre.nD → PrngReg), Pre_KernelPre m →
    θ_run (Cert.KernelPre.defs (F := Bits)) (onTc (τ := Cert.KernelPre.τ) (Cert.KernelPre.main (F := Bits))) ⟨m, fun _ => 0, g⟩ (fun r => (∀ c : Dev Cert.KernelPre.nD,
      r.2.mem ((c.tc : Thread Cert.KernelPre.nD Cert.KernelPre.τ).loc Cert.KernelPre.main_arg0) = m ((c.tc : Thread Cert.KernelPre.nD Cert.KernelPre.τ).loc Cert.KernelPre.main_arg0)
      ∧ r.2.mem ((c.tc : Thread Cert.KernelPre.nD Cert.KernelPre.τ).loc Cert.KernelPre.main_arg1) = m ((c.tc : Thread Cert.KernelPre.nD Cert.KernelPre.τ).loc Cert.KernelPre.main_arg1)
      ∧ r.2.mem ((c.tc : Thread Cert.KernelPre.nD Cert.KernelPre.τ).loc Cert.KernelPre.main_arg2) = m ((c.tc : Thread Cert.KernelPre.nD Cert.KernelPre.τ).loc Cert.KernelPre.main_arg2)
      ∧ r.2.mem ((c.tc : Thread Cert.KernelPre.nD Cert.KernelPre.τ).loc Cert.KernelPre.main_arg3) = m ((c.tc : Thread Cert.KernelPre.nD Cert.KernelPre.τ).loc Cert.KernelPre.main_arg3))
      ∧ r.2.sem = fun _ => 0)

def quiescent_KernelPreIdeal [hKernelPreIdeal : Cert.KernelPreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg), Pre_KernelPreIdeal m →
    θ_run (Cert.KernelPreIdeal.defs (F := Ideal)) (onTc (τ := Cert.KernelPreIdeal.τ) (Cert.KernelPreIdeal.main (F := Ideal))) ⟨m, fun _ => 0, g⟩ (fun r => (∀ c : Dev Cert.KernelPreIdeal.nD,
      r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
      ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
      ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2)
      ∧ r.2.mem ((c.tc : Thread Cert.KernelPreIdeal.nD Cert.KernelPreIdeal.τ).loc Cert.KernelPreIdeal.main_arg3) = m ((c.tc : Thread Cert.KernelPreIdeal.nD Cert.KernelPreIdeal.τ).loc Cert.KernelPreIdeal.main_arg3))
      ∧ r.2.sem = fun _ => 0)

def quiescent_ReferencePreIdeal [hReferencePreIdeal : Cert.ReferencePreIdeal.Facts] : Prop :=
  ∀ (m : (ℓ : Loc Cert.ReferencePreIdeal.nD Cert.ReferencePreIdeal.τ Cert.ReferencePreIdeal.sig) → Buf (Elt Ideal) ℓ) (g : Dev Cert.ReferencePreIdeal.nD → PrngReg), Pre_ReferencePreIdeal m →
    θ_run (Cert.ReferencePreIdeal.defs (F := Ideal)) (onTc (τ := Cert.ReferencePreIdeal.τ) (Cert.ReferencePreIdeal.main (F := Ideal))) ⟨m, fun _ => 0, g⟩ (fun r => (∀ c : Dev Cert.ReferencePreIdeal.nD,
      r.2.mem ((c.tc : Thread Cert.ReferencePreIdeal.nD Cert.ReferencePreIdeal.τ).loc Cert.ReferencePreIdeal.main_arg0) = m ((c.tc : Thread Cert.ReferencePreIdeal.nD Cert.ReferencePreIdeal.τ).loc Cert.ReferencePreIdeal.main_arg0)
      ∧ r.2.mem ((c.tc : Thread Cert.ReferencePreIdeal.nD Cert.ReferencePreIdeal.τ).loc Cert.ReferencePreIdeal.main_arg1) = m ((c.tc : Thread Cert.ReferencePreIdeal.nD Cert.ReferencePreIdeal.τ).loc Cert.ReferencePreIdeal.main_arg1)
      ∧ r.2.mem ((c.tc : Thread Cert.ReferencePreIdeal.nD Cert.ReferencePreIdeal.τ).loc Cert.ReferencePreIdeal.main_arg2) = m ((c.tc : Thread Cert.ReferencePreIdeal.nD Cert.ReferencePreIdeal.τ).loc Cert.ReferencePreIdeal.main_arg2)
      ∧ r.2.mem ((c.tc : Thread Cert.ReferencePreIdeal.nD Cert.ReferencePreIdeal.τ).loc Cert.ReferencePreIdeal.main_arg3) = m ((c.tc : Thread Cert.ReferencePreIdeal.nD Cert.ReferencePreIdeal.τ).loc Cert.ReferencePreIdeal.main_arg3))
      ∧ r.2.sem = fun _ => 0)

def quiescent_KernelMod [hKernelMod : Cert.KernelMod.Facts] : Prop :=
  ∀ (m : (ℓ : Loc Cert.KernelMod.nD Cert.KernelMod.τ Cert.KernelMod.sig) → Buf (Elt Bits) ℓ) (g : Dev Cert.KernelMod.nD → PrngReg), Pre_KernelMod m →
    θ_run (Cert.KernelMod.defs (F := Bits)) (onTc (τ := Cert.KernelMod.τ) (Cert.KernelMod.main (F := Bits))) ⟨m, fun _ => 0, g⟩ (fun r => (∀ c : Dev Cert.KernelMod.nD,
      r.2.mem ((c.tc : Thread Cert.KernelMod.nD Cert.KernelMod.τ).loc Cert.KernelMod.main_arg0) = m ((c.tc : Thread Cert.KernelMod.nD Cert.KernelMod.τ).loc Cert.KernelMod.main_arg0)
      ∧ r.2.mem ((c.tc : Thread Cert.KernelMod.nD Cert.KernelMod.τ).loc Cert.KernelMod.main_arg1) = m ((c.tc : Thread Cert.KernelMod.nD Cert.KernelMod.τ).loc Cert.KernelMod.main_arg1)
      ∧ r.2.mem ((c.tc : Thread Cert.KernelMod.nD Cert.KernelMod.τ).loc Cert.KernelMod.main_arg2) = m ((c.tc : Thread Cert.KernelMod.nD Cert.KernelMod.τ).loc Cert.KernelMod.main_arg2))
      ∧ r.2.sem = fun _ => 0)

def quiescent_KernelModIdeal [hKernelModIdeal : Cert.KernelModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2))
      ∧ r.2.sem = fun _ => 0)

def quiescent_KernelModIdeal_pre_above_bottom [hKernelModIdeal : Cert.KernelModIdeal.Facts] [hPre_above_bottom : Cert.Pre_above_bottom.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal_above_bottom m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2))
      ∧ r.2.sem = fun _ => 0)

def quiescent_ReferenceModIdeal [hReferenceModIdeal : Cert.ReferenceModIdeal.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2))
      ∧ r.2.sem = fun _ => 0)

def quiescent_ReferenceModIdeal_pre_above_bottom [hReferenceModIdeal : Cert.ReferenceModIdeal.Facts] [hPre_above_bottom : Cert.Pre_above_bottom.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal_above_bottom m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3)
      ∧ r.2.mem ((c.tc : Thread Cert.KernelProj.nD Cert.KernelProj.τ).loc Cert.KernelProj.main_arg4) = m ((c.tc : Thread Cert.KernelProj.nD Cert.KernelProj.τ).loc Cert.KernelProj.main_arg4)
      ∧ r.2.mem ((c.tc : Thread Cert.KernelProj.nD Cert.KernelProj.τ).loc Cert.KernelProj.main_arg5) = m ((c.tc : Thread Cert.KernelProj.nD Cert.KernelProj.τ).loc Cert.KernelProj.main_arg5)
      ∧ r.2.mem ((c.tc : Thread Cert.KernelProj.nD Cert.KernelProj.τ).loc Cert.KernelProj.main_arg6) = m ((c.tc : Thread Cert.KernelProj.nD Cert.KernelProj.τ).loc Cert.KernelProj.main_arg6)
      ∧ r.2.mem ((c.tc : Thread Cert.KernelProj.nD Cert.KernelProj.τ).loc Cert.KernelProj.main_arg7) = m ((c.tc : Thread Cert.KernelProj.nD Cert.KernelProj.τ).loc Cert.KernelProj.main_arg7)
      ∧ r.2.mem ((c.tc : Thread Cert.KernelProj.nD Cert.KernelProj.τ).loc Cert.KernelProj.main_arg8) = m ((c.tc : Thread Cert.KernelProj.nD Cert.KernelProj.τ).loc Cert.KernelProj.main_arg8))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
      ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
      ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5)
      ∧ r.2.mem ((c.tc : Thread Cert.KernelProjIdeal.nD Cert.KernelProjIdeal.τ).loc Cert.KernelProjIdeal.main_arg6) = m ((c.tc : Thread Cert.KernelProjIdeal.nD Cert.KernelProjIdeal.τ).loc Cert.KernelProjIdeal.main_arg6)
      ∧ r.2.mem ((c.tc : Thread Cert.KernelProjIdeal.nD Cert.KernelProjIdeal.τ).loc Cert.KernelProjIdeal.main_arg7) = m ((c.tc : Thread Cert.KernelProjIdeal.nD Cert.KernelProjIdeal.τ).loc Cert.KernelProjIdeal.main_arg7)
      ∧ r.2.mem ((c.tc : Thread Cert.KernelProjIdeal.nD Cert.KernelProjIdeal.τ).loc Cert.KernelProjIdeal.main_arg8) = m ((c.tc : Thread Cert.KernelProjIdeal.nD Cert.KernelProjIdeal.τ).loc Cert.KernelProjIdeal.main_arg8))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4)
      ∧ r.2.mem ((c.tc : Thread Cert.ReferenceProjIdeal.nD Cert.ReferenceProjIdeal.τ).loc Cert.ReferenceProjIdeal.main_arg5) = m ((c.tc : Thread Cert.ReferenceProjIdeal.nD Cert.ReferenceProjIdeal.τ).loc Cert.ReferenceProjIdeal.main_arg5)
      ∧ r.2.mem ((c.tc : Thread Cert.ReferenceProjIdeal.nD Cert.ReferenceProjIdeal.τ).loc Cert.ReferenceProjIdeal.main_arg6) = m ((c.tc : Thread Cert.ReferenceProjIdeal.nD Cert.ReferenceProjIdeal.τ).loc Cert.ReferenceProjIdeal.main_arg6)
      ∧ r.2.mem ((c.tc : Thread Cert.ReferenceProjIdeal.nD Cert.ReferenceProjIdeal.τ).loc Cert.ReferenceProjIdeal.main_arg7) = m ((c.tc : Thread Cert.ReferenceProjIdeal.nD Cert.ReferenceProjIdeal.τ).loc Cert.ReferenceProjIdeal.main_arg7)
      ∧ r.2.mem ((c.tc : Thread Cert.ReferenceProjIdeal.nD Cert.ReferenceProjIdeal.τ).loc Cert.ReferenceProjIdeal.main_arg8) = m ((c.tc : Thread Cert.ReferenceProjIdeal.nD Cert.ReferenceProjIdeal.τ).loc Cert.ReferenceProjIdeal.main_arg8))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)
      ∧ m' ((c.tc : Thread Cert.ReferenceDownIdeal.nD Cert.ReferenceDownIdeal.τ).loc Cert.ReferenceDownIdeal.main_arg4) = m ((c.tc : Thread Cert.KernelDownIdeal.nD Cert.KernelDownIdeal.τ).loc Cert.KernelDownIdeal.main_arg4)) →
    ∃ (v0 : (c : Dev Cert.KernelDownIdeal.nD) → Buf (Elt Ideal) ((c.tc : Thread Cert.KernelDownIdeal.nD Cert.KernelDownIdeal.τ).loc Cert.KernelDownIdeal.main_v2)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v2) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
          ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v19) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3)
          ∧ r.2.mem ((c.tc : Thread Cert.ReferenceDownIdeal.nD Cert.ReferenceDownIdeal.τ).loc Cert.ReferenceDownIdeal.main_arg4) = m' ((c.tc : Thread Cert.ReferenceDownIdeal.nD Cert.ReferenceDownIdeal.τ).loc Cert.ReferenceDownIdeal.main_arg4))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)) →
    ∃ (v0 : (c : Dev Cert.KernelUpIdeal.nD) → Buf (Elt Ideal) ((c.tc : Thread Cert.KernelUpIdeal.nD Cert.KernelUpIdeal.τ).loc Cert.KernelUpIdeal.main_v1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v1) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v46) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)
      ∧ m' ((c.tc : Thread Cert.ReferenceOutIdeal.nD Cert.ReferenceOutIdeal.τ).loc Cert.ReferenceOutIdeal.main_arg7) = m ((c.tc : Thread Cert.KernelOutIdeal.nD Cert.KernelOutIdeal.τ).loc Cert.KernelOutIdeal.main_arg7)
      ∧ m' ((c.tc : Thread Cert.ReferenceOutIdeal.nD Cert.ReferenceOutIdeal.τ).loc Cert.ReferenceOutIdeal.main_arg8) = m ((c.tc : Thread Cert.KernelOutIdeal.nD Cert.KernelOutIdeal.τ).loc Cert.KernelOutIdeal.main_arg8)
      ∧ m' ((c.tc : Thread Cert.ReferenceOutIdeal.nD Cert.ReferenceOutIdeal.τ).loc Cert.ReferenceOutIdeal.main_arg9) = m ((c.tc : Thread Cert.KernelOutIdeal.nD Cert.KernelOutIdeal.τ).loc Cert.KernelOutIdeal.main_arg9)) →
    ∃ (v0 : (c : Dev Cert.KernelOutIdeal.nD) → Buf (Elt Ideal) ((c.tc : Thread Cert.KernelOutIdeal.nD Cert.KernelOutIdeal.τ).loc Cert.KernelOutIdeal.main_v15_0)) (v1 : (c : Dev Cert.KernelOutIdeal.nD) → Buf (Elt Ideal) ((c.tc : Thread Cert.KernelOutIdeal.nD Cert.KernelOutIdeal.τ).loc Cert.KernelOutIdeal.main_v15_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v15_0) = v0 c
          ∧ r.2.mem ((c.tc : Thread Cert.KernelOutIdeal.nD Cert.KernelOutIdeal.τ).loc Cert.KernelOutIdeal.main_v15_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
          ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7)
          ∧ r.2.mem ((c.tc : Thread Cert.KernelOutIdeal.nD Cert.KernelOutIdeal.τ).loc Cert.KernelOutIdeal.main_arg8) = m ((c.tc : Thread Cert.KernelOutIdeal.nD Cert.KernelOutIdeal.τ).loc Cert.KernelOutIdeal.main_arg8)
          ∧ r.2.mem ((c.tc : Thread Cert.KernelOutIdeal.nD Cert.KernelOutIdeal.τ).loc Cert.KernelOutIdeal.main_arg9) = m ((c.tc : Thread Cert.KernelOutIdeal.nD Cert.KernelOutIdeal.τ).loc Cert.KernelOutIdeal.main_arg9))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v31) = v0 c
          ∧ r.2.mem ((c.tc : Thread Cert.ReferenceOutIdeal.nD Cert.ReferenceOutIdeal.τ).loc Cert.ReferenceOutIdeal.main_v51) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6)
          ∧ r.2.mem ((c.tc : Thread Cert.ReferenceOutIdeal.nD Cert.ReferenceOutIdeal.τ).loc Cert.ReferenceOutIdeal.main_arg7) = m' ((c.tc : Thread Cert.ReferenceOutIdeal.nD Cert.ReferenceOutIdeal.τ).loc Cert.ReferenceOutIdeal.main_arg7)
          ∧ r.2.mem ((c.tc : Thread Cert.ReferenceOutIdeal.nD Cert.ReferenceOutIdeal.τ).loc Cert.ReferenceOutIdeal.main_arg8) = m' ((c.tc : Thread Cert.ReferenceOutIdeal.nD Cert.ReferenceOutIdeal.τ).loc Cert.ReferenceOutIdeal.main_arg8)
          ∧ r.2.mem ((c.tc : Thread Cert.ReferenceOutIdeal.nD Cert.ReferenceOutIdeal.τ).loc Cert.ReferenceOutIdeal.main_arg9) = m' ((c.tc : Thread Cert.ReferenceOutIdeal.nD Cert.ReferenceOutIdeal.τ).loc Cert.ReferenceOutIdeal.main_arg9))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v23_0)) (v1 : (c : Dev Cert.KernelInIdeal.nD) → Buf (Elt Ideal) ((c.tc : Thread Cert.KernelInIdeal.nD Cert.KernelInIdeal.τ).loc Cert.KernelInIdeal.main_v23_1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v23_0) = v0 c
          ∧ r.2.mem ((c.tc : Thread Cert.KernelInIdeal.nD Cert.KernelInIdeal.τ).loc Cert.KernelInIdeal.main_v23_1) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v19) = v0 c
          ∧ r.2.mem ((c.tc : Thread Cert.ReferenceInIdeal.nD Cert.ReferenceInIdeal.τ).loc Cert.ReferenceInIdeal.main_v21) = v1 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelPre_KernelPreIdeal : Prop :=
  True

def algebraic_KernelPreIdeal_ReferencePreIdeal [hKernelPreIdeal : Cert.KernelPreIdeal.Facts] [hReferencePreIdeal : Cert.ReferencePreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg)
    (m' : (ℓ : Loc Cert.ReferencePreIdeal.nD Cert.ReferencePreIdeal.τ Cert.ReferencePreIdeal.sig) → Buf (Elt Ideal) ℓ) (g' : Dev Cert.ReferencePreIdeal.nD → PrngReg), Pre_KernelPreIdeal m →
    (∀ c : Dev Cert.KernelPreIdeal.nD,
      m' ((c.tc : Thread Cert.ReferencePreIdeal.nD Cert.ReferencePreIdeal.τ).loc Cert.ReferencePreIdeal.main_arg0) = m ((c.tc : Thread Cert.KernelPreIdeal.nD Cert.KernelPreIdeal.τ).loc Cert.KernelPreIdeal.main_arg0)
      ∧ m' ((c.tc : Thread Cert.ReferencePreIdeal.nD Cert.ReferencePreIdeal.τ).loc Cert.ReferencePreIdeal.main_arg1) = m ((c.tc : Thread Cert.KernelPreIdeal.nD Cert.KernelPreIdeal.τ).loc Cert.KernelPreIdeal.main_arg1)
      ∧ m' ((c.tc : Thread Cert.ReferencePreIdeal.nD Cert.ReferencePreIdeal.τ).loc Cert.ReferencePreIdeal.main_arg2) = m ((c.tc : Thread Cert.KernelPreIdeal.nD Cert.KernelPreIdeal.τ).loc Cert.KernelPreIdeal.main_arg2)
      ∧ m' ((c.tc : Thread Cert.ReferencePreIdeal.nD Cert.ReferencePreIdeal.τ).loc Cert.ReferencePreIdeal.main_arg3) = m ((c.tc : Thread Cert.KernelPreIdeal.nD Cert.KernelPreIdeal.τ).loc Cert.KernelPreIdeal.main_arg3)) →
    ∃ (v0 : (c : Dev Cert.KernelPreIdeal.nD) → Buf (Elt Ideal) ((c.tc : Thread Cert.KernelPreIdeal.nD Cert.KernelPreIdeal.τ).loc Cert.KernelPreIdeal.main_v1)),
      θ_run (Cert.KernelPreIdeal.defs (F := Ideal)) (onTc (τ := Cert.KernelPreIdeal.τ) (Cert.KernelPreIdeal.main (F := Ideal))) ⟨m, fun _ => 0, g⟩ (fun r => ∀ c : Dev Cert.KernelPreIdeal.nD,
          r.2.mem ((c.tc : Thread Cert.KernelPreIdeal.nD Cert.KernelPreIdeal.τ).loc Cert.KernelPreIdeal.main_v1) = v0 c
          ∧ r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
          ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
          ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2)
          ∧ r.2.mem ((c.tc : Thread Cert.KernelPreIdeal.nD Cert.KernelPreIdeal.τ).loc Cert.KernelPreIdeal.main_arg3) = m ((c.tc : Thread Cert.KernelPreIdeal.nD Cert.KernelPreIdeal.τ).loc Cert.KernelPreIdeal.main_arg3))
      ∧ θ_run (Cert.ReferencePreIdeal.defs (F := Ideal)) (onTc (τ := Cert.ReferencePreIdeal.τ) (Cert.ReferencePreIdeal.main (F := Ideal))) ⟨m', fun _ => 0, g'⟩ (fun r => ∀ c : Dev Cert.ReferencePreIdeal.nD,
          r.2.mem ((c.tc : Thread Cert.ReferencePreIdeal.nD Cert.ReferencePreIdeal.τ).loc Cert.ReferencePreIdeal.main_v19) = v0 c
          ∧ r.2.mem ((c.tc : Thread Cert.ReferencePreIdeal.nD Cert.ReferencePreIdeal.τ).loc Cert.ReferencePreIdeal.main_arg0) = m' ((c.tc : Thread Cert.ReferencePreIdeal.nD Cert.ReferencePreIdeal.τ).loc Cert.ReferencePreIdeal.main_arg0)
          ∧ r.2.mem ((c.tc : Thread Cert.ReferencePreIdeal.nD Cert.ReferencePreIdeal.τ).loc Cert.ReferencePreIdeal.main_arg1) = m' ((c.tc : Thread Cert.ReferencePreIdeal.nD Cert.ReferencePreIdeal.τ).loc Cert.ReferencePreIdeal.main_arg1)
          ∧ r.2.mem ((c.tc : Thread Cert.ReferencePreIdeal.nD Cert.ReferencePreIdeal.τ).loc Cert.ReferencePreIdeal.main_arg2) = m' ((c.tc : Thread Cert.ReferencePreIdeal.nD Cert.ReferencePreIdeal.τ).loc Cert.ReferencePreIdeal.main_arg2)
          ∧ r.2.mem ((c.tc : Thread Cert.ReferencePreIdeal.nD Cert.ReferencePreIdeal.τ).loc Cert.ReferencePreIdeal.main_arg3) = m' ((c.tc : Thread Cert.ReferencePreIdeal.nD Cert.ReferencePreIdeal.τ).loc Cert.ReferencePreIdeal.main_arg3))

def preserves_KernelMod_KernelModIdeal : Prop :=
  True

def algebraic_KernelModIdeal_ReferenceModIdeal_pre_above_bottom [hKernelModIdeal : Cert.KernelModIdeal.Facts] [hReferenceModIdeal : Cert.ReferenceModIdeal.Facts] [hPre_above_bottom : Cert.Pre_above_bottom.Facts] : Prop :=
  ∀ (m : (ℓ : Loc Cert.KernelModIdeal.nD Cert.KernelModIdeal.τ Cert.KernelModIdeal.sig) → Buf (Elt Ideal) ℓ) (g : Dev Cert.KernelModIdeal.nD → PrngReg)
    (m' : (ℓ : Loc Cert.ReferenceModIdeal.nD Cert.ReferenceModIdeal.τ Cert.ReferenceModIdeal.sig) → Buf (Elt Ideal) ℓ) (g' : Dev Cert.ReferenceModIdeal.nD → PrngReg), Pre_KernelModIdeal_above_bottom m →
    (∀ c : Dev Cert.KernelModIdeal.nD,
      m' ((c.tc : Thread Cert.ReferenceModIdeal.nD Cert.ReferenceModIdeal.τ).loc Cert.ReferenceModIdeal.main_arg0) = m ((c.tc : Thread Cert.KernelModIdeal.nD Cert.KernelModIdeal.τ).loc Cert.KernelModIdeal.main_arg0)
      ∧ m' ((c.tc : Thread Cert.ReferenceModIdeal.nD Cert.ReferenceModIdeal.τ).loc Cert.ReferenceModIdeal.main_arg1) = m ((c.tc : Thread Cert.KernelModIdeal.nD Cert.KernelModIdeal.τ).loc Cert.KernelModIdeal.main_arg1)
      ∧ m' ((c.tc : Thread Cert.ReferenceModIdeal.nD Cert.ReferenceModIdeal.τ).loc Cert.ReferenceModIdeal.main_arg2) = m ((c.tc : Thread Cert.KernelModIdeal.nD Cert.KernelModIdeal.τ).loc Cert.KernelModIdeal.main_arg2)) →
    ∃ (v0 : (c : Dev Cert.KernelModIdeal.nD) → Buf (Elt Ideal) ((c.tc : Thread Cert.KernelModIdeal.nD Cert.KernelModIdeal.τ).loc Cert.KernelModIdeal.main_v2)),
      θ_run (Cert.KernelModIdeal.defs (F := Ideal)) (onTc (τ := Cert.KernelModIdeal.τ) (Cert.KernelModIdeal.main (F := Ideal))) ⟨m, fun _ => 0, g⟩ (fun r => ∀ c : Dev Cert.KernelModIdeal.nD,
          r.2.mem ((c.tc : Thread Cert.KernelModIdeal.nD Cert.KernelModIdeal.τ).loc Cert.KernelModIdeal.main_v2) = v0 c
          ∧ r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
          ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
          ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2))
      ∧ θ_run (Cert.ReferenceModIdeal.defs (F := Ideal)) (onTc (τ := Cert.ReferenceModIdeal.τ) (Cert.ReferenceModIdeal.main (F := Ideal))) ⟨m', fun _ => 0, g'⟩ (fun r => ∀ c : Dev Cert.ReferenceModIdeal.nD,
          r.2.mem ((c.tc : Thread Cert.ReferenceModIdeal.nD Cert.ReferenceModIdeal.τ).loc Cert.ReferenceModIdeal.main_v17) = v0 c
          ∧ r.2.mem ((c.tc : Thread Cert.ReferenceModIdeal.nD Cert.ReferenceModIdeal.τ).loc Cert.ReferenceModIdeal.main_arg0) = m' ((c.tc : Thread Cert.ReferenceModIdeal.nD Cert.ReferenceModIdeal.τ).loc Cert.ReferenceModIdeal.main_arg0)
          ∧ r.2.mem ((c.tc : Thread Cert.ReferenceModIdeal.nD Cert.ReferenceModIdeal.τ).loc Cert.ReferenceModIdeal.main_arg1) = m' ((c.tc : Thread Cert.ReferenceModIdeal.nD Cert.ReferenceModIdeal.τ).loc Cert.ReferenceModIdeal.main_arg1)
          ∧ r.2.mem ((c.tc : Thread Cert.ReferenceModIdeal.nD Cert.ReferenceModIdeal.τ).loc Cert.ReferenceModIdeal.main_arg2) = m' ((c.tc : Thread Cert.ReferenceModIdeal.nD Cert.ReferenceModIdeal.τ).loc Cert.ReferenceModIdeal.main_arg2))

def preserves_KernelProj_KernelProjIdeal : Prop :=
  IdealRules.named_const.Statement Cert.KernelProjIdeal.κ "inv_rank" .f32 0x3B124925#32 ((448⁻¹ : ℝ) : EReal)

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)
      ∧ m' ((c.tc : Thread Cert.ReferenceProjIdeal.nD Cert.ReferenceProjIdeal.τ).loc Cert.ReferenceProjIdeal.main_arg4) = m ((c.tc : Thread Cert.KernelProjIdeal.nD Cert.KernelProjIdeal.τ).loc Cert.KernelProjIdeal.main_arg4)
      ∧ m' ((c.tc : Thread Cert.ReferenceProjIdeal.nD Cert.ReferenceProjIdeal.τ).loc Cert.ReferenceProjIdeal.main_arg5) = m ((c.tc : Thread Cert.KernelProjIdeal.nD Cert.KernelProjIdeal.τ).loc Cert.KernelProjIdeal.main_arg5)
      ∧ m' ((c.tc : Thread Cert.ReferenceProjIdeal.nD Cert.ReferenceProjIdeal.τ).loc Cert.ReferenceProjIdeal.main_arg6) = m ((c.tc : Thread Cert.KernelProjIdeal.nD Cert.KernelProjIdeal.τ).loc Cert.KernelProjIdeal.main_arg6)
      ∧ m' ((c.tc : Thread Cert.ReferenceProjIdeal.nD Cert.ReferenceProjIdeal.τ).loc Cert.ReferenceProjIdeal.main_arg7) = m ((c.tc : Thread Cert.KernelProjIdeal.nD Cert.KernelProjIdeal.τ).loc Cert.KernelProjIdeal.main_arg7)
      ∧ m' ((c.tc : Thread Cert.ReferenceProjIdeal.nD Cert.ReferenceProjIdeal.τ).loc Cert.ReferenceProjIdeal.main_arg8) = m ((c.tc : Thread Cert.KernelProjIdeal.nD Cert.KernelProjIdeal.τ).loc Cert.KernelProjIdeal.main_arg8)) →
    ∃ (v0 : (c : Dev Cert.KernelProjIdeal.nD) → Buf (Elt Ideal) ((c.tc : Thread Cert.KernelProjIdeal.nD Cert.KernelProjIdeal.τ).loc Cert.KernelProjIdeal.main_v30_0)) (v1 : (c : Dev Cert.KernelProjIdeal.nD) → Buf (Elt Ideal) ((c.tc : Thread Cert.KernelProjIdeal.nD Cert.KernelProjIdeal.τ).loc Cert.KernelProjIdeal.main_v30_1)) (v2 : (c : Dev Cert.KernelProjIdeal.nD) → Buf (Elt Ideal) ((c.tc : Thread Cert.KernelProjIdeal.nD Cert.KernelProjIdeal.τ).loc Cert.KernelProjIdeal.main_v30_2)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v30_0) = v0 c
          ∧ r.2.mem ((c.tc : Thread Cert.KernelProjIdeal.nD Cert.KernelProjIdeal.τ).loc Cert.KernelProjIdeal.main_v30_1) = v1 c
          ∧ r.2.mem ((c.tc : Thread Cert.KernelProjIdeal.nD Cert.KernelProjIdeal.τ).loc Cert.KernelProjIdeal.main_v30_2) = v2 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
          ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
          ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5)
          ∧ r.2.mem ((c.tc : Thread Cert.KernelProjIdeal.nD Cert.KernelProjIdeal.τ).loc Cert.KernelProjIdeal.main_arg6) = m ((c.tc : Thread Cert.KernelProjIdeal.nD Cert.KernelProjIdeal.τ).loc Cert.KernelProjIdeal.main_arg6)
          ∧ r.2.mem ((c.tc : Thread Cert.KernelProjIdeal.nD Cert.KernelProjIdeal.τ).loc Cert.KernelProjIdeal.main_arg7) = m ((c.tc : Thread Cert.KernelProjIdeal.nD Cert.KernelProjIdeal.τ).loc Cert.KernelProjIdeal.main_arg7)
          ∧ r.2.mem ((c.tc : Thread Cert.KernelProjIdeal.nD Cert.KernelProjIdeal.τ).loc Cert.KernelProjIdeal.main_arg8) = m ((c.tc : Thread Cert.KernelProjIdeal.nD Cert.KernelProjIdeal.τ).loc Cert.KernelProjIdeal.main_arg8))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v69) = v0 c
          ∧ r.2.mem ((c.tc : Thread Cert.ReferenceProjIdeal.nD Cert.ReferenceProjIdeal.τ).loc Cert.ReferenceProjIdeal.main_v72) = v1 c
          ∧ r.2.mem ((c.tc : Thread Cert.ReferenceProjIdeal.nD Cert.ReferenceProjIdeal.τ).loc Cert.ReferenceProjIdeal.main_v75) = v2 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3)
          ∧ r.2.mem ((c.tc : Thread Cert.ReferenceProjIdeal.nD Cert.ReferenceProjIdeal.τ).loc Cert.ReferenceProjIdeal.main_arg4) = m' ((c.tc : Thread Cert.ReferenceProjIdeal.nD Cert.ReferenceProjIdeal.τ).loc Cert.ReferenceProjIdeal.main_arg4)
          ∧ r.2.mem ((c.tc : Thread Cert.ReferenceProjIdeal.nD Cert.ReferenceProjIdeal.τ).loc Cert.ReferenceProjIdeal.main_arg5) = m' ((c.tc : Thread Cert.ReferenceProjIdeal.nD Cert.ReferenceProjIdeal.τ).loc Cert.ReferenceProjIdeal.main_arg5)
          ∧ r.2.mem ((c.tc : Thread Cert.ReferenceProjIdeal.nD Cert.ReferenceProjIdeal.τ).loc Cert.ReferenceProjIdeal.main_arg6) = m' ((c.tc : Thread Cert.ReferenceProjIdeal.nD Cert.ReferenceProjIdeal.τ).loc Cert.ReferenceProjIdeal.main_arg6)
          ∧ r.2.mem ((c.tc : Thread Cert.ReferenceProjIdeal.nD Cert.ReferenceProjIdeal.τ).loc Cert.ReferenceProjIdeal.main_arg7) = m' ((c.tc : Thread Cert.ReferenceProjIdeal.nD Cert.ReferenceProjIdeal.τ).loc Cert.ReferenceProjIdeal.main_arg7)
          ∧ r.2.mem ((c.tc : Thread Cert.ReferenceProjIdeal.nD Cert.ReferenceProjIdeal.τ).loc Cert.ReferenceProjIdeal.main_arg8) = m' ((c.tc : Thread Cert.ReferenceProjIdeal.nD Cert.ReferenceProjIdeal.τ).loc Cert.ReferenceProjIdeal.main_arg8))

def Claim : Prop :=
  ∃ (hKernel : Cert.Kernel.Facts) (hKernelIdeal : Cert.KernelIdeal.Facts) (hReferenceIdeal : Cert.ReferenceIdeal.Facts) (hKernelDown : Cert.KernelDown.Facts) (hKernelDownIdeal : Cert.KernelDownIdeal.Facts) (hReferenceDownIdeal : Cert.ReferenceDownIdeal.Facts) (hKernelUp : Cert.KernelUp.Facts) (hKernelUpIdeal : Cert.KernelUpIdeal.Facts) (hReferenceUpIdeal : Cert.ReferenceUpIdeal.Facts) (hKernelOut : Cert.KernelOut.Facts) (hKernelOutIdeal : Cert.KernelOutIdeal.Facts) (hReferenceOutIdeal : Cert.ReferenceOutIdeal.Facts) (hKernelIn : Cert.KernelIn.Facts) (hKernelInIdeal : Cert.KernelInIdeal.Facts) (hReferenceInIdeal : Cert.ReferenceInIdeal.Facts) (hKernelPre : Cert.KernelPre.Facts) (hKernelPreIdeal : Cert.KernelPreIdeal.Facts) (hReferencePreIdeal : Cert.ReferencePreIdeal.Facts) (hKernelMod : Cert.KernelMod.Facts) (hKernelModIdeal : Cert.KernelModIdeal.Facts) (hReferenceModIdeal : Cert.ReferenceModIdeal.Facts) (hKernelProj : Cert.KernelProj.Facts) (hKernelProjIdeal : Cert.KernelProjIdeal.Facts) (hReferenceProjIdeal : Cert.ReferenceProjIdeal.Facts) (hPre_finite_scores : Cert.Pre_finite_scores.Facts) (hPre_above_bottom : Cert.Pre_above_bottom.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelPre (hKernelPre := hKernelPre)
    ∧ quiescent_KernelPreIdeal (hKernelPreIdeal := hKernelPreIdeal)
    ∧ quiescent_ReferencePreIdeal (hReferencePreIdeal := hReferencePreIdeal)
    ∧ quiescent_KernelMod (hKernelMod := hKernelMod)
    ∧ quiescent_KernelModIdeal (hKernelModIdeal := hKernelModIdeal)
    ∧ quiescent_KernelModIdeal_pre_above_bottom (hKernelModIdeal := hKernelModIdeal) (hPre_above_bottom := hPre_above_bottom)
    ∧ quiescent_ReferenceModIdeal (hReferenceModIdeal := hReferenceModIdeal)
    ∧ quiescent_ReferenceModIdeal_pre_above_bottom (hReferenceModIdeal := hReferenceModIdeal) (hPre_above_bottom := hPre_above_bottom)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_KernelDown_KernelDownIdeal
    ∧ algebraic_KernelDownIdeal_ReferenceDownIdeal (hKernelDownIdeal := hKernelDownIdeal) (hReferenceDownIdeal := hReferenceDownIdeal)
    ∧ preserves_KernelUp_KernelUpIdeal
    ∧ algebraic_KernelUpIdeal_ReferenceUpIdeal (hKernelUpIdeal := hKernelUpIdeal) (hReferenceUpIdeal := hReferenceUpIdeal)
    ∧ preserves_KernelOut_KernelOutIdeal
    ∧ algebraic_KernelOutIdeal_ReferenceOutIdeal (hKernelOutIdeal := hKernelOutIdeal) (hReferenceOutIdeal := hReferenceOutIdeal)
    ∧ preserves_KernelIn_KernelInIdeal
    ∧ algebraic_KernelInIdeal_ReferenceInIdeal (hKernelInIdeal := hKernelInIdeal) (hReferenceInIdeal := hReferenceInIdeal)
    ∧ preserves_KernelPre_KernelPreIdeal
    ∧ algebraic_KernelPreIdeal_ReferencePreIdeal (hKernelPreIdeal := hKernelPreIdeal) (hReferencePreIdeal := hReferencePreIdeal)
    ∧ preserves_KernelMod_KernelModIdeal
    ∧ algebraic_KernelModIdeal_ReferenceModIdeal_pre_above_bottom (hKernelModIdeal := hKernelModIdeal) (hReferenceModIdeal := hReferenceModIdeal) (hPre_above_bottom := hPre_above_bottom)
    ∧ preserves_KernelProj_KernelProjIdeal
    ∧ algebraic_KernelProjIdeal_ReferenceProjIdeal (hKernelProjIdeal := hKernelProjIdeal) (hReferenceProjIdeal := hReferenceProjIdeal)
-- ==== Pre_above_bottom.lean ====
abbrev S1x2048 : Shape := ⟨2, ![1, 2048]⟩
abbrev S2x2048x12288 : Shape := ⟨3, ![2, 2048, 12288]⟩
abbrev S2x12288 : Shape := ⟨2, ![2, 12288]⟩
abbrev S_ : Shape := ⟨0, ![]⟩

class Facts : Prop where
  bcast_S_S1x2048 : S_.BroadcastsInDim S1x2048 (![] : Fin 0 → Fin S1x2048.rank)

variable [Facts]

def fn {F : FTy → Type} [FloatOps F] (main_arg0 : FVec F S1x2048 .f32) (main_arg1 : FVec F S2x2048x12288 .f32) (main_arg2 : FVec F S2x12288 .f32) : IVec S1x2048 1 :=
  let main_cst : FVec F S_ .f32 := constant S_ .f32 0xFF800000#32
  let main_v0 : FVec F S1x2048 .f32 := broadcastInDim S1x2048 ![] bcast_S_S1x2048 main_cst
  let main_v1 : IVec S1x2048 1 := cmpf .ogt main_arg0 main_v0
  main_v1
-- ==== Pre_finite_scores.lean ====
abbrev S1x16384x512 : Shape := ⟨3, ![1, 16384, 512]⟩
abbrev S1x16384x128 : Shape := ⟨3, ![1, 16384, 128]⟩
abbrev S8 : Shape := ⟨1, ![8]⟩
abbrev S_ : Shape := ⟨0, ![]⟩

class Facts : Prop where
  bcast_S_S1x16384x512 : S_.BroadcastsInDim S1x16384x512 (![] : Fin 0 → Fin S1x16384x512.rank)
  bcast_S_S1x16384x128 : S_.BroadcastsInDim S1x16384x128 (![] : Fin 0 → Fin S1x16384x128.rank)
  bcast_S_S8 : S_.BroadcastsInDim S8 (![] : Fin 0 → Fin S8.rank)

variable [Facts]

def fn {F : FTy → Type} [FloatOps F] (main_arg0 : FVec F S1x16384x512 .f32) (main_arg1 : FVec F S1x16384x128 .f32) (main_arg2 : FVec F S1x16384x128 .f32) (main_arg3 : FVec F S8 .f32) : IVec S1x16384x512 1 × IVec S1x16384x128 1 × IVec S8 1 :=
  let main_v0 : FVec F S1x16384x512 .f32 := Host.absf main_arg0
  let main_cst : FVec F S_ .f32 := constant S_ .f32 0x7F800000#32
  let main_v1 : FVec F S1x16384x512 .f32 := broadcastInDim S1x16384x512 ![] bcast_S_S1x16384x512 main_cst
  let main_v2 : IVec S1x16384x512 1 := cmpf .olt main_v0 main_v1
  let main_v3 : FVec F S1x16384x128 .f32 := Host.absf main_arg1
  let main_cst_0 : FVec F S_ .f32 := constant S_ .f32 0x7F800000#32
  let main_v4 : FVec F S1x16384x128 .f32 := broadcastInDim S1x16384x128 ![] bcast_S_S1x16384x128 main_cst_0
  let main_v5 : IVec S1x16384x128 1 := cmpf .olt main_v3 main_v4
  let main_v6 : FVec F S8 .f32 := Host.absf main_arg3
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_v2, main_v5, main_v8)
-- ==== Kernel.lean ====
abbrev S1x16384x512 : Shape := ⟨3, ![1, 16384, 512]⟩
abbrev S1x16384x128 : Shape := ⟨3, ![1, 16384, 128]⟩
abbrev S8 : Shape := ⟨1, ![8]⟩
abbrev S2x4 : Shape := ⟨2, ![2, 4]⟩
abbrev S_ : Shape := ⟨0, ![]⟩
abbrev S16384x4608 : Shape := ⟨2, ![16384, 4608]⟩
abbrev S16384x512 : Shape := ⟨2, ![16384, 512]⟩
abbrev S16384x256 : Shape := ⟨2, ![16384, 256]⟩
abbrev S16384x128 : Shape := ⟨2, ![16384, 128]⟩
abbrev S16384x5632 : Shape := ⟨2, ![16384, 5632]⟩
abbrev S2x4x1 : Shape := ⟨3, ![2, 4, 1]⟩
abbrev S2x4x128 : Shape := ⟨3, ![2, 4, 128]⟩
abbrev S2x512 : Shape := ⟨2, ![2, 512]⟩
abbrev S2x1x512 : Shape := ⟨3, ![2, 1, 512]⟩
abbrev S512x512 : Shape := ⟨2, ![512, 512]⟩
abbrev S512x128 : Shape := ⟨2, ![512, 128]⟩
abbrev S128x128 : Shape := ⟨2, ![128, 128]⟩
abbrev S256x512 : Shape := ⟨2, ![256, 512]⟩
abbrev S256x128 : Shape := ⟨2, ![256, 128]⟩
abbrev S128x1 : Shape := ⟨2, ![128, 1]⟩
abbrev S128x256 : Shape := ⟨2, ![128, 256]⟩
abbrev S256x256 : Shape := ⟨2, ![256, 256]⟩
abbrev S1x1x512 : Shape := ⟨3, ![1, 1, 512]⟩
abbrev S1x512 : Shape := ⟨2, ![1, 512]⟩
abbrev S512 : Shape := ⟨1, ![512]⟩
abbrev S128x512 : Shape := ⟨2, ![128, 512]⟩

abbrev nBuf : Space → Nat
  | .hbm => 27
  | .vmem => 13
  | .smem => 0
  | _ => 0

abbrev bufTy : (tb : Table) → Fin (tcTables nBuf tb) → BufTy
  | .hbm, ⟨0, _⟩ => ⟨S1x16384x512, .f32⟩
  | .hbm, ⟨1, _⟩ => ⟨S1x16384x128, .f32⟩
  | .hbm, ⟨2, _⟩ => ⟨S1x16384x128, .f32⟩
  | .hbm, ⟨3, _⟩ => ⟨S8, .f32⟩
  | .hbm, ⟨4, _⟩ => ⟨S2x4, .i32⟩
  | .hbm, ⟨5, _⟩ => ⟨S2x4, .i1⟩
  | .hbm, ⟨6, _⟩ => ⟨S_, .bf16⟩
  | .hbm, ⟨7, _⟩ => ⟨S16384x4608, .bf16⟩
  | .hbm, ⟨8, _⟩ => ⟨S16384x512, .f32⟩
  | .hbm, ⟨9, _⟩ => ⟨S16384x512, .bf16⟩
  | .hbm, ⟨10, _⟩ => ⟨S_, .bf16⟩
  | .hbm, ⟨11, _⟩ => ⟨S16384x256, .bf16⟩
  | .hbm, ⟨12, _⟩ => ⟨S16384x128, .f32⟩
  | .hbm, ⟨13, _⟩ => ⟨S16384x128, .bf16⟩
  | .hbm, ⟨14, _⟩ => ⟨S16384x128, .f32⟩
  | .hbm, ⟨15, _⟩ => ⟨S16384x128, .bf16⟩
  | .hbm, ⟨16, _⟩ => ⟨S16384x5632, .bf16⟩
  | .hbm, ⟨17, _⟩ => ⟨S_, .i32⟩
  | .hbm, ⟨18, _⟩ => ⟨S2x4, .i32⟩
  | .hbm, ⟨19, _⟩ => ⟨S2x4, .i32⟩
  | .hbm, ⟨20, _⟩ => ⟨S2x4, .i32⟩
  | .hbm, ⟨21, _⟩ => ⟨S2x4x1, .i32⟩
  | .hbm, ⟨22, _⟩ => ⟨S2x4, .f32⟩
  | .hbm, ⟨23, _⟩ => ⟨S2x4x128, .f32⟩
  | .hbm, ⟨24, _⟩ => ⟨S2x512, .f32⟩
  | .hbm, ⟨25, _⟩ => ⟨S2x1x512, .f32⟩
  | .hbm, ⟨26, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S2x1x512, .f32⟩
  | .local _ .vmem, ⟨11, _⟩ => ⟨S512x512, .bf16⟩
  | .local _ .vmem, ⟨12, _⟩ => ⟨S512x512, .bf16⟩
  | _, _ => ⟨S1x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c42_i32 : BitVec 32 := 42#32
  let c0_i32 : BitVec 32 := 0#32
  ![arg0.toNat, c42_i32.toNat]

def cc0_transform_2 (i : grid0.Coords) : Fin 2 → Nat :=
  let arg0 : BitVec 32 := BitVec.ofNat 32 (i 0).val
  let c43_i32 : BitVec 32 := 43#32
  let c0_i32 : BitVec 32 := 0#32
  ![arg0.toNat, c43_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c42_i32 : BitVec 32 := 42#32
  let c0_i32_0 : BitVec 32 := 0#32
  ![v2.toNat, c42_i32.toNat]

def cc0_transform_4 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c43_i32 : BitVec 32 := 43#32
  let c0_i32_0 : BitVec 32 := 0#32
  ![v2.toNat, c43_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x16384x512 : Shape := ⟨3, ![1, 16384, 512]⟩
abbrev S1x16384x128 : Shape := ⟨3, ![1, 16384, 128]⟩
abbrev S8 : Shape := ⟨1, ![8]⟩
abbrev S1x128x128x2x4x64 : Shape := ⟨6, ![1, 128, 128, 2, 4, 64]⟩
abbrev S1x128x128x2x64 : Shape := ⟨5, ![1, 128, 128, 2, 64]⟩
abbrev S1x1x128x2x64 : Shape := ⟨5, ![1, 1, 128, 2, 64]⟩
abbrev S_ : Shape := ⟨0, ![]⟩
abbrev S1x127x128x2x64 : Shape := ⟨5, ![1, 127, 128, 2, 64]⟩
abbrev S1x128x256x2x64 : Shape := ⟨5, ![1, 128, 256, 2, 64]⟩
abbrev S1x128x2x256x128x4 : Shape := ⟨6, ![1, 128, 2, 256, 128, 4]⟩
abbrev S1x128x2x4x128x256 : Shape := ⟨6, ![1, 128, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S128x1x256 : Shape := ⟨3, ![128, 1, 256]⟩
abbrev S128x128x256 : Shape := ⟨3, ![128, 128, 256]⟩
abbrev S2x4 : Shape := ⟨2, ![2, 4]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S1x1x2x4x128x256 : Shape := ⟨6, ![1, 1, 2, 4, 128, 256]⟩
abbrev S1x128x1x1x128x256 : Shape := ⟨6, ![1, 128, 1, 1, 128, 256]⟩
abbrev S1x128x2x4x128x1 : Shape := ⟨6, ![1, 128, 2, 4, 128, 1]⟩
abbrev S1x128x2x4x128x257 : Shape := ⟨6, ![1, 128, 2, 4, 128, 257]⟩
abbrev S1x128x2x4x128 : Shape := ⟨5, ![1, 128, 2, 4, 128]⟩
abbrev S1x128x2x64x4x128 : Shape := ⟨6, ![1, 128, 2, 64, 4, 128]⟩
abbrev S1x128x128x4x2x64 : Shape := ⟨6, ![1, 128, 128, 4, 2, 64]⟩
abbrev S1x128x128x1x2x64 : Shape := ⟨6, ![1, 128, 128, 1, 2, 64]⟩
abbrev S16384x512 : Shape := ⟨2, ![16384, 512]⟩

abbrev nBuf : Space → Nat
  | .hbm => 118
  | .vmem => 0
  | .smem => 0
  | _ => 0

abbrev bufTy : (tb : Table) → Fin (tcTables nBuf tb) → BufTy
  | .hbm, ⟨0, _⟩ => ⟨S1x16384x512, .f32⟩
  | .hbm, ⟨1, _⟩ => ⟨S1x16384x128, .f32⟩
  | .hbm, ⟨2, _⟩ => ⟨S1x16384x128, .f32⟩
  | .hbm, ⟨3, _⟩ => ⟨S8, .f32⟩
  | .hbm, ⟨4, _⟩ => ⟨S1x128x128x2x4x64, .f32⟩
  | .hbm, ⟨5, _⟩ => ⟨S1x128x128x2x64, .f32⟩
  | .hbm, ⟨6, _⟩ => ⟨S1x128x128x2x64, .f32⟩
  | .hbm, ⟨7, _⟩ => ⟨S1x1x128x2x64, .f32⟩
  | .hbm, ⟨8, _⟩ => ⟨S_, .f32⟩
  | .hbm, ⟨9, _⟩ => ⟨S1x1x128x2x64, .f32⟩
  | .hbm, ⟨10, _⟩ => ⟨S1x127x128x2x64, .f32⟩
  | .hbm, ⟨11, _⟩ => ⟨S1x128x128x2x64, .f32⟩
  | .hbm, ⟨12, _⟩ => ⟨S1x128x256x2x64, .f32⟩
  | .hbm, ⟨13, _⟩ => ⟨S1x1x128x2x64, .f32⟩
  | .hbm, ⟨14, _⟩ => ⟨S_, .f32⟩
  | .hbm, ⟨15, _⟩ => ⟨S1x1x128x2x64, .f32⟩
  | .hbm, ⟨16, _⟩ => ⟨S1x127x128x2x64, .f32⟩
  | .hbm, ⟨17, _⟩ => ⟨S1x128x128x2x64, .f32⟩
  | .hbm, ⟨18, _⟩ => ⟨S1x128x256x2x64, .f32⟩
  | .hbm, ⟨19, _⟩ => ⟨S1x128x2x256x128x4, .f32⟩
  | .hbm, ⟨20, _⟩ => ⟨S1x128x2x4x128x256, .f32⟩
  | .hbm, ⟨21, _⟩ => ⟨S_, .f32⟩
  | .hbm, ⟨22, _⟩ => ⟨S1x128x2x4x128x256, .f32⟩
  | .hbm, ⟨23, _⟩ => ⟨S1x128x2x4x128x256, .f32⟩
  | .hbm, ⟨24, _⟩ => ⟨S128, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S128x256, .f32⟩
  | .hbm, ⟨35, _⟩ => ⟨S128, .i32⟩
  | .hbm, ⟨36, _⟩ => ⟨S128x1, .i32⟩
  | .hbm, ⟨37, _⟩ => ⟨S_, .i32⟩
  | .hbm, ⟨38, _⟩ => ⟨S128x1, .i32⟩
  | .hbm, ⟨39, _⟩ => ⟨S128x1, .i32⟩
  | .hbm, ⟨40, _⟩ => ⟨S_, .i32⟩
  | .hbm, ⟨41, _⟩ => ⟨S128x1, .i32⟩
  | .hbm, ⟨42, _⟩ => ⟨S128x1, .i32⟩
  | .hbm, ⟨43, _⟩ => ⟨S128x256, .i32⟩
  | .hbm, ⟨44, _⟩ => ⟨S128x256, .i32⟩
  | .hbm, ⟨45, _⟩ => ⟨S128x256, .i32⟩
  | .hbm, ⟨46, _⟩ => ⟨S_, .f32⟩
  | .hbm, ⟨47, _⟩ => ⟨S128x256, .f32⟩
  | .hbm, ⟨48, _⟩ => ⟨S128x256, .i1⟩
  | .hbm, ⟨49, _⟩ => ⟨S_, .f32⟩
  | .hbm, ⟨50, _⟩ => ⟨S128x256, .f32⟩
  | .hbm, ⟨51, _⟩ => ⟨S128x256, .i1⟩
  | .hbm, ⟨52, _⟩ => ⟨S128x256, .i1⟩
  | .hbm, ⟨53, _⟩ => ⟨S1x128x256, .i1⟩
  | .hbm, ⟨54, _⟩ => ⟨S_, .i32⟩
  | .hbm, ⟨55, _⟩ => ⟨S128x256, .i32⟩
  | .hbm, ⟨56, _⟩ => ⟨S128x256, .i1⟩
  | .hbm, ⟨57, _⟩ => ⟨S128x1x256, .i1⟩
  | .hbm, ⟨58, _⟩ => ⟨S128x128x256, .i1⟩
  | .hbm, ⟨59, _⟩ => ⟨S128x128x256, .i1⟩
  | .hbm, ⟨60, _⟩ => ⟨S128x128x256, .i1⟩
  | .hbm, ⟨61, _⟩ => ⟨S8, .i32⟩
  | .hbm, ⟨62, _⟩ => ⟨S8, .f32⟩
  | .hbm, ⟨63, _⟩ => ⟨S_, .f32⟩
  | .hbm, ⟨64, _⟩ => ⟨S8, .f32⟩
  | .hbm, ⟨65, _⟩ => ⟨S8, .f32⟩
  | .hbm, ⟨66, _⟩ => ⟨S_, .f32⟩
  | .hbm, ⟨67, _⟩ => ⟨S8, .f32⟩
  | .hbm, ⟨68, _⟩ => ⟨S8, .f32⟩
  | .hbm, ⟨69, _⟩ => ⟨S_, .f32⟩
  | .hbm, ⟨70, _⟩ => ⟨S8, .f32⟩
  | .hbm, ⟨71, _⟩ => ⟨S8, .f32⟩
  | .hbm, ⟨72, _⟩ => ⟨S_, .f32⟩
  | .hbm, ⟨73, _⟩ => ⟨S8, .f32⟩
  | .hbm, ⟨74, _⟩ => ⟨S8, .f32⟩
  | .hbm, ⟨75, _⟩ => ⟨S2x4, .f32⟩
  | .hbm, ⟨76, _⟩ => ⟨S2x4x1x1, .f32⟩
  | .hbm, ⟨77, _⟩ => ⟨S1x1x128x256, .f32⟩
  | .hbm, ⟨78, _⟩ => ⟨S2x4x128x256, .f32⟩
  | .hbm, ⟨79, _⟩ => ⟨S2x4x128x256, .f32⟩
  | .hbm, ⟨80, _⟩ => ⟨S2x4x128x256, .f32⟩
  | .hbm, ⟨81, _⟩ => ⟨S1x1x2x4x128x256, .f32⟩
  | .hbm, ⟨82, _⟩ => ⟨S1x128x2x4x128x256, .f32⟩
  | .hbm, ⟨83, _⟩ => ⟨S1x128x2x4x128x256, .f32⟩
  | .hbm, ⟨84, _⟩ => ⟨S1x128x1x1x128x256, .i1⟩
  | .hbm, ⟨85, _⟩ => ⟨S_, .f32⟩
  | .hbm, ⟨86, _⟩ => ⟨S_, .f32⟩
  | .hbm, ⟨87, _⟩ => ⟨S1x128x2x4x128x256, .i1⟩
  | .hbm, ⟨88, _⟩ => ⟨S1x128x2x4x128x256, .f32⟩
  | .hbm, ⟨89, _⟩ => ⟨S1x128x2x4x128x256, .f32⟩
  | .hbm, ⟨90, _⟩ => ⟨S2x4, .f32⟩
  | .hbm, ⟨91, _⟩ => ⟨S2x4x1x1, .f32⟩
  | .hbm, ⟨92, _⟩ => ⟨S1x128x2x4x128x1, .f32⟩
  | .hbm, ⟨93, _⟩ => ⟨S1x128x2x4x128x257, .f32⟩
  | .hbm, ⟨94, _⟩ => ⟨S_, .f32⟩
  | .hbm, ⟨95, _⟩ => ⟨S1x128x2x4x128, .f32⟩
  | .hbm, ⟨96, _⟩ => ⟨S_, .f32⟩
  | .hbm, ⟨97, _⟩ => ⟨S1x128x2x4x128, .f32⟩
  | .hbm, ⟨98, _⟩ => ⟨S1x128x2x4x128, .f32⟩
  | .hbm, ⟨99, _⟩ => ⟨S1x128x2x4x128x1, .f32⟩
  | .hbm, ⟨100, _⟩ => ⟨S1x128x2x4x128x257, .f32⟩
  | .hbm, ⟨101, _⟩ => ⟨S1x128x2x4x128x257, .f32⟩
  | .hbm, ⟨102, _⟩ => ⟨S1x128x2x4x128x257, .f32⟩
  | .hbm, ⟨103, _⟩ => ⟨S_, .f32⟩
  | .hbm, ⟨104, _⟩ => ⟨S1x128x2x4x128, .f32⟩
  | .hbm, ⟨105, _⟩ => ⟨S1x128x2x4x128x1, .f32⟩
  | .hbm, ⟨106, _⟩ => ⟨S1x128x2x4x128x257, .f32⟩
  | .hbm, ⟨107, _⟩ => ⟨S1x128x2x4x128x257, .f32⟩
  | .hbm, ⟨108, _⟩ => ⟨S1x128x2x4x128x256, .f32⟩
  | .hbm, ⟨109, _⟩ => ⟨S1x128x2x64x4x128, .f32⟩
  | .hbm, ⟨110, _⟩ => ⟨S1x128x128x4x2x64, .f32⟩
  | .hbm, ⟨111, _⟩ => ⟨S1x128x128x1x2x64, .f32⟩
  | .hbm, ⟨112, _⟩ => ⟨S1x128x128x1x2x64, .f32⟩
  | .hbm, ⟨113, _⟩ => ⟨S1x128x128x1x2x64, .f32⟩
  | .hbm, ⟨114, _⟩ => ⟨S1x128x128x1x2x64, .f32⟩
  | .hbm, ⟨115, _⟩ => ⟨S1x128x128x4x2x64, .f32⟩
  | .hbm, ⟨116, _⟩ => ⟨S16384x512, .f32⟩
  | .hbm, ⟨117, _⟩ => ⟨S16384x512, .bf16⟩
  | _, _ => ⟨S1x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_2 : Ref sig .tc := ⟨.hbm, 37, rfl⟩
abbrev main_v29 : Ref sig .tc := ⟨.hbm, 38, rfl⟩
abbrev main_v30 : Ref sig .tc := ⟨.hbm, 39, rfl⟩
abbrev main_c_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_cst_9 : Ref sig .tc := ⟨.hbm, 69, rfl⟩
abbrev main_v54 : Ref sig .tc := ⟨.hbm, 70, rfl⟩
abbrev main_v55 : Ref sig .tc := ⟨.hbm, 71, rfl⟩
abbrev main_cst_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_11 : Ref sig .tc := ⟨.hbm, 85, rfl⟩
abbrev main_call0_v0 : Ref sig .tc := ⟨.hbm, 86, rfl⟩
abbrev main_call0_v1 : Ref sig .tc := ⟨.hbm, 87, rfl⟩
abbrev main_call0_v2 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_12 : Ref sig .tc := ⟨.hbm, 94, rfl⟩
abbrev main_v73 : Ref sig .tc := ⟨.hbm, 95, rfl⟩
abbrev main_cst_13 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_14 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩

abbrev nD : Nat := 1
abbrev τ : Topo := Topo.v7x

variable {F : FTy → Type} [FloatOps F]
-- ==== KernelDown.lean ====
abbrev S16384x5632 : Shape := ⟨2, ![16384, 5632]⟩
abbrev S2x5632x2048 : Shape := ⟨3, ![2, 5632, 2048]⟩
abbrev S16384x2048 : Shape := ⟨2, ![16384, 2048]⟩
abbrev S2048 : Shape := ⟨1, ![2048]⟩
abbrev S1x2048 : Shape := ⟨2, ![1, 2048]⟩
abbrev S512x5632 : Shape := ⟨2, ![512, 5632]⟩
abbrev S1x5632x2048 : Shape := ⟨3, ![1, 5632, 2048]⟩
abbrev S512x2048 : Shape := ⟨2, ![512, 2048]⟩
abbrev S256x5632 : Shape := ⟨2, ![256, 5632]⟩
abbrev S5632x2048 : Shape := ⟨2, ![5632, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 9
  | .smem => 0
  | _ => 0

abbrev bufTy : (tb : Table) → Fin (tcTables nBuf tb) → BufTy
  | .hbm, ⟨0, _⟩ => ⟨S16384x5632, .bf16⟩
  | .hbm, ⟨1, _⟩ => ⟨S2x5632x2048, .f32⟩
  | .hbm, ⟨2, _⟩ => ⟨S16384x2048, .f32⟩
  | .hbm, ⟨3, _⟩ => ⟨S2048, .f32⟩
  | .hbm, ⟨4, _⟩ => ⟨S1x2048, .f32⟩
  | .hbm, ⟨5, _⟩ => ⟨S2x5632x2048, .bf16⟩
  | .hbm, ⟨6, _⟩ => ⟨S1x2048, .f32⟩
  | .hbm, ⟨7, _⟩ => ⟨S16384x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceDownIdeal.lean ====
abbrev S16384x5632 : Shape := ⟨2, ![16384, 5632]⟩
abbrev S2x5632x2048 : Shape := ⟨3, ![2, 5632, 2048]⟩
abbrev S16384x2048 : Shape := ⟨2, ![16384, 2048]⟩
abbrev S2048 : Shape := ⟨1, ![2048]⟩
abbrev S1x2048 : Shape := ⟨2, ![1, 2048]⟩
abbrev S1x5632x2048 : Shape := ⟨3, ![1, 5632, 2048]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩

abbrev nBuf : Space → Nat
  | .hbm => 28
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S2x5632x2048, .f32⟩
  | .hbm, ⟨2, _⟩ => ⟨S16384x2048, .f32⟩
  | .hbm, ⟨3, _⟩ => ⟨S2048, .f32⟩
  | .hbm, ⟨4, _⟩ => ⟨S1x2048, .f32⟩
  | .hbm, ⟨5, _⟩ => ⟨S16384x5632, .f32⟩
  | .hbm, ⟨6, _⟩ => ⟨S1x5632x2048, .f32⟩
  | .hbm, ⟨7, _⟩ => ⟨S5632x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== KernelUp.lean ====
abbrev S16384x2048 : Shape := ⟨2, ![16384, 2048]⟩
abbrev S2x2048x11264 : Shape := ⟨3, ![2, 2048, 11264]⟩
abbrev S3x11264 : Shape := ⟨2, ![3, 11264]⟩
abbrev S11264 : Shape := ⟨1, ![11264]⟩
abbrev S1x11264 : Shape := ⟨2, ![1, 11264]⟩
abbrev S16384x5632 : Shape := ⟨2, ![16384, 5632]⟩
abbrev S2048x2048 : Shape := ⟨2, ![2048, 2048]⟩
abbrev S1x2048x512 : Shape := ⟨3, ![1, 2048, 512]⟩
abbrev S3x512 : Shape := ⟨2, ![3, 512]⟩
abbrev S1x512 : Shape := ⟨2, ![1, 512]⟩
abbrev S2048x512 : Shape := ⟨2, ![2048, 512]⟩
abbrev S1032x512 : Shape := ⟨2, ![1032, 512]⟩
abbrev S8x512 : Shape := ⟨2, ![8, 512]⟩
abbrev S1024x2048 : Shape := ⟨2, ![1024, 2048]⟩
abbrev S1024x512 : Shape := ⟨2, ![1024, 512]⟩

abbrev nBuf : Space → Nat
  | .hbm => 6
  | .vmem => 20
  | .smem => 0
  | _ => 0

abbrev bufTy : (tb : Table) → Fin (tcTables nBuf tb) → BufTy
  | .hbm, ⟨0, _⟩ => ⟨S16384x2048, .bf16⟩
  | .hbm, ⟨1, _⟩ => ⟨S2x2048x11264, .f32⟩
  | .hbm, ⟨2, _⟩ => ⟨S3x11264, .f32⟩
  | .hbm, ⟨3, _⟩ => ⟨S11264, .f32⟩
  | .hbm, ⟨4, _⟩ => ⟨S1x11264, .f32⟩
  | .hbm, ⟨5, _⟩ => ⟨S16384x5632, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | .local _ .vmem, ⟨18, _⟩ => ⟨S1032x512, .f32⟩
  | .local _ .vmem, ⟨19, _⟩ => ⟨S1032x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceUpIdeal.lean ====
abbrev S16384x2048 : Shape := ⟨2, ![16384, 2048]⟩
abbrev S2x2048x11264 : Shape := ⟨3, ![2, 2048, 11264]⟩
abbrev S3x11264 : Shape := ⟨2, ![3, 11264]⟩
abbrev S11264 : Shape := ⟨1, ![11264]⟩
abbrev S1x2048x11264 : Shape := ⟨3, ![1, 2048, 11264]⟩
abbrev S2048x11264 : Shape := ⟨2, ![2048, 11264]⟩
abbrev S16384x11264 : Shape := ⟨2, ![16384, 11264]⟩
abbrev S_ : Shape := ⟨0, ![]⟩
abbrev S16386x11264 : Shape := ⟨2, ![16386, 11264]⟩
abbrev S1x11264 : Shape := ⟨2, ![1, 11264]⟩
abbrev S16384x5632 : Shape := ⟨2, ![16384, 5632]⟩

abbrev nBuf : Space → Nat
  | .hbm => 58
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x11264, .f32⟩
  | .hbm, ⟨2, _⟩ => ⟨S3x11264, .f32⟩
  | .hbm, ⟨3, _⟩ => ⟨S11264, .f32⟩
  | .hbm, ⟨4, _⟩ => ⟨S16384x2048, .f32⟩
  | .hbm, ⟨5, _⟩ => ⟨S1x2048x11264, .f32⟩
  | .hbm, ⟨6, _⟩ => ⟨S2048x11264, .f32⟩
  | .hbm, ⟨7, _⟩ => ⟨S16384x11264, .f32⟩
  | .hbm, ⟨8, _⟩ => ⟨S_, .i32⟩
  | .hbm, ⟨9, _⟩ => ⟨S_, .f32⟩
  | .hbm, ⟨10, _⟩ => ⟨S16386x11264, .f32⟩
  | .hbm, ⟨11, _⟩ => ⟨S16384x11264, .f32⟩
  | .hbm, ⟨12, _⟩ => ⟨S1x11264, .f32⟩
  | .hbm, ⟨13, _⟩ => ⟨S11264, .f32⟩
  | .hbm, ⟨14, _⟩ => ⟨S1x11264, .f32⟩
  | .hbm, ⟨15, _⟩ => ⟨S16384x11264, .f32⟩
  | .hbm, ⟨16, _⟩ => ⟨S16384x11264, .f32⟩
  | .hbm, ⟨17, _⟩ => ⟨S_, .f32⟩
  | .hbm, ⟨18, _⟩ => ⟨S16384x11264, .f32⟩
  | .hbm, ⟨19, _⟩ => ⟨S16384x11264, .f32⟩
  | .hbm, ⟨20, _⟩ => ⟨S16384x11264, .f32⟩
  | .hbm, ⟨21, _⟩ => ⟨S1x11264, .f32⟩
  | .hbm, ⟨22, _⟩ => ⟨S11264, .f32⟩
  | .hbm, ⟨23, _⟩ => ⟨S1x11264, .f32⟩
  | .hbm, ⟨24, _⟩ => ⟨S16384x11264, .f32⟩
  | .hbm, ⟨25, _⟩ => ⟨S16384x11264, .f32⟩
  | .hbm, ⟨26, _⟩ => ⟨S16384x11264, .f32⟩
  | .hbm, ⟨27, _⟩ => ⟨S16384x11264, .f32⟩
  | .hbm, ⟨28, _⟩ => ⟨S1x11264, .f32⟩
  | .hbm, ⟨29, _⟩ => ⟨S11264, .f32⟩
  | .hbm, ⟨30, _⟩ => ⟨S1x11264, .f32⟩
  | .hbm, ⟨31, _⟩ => ⟨S16384x11264, .f32⟩
  | .hbm, ⟨32, _⟩ => ⟨S16384x11264, .f32⟩
  | .hbm, ⟨33, _⟩ => ⟨S16384x11264, .f32⟩
  | .hbm, ⟨34, _⟩ => ⟨S1x11264, .f32⟩
  | .hbm, ⟨35, _⟩ => ⟨S16384x11264, .f32⟩
  | .hbm, ⟨36, _⟩ => ⟨S16384x11264, .f32⟩
  | .hbm, ⟨37, _⟩ => ⟨S16384x5632, .f32⟩
  | .hbm, ⟨38, _⟩ => ⟨S16384x5632, .f32⟩
  | .hbm, ⟨39, _⟩ => ⟨S16384x5632, .f32⟩
  | .hbm, ⟨40, _⟩ => ⟨S16384x5632, .f32⟩
  | .hbm, ⟨41, _⟩ => ⟨S_, .f32⟩
  | .hbm, ⟨42, _⟩ => ⟨S16384x5632, .f32⟩
  | .hbm, ⟨43, _⟩ => ⟨S16384x5632, .f32⟩
  | .hbm, ⟨44, _⟩ => ⟨S16384x5632, .f32⟩
  | .hbm, ⟨45, _⟩ => ⟨S_, .f32⟩
  | .hbm, ⟨46, _⟩ => ⟨S16384x5632, .f32⟩
  | .hbm, ⟨47, _⟩ => ⟨S16384x5632, .f32⟩
  | .hbm, ⟨48, _⟩ => ⟨S16384x5632, .f32⟩
  | .hbm, ⟨49, _⟩ => ⟨S_, .f32⟩
  | .hbm, ⟨50, _⟩ => ⟨S16384x5632, .f32⟩
  | .hbm, ⟨51, _⟩ => ⟨S16384x5632, .f32⟩
  | .hbm, ⟨52, _⟩ => ⟨S_, .f32⟩
  | .hbm, ⟨53, _⟩ => ⟨S16384x5632, .f32⟩
  | .hbm, ⟨54, _⟩ => ⟨S16384x5632, .f32⟩
  | .hbm, ⟨55, _⟩ => ⟨S16384x5632, .f32⟩
  | .hbm, ⟨56, _⟩ => ⟨S16384x5632, .f32⟩
  | .hbm, ⟨57, _⟩ => ⟨S16384x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_0 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_1 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_2 : Ref sig .tc := ⟨.hbm, 49, rfl⟩
abbrev main_v40 : Ref sig .tc := ⟨.hbm, 50, rfl⟩
abbrev main_v41 : Ref sig .tc := ⟨.hbm, 51, rfl⟩
abbrev main_cst_3 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== KernelOut.lean ====
abbrev S16384x1024 : Shape := ⟨2, ![16384, 1024]⟩
abbrev S16384x512 : Shape := ⟨2, ![16384, 512]⟩
abbrev S2x2048x2048 : Shape := ⟨3, ![2, 2048, 2048]⟩
abbrev S16384x2048 : Shape := ⟨2, ![16384, 2048]⟩
abbrev S2048 : Shape := ⟨1, ![2048]⟩
abbrev S1x2048 : Shape := ⟨2, ![1, 2048]⟩
abbrev S4 : Shape := ⟨1, ![4]⟩
abbrev S2x512x2048 : Shape := ⟨3, ![2, 512, 2048]⟩
abbrev S2x2x4x64x2048 : Shape := ⟨5, ![2, 2, 4, 64, 2048]⟩
abbrev S_ : Shape := ⟨0, ![]⟩
abbrev S4x1 : Shape := ⟨2, ![4, 1]⟩
abbrev S2x4x2x64x2048 : Shape := ⟨5, ![2, 4, 2, 64, 2048]⟩
abbrev S2x1536x2048 : Shape := ⟨3, ![2, 1536, 2048]⟩
abbrev S512x1024 : Shape := ⟨2, ![512, 1024]⟩
abbrev S512x512 : Shape := ⟨2, ![512, 512]⟩
abbrev S1x2048x2048 : Shape := ⟨3, ![1, 2048, 2048]⟩
abbrev S512x2048 : Shape := ⟨2, ![512, 2048]⟩
abbrev S256x1024 : Shape := ⟨2, ![256, 1024]⟩
abbrev S1x1024x2048 : Shape := ⟨3, ![1, 1024, 2048]⟩
abbrev S1024x2048 : Shape := ⟨2, ![1024, 2048]⟩
abbrev S256x2048 : Shape := ⟨2, ![256, 2048]⟩
abbrev S256x512 : Shape := ⟨2, ![256, 512]⟩
abbrev S1x512x2048 : Shape := ⟨3, ![1, 512, 2048]⟩
abbrev S256 : Shape := ⟨1, ![256]⟩
abbrev S256x1 : Shape := ⟨2, ![256, 1]⟩

abbrev nBuf : Space → Nat
  | .hbm => 30
  | .vmem => 18
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x512, .bf16⟩
  | .hbm, ⟨3, _⟩ => ⟨S2x2048x2048, .f32⟩
  | .hbm, ⟨4, _⟩ => ⟨S16384x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S4, .i32⟩
  | .hbm, ⟨11, _⟩ => ⟨S4, .i1⟩
  | .hbm, ⟨12, _⟩ => ⟨S2x512x2048, .f32⟩
  | .hbm, ⟨13, _⟩ => ⟨S2x2x4x64x2048, .f32⟩
  | .hbm, ⟨14, _⟩ => ⟨S_, .i32⟩
  | .hbm, ⟨15, _⟩ => ⟨S4, .i32⟩
  | .hbm, ⟨16, _⟩ => ⟨S4, .i32⟩
  | .hbm, ⟨17, _⟩ => ⟨S4, .i32⟩
  | .hbm, ⟨18, _⟩ => ⟨S4x1, .i32⟩
  | .hbm, ⟨19, _⟩ => ⟨S2x2x4x64x2048, .f32⟩
  | .hbm, ⟨20, _⟩ => ⟨S2x4x2x64x2048, .f32⟩
  | .hbm, ⟨21, _⟩ => ⟨S2x512x2048, .f32⟩
  | .hbm, ⟨22, _⟩ => ⟨S2x1536x2048, .f32⟩
  | .hbm, ⟨23, _⟩ => ⟨S2x1536x2048, .bf16⟩
  | .hbm, ⟨24, _⟩ => ⟨S2x512x2048, .bf16⟩
  | .hbm, ⟨25, _⟩ => ⟨S2x2048x2048, .bf16⟩
  | .hbm, ⟨26, _⟩ => ⟨S1x2048, .f32⟩
  | .hbm, ⟨27, _⟩ => ⟨S1x2048, .f32⟩
  | .hbm, ⟨28, _⟩ => ⟨S16384x2048, .f32⟩
  | .hbm, ⟨29, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x2048x2048, .bf16⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_v0 : Ref sig .tc := ⟨.hbm, 12, rfl⟩
abbrev main_v1 : Ref sig .tc := ⟨.hbm, 13, rfl⟩
abbrev main_c_1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceOutIdeal.lean ====
abbrev S16384x1024 : Shape := ⟨2, ![16384, 1024]⟩
abbrev S16384x512 : Shape := ⟨2, ![16384, 512]⟩
abbrev S2x2048x2048 : Shape := ⟨3, ![2, 2048, 2048]⟩
abbrev S16384x2048 : Shape := ⟨2, ![16384, 2048]⟩
abbrev S2048 : Shape := ⟨1, ![2048]⟩
abbrev S1x2048 : Shape := ⟨2, ![1, 2048]⟩
abbrev S16384x4x2x64 : Shape := ⟨4, ![16384, 4, 2, 64]⟩
abbrev S16384x1x1x64 : Shape := ⟨4, ![16384, 1, 1, 64]⟩
abbrev S16384x8x1x64 : Shape := ⟨4, ![16384, 8, 1, 64]⟩
abbrev S1x2048x2048 : Shape := ⟨3, ![1, 2048, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x512, .bf16⟩
  | .hbm, ⟨3, _⟩ => ⟨S2x2048x2048, .f32⟩
  | .hbm, ⟨4, _⟩ => ⟨S16384x2048, .f32⟩
  | .hbm, ⟨5, _⟩ => ⟨S2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S16384x4x2x64, .bf16⟩
  | .hbm, ⟨11, _⟩ => ⟨S16384x1x1x64, .bf16⟩
  | .hbm, ⟨12, _⟩ => ⟨S16384x1x1x64, .bf16⟩
  | .hbm, ⟨13, _⟩ => ⟨S16384x1x1x64, .bf16⟩
  | .hbm, ⟨14, _⟩ => ⟨S16384x1x1x64, .bf16⟩
  | .hbm, ⟨15, _⟩ => ⟨S16384x1x1x64, .bf16⟩
  | .hbm, ⟨16, _⟩ => ⟨S16384x1x1x64, .bf16⟩
  | .hbm, ⟨17, _⟩ => ⟨S16384x1x1x64, .bf16⟩
  | .hbm, ⟨18, _⟩ => ⟨S16384x1x1x64, .bf16⟩
  | .hbm, ⟨19, _⟩ => ⟨S16384x8x1x64, .bf16⟩
  | .hbm, ⟨20, _⟩ => ⟨S16384x512, .bf16⟩
  | .hbm, ⟨21, _⟩ => ⟨S16384x2048, .bf16⟩
  | .hbm, ⟨22, _⟩ => ⟨S16384x2048, .f32⟩
  | .hbm, ⟨23, _⟩ => ⟨S1x2048x2048, .f32⟩
  | .hbm, ⟨24, _⟩ => ⟨S2048x2048, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x2048, .f32⟩
  | .hbm, ⟨38, _⟩ => ⟨S16384x2048, .f32⟩
  | .hbm, ⟨39, _⟩ => ⟨S1x2048, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x2048, .f32⟩
  | .hbm, ⟨57, _⟩ => ⟨S16384x2048, .f32⟩
  | .hbm, ⟨58, _⟩ => ⟨S1x2048, .f32⟩
  | .hbm, ⟨59, _⟩ => ⟨S16384x2048, .f32⟩
  | .hbm, ⟨60, _⟩ => ⟨S16384x2048, .f32⟩
  | .hbm, ⟨61, _⟩ => ⟨S_, .f32⟩
  | .hbm, ⟨62, _⟩ => ⟨S1x2048, .f32⟩
  | .hbm, ⟨63, _⟩ => ⟨S1x2048, .f32⟩
  | .hbm, ⟨64, _⟩ => ⟨S16384x2048, .f32⟩
  | .hbm, ⟨65, _⟩ => ⟨S16384x2048, .f32⟩
  | .hbm, ⟨66, _⟩ => ⟨S16384x2048, .f32⟩
  | .hbm, ⟨67, _⟩ => ⟨S16384x2048, .f32⟩
  | .hbm, ⟨68, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== KernelIn.lean ====
abbrev S16384x2048 : Shape := ⟨2, ![16384, 2048]⟩
abbrev S2x2048x5520 : Shape := ⟨3, ![2, 2048, 5520]⟩
abbrev S2x2048x4096 : Shape := ⟨3, ![2, 2048, 4096]⟩
abbrev S2x2048x448 : Shape := ⟨3, ![2, 2048, 448]⟩
abbrev S_ : Shape := ⟨0, ![]⟩
abbrev S2x2048x64 : Shape := ⟨3, ![2, 2048, 64]⟩
abbrev S2x2048x512 : Shape := ⟨3, ![2, 2048, 512]⟩
abbrev S2x2048x128 : Shape := ⟨3, ![2, 2048, 128]⟩
abbrev S2x2048x5632 : Shape := ⟨3, ![2, 2048, 5632]⟩
abbrev S2x2048x8 : Shape := ⟨3, ![2, 2048, 8]⟩
abbrev S2x2048x112 : Shape := ⟨3, ![2, 2048, 112]⟩
abbrev S16384x5632 : Shape := ⟨2, ![16384, 5632]⟩
abbrev S16384x128 : Shape := ⟨2, ![16384, 128]⟩
abbrev S2048x2048 : Shape := ⟨2, ![2048, 2048]⟩
abbrev S1x2048x512 : Shape := ⟨3, ![1, 2048, 512]⟩
abbrev S1x2048x128 : Shape := ⟨3, ![1, 2048, 128]⟩
abbrev S2048x512 : Shape := ⟨2, ![2048, 512]⟩
abbrev S2048x128 : Shape := ⟨2, ![2048, 128]⟩

abbrev nBuf : Space → Nat
  | .hbm => 30
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2x2048x5520, .f32⟩
  | .hbm, ⟨2, _⟩ => ⟨S2x2048x4096, .f32⟩
  | .hbm, ⟨3, _⟩ => ⟨S2x2048x4096, .bf16⟩
  | .hbm, ⟨4, _⟩ => ⟨S2x2048x448, .f32⟩
  | .hbm, ⟨5, _⟩ => ⟨S2x2048x448, .bf16⟩
  | .hbm, ⟨6, _⟩ => ⟨S_, .bf16⟩
  | .hbm, ⟨7, _⟩ => ⟨S2x2048x64, .bf16⟩
  | .hbm, ⟨8, _⟩ => ⟨S2x2048x512, .f32⟩
  | .hbm, ⟨9, _⟩ => ⟨S2x2048x512, .bf16⟩
  | .hbm, ⟨10, _⟩ => ⟨S2x2048x128, .f32⟩
  | .hbm, ⟨11, _⟩ => ⟨S2x2048x128, .bf16⟩
  | .hbm, ⟨12, _⟩ => ⟨S2x2048x64, .f32⟩
  | .hbm, ⟨13, _⟩ => ⟨S2x2048x64, .bf16⟩
  | .hbm, ⟨14, _⟩ => ⟨S_, .bf16⟩
  | .hbm, ⟨15, _⟩ => ⟨S2x2048x64, .bf16⟩
  | .hbm, ⟨16, _⟩ => ⟨S2x2048x128, .f32⟩
  | .hbm, ⟨17, _⟩ => ⟨S2x2048x128, .bf16⟩
  | .hbm, ⟨18, _⟩ => ⟨S2x2048x128, .f32⟩
  | .hbm, ⟨19, _⟩ => ⟨S2x2048x128, .bf16⟩
  | .hbm, ⟨20, _⟩ => ⟨S2x2048x5632, .bf16⟩
  | .hbm, ⟨21, _⟩ => ⟨S2x2048x8, .f32⟩
  | .hbm, ⟨22, _⟩ => ⟨S2x2048x8, .bf16⟩
  | .hbm, ⟨23, _⟩ => ⟨S2x2048x8, .f32⟩
  | .hbm, ⟨24, _⟩ => ⟨S2x2048x8, .bf16⟩
  | .hbm, ⟨25, _⟩ => ⟨S_, .bf16⟩
  | .hbm, ⟨26, _⟩ => ⟨S2x2048x112, .bf16⟩
  | .hbm, ⟨27, _⟩ => ⟨S2x2048x128, .bf16⟩
  | .hbm, ⟨28, _⟩ => ⟨S16384x5632, .bf16⟩
  | .hbm, ⟨29, _⟩ => ⟨S16384x128, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x128, .bf16⟩
  | .local _ .vmem, ⟨5, _⟩ => ⟨S2048x512, .bf16⟩
  | .local _ .vmem, ⟨6, _⟩ => ⟨S2048x512, .bf16⟩
  | .local _ .vmem, ⟨7, _⟩ => ⟨S2048x128, .f32⟩
  | .local _ .vmem, ⟨8, _⟩ => ⟨S2048x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23_0 : Ref sig .tc := ⟨.hbm, 28, rfl⟩
abbrev main_v23_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_6 : BitVec 32 := 0#32
  let v8 : BitVec 1 := Scalar.cmpi .ne v7 c0_i32_6
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceInIdeal.lean ====
abbrev S16384x2048 : Shape := ⟨2, ![16384, 2048]⟩
abbrev S2x2048x5520 : Shape := ⟨3, ![2, 2048, 5520]⟩
abbrev S1x2048x5520 : Shape := ⟨3, ![1, 2048, 5520]⟩
abbrev S2048x5520 : Shape := ⟨2, ![2048, 5520]⟩
abbrev S16384x5520 : Shape := ⟨2, ![16384, 5520]⟩
abbrev S16384x1024 : Shape := ⟨2, ![16384, 1024]⟩
abbrev S16384x8 : Shape := ⟨2, ![16384, 8]⟩
abbrev S16384x448 : Shape := ⟨2, ![16384, 448]⟩
abbrev S16384x128 : Shape := ⟨2, ![16384, 128]⟩
abbrev S16384x64 : Shape := ⟨2, ![16384, 64]⟩
abbrev S16384x512 : Shape := ⟨2, ![16384, 512]⟩
abbrev S_ : Shape := ⟨0, ![]⟩
abbrev S16384x5632 : Shape := ⟨2, ![16384, 5632]⟩
abbrev S16384x112 : Shape := ⟨2, ![16384, 112]⟩

abbrev nBuf : Space → Nat
  | .hbm => 27
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x5520, .f32⟩
  | .hbm, ⟨2, _⟩ => ⟨S16384x2048, .f32⟩
  | .hbm, ⟨3, _⟩ => ⟨S1x2048x5520, .f32⟩
  | .hbm, ⟨4, _⟩ => ⟨S2048x5520, .f32⟩
  | .hbm, ⟨5, _⟩ => ⟨S16384x5520, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x8, .f32⟩
  | .hbm, ⟨11, _⟩ => ⟨S16384x8, .f32⟩
  | .hbm, ⟨12, _⟩ => ⟨S16384x448, .f32⟩
  | .hbm, ⟨13, _⟩ => ⟨S16384x128, .f32⟩
  | .hbm, ⟨14, _⟩ => ⟨S16384x64, .f32⟩
  | .hbm, ⟨15, _⟩ => ⟨S16384x512, .f32⟩
  | .hbm, ⟨16, _⟩ => ⟨S16384x128, .f32⟩
  | .hbm, ⟨17, _⟩ => ⟨S16384x128, .f32⟩
  | .hbm, ⟨18, _⟩ => ⟨S_, .f32⟩
  | .hbm, ⟨19, _⟩ => ⟨S16384x64, .f32⟩
  | .hbm, ⟨20, _⟩ => ⟨S_, .f32⟩
  | .hbm, ⟨21, _⟩ => ⟨S16384x64, .f32⟩
  | .hbm, ⟨22, _⟩ => ⟨S16384x5632, .f32⟩
  | .hbm, ⟨23, _⟩ => ⟨S16384x5632, .bf16⟩
  | .hbm, ⟨24, _⟩ => ⟨S_, .f32⟩
  | .hbm, ⟨25, _⟩ => ⟨S16384x112, .f32⟩
  | .hbm, ⟨26, _⟩ => ⟨S16384x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== KernelPre.lean ====
abbrev S16384x2048 : Shape := ⟨2, ![16384, 2048]⟩
abbrev S2048 : Shape := ⟨1, ![2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 6
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1024x2048, .bf16⟩
  | .local _ .vmem, ⟨6, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferencePreIdeal.lean ====
abbrev S16384x2048 : Shape := ⟨2, ![16384, 2048]⟩
abbrev S2048 : Shape := ⟨1, ![2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩

abbrev nBuf : Space → Nat
  | .hbm => 28
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== KernelMod.lean ====
abbrev S1x2048 : Shape := ⟨2, ![1, 2048]⟩
abbrev S2x2048x12288 : Shape := ⟨3, ![2, 2048, 12288]⟩
abbrev S2x12288 : Shape := ⟨2, ![2, 12288]⟩
abbrev S2048x1 : Shape := ⟨2, ![2048, 1]⟩
abbrev S2x1x12288 : Shape := ⟨3, ![2, 1, 12288]⟩
abbrev S1x2048x1024 : Shape := ⟨3, ![1, 2048, 1024]⟩
abbrev S1x1x1024 : Shape := ⟨3, ![1, 1, 1024]⟩
abbrev S1x1024 : Shape := ⟨2, ![1, 1024]⟩
abbrev S1x256x1024 : Shape := ⟨3, ![1, 256, 1024]⟩
abbrev S256x1024 : Shape := ⟨2, ![256, 1024]⟩
abbrev S256x1 : Shape := ⟨2, ![256, 1]⟩
abbrev S1024 : Shape := ⟨1, ![1024]⟩

abbrev nBuf : Space → Nat
  | .hbm => 6
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S2x2048x12288, .f32⟩
  | .hbm, ⟨2, _⟩ => ⟨S2x12288, .f32⟩
  | .hbm, ⟨3, _⟩ => ⟨S2048x1, .f32⟩
  | .hbm, ⟨4, _⟩ => ⟨S2x1x12288, .f32⟩
  | .hbm, ⟨5, _⟩ => ⟨S2x1x12288, .f32⟩
  | .local _ .vmem, ⟨0, _⟩ => ⟨S2048x1, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceModIdeal.lean ====
abbrev S1x2048 : Shape := ⟨2, ![1, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S1x12288 : Shape := ⟨2, ![1, 12288]⟩
abbrev S12288 : Shape := ⟨1, ![12288]⟩
abbrev S1x1x12288 : Shape := ⟨3, ![1, 1, 12288]⟩
abbrev S2x1x12288 : Shape := ⟨3, ![2, 1, 12288]⟩

abbrev nBuf : Space → Nat
  | .hbm => 29
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S2x2048x12288, .f32⟩
  | .hbm, ⟨2, _⟩ => ⟨S2x12288, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048x12288, .f32⟩
  | .hbm, ⟨13, _⟩ => ⟨S2048x12288, .f32⟩
  | .hbm, ⟨14, _⟩ => ⟨S1x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S1x12288, .f32⟩
  | .hbm, ⟨19, _⟩ => ⟨S1x2048x12288, .f32⟩
  | .hbm, ⟨20, _⟩ => ⟨S2048x12288, .f32⟩
  | .hbm, ⟨21, _⟩ => ⟨S1x12288, .f32⟩
  | .hbm, ⟨22, _⟩ => ⟨S1x12288, .f32⟩
  | .hbm, ⟨23, _⟩ => ⟨S12288, .f32⟩
  | .hbm, ⟨24, _⟩ => ⟨S1x12288, .f32⟩
  | .hbm, ⟨25, _⟩ => ⟨S1x12288, .f32⟩
  | .hbm, ⟨26, _⟩ => ⟨S1x1x12288, .f32⟩
  | .hbm, ⟨27, _⟩ => ⟨S1x1x12288, .f32⟩
  | .hbm, ⟨28, _⟩ => ⟨S2x1x12288, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== KernelProj.lean ====
abbrev S16384x448 : Shape := ⟨2, ![16384, 448]⟩
abbrev S16384x128 : Shape := ⟨2, ![16384, 128]⟩
abbrev S16384x64 : Shape := ⟨2, ![16384, 64]⟩
abbrev S16384x32 : Shape := ⟨2, ![16384, 32]⟩
abbrev S448 : Shape := ⟨1, ![448]⟩
abbrev S448x768 : Shape := ⟨2, ![448, 768]⟩
abbrev S128 : Shape := ⟨1, ![128]⟩
abbrev S128x1024 : Shape := ⟨2, ![128, 1024]⟩
abbrev S_ : Shape := ⟨0, ![]⟩
abbrev S16384x4096 : Shape := ⟨2, ![16384, 4096]⟩
abbrev S16384x576 : Shape := ⟨2, ![16384, 576]⟩
abbrev S16384x320 : Shape := ⟨2, ![16384, 320]⟩
abbrev S16384x5632 : Shape := ⟨2, ![16384, 5632]⟩
abbrev S448x4x192 : Shape := ⟨3, ![448, 4, 192]⟩
abbrev S448x4x128 : Shape := ⟨3, ![448, 4, 128]⟩
abbrev S448x512 : Shape := ⟨2, ![448, 512]⟩
abbrev S448x4x64 : Shape := ⟨3, ![448, 4, 64]⟩
abbrev S448x256 : Shape := ⟨2, ![448, 256]⟩
abbrev S512x768 : Shape := ⟨2, ![512, 768]⟩
abbrev S512 : Shape := ⟨1, ![512]⟩
abbrev S1x512 : Shape := ⟨2, ![1, 512]⟩
abbrev S128x4x256 : Shape := ⟨3, ![128, 4, 256]⟩
abbrev S128x4x128 : Shape := ⟨3, ![128, 4, 128]⟩
abbrev S128x512 : Shape := ⟨2, ![128, 512]⟩
abbrev S512x128 : Shape := ⟨2, ![512, 128]⟩
abbrev S1x128 : Shape := ⟨2, ![1, 128]⟩
abbrev S4x16384x256 : Shape := ⟨3, ![4, 16384, 256]⟩
abbrev S4x32x128x512 : Shape := ⟨4, ![4, 32, 128, 512]⟩
abbrev S512x512 : Shape := ⟨2, ![512, 512]⟩
abbrev S4x512x256 : Shape := ⟨3, ![4, 512, 256]⟩
abbrev S4x1x128x512 : Shape := ⟨4, ![4, 1, 128, 512]⟩
abbrev S512x1 : Shape := ⟨2, ![512, 1]⟩
abbrev S512x256 : Shape := ⟨2, ![512, 256]⟩
abbrev S512x64 : Shape := ⟨2, ![512, 64]⟩
abbrev S1x512x256 : Shape := ⟨3, ![1, 512, 256]⟩
abbrev S1x1x128x512 : Shape := ⟨4, ![1, 1, 128, 512]⟩

abbrev nBuf : Space → Nat
  | .hbm => 49
  | .vmem => 21
  | .smem => 0
  | _ => 0

abbrev bufTy : (tb : Table) → Fin (tcTables nBuf tb) → BufTy
  | .hbm, ⟨0, _⟩ => ⟨S16384x448, .f32⟩
  | .hbm, ⟨1, _⟩ => ⟨S16384x128, .f32⟩
  | .hbm, ⟨2, _⟩ => ⟨S16384x64, .f32⟩
  | .hbm, ⟨3, _⟩ => ⟨S16384x32, .f32⟩
  | .hbm, ⟨4, _⟩ => ⟨S16384x32, .f32⟩
  | .hbm, ⟨5, _⟩ => ⟨S448, .f32⟩
  | .hbm, ⟨6, _⟩ => ⟨S448x768, .f32⟩
  | .hbm, ⟨7, _⟩ => ⟨S128, .f32⟩
  | .hbm, ⟨8, _⟩ => ⟨S128x1024, .f32⟩
  | .hbm, ⟨9, _⟩ => ⟨S_, .bf16⟩
  | .hbm, ⟨10, _⟩ => ⟨S16384x4096, .bf16⟩
  | .hbm, ⟨11, _⟩ => ⟨S16384x448, .bf16⟩
  | .hbm, ⟨12, _⟩ => ⟨S_, .bf16⟩
  | .hbm, ⟨13, _⟩ => ⟨S16384x576, .bf16⟩
  | .hbm, ⟨14, _⟩ => ⟨S16384x128, .bf16⟩
  | .hbm, ⟨15, _⟩ => ⟨S16384x64, .bf16⟩
  | .hbm, ⟨16, _⟩ => ⟨S_, .bf16⟩
  | .hbm, ⟨17, _⟩ => ⟨S16384x320, .bf16⟩
  | .hbm, ⟨18, _⟩ => ⟨S16384x5632, .bf16⟩
  | .hbm, ⟨19, _⟩ => ⟨S16384x128, .f32⟩
  | .hbm, ⟨20, _⟩ => ⟨S16384x32, .f32⟩
  | .hbm, ⟨21, _⟩ => ⟨S16384x32, .f32⟩
  | .hbm, ⟨22, _⟩ => ⟨S16384x128, .f32⟩
  | .hbm, ⟨23, _⟩ => ⟨S448x4x192, .f32⟩
  | .hbm, ⟨24, _⟩ => ⟨S448x4x128, .f32⟩
  | .hbm, ⟨25, _⟩ => ⟨S448x512, .f32⟩
  | .hbm, ⟨26, _⟩ => ⟨S448x4x64, .f32⟩
  | .hbm, ⟨27, _⟩ => ⟨S448x256, .f32⟩
  | .hbm, ⟨28, _⟩ => ⟨S448x768, .f32⟩
  | .hbm, ⟨29, _⟩ => ⟨S_, .i32⟩
  | .hbm, ⟨30, _⟩ => ⟨S_, .f32⟩
  | .hbm, ⟨31, _⟩ => ⟨S512x768, .f32⟩
  | .hbm, ⟨32, _⟩ => ⟨S512x768, .bf16⟩
  | .hbm, ⟨33, _⟩ => ⟨S_, .i32⟩
  | .hbm, ⟨34, _⟩ => ⟨S_, .f32⟩
  | .hbm, ⟨35, _⟩ => ⟨S512, .f32⟩
  | .hbm, ⟨36, _⟩ => ⟨S1x512, .f32⟩
  | .hbm, ⟨37, _⟩ => ⟨S128x4x256, .f32⟩
  | .hbm, ⟨38, _⟩ => ⟨S128x4x128, .f32⟩
  | .hbm, ⟨39, _⟩ => ⟨S128x512, .f32⟩
  | .hbm, ⟨40, _⟩ => ⟨S128x512, .bf16⟩
  | .hbm, ⟨41, _⟩ => ⟨S128x4x128, .f32⟩
  | .hbm, ⟨42, _⟩ => ⟨S128x512, .f32⟩
  | .hbm, ⟨43, _⟩ => ⟨S512x128, .f32⟩
  | .hbm, ⟨44, _⟩ => ⟨S512x128, .bf16⟩
  | .hbm, ⟨45, _⟩ => ⟨S1x128, .f32⟩
  | .hbm, ⟨46, _⟩ => ⟨S4x16384x256, .bf16⟩
  | .hbm, ⟨47, _⟩ => ⟨S4x16384x256, .bf16⟩
  | .hbm, ⟨48, _⟩ => ⟨S4x32x128x512, .bf16⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512, .f32⟩
  | .local _ .vmem, ⟨11, _⟩ => ⟨S512x768, .bf16⟩
  | .local _ .vmem, ⟨12, _⟩ => ⟨S1x128, .f32⟩
  | .local _ .vmem, ⟨13, _⟩ => ⟨S128x512, .bf16⟩
  | .local _ .vmem, ⟨14, _⟩ => ⟨S512x128, .bf16⟩
  | .local _ .vmem, ⟨15, _⟩ => ⟨S4x512x256, .bf16⟩
  | .local _ .vmem, ⟨16, _⟩ => ⟨S4x512x256, .bf16⟩
  | .local _ .vmem, ⟨17, _⟩ => ⟨S4x512x256, .bf16⟩
  | .local _ .vmem, ⟨18, _⟩ => ⟨S4x512x256, .bf16⟩
  | .local _ .vmem, ⟨19, _⟩ => ⟨S4x1x128x512, .bf16⟩
  | .local _ .vmem, ⟨20, _⟩ => ⟨S4x1x128x512, .bf16⟩
  | _, _ => ⟨S16384x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_call0_v0 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_call1_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30_0 : Ref sig .tc := ⟨.hbm, 46, rfl⟩
abbrev main_v30_1 : Ref sig .tc := ⟨.hbm, 47, rfl⟩
abbrev main_v30_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c40_i32 : BitVec 32 := 40#32
  let c0_i32 : BitVec 32 := 0#32
  ![arg0.toNat, c40_i32.toNat]

def cc0_transform_2 (i : grid0.Coords) : Fin 2 → Nat :=
  let arg0 : BitVec 32 := BitVec.ofNat 32 (i 0).val
  let c41_i32 : BitVec 32 := 41#32
  let c0_i32 : BitVec 32 := 0#32
  ![arg0.toNat, c41_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x1x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelProjIdeal.lean ====
variable {F : FTy → Type} [FloatOps F] [Named F]
def κ : String → Option EReal := fun
  | "inv_rank" => some ((448⁻¹ : ℝ) : EReal)
  | _ => none
-- ==== ReferenceProjIdeal.lean ====
abbrev S16384x448 : Shape := ⟨2, ![16384, 448]⟩
abbrev S16384x128 : Shape := ⟨2, ![16384, 128]⟩
abbrev S16384x64 : Shape := ⟨2, ![16384, 64]⟩
abbrev S16384x32 : Shape := ⟨2, ![16384, 32]⟩
abbrev S448 : Shape := ⟨1, ![448]⟩
abbrev S448x768 : Shape := ⟨2, ![448, 768]⟩
abbrev S128 : Shape := ⟨1, ![128]⟩
abbrev S128x1024 : Shape := ⟨2, ![128, 1024]⟩
abbrev S_ : Shape := ⟨0, ![]⟩
abbrev S16384 : Shape := ⟨1, ![16384]⟩
abbrev S16384x1 : Shape := ⟨2, ![16384, 1]⟩
abbrev S1x448 : Shape := ⟨2, ![1, 448]⟩
abbrev S16384x768 : Shape := ⟨2, ![16384, 768]⟩
abbrev S16384x4x192 : Shape := ⟨3, ![16384, 4, 192]⟩
abbrev S16384x4x128 : Shape := ⟨3, ![16384, 4, 128]⟩
abbrev S16384x4x64 : Shape := ⟨3, ![16384, 4, 64]⟩
abbrev S16384x1x32 : Shape := ⟨3, ![16384, 1, 32]⟩
abbrev S16384x4x32 : Shape := ⟨3, ![16384, 4, 32]⟩
abbrev S1x128 : Shape := ⟨2, ![1, 128]⟩
abbrev S16384x1024 : Shape := ⟨2, ![16384, 1024]⟩
abbrev S16384x4x256 : Shape := ⟨3, ![16384, 4, 256]⟩
abbrev S16384x1x64 : Shape := ⟨3, ![16384, 1, 64]⟩
abbrev S4x16384x256 : Shape := ⟨3, ![4, 16384, 256]⟩
abbrev S32x512x4x128 : Shape := ⟨4, ![32, 512, 4, 128]⟩
abbrev S4x32x128x512 : Shape := ⟨4, ![4, 32, 128, 512]⟩

abbrev nBuf : Space → Nat
  | .hbm => 93
  | .vmem => 0
  | .smem => 0
  | _ => 0

abbrev bufTy : (tb : Table) → Fin (tcTables nBuf tb) → BufTy
  | .hbm, ⟨0, _⟩ => ⟨S16384x448, .f32⟩
  | .hbm, ⟨1, _⟩ => ⟨S16384x128, .f32⟩
  | .hbm, ⟨2, _⟩ => ⟨S16384x64, .f32⟩
  | .hbm, ⟨3, _⟩ => ⟨S16384x32, .f32⟩
  | .hbm, ⟨4, _⟩ => ⟨S16384x32, .f32⟩
  | .hbm, ⟨5, _⟩ => ⟨S448, .f32⟩
  | .hbm, ⟨6, _⟩ => ⟨S448x768, .f32⟩
  | .hbm, ⟨7, _⟩ => ⟨S128, .f32⟩
  | .hbm, ⟨8, _⟩ => ⟨S128x1024, .f32⟩
  | .hbm, ⟨9, _⟩ => ⟨S16384x448, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x448, .f32⟩
  | .hbm, ⟨21, _⟩ => ⟨S16384x448, .f32⟩
  | .hbm, ⟨22, _⟩ => ⟨S1x448, .f32⟩
  | .hbm, ⟨23, _⟩ => ⟨S16384x448, .f32⟩
  | .hbm, ⟨24, _⟩ => ⟨S16384x448, .f32⟩
  | .hbm, ⟨25, _⟩ => ⟨S16384x768, .f32⟩
  | .hbm, ⟨26, _⟩ => ⟨S16384x4x192, .f32⟩
  | .hbm, ⟨27, _⟩ => ⟨S16384x4x128, .f32⟩
  | .hbm, ⟨28, _⟩ => ⟨S16384x4x64, .f32⟩
  | .hbm, ⟨29, _⟩ => ⟨S16384x1x32, .f32⟩
  | .hbm, ⟨30, _⟩ => ⟨S16384x1x32, .f32⟩
  | .hbm, ⟨31, _⟩ => ⟨S16384x4x32, .f32⟩
  | .hbm, ⟨32, _⟩ => ⟨S16384x4x32, .f32⟩
  | .hbm, ⟨33, _⟩ => ⟨S16384x4x32, .f32⟩
  | .hbm, ⟨34, _⟩ => ⟨S16384x4x32, .f32⟩
  | .hbm, ⟨35, _⟩ => ⟨S16384x4x32, .f32⟩
  | .hbm, ⟨36, _⟩ => ⟨S16384x4x32, .f32⟩
  | .hbm, ⟨37, _⟩ => ⟨S16384x4x32, .f32⟩
  | .hbm, ⟨38, _⟩ => ⟨S16384x4x32, .f32⟩
  | .hbm, ⟨39, _⟩ => ⟨S16384x4x32, .f32⟩
  | .hbm, ⟨40, _⟩ => ⟨S16384x4x32, .f32⟩
  | .hbm, ⟨41, _⟩ => ⟨S16384x4x32, .f32⟩
  | .hbm, ⟨42, _⟩ => ⟨S16384x4x32, .f32⟩
  | .hbm, ⟨43, _⟩ => ⟨S16384x4x64, .f32⟩
  | .hbm, ⟨44, _⟩ => ⟨S16384x4x192, .f32⟩
  | .hbm, ⟨45, _⟩ => ⟨S_, .f32⟩
  | .hbm, ⟨46, _⟩ => ⟨S16384x4x192, .f32⟩
  | .hbm, ⟨47, _⟩ => ⟨S16384x4x192, .f32⟩
  | .hbm, ⟨48, _⟩ => ⟨S16384x128, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1, .f32⟩
  | .hbm, ⟨59, _⟩ => ⟨S16384x128, .f32⟩
  | .hbm, ⟨60, _⟩ => ⟨S16384x128, .f32⟩
  | .hbm, ⟨61, _⟩ => ⟨S1x128, .f32⟩
  | .hbm, ⟨62, _⟩ => ⟨S16384x128, .f32⟩
  | .hbm, ⟨63, _⟩ => ⟨S16384x128, .f32⟩
  | .hbm, ⟨64, _⟩ => ⟨S16384x1024, .f32⟩
  | .hbm, ⟨65, _⟩ => ⟨S16384x4x256, .f32⟩
  | .hbm, ⟨66, _⟩ => ⟨S16384x4x128, .f32⟩
  | .hbm, ⟨67, _⟩ => ⟨S16384x4x128, .f32⟩
  | .hbm, ⟨68, _⟩ => ⟨S16384x1x64, .f32⟩
  | .hbm, ⟨69, _⟩ => ⟨S16384x1x32, .f32⟩
  | .hbm, ⟨70, _⟩ => ⟨S16384x1x32, .f32⟩
  | .hbm, ⟨71, _⟩ => ⟨S16384x1x32, .f32⟩
  | .hbm, ⟨72, _⟩ => ⟨S16384x1x32, .f32⟩
  | .hbm, ⟨73, _⟩ => ⟨S16384x1x32, .f32⟩
  | .hbm, ⟨74, _⟩ => ⟨S16384x1x32, .f32⟩
  | .hbm, ⟨75, _⟩ => ⟨S16384x1x32, .f32⟩
  | .hbm, ⟨76, _⟩ => ⟨S16384x1x32, .f32⟩
  | .hbm, ⟨77, _⟩ => ⟨S16384x1x32, .f32⟩
  | .hbm, ⟨78, _⟩ => ⟨S16384x1x32, .f32⟩
  | .hbm, ⟨79, _⟩ => ⟨S16384x1x64, .f32⟩
  | .hbm, ⟨80, _⟩ => ⟨S16384x4x64, .f32⟩
  | .hbm, ⟨81, _⟩ => ⟨S16384x4x192, .f32⟩
  | .hbm, ⟨82, _⟩ => ⟨S_, .f32⟩
  | .hbm, ⟨83, _⟩ => ⟨S16384x4x64, .f32⟩
  | .hbm, ⟨84, _⟩ => ⟨S16384x4x256, .f32⟩
  | .hbm, ⟨85, _⟩ => ⟨S4x16384x256, .f32⟩
  | .hbm, ⟨86, _⟩ => ⟨S4x16384x256, .bf16⟩
  | .hbm, ⟨87, _⟩ => ⟨S16384x4x256, .f32⟩
  | .hbm, ⟨88, _⟩ => ⟨S4x16384x256, .f32⟩
  | .hbm, ⟨89, _⟩ => ⟨S4x16384x256, .bf16⟩
  | .hbm, ⟨90, _⟩ => ⟨S32x512x4x128, .f32⟩
  | .hbm, ⟨91, _⟩ => ⟨S4x32x128x512, .f32⟩
  | .hbm, ⟨92, _⟩ => ⟨S4x32x128x512, .bf16⟩
  | _, _ => ⟨S16384x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_6 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩

abbrev nD : Nat := 1
abbrev τ : Topo := Topo.v7x

variable {F : FTy → Type} [FloatOps F]
-- ==== Proof.Common.lean ====
module

public import Idealize.ShloMosaic.Lib.Pipeline.Value
public import Idealize.ShloMosaic.Lib.Pointwise

@[expose] public section

noncomputable section

open Idealize.ShloMosaic

namespace Cert.Common

/-- Where a unit-stride rectangle of a rank-two array puts its local index: the offset plus the local coordinate, axis by axis. -/
theorem emb2 {A B a b o0 o1 : Nat} (inb : ∀ d, (![o0, o1] : Fin 2 → Nat) d + (⟨2, ![a, b]⟩ : Shape).size d ≤ (⟨2, ![A, B]⟩ : Shape).size d)
    (z0 : Fin a) (z1 : Fin b) :
    (Rect.unit (s := ⟨2, ![A, B]⟩) ![o0, o1] (⟨2, ![a, b]⟩ : Shape).size inb).emb (ix2 z0 z1)
      = ix2 ⟨o0 + z0.val, lt_of_lt_of_le (Nat.add_lt_add_left z0.isLt _) (inb 0)⟩ ⟨o1 + z1.val, lt_of_lt_of_le (Nat.add_lt_add_left z1.isLt _) (inb 1)⟩ := by
  funext d
  apply Fin.ext
  match d with
  | ⟨0, _⟩ => exact congrArg (o0 + ·) (Nat.one_mul _)
  | ⟨1, _⟩ => exact congrArg (o1 + ·) (Nat.one_mul _)

end Cert.Common

end
-- ==== Proof.SwaTile.lean ====
module

public import proofs.«01_k».proof.Proof.Gen.KernelIdeal.Value
public import Idealize.ShloMosaic.Lib.Pipeline.Value
public import Idealize.ShloMosaic.Lib.Pointwise
public import proofs.«01_k».proof.Proof.Common

@[expose] public section

set_option maxRecDepth 16384

noncomputable section

open Idealize.ShloMosaic Idealize.ShloMosaic.TcCoe Idealize.SL.Sem

namespace Cert.KernelIdeal.Swa

open Cert.KernelIdeal Cert.KernelIdeal.Gen

section Any
variable {F : FTy → Type} [FloatOps F]

/-- One row block's attention output, heads' columns side by side (rows: lane of the value pair; columns: query of each of four heads):
    the first block's payloads over any mask, biases, keys, values, queries and sinks. -/
def tile (valid : IVec S256x512 1) (b0 b1 : FVec F S256x512 .f32) (low : IVec S256x128 1) (top : IVec S128x1 1)
    (kp kc vp vc q0 q1 q2 q3 : Vec F S128x128 .bf16) (s0 s1 : Vec F S1x1x512 .f32) : FVec F S128x512 .f32 :=
  k0_pay44 top (k0_pay30 vp vc)
    (k0_pay36 (k0_pay31 valid b0 low kp kc q0 q1) (k0_pay32 s0) (k0_pay33 valid b0 low kp kc q0 q1))
    (k0_pay37 (k0_pay31 valid b0 low kp kc q0 q1) (k0_pay32 s0) (k0_pay33 valid b0 low kp kc q0 q1))
    (k0_pay41 valid b1 low (k0_pay28 kp kc) (k0_pay29 kp kc) q2 q3 s1)
    (k0_pay42 valid b1 low (k0_pay28 kp kc) (k0_pay29 kp kc) q2 q3 s1)
    (k0_pay43 valid b1 low (k0_pay28 kp kc) (k0_pay29 kp kc) q2 q3 s1)

variable (i : grid0.Coords) (x0 : Vec F S512x512 .bf16) (x1 x2 : Vec F S512x128 .bf16) (x3 x4 : Vec F S128x128 .bf16) (x5 : Vec F S2x1x512 .f32)

/-- The first row block of a point: its previous keys and values are the point's halo. -/
def tile0 : FVec F S128x512 .f32 :=
  tile (k0_pay111 i x0 x1 x2 x3 x4 x5) (k0_pay113 i x0 x1 x2 x3 x4 x5) (k0_pay114 i x0 x1 x2 x3 x4 x5) (k0_pay115 i x0 x1 x2 x3 x4 x5) (k0_pay116 i x0 x1 x2 x3 x4 x5)
    (View.ld x3 r0_0) (View.ld x1 r0_1) (View.ld x4 r0_0) (View.ld x2 r0_1) (View.ld x0 r0_2) (View.ld x0 r0_3) (View.ld x0 r0_5) (View.ld x0 r0_6) (View.ld x5 r0_4) (View.ld x5 r0_7)

/-- The second row block of a point. -/
def tile1 : FVec F S128x512 .f32 :=
  tile (k0_pay110 i x0 x1 x2 x3 x4 x5) (k0_pay113 i x0 x1 x2 x3 x4 x5) (k0_pay114 i x0 x1 x2 x3 x4 x5) (k0_pay115 i x0 x1 x2 x3 x4 x5) (k0_pay116 i x0 x1 x2 x3 x4 x5)
    (View.ld x1 r0_1) (View.ld x1 r0_8) (View.ld x2 r0_1) (View.ld x2 r0_8) (View.ld x0 r0_9) (View.ld x0 r0_10) (View.ld x0 r0_11) (View.ld x0 r0_12) (View.ld x5 r0_4) (View.ld x5 r0_7)

/-- The third row block of a point. -/
def tile2 : FVec F S128x512 .f32 :=
  tile (k0_pay110 i x0 x1 x2 x3 x4 x5) (k0_pay113 i x0 x1 x2 x3 x4 x5) (k0_pay114 i x0 x1 x2 x3 x4 x5) (k0_pay115 i x0 x1 x2 x3 x4 x5) (k0_pay116 i x0 x1 x2 x3 x4 x5)
    (View.ld x1 r0_8) (View.ld x1 r0_13) (View.ld x2 r0_8) (View.ld x2 r0_13) (View.ld x0 r0_14) (View.ld x0 r0_15) (View.ld x0 r0_16) (View.ld x0 r0_17) (View.ld x5 r0_4) (View.ld x5 r0_7)

/-- The fourth row block of a point. -/
def tile3 : FVec F S128x512 .f32 :=
  tile (k0_pay110 i x0 x1 x2 x3 x4 x5) (k0_pay113 i x0 x1 x2 x3 x4 x5) (k0_pay114 i x0 x1 x2 x3 x4 x5) (k0_pay115 i x0 x1 x2 x3 x4 x5) (k0_pay116 i x0 x1 x2 x3 x4 x5)
    (View.ld x1 r0_13) (View.ld x1 r0_18) (View.ld x2 r0_13) (View.ld x2 r0_18) (View.ld x0 r0_19) (View.ld x0 r0_20) (View.ld x0 r0_21) (View.ld x0 r0_22) (View.ld x5 r0_4) (View.ld x5 r0_7)

/-- Four heads' columns of a row block, each turned back to query by lane. -/
def cut0 (T : FVec F S128x512 .f32) : FVec F S128x128 .bf16 :=
  truncf .bf16 (transpose S128x128 [1, 0] (extractStridedSlice S128x128 ![0, 0] T slices_S128x512_o0_0_S128x128) transposes_S128x128_p1_0_S128x128) bitsLt_bf16_f32
@[inherit_doc cut0] def cut1 (T : FVec F S128x512 .f32) : FVec F S128x128 .bf16 :=
  truncf .bf16 (transpose S128x128 [1, 0] (extractStridedSlice S128x128 ![0, 128] T slices_S128x512_o0_128_S128x128) transposes_S128x128_p1_0_S128x128) bitsLt_bf16_f32
@[inherit_doc cut0] def cut2 (T : FVec F S128x512 .f32) : FVec F S128x128 .bf16 :=
  truncf .bf16 (transpose S128x128 [1, 0] (extractStridedSlice S128x128 ![0, 256] T slices_S128x512_o0_256_S128x128) transposes_S128x128_p1_0_S128x128) bitsLt_bf16_f32
@[inherit_doc cut0] def cut3 (T : FVec F S128x512 .f32) : FVec F S128x128 .bf16 :=
  truncf .bf16 (transpose S128x128 [1, 0] (extractStridedSlice S128x128 ![0, 384] T slices_S128x512_o0_384_S128x128) transposes_S128x128_p1_0_S128x128) bitsLt_bf16_f32

/-- The body's sixteen stores are the four row blocks' tiles, four heads' columns each. -/
theorem out_eq : out0_6 i x0 x1 x2 x3 x4 x5 = View.canon [
    ⟨r0_22, cut3 (tile3 i x0 x1 x2 x3 x4 x5)⟩, ⟨r0_21, cut2 (tile3 i x0 x1 x2 x3 x4 x5)⟩, ⟨r0_20, cut1 (tile3 i x0 x1 x2 x3 x4 x5)⟩, ⟨r0_19, cut0 (tile3 i x0 x1 x2 x3 x4 x5)⟩,
    ⟨r0_17, cut3 (tile2 i x0 x1 x2 x3 x4 x5)⟩, ⟨r0_16, cut2 (tile2 i x0 x1 x2 x3 x4 x5)⟩, ⟨r0_15, cut1 (tile2 i x0 x1 x2 x3 x4 x5)⟩, ⟨r0_14, cut0 (tile2 i x0 x1 x2 x3 x4 x5)⟩,
    ⟨r0_12, cut3 (tile1 i x0 x1 x2 x3 x4 x5)⟩, ⟨r0_11, cut2 (tile1 i x0 x1 x2 x3 x4 x5)⟩, ⟨r0_10, cut1 (tile1 i x0 x1 x2 x3 x4 x5)⟩, ⟨r0_9, cut0 (tile1 i x0 x1 x2 x3 x4 x5)⟩,
    ⟨r0_6, cut3 (tile0 i x0 x1 x2 x3 x4 x5)⟩, ⟨r0_5, cut2 (tile0 i x0 x1 x2 x3 x4 x5)⟩, ⟨r0_3, cut1 (tile0 i x0 x1 x2 x3 x4 x5)⟩, ⟨r0_2, cut0 (tile0 i x0 x1 x2 x3 x4 x5)⟩] := by
  rfl

end Any

end Cert.KernelIdeal.Swa

end
-- ==== Proof.Att.lean ====
module

public import Idealize.ShloMosaic.PureOps.Ideal
public import Idealize.ShloMosaic.PureOps.Ideal.Laws
public import Mathlib.Data.EReal.Operations
public import Mathlib.Data.EReal.Inv
public import Mathlib.Data.Finset.Fold

@[expose] public section

set_option backward.proofsInPublic true

noncomputable section

open Idealize.ShloMosaic

namespace Cert.Att

/-- The kernel's order: the weighted sum of the values first, then one multiplication by the inverse of the normaliser. -/
def kcol (S : Fin 256 → EReal) (sk : EReal) (V : Fin 256 → EReal) : EReal :=
  (∑ x, V x * Ideal.exp (S x - max (Finset.fold max ⊥ S Finset.univ) sk))
    * Ideal.div 1 (∑ x, Ideal.exp (S x - max (Finset.fold max ⊥ S Finset.univ) sk) + Ideal.exp (sk - max (Finset.fold max ⊥ S Finset.univ) sk))

/-- The scores with the sink appended. -/
def app (S : Fin 256 → EReal) (sk : EReal) (x : Fin 257) : EReal := if h : x.val < 256 then S ⟨x.val, h⟩ else sk

/-- The reference's order: each score's probability first, then the weighted sum of the values. -/
def rcol (S : Fin 256 → EReal) (sk : EReal) (V : Fin 256 → EReal) : EReal :=
  ∑ x, V x * Ideal.div (Ideal.exp (S x - max ⊥ (Finset.fold max ⊥ (app S sk) Finset.univ)))
    (0 + ∑ y, Ideal.exp (app S sk y - max ⊥ (Finset.fold max ⊥ (app S sk) Finset.univ)))

/-- The maximum over the scores and the sink, taken at once or the sink last. -/
theorem max_app (S : Fin 256 → EReal) (sk : EReal) :
    max ⊥ (Finset.fold max ⊥ (app S sk) Finset.univ) = max (Finset.fold max ⊥ S Finset.univ) sk := by
  rw [max_eq_right bot_le]
  apply le_antisymm
  · refine Finset.fold_max_le _ |>.2 ⟨bot_le, fun x _ => ?_⟩
    unfold app
    split
    · exact le_max_of_le_left ((Finset.le_fold_max _).2 (.inr ⟨_, Finset.mem_univ _, le_rfl⟩))
    · exact le_max_right _ _
  · refine max_le ?_ ?_
    · refine Finset.fold_max_le _ |>.2 ⟨bot_le, fun x _ => (Finset.le_fold_max _).2 (.inr ⟨⟨x.val, by omega⟩, Finset.mem_univ _, ?_⟩)⟩
      unfold app
      rw [dif_pos x.isLt]
    · refine (Finset.le_fold_max _).2 (.inr ⟨⟨256, by omega⟩, Finset.mem_univ _, ?_⟩)
      unfold app
      rw [dif_neg (by decide)]

/-- The sum over the scores and the sink, taken at once or the sink last. -/
theorem sum_app (S : Fin 256 → EReal) (sk m : EReal) :
    ∑ y, Ideal.exp (app S sk y - m) = ∑ x, Ideal.exp (S x - m) + Ideal.exp (sk - m) := by
  rw [Fin.sum_univ_castSucc]
  refine congrArg₂ (· + ·) (Finset.sum_congr rfl fun x _ => ?_) rfl
  · unfold app
    rw [dif_pos (show (Fin.castSucc x).val < 256 from x.isLt)]
    rfl

/-- A nonnegative real factor moves through a finite sum. -/
theorem sum_mul {ι : Type} (s : Finset ι) (f : ι → EReal) (c : ℝ) (hc : 0 ≤ c) :
    (∑ x ∈ s, f x) * (c : EReal) = ∑ x ∈ s, f x * (c : EReal) := by
  classical
  induction s using Finset.induction_on with
  | empty => simp
  | insert a s ha ih =>
    rw [Finset.sum_insert ha, Finset.sum_insert ha, ← ih, mul_comm, EReal.left_distrib_of_nonneg_of_ne_top (EReal.coe_nonneg.2 hc) (EReal.coe_ne_top c),
      mul_comm _ (f a), mul_comm _ (∑ x ∈ s, f x)]

/-- A finite sum of reals is real. -/
theorem coe_sum {ι : Type} (s : Finset ι) (f : ι → ℝ) : ∑ x ∈ s, (f x : EReal) = ((∑ x ∈ s, f x : ℝ) : EReal) := by
  classical
  induction s using Finset.induction_on with
  | empty => simp
  | insert a s ha ih => rw [Finset.sum_insert ha, Finset.sum_insert ha, ih, EReal.coe_add]

/-- The exponential of a score below a real maximum is a nonnegative real. -/
theorem exp_real (s : EReal) (hs : s ≠ ⊤) (m : ℝ) : ∃ e : ℝ, 0 ≤ e ∧ Ideal.exp (s - (m : EReal)) = (e : EReal) := by
  induction s with
  | bot => exact ⟨0, le_rfl, rfl⟩
  | coe r => exact ⟨Real.exp (r - m), (Real.exp_pos _).le, rfl⟩
  | top => exact absurd rfl hs

/-- Both orders give one number, if no score is +∞ and the sink is real. -/
theorem kcol_eq_rcol (S : Fin 256 → EReal) (hS : ∀ x, S x ≠ ⊤) (sk : ℝ) (V : Fin 256 → EReal) :
    kcol S sk V = rcol S sk V := by
  unfold kcol rcol
  rw [max_app, sum_app, zero_add]
  obtain ⟨m, hm⟩ : ∃ m : ℝ, max (Finset.fold max ⊥ S Finset.univ) (sk : EReal) = (m : EReal) := by
    have h1 : max (Finset.fold max ⊥ S Finset.univ) (sk : EReal) ≠ ⊤ := by
      refine ne_of_lt (max_lt ?_ (EReal.coe_lt_top _))
      exact (Finset.fold_max_lt _).2 ⟨bot_lt_top, fun x _ => lt_top_iff_ne_top.2 (hS x)⟩
    have h2 : max (Finset.fold max ⊥ S Finset.univ) (sk : EReal) ≠ ⊥ :=
      ne_of_gt (lt_of_lt_of_le (EReal.bot_lt_coe sk) (le_max_right _ _))
    exact ⟨_, (EReal.coe_toReal h1 h2).symm⟩
  rw [hm]
  choose e he0 he using fun x => exp_real (S x) (hS x) m
  have hk : Ideal.exp ((sk : EReal) - (m : EReal)) = (Real.exp (sk - m) : EReal) := rfl
  simp only [he, hk]
  rw [coe_sum, ← EReal.coe_add]
  have hD : 0 < ∑ x, e x + Real.exp (sk - m) := add_pos_of_nonneg_of_pos (Finset.sum_nonneg fun x _ => he0 x) (Real.exp_pos _)
  simp only [Ideal.div_coe hD.ne']
  rw [one_mul, sum_mul _ _ _ (by positivity)]
  exact Finset.sum_congr rfl fun x _ => mul_assoc _ _ _

/-- A value whose score is −∞ does not count. -/
theorem kcol_congr (S : Fin 256 → EReal) (sk : EReal) (V W : Fin 256 → EReal) (h : ∀ x, S x ≠ ⊥ → V x = W x) : kcol S sk V = kcol S sk W := by
  unfold kcol
  congr 1
  refine Finset.sum_congr rfl fun x _ => ?_
  by_cases hx : S x = ⊥
  · rw [hx, EReal.bot_sub, Ideal.exp_bot, mul_zero, mul_zero]
  · rw [h x hx]

/-- Over the lanes below 64 alone. -/
theorem sum_low (f : Fin 128 → EReal) : (∑ x : Fin 128, if x.val < 64 then f x else 0) = ∑ d : Fin 64, f ⟨d.val, by omega⟩ := by
  rw [Fin.sum_univ_add (a := 64) (b := 64)]
  have h2 : ∀ d : Fin 64, (if (Fin.natAdd 64 d).val < 64 then f (Fin.natAdd 64 d) else 0) = 0 := fun d => if_neg (by simp)
  rw [Finset.sum_congr rfl (fun d _ => h2 d), Finset.sum_const_zero, add_zero]
  exact Finset.sum_congr rfl fun d _ => if_pos d.isLt

/-- Over the lanes from 64 on alone. -/
theorem sum_high (f : Fin 128 → EReal) : (∑ x : Fin 128, if x.val < 64 then 0 else f x) = ∑ d : Fin 64, f ⟨64 + d.val, by omega⟩ := by
  rw [Fin.sum_univ_add (a := 64) (b := 64)]
  have h2 : ∀ d : Fin 64, (if (Fin.castAdd 64 d).val < 64 then 0 else f (Fin.castAdd 64 d)) = 0 := fun d => if_pos d.isLt
  rw [Finset.sum_congr rfl (fun d _ => h2 d), Finset.sum_const_zero, zero_add]
  exact Finset.sum_congr rfl fun d _ => if_neg (by simp)

/-- The order in which the kernel lays out a key head's four query heads. -/
def ord : Fin 4 → Fin 4 := ![0, 2, 1, 3]

/-- A head's distance slope, 2^−(h+1). -/
def slope (h : Nat) : ℝ := (1 / 2) ^ (h + 1)

/-- Half a lane sum with the scale inside: the lanes below 64. -/
theorem half_low (K Q : Fin 128 → EReal) (c : ℝ) (hc : 0 ≤ c) :
    (∑ l : Fin 128, Scalar.select (BitVec.ofBool (decide (l.val < 64))) (K l * (Q l * (c : EReal))) 0) = (∑ d : Fin 64, K ⟨d.val, by omega⟩ * Q ⟨d.val, by omega⟩) * (c : EReal) := by
  rw [sum_mul _ _ _ hc]
  refine Eq.trans (Finset.sum_congr rfl fun l _ => ?_) ((sum_low fun l => K l * (Q l * (c : EReal))).trans (Finset.sum_congr rfl fun d _ => (mul_assoc _ _ _).symm))
  by_cases h : l.val < 64
  · rw [decide_eq_true h, if_pos h]; rfl
  · rw [decide_eq_false h, if_neg h]; rfl

/-- Half a lane sum with the scale inside: the lanes from 64 on. -/
theorem half_high (K Q : Fin 128 → EReal) (c : ℝ) (hc : 0 ≤ c) :
    (∑ l : Fin 128, Scalar.select (BitVec.ofBool (decide (l.val < 64))) 0 (K l * (Q l * (c : EReal)))) = (∑ d : Fin 64, K ⟨64 + d.val, by omega⟩ * Q ⟨64 + d.val, by omega⟩) * (c : EReal) := by
  rw [sum_mul _ _ _ hc]
  refine Eq.trans (Finset.sum_congr rfl fun l _ => ?_) ((sum_high fun l => K l * (Q l * (c : EReal))).trans (Finset.sum_congr rfl fun d _ => (mul_assoc _ _ _).symm))
  by_cases h : l.val < 64
  · rw [decide_eq_true h, if_pos h]; rfl
  · rw [decide_eq_false h, if_neg h]; rfl

end Cert.Att

end
-- ==== Proof.SwaMask.lean ====
module

public import proofs.«01_k».proof.Proof.SwaTile
public import proofs.«01_k».proof.Proof.Att
public import Idealize.ShloMosaic.Lib.Affine

@[expose] public section

set_option backward.proofsInPublic true
set_option maxRecDepth 16384

noncomputable section

open Idealize.ShloMosaic Idealize.ShloMosaic.TcCoe Idealize.SL.Sem

namespace Cert.KernelIdeal.Swa

open Cert.KernelIdeal Cert.KernelIdeal.Gen

/-- The block of 128 columns that a column lies in, as the kernel counts it. -/
def quot (n : BitVec 32) : BitVec 32 :=
  Scalar.select
    (IntOp.andi
      (IntOp.cmpi CmpIPredicate.ne
        (IntOp.subi (BitVec.setWidth 32 (IntOp.cmpi CmpIPredicate.sgt n 0#32)) (BitVec.setWidth 32 (IntOp.cmpi CmpIPredicate.slt n 0#32)))
        (Scalar.subi (Scalar.extui (Scalar.cmpi CmpIPredicate.sgt 128#32 0#32)) (Scalar.extui (Scalar.cmpi CmpIPredicate.slt 128#32 0#32))))
      (IntOp.cmpi CmpIPredicate.ne (IntOp.remsi ArithUnit.vector n 128#32) 0#32))
    (IntOp.subi (IntOp.divsi ArithUnit.vector n 128#32) 1#32)
    (IntOp.divsi ArithUnit.vector n 128#32)

/-- Of the columns 0 to 511 it is the quotient by 128. -/
theorem quot_eq (n : Fin 512) : quot (BitVec.ofNat 32 n.val) = BitVec.ofNat 32 (n.val / 128) :=
  (by decide +kernel : ∀ n : Fin 512, quot (BitVec.ofNat 32 n.val) = BitVec.ofNat 32 (n.val / 128)) n

/-- The distance penalty of the first key head's four query heads, read at a key and a column. -/
theorem bias0_read (i : grid0.Coords) (x0 : Vec Ideal S512x512 .bf16) (x1 x2 : Vec Ideal S512x128 .bf16) (x3 x4 : Vec Ideal S128x128 .bf16) (x5 : Vec Ideal S2x1x512 .f32) (key : Fin 256) (n : Fin 512) : k0_pay113 (F := Ideal) i x0 x1 x2 x3 x4 x5 (ix2 key n) =
   (0 - Scalar.select (IntOp.cmpi .eq (quot (BitVec.ofNat 32 n.val)) 3#32) (Ideal.ofBits .f32 1031798784#32)
     (Scalar.select (IntOp.cmpi .eq (quot (BitVec.ofNat 32 n.val)) 2#32) (Ideal.ofBits .f32 1048576000#32)
     (Scalar.select (IntOp.cmpi .eq (quot (BitVec.ofNat 32 n.val)) 1#32) (Ideal.ofBits .f32 1040187392#32)
     (Scalar.select (IntOp.cmpi .eq (quot (BitVec.ofNat 32 n.val)) 0#32) (Ideal.ofBits .f32 1056964608#32) 0)))) * FloatOps.sitofp .f32 (k0_pay2 (ix2 key n)) := by
  pointwise [quot, k0_pay113, k0_pay112, k0_pay109, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5]
/-- The distance penalty of the second key head's four query heads, read at a key and a column. -/
theorem bias1_read (i : grid0.Coords) (x0 : Vec Ideal S512x512 .bf16) (x1 x2 : Vec Ideal S512x128 .bf16) (x3 x4 : Vec Ideal S128x128 .bf16) (x5 : Vec Ideal S2x1x512 .f32) (key : Fin 256) (n : Fin 512) : k0_pay114 (F := Ideal) i x0 x1 x2 x3 x4 x5 (ix2 key n) =
   (0 - Scalar.select (IntOp.cmpi .eq (quot (BitVec.ofNat 32 n.val)) 3#32) (Ideal.ofBits .f32 0x3B800000#32)
     (Scalar.select (IntOp.cmpi .eq (quot (BitVec.ofNat 32 n.val)) 2#32) (Ideal.ofBits .f32 0x3C800000#32)
     (Scalar.select (IntOp.cmpi .eq (quot (BitVec.ofNat 32 n.val)) 1#32) (Ideal.ofBits .f32 0x3C000000#32)
     (Scalar.select (IntOp.cmpi .eq (quot (BitVec.ofNat 32 n.val)) 0#32) (Ideal.ofBits .f32 0x3D000000#32) 0)))) * FloatOps.sitofp .f32 (k0_pay2 (ix2 key n)) := by
  pointwise [quot, k0_pay114, k0_pay112, k0_pay109, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5]
/-- The rows of the first key head, read at a row. -/
theorem top_read (i : grid0.Coords) (x0 : Vec Ideal S512x512 .bf16) (x1 x2 : Vec Ideal S512x128 .bf16) (x3 x4 : Vec Ideal S128x128 .bf16) (x5 : Vec Ideal S2x1x512 .f32) (n : Fin 128) : k0_pay116 (F := Ideal) i x0 x1 x2 x3 x4 x5 (ix2 n 0) = IntOp.cmpi CmpIPredicate.slt (BitVec.ofNat 32 ↑n) 64#32 := by
  pointwise [k0_pay116, k0_pay26, k0_pay27]

/-- The lanes of the first key head, read at a key and a lane. -/
theorem low_read (i : grid0.Coords) (x0 : Vec Ideal S512x512 .bf16) (x1 x2 : Vec Ideal S512x128 .bf16) (x3 x4 : Vec Ideal S128x128 .bf16) (x5 : Vec Ideal S2x1x512 .f32) (key : Fin 256) (n : Fin 128) : k0_pay115 (F := Ideal) i x0 x1 x2 x3 x4 x5 (ix2 key n) = IntOp.cmpi CmpIPredicate.slt (BitVec.ofNat 32 ↑n) 64#32 := by
  pointwise [k0_pay115, k0_pay25]

/-- The column within its block of 128, as the kernel counts it. -/
def rem (n : BitVec 32) : BitVec 32 :=
        (Scalar.select
          (IntOp.andi
            (IntOp.xori
              (IntOp.cmpi CmpIPredicate.slt
                (IntOp.remsi ArithUnit.vector n
                  (Scalar.select (Scalar.cmpi CmpIPredicate.eq 128#32 0#32) 1#32 128#32))
                0#32)
              (Scalar.cmpi CmpIPredicate.slt (Scalar.select (Scalar.cmpi CmpIPredicate.eq 128#32 0#32) 1#32 128#32)
                0#32))
            (IntOp.cmpi CmpIPredicate.ne
              (IntOp.remsi ArithUnit.vector n
                (Scalar.select (Scalar.cmpi CmpIPredicate.eq 128#32 0#32) 1#32 128#32))
              0#32))
          (IntOp.addi
            (IntOp.remsi ArithUnit.vector n
              (Scalar.select (Scalar.cmpi CmpIPredicate.eq 128#32 0#32) 1#32 128#32))
            (Scalar.select (Scalar.cmpi CmpIPredicate.eq 128#32 0#32) 1#32 128#32))
          (IntOp.remsi ArithUnit.vector n
            (Scalar.select (Scalar.cmpi CmpIPredicate.eq 128#32 0#32) 1#32 128#32)))

/-- Of the columns 0 to 511 it is the remainder by 128. -/
theorem rem_eq (n : Fin 512) : rem (BitVec.ofNat 32 n.val) = BitVec.ofNat 32 (n.val % 128) :=
  (by decide +kernel : ∀ n : Fin 512, rem (BitVec.ofNat 32 n.val) = BitVec.ofNat 32 (n.val % 128)) n

/-- The distance of a column's query from a key, read at a key and a column. -/
theorem dist_read (key : Fin 256) (n : Fin 512) : k0_pay2 (ix2 key n) = BitVec.ofNat 32 (n.val % 128) + 128#32 - BitVec.ofNat 32 key.val := by
  rw [← rem_eq]
  pointwise [k0_pay2, rem]
  rfl
/-- The distance is small, so its word is its value. -/
theorem dist_toInt (q x : Nat) (hq : q < 128) (hx : x < 256) : (BitVec.ofNat 32 q + 128#32 - BitVec.ofNat 32 x).toInt = (q : Int) + 128 - x := by
  rw [BitVec.toInt_sub, BitVec.toInt_add]
  simp only [BitVec.toInt_ofNat', Int.bmod]
  omega
/-- A lane word is below 64 when the lane is. -/
theorem slt64 (n : Fin 128) : IntOp.cmpi .slt (BitVec.ofNat 32 n.val) 64#32 = BitVec.ofBool (decide (n.val < 64)) :=
  (by decide +kernel : ∀ n : Fin 128, IntOp.cmpi .slt (BitVec.ofNat 32 n.val) 64#32 = BitVec.ofBool (decide (n.val < 64))) n

section Block
variable (i : grid0.Coords) (x0 : Vec Ideal S512x512 .bf16) (x1 x2 : Vec Ideal S512x128 .bf16) (x3 x4 : Vec Ideal S128x128 .bf16) (x5 : Vec Ideal S2x1x512 .f32)

/-- The word of a column's query distance from a key is their distance. -/
theorem dist_int (x : Fin 256) (j : Fin 4) (r : Fin 128) : (k0_pay2 (ix2 x ⟨j.val * 128 + r.val, by omega⟩)).toInt = (r.val : Int) + 128 - x.val := by
  rw [dist_read, dist_toInt _ _ (Nat.mod_lt _ (by decide)) x.isLt]
  have : (j.val * 128 + r.val) % 128 = r.val := by omega
  simp only [this]

/-- The mask of the later row blocks: the keys of the window. -/
theorem mask110 (x : Fin 256) (j : Fin 4) (r : Fin 128) :
    (k0_pay110 (F := Ideal) i x0 x1 x2 x3 x4 x5 (ix2 x ⟨j.val * 128 + r.val, by omega⟩) = 1#1) ↔ (x.val ≤ r.val + 128 ∧ r.val < x.val) := by
  have e : k0_pay110 (F := Ideal) i x0 x1 x2 x3 x4 x5 (ix2 x ⟨j.val * 128 + r.val, by omega⟩) = IntOp.andi (IntOp.cmpi .sge (k0_pay2 (ix2 x ⟨j.val * 128 + r.val, by omega⟩)) 0#32)
        (IntOp.cmpi .slt (k0_pay2 (ix2 x ⟨j.val * 128 + r.val, by omega⟩)) 128#32) := by
    pointwise [k0_pay110, k0_pay3]
  rw [e, IntOp.andi_eq_one, IntOp.cmpi_sge, IntOp.cmpi_slt, dist_int]
  have h0 : (0#32 : BitVec 32).toInt = 0 := by decide
  have h1 : (128#32 : BitVec 32).toInt = 128 := by decide
  rw [h0, h1]
  omega

/-- The mask of the first row block: the keys of the window, the previous block's only past the first grid point. -/
theorem mask111 (x : Fin 256) (j : Fin 4) (r : Fin 128) :
    (k0_pay111 (F := Ideal) i x0 x1 x2 x3 x4 x5 (ix2 x ⟨j.val * 128 + r.val, by omega⟩) = 1#1) ↔ ((x.val ≤ r.val + 128 ∧ r.val < x.val) ∧ (128 ≤ x.val ∨ 0 < (i 0).val)) := by
  have e : k0_pay111 (F := Ideal) i x0 x1 x2 x3 x4 x5 (ix2 x ⟨j.val * 128 + r.val, by omega⟩) = IntOp.andi (IntOp.andi (IntOp.cmpi .sge (k0_pay2 (ix2 x ⟨j.val * 128 + r.val, by omega⟩)) 0#32)
        (IntOp.cmpi .slt (k0_pay2 (ix2 x ⟨j.val * 128 + r.val, by omega⟩)) 128#32))
      (IntOp.ori (IntOp.cmpi CmpIPredicate.sge (BitVec.ofNat 32 x.val) 128#32) (Scalar.cmpi CmpIPredicate.sgt (BitVec.ofNat 32 (i 0).val) 0#32)) := by
    pointwise [k0_pay111, k0_pay4, k0_pay3]
  have hx : (IntOp.cmpi CmpIPredicate.sge (BitVec.ofNat 32 x.val) 128#32 = 1#1) ↔ 128 ≤ x.val :=
    (by decide +kernel : ∀ x : Fin 256, (IntOp.cmpi CmpIPredicate.sge (BitVec.ofNat 32 x.val) 128#32 = 1#1) ↔ 128 ≤ x.val) x
  have hi : (Scalar.cmpi CmpIPredicate.sgt (BitVec.ofNat 32 (i 0).val) 0#32 = 1#1) ↔ 0 < (i 0).val :=
    (by decide +kernel : ∀ x : Fin 32, (Scalar.cmpi CmpIPredicate.sgt (BitVec.ofNat 32 x.val) 0#32 = 1#1) ↔ 0 < x.val) (i 0)
  rw [e, IntOp.andi_eq_one, IntOp.andi_eq_one, IntOp.ori_eq_one, hx, hi, IntOp.cmpi_sge, IntOp.cmpi_slt, dist_int]
  have h0 : (0#32 : BitVec 32).toInt = 0 := by decide
  have h1 : (128#32 : BitVec 32).toInt = 128 := by decide
  rw [h0, h1]
  omega

/-- A ladder of four choices by the column's block. -/
theorem ladder (j : Fin 4) (r : Fin 128) (a b c d z : EReal) :
    Scalar.select (IntOp.cmpi .eq (quot (BitVec.ofNat 32 (j.val * 128 + r.val))) 3#32) d
     (Scalar.select (IntOp.cmpi .eq (quot (BitVec.ofNat 32 (j.val * 128 + r.val))) 2#32) c
     (Scalar.select (IntOp.cmpi .eq (quot (BitVec.ofNat 32 (j.val * 128 + r.val))) 1#32) b
     (Scalar.select (IntOp.cmpi .eq (quot (BitVec.ofNat 32 (j.val * 128 + r.val))) 0#32) a z))) = (![a, b, c, d] : Fin 4 → EReal) j := by
  have e : quot (BitVec.ofNat 32 (j.val * 128 + r.val)) = BitVec.ofNat 32 j.val := by
    refine (quot_eq ⟨j.val * 128 + r.val, by omega⟩).trans (congrArg (BitVec.ofNat 32) ?_)
    show (j.val * 128 + r.val) / 128 = j.val
    omega
  rw [e]
  match j with
  | 0 => rfl
  | 1 => rfl
  | 2 => rfl
  | 3 => rfl

/-- The constants of the first key head's slopes. -/
theorem slopes0 (j : Fin 4) : (![Ideal.ofBits .f32 1056964608#32, Ideal.ofBits .f32 1040187392#32, Ideal.ofBits .f32 1048576000#32, Ideal.ofBits .f32 1031798784#32] : Fin 4 → EReal) j
    = (Att.slope (0 * 4 + (Att.ord j).val) : EReal) := by
  match j with
  | 0 => simp [Att.slope, Att.ord, Ideal.ofBits, Ideal.ieee, -EReal.coe_mul]; norm_num
  | 1 => simp [Att.slope, Att.ord, Ideal.ofBits, Ideal.ieee, -EReal.coe_mul]; norm_num
  | 2 => simp [Att.slope, Att.ord, Ideal.ofBits, Ideal.ieee, -EReal.coe_mul]; norm_num
  | 3 => simp [Att.slope, Att.ord, Ideal.ofBits, Ideal.ieee, -EReal.coe_mul]; norm_num

/-- The constants of the second key head's slopes. -/
theorem slopes1 (j : Fin 4) : (![Ideal.ofBits .f32 0x3D000000#32, Ideal.ofBits .f32 0x3C000000#32, Ideal.ofBits .f32 0x3C800000#32, Ideal.ofBits .f32 0x3B800000#32] : Fin 4 → EReal) j
    = (Att.slope (1 * 4 + (Att.ord j).val) : EReal) := by
  match j with
  | 0 => simp [Att.slope, Att.ord, Ideal.ofBits, Ideal.ieee, -EReal.coe_mul]; norm_num
  | 1 => simp [Att.slope, Att.ord, Ideal.ofBits, Ideal.ieee, -EReal.coe_mul]; norm_num
  | 2 => simp [Att.slope, Att.ord, Ideal.ofBits, Ideal.ieee, -EReal.coe_mul]; norm_num
  | 3 => simp [Att.slope, Att.ord, Ideal.ofBits, Ideal.ieee, -EReal.coe_mul]; norm_num

/-- Minus a slope times a distance word. -/
theorem neg_slope (s : ℝ) (b : BitVec 32) (d : Int) (h : b.toInt = d) : (0 - (s : EReal)) * FloatOps.sitofp (F := Ideal) .f32 b = -((s * (d : ℝ) : ℝ) : EReal) := by
  show (0 - (s : EReal)) * ((b.toInt : ℝ) : EReal) = _
  rw [h, zero_sub, ← EReal.coe_neg, ← EReal.coe_mul, ← EReal.coe_neg, neg_mul]

/-- The first key head's distance penalty. -/
theorem bias0 (x : Fin 256) (j : Fin 4) (r : Fin 128) : k0_pay113 (F := Ideal) i x0 x1 x2 x3 x4 x5 (ix2 x ⟨j.val * 128 + r.val, by omega⟩)
    = -((Att.slope (0 * 4 + (Att.ord j).val) * (((r.val : Int) + 128 - x.val : Int) : ℝ) : ℝ) : EReal) := by
  rw [bias0_read, ladder, slopes0]
  exact neg_slope _ _ _ (dist_int x j r)

/-- The second key head's distance penalty. -/
theorem bias1 (x : Fin 256) (j : Fin 4) (r : Fin 128) : k0_pay114 (F := Ideal) i x0 x1 x2 x3 x4 x5 (ix2 x ⟨j.val * 128 + r.val, by omega⟩)
    = -((Att.slope (1 * 4 + (Att.ord j).val) * (((r.val : Int) + 128 - x.val : Int) : ℝ) : ℝ) : EReal) := by
  rw [bias1_read, ladder, slopes1]
  exact neg_slope _ _ _ (dist_int x j r)

end Block

end Cert.KernelIdeal.Swa

end
-- ==== Proof.SwaRead.lean ====
module

public import proofs.«01_k».proof.Proof.SwaMask

@[expose] public section

set_option backward.proofsInPublic true
set_option maxRecDepth 16384

noncomputable section

open Idealize.ShloMosaic Idealize.ShloMosaic.TcCoe Idealize.SL.Sem

namespace Cert.KernelIdeal.Swa

open Cert.KernelIdeal Cert.KernelIdeal.Gen

/-- The word of −∞ is −∞. -/
theorem negInf : Ideal.ofBits .f32 4286578688#32 = ⊥ := by
  simp [Ideal.ofBits, Ideal.ieee]

/-- The scale's word is one eighth. -/
theorem eighth : Ideal.ofBits .bf16 15872#16 = ((1 / 8 : ℝ) : EReal) := by
  simp [Ideal.ofBits, Ideal.ieee, -EReal.coe_mul]; norm_num

/-- A lane's word, turned by half the lanes. -/
theorem turn_low (d : Fin 64) : (d.val + 128 - 64) % 128 = 64 + d.val := by omega
@[inherit_doc turn_low] theorem turn_high (d : Fin 64) : (64 + d.val + 128 - 64) % 128 = d.val := by omega

/-- A choice by a set bit. -/
theorem sel_one {α : Type} (a b : α) : Scalar.select 1#1 a b = a := rfl
/-- A choice by a clear bit. -/
theorem sel_zero {α : Type} (a b : α) : Scalar.select 0#1 a b = b := rfl

/-- Bounds that the statements below name. -/
theorem sub_lt (x : Fin 256) (h : ¬ x.val < 128) : x.val - 128 < 128 := by omega
@[inherit_doc sub_lt] theorem lt0 (l : Fin 128) : l.val < 512 := by omega
@[inherit_doc sub_lt] theorem lt1 (l : Fin 128) : 128 + l.val < 512 := by omega
@[inherit_doc sub_lt] theorem lt2 (l : Fin 128) : 256 + l.val < 512 := by omega
@[inherit_doc sub_lt] theorem lt3 (l : Fin 128) : 384 + l.val < 512 := by omega
@[inherit_doc sub_lt] theorem ltc (j : Fin 4) (r : Fin 128) : j.val * 128 + r.val < 512 := by omega

section Tile
variable (valid : IVec S256x512 1) (b0 b1 : FVec Ideal S256x512 .f32) (low : IVec S256x128 1) (top : IVec S128x1 1)
    (kp kc vp vc q0 q1 q2 q3 : Vec Ideal S128x128 .bf16) (s0 s1 : Vec Ideal S1x1x512 .f32)
    (KK VV : Fin 256 → Fin 128 → EReal) (QQ : Fin 128 → Fin 512 → EReal)
    (hlow : ∀ x l, low (ix2 x l) = BitVec.ofBool (decide (l.val < 64)))
    (htop : ∀ l : Fin 128, top (ix2 l 0) = BitVec.ofBool (decide (l.val < 64)))
    (hK : ∀ (x : Fin 256) (l : Fin 128), (if h : x.val < 128 then kp (ix2 ⟨x.val, h⟩ l) else kc (ix2 ⟨x.val - 128, sub_lt x h⟩ l)) = KK x l)
    (hV : ∀ (x : Fin 256) (l : Fin 128), (if h : x.val < 128 then vp (ix2 ⟨x.val, h⟩ l) else vc (ix2 ⟨x.val - 128, sub_lt x h⟩ l)) = VV x l)
    (hq0 : ∀ (r l : Fin 128), q0 (ix2 r l) = QQ r ⟨l.val, lt0 l⟩) (hq1 : ∀ (r l : Fin 128), q1 (ix2 r l) = QQ r ⟨128 + l.val, lt1 l⟩)
    (hq2 : ∀ (r l : Fin 128), q2 (ix2 r l) = QQ r ⟨256 + l.val, lt2 l⟩) (hq3 : ∀ (r l : Fin 128), q3 (ix2 r l) = QQ r ⟨384 + l.val, lt3 l⟩)

/-- The scores of a key against a query, of key head `hk` and that head's query head `g`, without the mask: the scaled product plus a penalty. -/
def dot (hk : Fin 2) (g : Fin 4) (x : Fin 256) (r : Fin 128) : EReal :=
  (∑ d : Fin 64, KK x ⟨hk.val * 64 + d.val, by omega⟩ * QQ r ⟨hk.val * 256 + g.val * 64 + d.val, by omega⟩) * ((1 / 8 : ℝ) : EReal)

include hlow hK hq0 hq1 in
/-- The first key head's scores, read at a key and a column. -/
theorem score0 (x : Fin 256) (j : Fin 4) (r : Fin 128) :
    k0_pay31 (F := Ideal) valid b0 low kp kc q0 q1 (ix2 x ⟨j.val * 128 + r.val, by omega⟩)
      = if valid (ix2 x ⟨j.val * 128 + r.val, by omega⟩) = 1#1 then dot KK QQ 0 (Att.ord j) x r + b0 (ix2 x ⟨j.val * 128 + r.val, by omega⟩) else ⊥ := by
  pointwise [k0_pay31, k0_pay28, k0_pay29]
  unfold Scalar.select
  refine if_congr Iff.rfl (congrArg (· + _) ?_) negInf
  show (if h : j.val * 128 + r.val < 256 then
          ∑ l : Fin 128,
            Scalar.select (low (ix2 x l))
              ((if h : x.val < 128 then kp (ix2 ⟨x.val, h⟩ l) else kc (ix2 ⟨x.val - 128, by omega⟩ l)) *
                ((if h1 : j.val * 128 + r.val < 128 then q0 (ix2 ⟨j.val * 128 + r.val, h1⟩ l) else q1 (ix2 ⟨j.val * 128 + r.val - 128, by omega⟩ l)) *
                  Ideal.ofBits FTy.bf16 15872#16))
              0
        else
          ∑ l : Fin 128,
            Scalar.select (low (ix2 x l)) 0
              ((if h : x.val < 128 then kp (ix2 ⟨x.val, h⟩ ⟨(l.val + 128 - 64) % 128, by omega⟩)
                else kc (ix2 ⟨x.val - 128, by omega⟩ ⟨(l.val + 128 - 64) % 128, by omega⟩)) *
                ((if h1 : j.val * 128 + r.val - 256 < 128 then q0 (ix2 ⟨j.val * 128 + r.val - 256, h1⟩ l) else q1 (ix2 ⟨j.val * 128 + r.val - 256 - 128, by omega⟩ l)) *
                  Ideal.ofBits FTy.bf16 15872#16))) = _
  simp only [hlow, hK, hq0, hq1, eighth]
  unfold dot
  have hj : j.val = 0 ∨ j.val = 1 ∨ j.val = 2 ∨ j.val = 3 := by omega
  rcases hj with hj | hj | hj | hj
  · obtain rfl : j = 0 := Fin.ext hj
    rw [dif_pos (show (0 : Fin 4).val * 128 + r.val < 256 by simp; omega)]
    simp only [dif_pos (show (0 : Fin 4).val * 128 + r.val < 128 by simp)]
    refine (Att.half_low (KK x) (fun l => QQ ⟨(0 : Fin 4).val * 128 + r.val, _⟩ ⟨l.val, _⟩) _ (by norm_num)).trans ?_
    refine congrArg (· * _) (Finset.sum_congr rfl fun d _ => congrArg₂ (· * ·) (congrArg _ (Fin.ext ?_)) (congrArg₂ QQ (Fin.ext ?_) (Fin.ext ?_))) <;> simp [Att.ord]
  · obtain rfl : j = 1 := Fin.ext hj
    rw [dif_pos (show (1 : Fin 4).val * 128 + r.val < 256 by simp; omega)]
    simp only [dif_neg (show ¬ (1 : Fin 4).val * 128 + r.val < 128 by simp)]
    refine (Att.half_low (KK x) (fun l => QQ ⟨(1 : Fin 4).val * 128 + r.val - 128, _⟩ ⟨128 + l.val, _⟩) _ (by norm_num)).trans ?_
    refine congrArg (· * _) (Finset.sum_congr rfl fun d _ => congrArg₂ (· * ·) (congrArg _ (Fin.ext ?_)) (congrArg₂ QQ (Fin.ext ?_) (Fin.ext ?_))) <;> simp [Att.ord]
  · obtain rfl : j = 2 := Fin.ext hj
    rw [dif_neg (show ¬ (2 : Fin 4).val * 128 + r.val < 256 by simp)]
    simp only [dif_pos (show (2 : Fin 4).val * 128 + r.val - 256 < 128 by simp)]
    refine (Att.half_high (fun l => KK x ⟨(l.val + 128 - 64) % 128, _⟩) (fun l => QQ ⟨(2 : Fin 4).val * 128 + r.val - 256, _⟩ ⟨l.val, _⟩) _ (by norm_num)).trans ?_
    refine congrArg (· * _) (Finset.sum_congr rfl fun d _ => congrArg₂ (· * ·) (congrArg _ (Fin.ext ?_)) (congrArg₂ QQ (Fin.ext ?_) (Fin.ext ?_))) <;> simp [Att.ord, turn_high] <;> omega
  · obtain rfl : j = 3 := Fin.ext hj
    rw [dif_neg (show ¬ (3 : Fin 4).val * 128 + r.val < 256 by simp; omega)]
    simp only [dif_neg (show ¬ (3 : Fin 4).val * 128 + r.val - 256 < 128 by simp; omega)]
    refine (Att.half_high (fun l => KK x ⟨(l.val + 128 - 64) % 128, _⟩) (fun l => QQ ⟨(3 : Fin 4).val * 128 + r.val - 256 - 128, _⟩ ⟨128 + l.val, _⟩) _ (by norm_num)).trans ?_
    refine congrArg (· * _) (Finset.sum_congr rfl fun d _ => congrArg₂ (· * ·) (congrArg _ (Fin.ext ?_)) (congrArg₂ QQ (Fin.ext ?_) (Fin.ext ?_))) <;> simp [Att.ord, turn_high] <;> omega

include hlow hK hq2 hq3 in
/-- The second key head's scores, read at a key and a column. -/
theorem score1 (x : Fin 256) (j : Fin 4) (r : Fin 128) :
    k0_pay38 (F := Ideal) valid b1 low (k0_pay28 kp kc) (k0_pay29 kp kc) q2 q3 (ix2 x ⟨j.val * 128 + r.val, by omega⟩)
      = if valid (ix2 x ⟨j.val * 128 + r.val, by omega⟩) = 1#1 then dot KK QQ 1 (Att.ord j) x r + b1 (ix2 x ⟨j.val * 128 + r.val, by omega⟩) else ⊥ := by
  pointwise [k0_pay38, k0_pay28, k0_pay29]
  unfold Scalar.select
  refine if_congr Iff.rfl (congrArg (· + _) ?_) negInf
  show (if h : j.val * 128 + r.val < 256 then
          ∑ l : Fin 128,
            Scalar.select (low (ix2 x l))
              ((if h : x.val < 128 then kp (ix2 ⟨x.val, h⟩ ⟨(l.val + 128 - 64) % 128, by omega⟩)
                else kc (ix2 ⟨x.val - 128, by omega⟩ ⟨(l.val + 128 - 64) % 128, by omega⟩)) *
                ((if h1 : j.val * 128 + r.val < 128 then q2 (ix2 ⟨j.val * 128 + r.val, h1⟩ l) else q3 (ix2 ⟨j.val * 128 + r.val - 128, by omega⟩ l)) *
                  Ideal.ofBits FTy.bf16 15872#16))
              0
        else
          ∑ l : Fin 128,
            Scalar.select (low (ix2 x l)) 0
              ((if h : x.val < 128 then kp (ix2 ⟨x.val, h⟩ l) else kc (ix2 ⟨x.val - 128, by omega⟩ l)) *
                ((if h1 : j.val * 128 + r.val - 256 < 128 then q2 (ix2 ⟨j.val * 128 + r.val - 256, h1⟩ l) else q3 (ix2 ⟨j.val * 128 + r.val - 256 - 128, by omega⟩ l)) *
                  Ideal.ofBits FTy.bf16 15872#16))) = _
  simp only [hlow, hK, hq2, hq3, eighth]
  unfold dot
  have hj : j.val = 0 ∨ j.val = 1 ∨ j.val = 2 ∨ j.val = 3 := by omega
  rcases hj with hj | hj | hj | hj
  · obtain rfl : j = 0 := Fin.ext hj
    rw [dif_pos (show (0 : Fin 4).val * 128 + r.val < 256 by simp; omega)]
    simp only [dif_pos (show (0 : Fin 4).val * 128 + r.val < 128 by simp)]
    refine (Att.half_low (fun l => KK x ⟨(l.val + 128 - 64) % 128, _⟩) (fun l => QQ ⟨(0 : Fin 4).val * 128 + r.val, _⟩ ⟨256 + l.val, _⟩) _ (by norm_num)).trans ?_
    refine congrArg (· * _) (Finset.sum_congr rfl fun d _ => congrArg₂ (· * ·) (congrArg _ (Fin.ext ?_)) (congrArg₂ QQ (Fin.ext ?_) (Fin.ext ?_))) <;> simp [Att.ord, turn_low] <;> omega
  · obtain rfl : j = 1 := Fin.ext hj
    rw [dif_pos (show (1 : Fin 4).val * 128 + r.val < 256 by simp; omega)]
    simp only [dif_neg (show ¬ (1 : Fin 4).val * 128 + r.val < 128 by simp)]
    refine (Att.half_low (fun l => KK x ⟨(l.val + 128 - 64) % 128, _⟩) (fun l => QQ ⟨(1 : Fin 4).val * 128 + r.val - 128, _⟩ ⟨384 + l.val, _⟩) _ (by norm_num)).trans ?_
    refine congrArg (· * _) (Finset.sum_congr rfl fun d _ => congrArg₂ (· * ·) (congrArg _ (Fin.ext ?_)) (congrArg₂ QQ (Fin.ext ?_) (Fin.ext ?_))) <;> simp [Att.ord, turn_low] <;> omega
  · obtain rfl : j = 2 := Fin.ext hj
    rw [dif_neg (show ¬ (2 : Fin 4).val * 128 + r.val < 256 by simp)]
    simp only [dif_pos (show (2 : Fin 4).val * 128 + r.val - 256 < 128 by simp)]
    refine (Att.half_high (KK x) (fun l => QQ ⟨(2 : Fin 4).val * 128 + r.val - 256, _⟩ ⟨256 + l.val, _⟩) _ (by norm_num)).trans ?_
    refine congrArg (· * _) (Finset.sum_congr rfl fun d _ => congrArg₂ (· * ·) (congrArg _ (Fin.ext ?_)) (congrArg₂ QQ (Fin.ext ?_) (Fin.ext ?_))) <;> simp [Att.ord, turn_low] <;> omega
  · obtain rfl : j = 3 := Fin.ext hj
    rw [dif_neg (show ¬ (3 : Fin 4).val * 128 + r.val < 256 by simp; omega)]
    simp only [dif_neg (show ¬ (3 : Fin 4).val * 128 + r.val - 256 < 128 by simp; omega)]
    refine (Att.half_high (KK x) (fun l => QQ ⟨(3 : Fin 4).val * 128 + r.val - 256 - 128, _⟩ ⟨384 + l.val, _⟩) _ (by norm_num)).trans ?_
    refine congrArg (· * _) (Finset.sum_congr rfl fun d _ => congrArg₂ (· * ·) (congrArg _ (Fin.ext ?_)) (congrArg₂ QQ (Fin.ext ?_) (Fin.ext ?_))) <;> simp [Att.ord, turn_low] <;> omega

include htop hV in
/-- The first key head's half of a tile, read at a lane and a column: the softmax average of the values over that column's scores. -/
theorem tile_low (d : Fin 64) (n : Fin 512) :
    tile (F := Ideal) valid b0 b1 low top kp kc vp vc q0 q1 q2 q3 s0 s1 (ix2 ⟨d.val, by omega⟩ n)
      = Att.kcol (fun x => k0_pay31 (F := Ideal) valid b0 low kp kc q0 q1 (ix2 x n)) (s0 (ix3 0 0 n)) (fun x => VV x ⟨d.val, by omega⟩) := by
  unfold Att.kcol
  rw [← negInf]
  have ht : top (ix2 (⟨d.val, by omega⟩ : Fin 128) 0) = 1#1 := by rw [htop, decide_eq_true d.isLt]; rfl
  simp only [← hV]
  pointwise [tile, k0_pay44, k0_pay36, k0_pay35, k0_pay34, k0_pay37, k0_pay33, k0_pay32, k0_pay30]
  simp only [ht, sel_one, sel_zero, Finset.sum_const_zero, add_zero]

include htop hV in
/-- The second key head's half of a tile, read at a lane and a column. -/
theorem tile_high (d : Fin 64) (n : Fin 512) :
    tile (F := Ideal) valid b0 b1 low top kp kc vp vc q0 q1 q2 q3 s0 s1 (ix2 ⟨64 + d.val, by omega⟩ n)
      = Att.kcol (fun x => k0_pay38 (F := Ideal) valid b1 low (k0_pay28 kp kc) (k0_pay29 kp kc) q2 q3 (ix2 x n)) (s1 (ix3 0 0 n)) (fun x => VV x ⟨64 + d.val, by omega⟩) := by
  unfold Att.kcol
  rw [← negInf]
  have ht : top (ix2 (⟨64 + d.val, by omega⟩ : Fin 128) 0) = 0#1 := by rw [htop, decide_eq_false (by simp)]; rfl
  simp only [← hV]
  pointwise [tile, k0_pay44, k0_pay43, k0_pay42, k0_pay41, k0_pay40, k0_pay39, k0_pay30]
  simp only [ht, sel_one, sel_zero, Finset.sum_const_zero, zero_add]

variable (SK : Fin 2 → Fin 512 → EReal) (hs0 : ∀ n, s0 (ix3 0 0 n) = SK 0 n) (hs1 : ∀ n, s1 (ix3 0 0 n) = SK 1 n)
    (P : Fin 256 → Fin 128 → Prop) [∀ x r, Decidable (P x r)]
    (hP : ∀ (x : Fin 256) (j : Fin 4) (r : Fin 128), valid (ix2 x ⟨j.val * 128 + r.val, ltc j r⟩) = 1#1 ↔ P x r)
    (hb0 : ∀ (x : Fin 256) (j : Fin 4) (r : Fin 128), b0 (ix2 x ⟨j.val * 128 + r.val, ltc j r⟩)
      = -((Att.slope (0 * 4 + (Att.ord j).val) * (((r.val : Int) + 128 - x.val : Int) : ℝ) : ℝ) : EReal))
    (hb1 : ∀ (x : Fin 256) (j : Fin 4) (r : Fin 128), b1 (ix2 x ⟨j.val * 128 + r.val, ltc j r⟩)
      = -((Att.slope (1 * 4 + (Att.ord j).val) * (((r.val : Int) + 128 - x.val : Int) : ℝ) : ℝ) : EReal))

/-- The masked scores of one query against its 256 keys, of key head `hk` and query head `g` of it. -/
def scores (hk : Fin 2) (g : Fin 4) (r : Fin 128) (x : Fin 256) : EReal :=
  if P x r then dot KK QQ hk g x r - ((Att.slope (hk.val * 4 + g.val) * (((r.val : Int) + 128 - x.val : Int) : ℝ) : ℝ) : EReal) else ⊥

include hlow htop hK hV hq0 hq1 hq2 hq3 hs0 hs1 hP hb0 hb1 in
/-- A tile read at a lane of a key head and a query of one of that head's query heads. -/
theorem tile_val (hk : Fin 2) (d : Fin 64) (j : Fin 4) (r : Fin 128) :
    tile (F := Ideal) valid b0 b1 low top kp kc vp vc q0 q1 q2 q3 s0 s1 (ix2 ⟨hk.val * 64 + d.val, by omega⟩ ⟨j.val * 128 + r.val, by omega⟩)
      = Att.kcol (scores KK QQ P hk (Att.ord j) r) (SK hk ⟨j.val * 128 + r.val, by omega⟩) (fun x => VV x ⟨hk.val * 64 + d.val, by omega⟩) := by
  match hk with
  | 0 =>
    have e : (⟨(0 : Fin 2).val * 64 + d.val, by omega⟩ : Fin 128) = ⟨d.val, by omega⟩ := Fin.ext (by simp)
    rw [e, tile_low valid b0 b1 low top kp kc vp vc q0 q1 q2 q3 s0 s1 VV htop hV d, hs0]
    refine congrArg (fun S => Att.kcol S _ _) (funext fun x => ?_)
    rw [score0 valid b0 low kp kc q0 q1 KK QQ hlow hK hq0 hq1 x j r, hb0]
    exact if_congr (hP x j r) rfl rfl
  | 1 =>
    have e : (⟨(1 : Fin 2).val * 64 + d.val, by omega⟩ : Fin 128) = ⟨64 + d.val, by omega⟩ := Fin.ext (by simp)
    rw [e, tile_high valid b0 b1 low top kp kc vp vc q0 q1 q2 q3 s0 s1 VV htop hV d, hs1]
    refine congrArg (fun S => Att.kcol S _ _) (funext fun x => ?_)
    rw [score1 valid b1 low kp kc q2 q3 KK QQ hlow hK hq2 hq3 x j r, hb1]
    exact if_congr (hP x j r) rfl rfl

end Tile

end Cert.KernelIdeal.Swa

end
-- ==== Proof.SwaOut.lean ====
module

public import proofs.«01_k».proof.Proof.SwaRead

@[expose] public section

set_option backward.proofsInPublic true
set_option maxRecDepth 16384

noncomputable section

open Idealize.ShloMosaic Idealize.ShloMosaic.TcCoe Idealize.SL.Sem

namespace Cert.KernelIdeal.Swa

open Cert.KernelIdeal Cert.KernelIdeal.Gen

section Point
variable (i : grid0.Coords) (x0 : Vec Ideal S512x512 .bf16) (x1 x2 : Vec Ideal S512x128 .bf16) (x3 x4 : Vec Ideal S128x128 .bf16) (x5 : Vec Ideal S2x1x512 .f32)

/-- The 256 rows of keys (or values) that row block `a` of a point sees: the point's own rows, before them the halo's. -/
def rows (x1 : Vec Ideal S512x128 .bf16) (x3 : Vec Ideal S128x128 .bf16) (a : Fin 4) (x : Fin 256) (l : Fin 128) : EReal :=
  if h : a.val * 128 + x.val < 128 then x3 (ix2 ⟨a.val * 128 + x.val, h⟩ l) else x1 (ix2 ⟨a.val * 128 + x.val - 128, by omega⟩ l)

/-- The keys that a query may see: those of its window that lie in the sequence. -/
def seen (n : Nat) (a : Fin 4) (x : Fin 256) (r : Fin 128) : Prop := (x.val ≤ r.val + 128 ∧ r.val < x.val) ∧ (128 ≤ a.val * 128 + x.val ∨ 0 < n)

instance (n : Nat) (a : Fin 4) (x : Fin 256) (r : Fin 128) : Decidable (seen n a x r) := by unfold seen; infer_instance

/-- One entry of a point's result: query `r` of row block `a`, column block `j`, lane `l`. -/
def entry (a : Fin 4) (r : Fin 128) (j : Fin 4) (hk : Fin 2) (d : Fin 64) : EReal :=
  Att.kcol (scores (rows x1 x3 a) (fun r c => x0 (ix2 ⟨a.val * 128 + r.val, by omega⟩ c)) (seen (i 0).val a) hk (Att.ord j) r)
    (x5 (ix3 hk 0 ⟨j.val * 128 + r.val, by omega⟩)) (fun x => rows x2 x4 a x ⟨hk.val * 64 + d.val, by omega⟩)

/-- The halo and the first 128 rows are row block 0's. -/
theorem rows_eq0 (x1 : Vec Ideal S512x128 .bf16) (x3 kp kc : Vec Ideal S128x128 .bf16) (a : Fin 4) (ha : a.val = 0)
    (hp : ∀ r l : Fin 128, kp (ix2 r l) = x3 (ix2 r l)) (hc : ∀ r l : Fin 128, kc (ix2 r l) = x1 (ix2 ⟨r.val, by omega⟩ l)) (x : Fin 256) (l : Fin 128) :
    (if h : x.val < 128 then kp (ix2 ⟨x.val, h⟩ l) else kc (ix2 ⟨x.val - 128, by omega⟩ l)) = rows x1 x3 a x l := by
  unfold rows
  by_cases h : x.val < 128
  · rw [dif_pos h, dif_pos (by omega), hp]
    exact congrArg x3 (congrArg (ix2 · l) (Fin.ext (by simp; omega)))
  · rw [dif_neg h, dif_neg (by omega), hc]
    exact congrArg x1 (congrArg (ix2 · l) (Fin.ext (by simp; omega)))

/-- Two consecutive stretches of 128 rows are a later row block's. -/
theorem rows_eq (x1 : Vec Ideal S512x128 .bf16) (x3 kp kc : Vec Ideal S128x128 .bf16) (a : Fin 4) (ha : 0 < a.val)
    (hp : ∀ r l : Fin 128, kp (ix2 r l) = x1 (ix2 ⟨(a.val - 1) * 128 + r.val, by omega⟩ l))
    (hc : ∀ r l : Fin 128, kc (ix2 r l) = x1 (ix2 ⟨a.val * 128 + r.val, by omega⟩ l)) (x : Fin 256) (l : Fin 128) :
    (if h : x.val < 128 then kp (ix2 ⟨x.val, h⟩ l) else kc (ix2 ⟨x.val - 128, by omega⟩ l)) = rows x1 x3 a x l := by
  unfold rows
  rw [dif_neg (show ¬ a.val * 128 + x.val < 128 by omega)]
  by_cases h : x.val < 128
  · rw [dif_pos h, hp]
    exact congrArg x1 (congrArg (ix2 · l) (Fin.ext (by simp; omega)))
  · rw [dif_neg h, hc]
    exact congrArg x1 (congrArg (ix2 · l) (Fin.ext (by simp; omega)))

/-- Row block 0 of a point. -/
theorem tile0_val (hk : Fin 2) (d : Fin 64) (j : Fin 4) (r : Fin 128) :
    tile0 (F := Ideal) i x0 x1 x2 x3 x4 x5 (ix2 ⟨hk.val * 64 + d.val, by omega⟩ ⟨j.val * 128 + r.val, by omega⟩) = entry i x0 x1 x2 x3 x4 x5 0 r j hk d := by
  refine tile_val _ _ _ _ _ _ _ _ _ _ _ _ _ _ _ (rows x1 x3 0) (rows x2 x4 0) (fun r c => x0 (ix2 ⟨(0 : Fin 4).val * 128 + r.val, by omega⟩ c))
    (fun x l => (low_read i x0 x1 x2 x3 x4 x5 x l).trans (slt64 l)) (fun l => (top_read i x0 x1 x2 x3 x4 x5 l).trans (slt64 l)) ?_ ?_ ?_ ?_ ?_ ?_ (fun hk n => x5 (ix3 hk 0 n)) ?_ ?_
    (seen (i 0).val 0) ?_ (bias0 i x0 x1 x2 x3 x4 x5) (bias1 i x0 x1 x2 x3 x4 x5) hk d j r
  · exact fun x l => rows_eq0 _ _ _ _ 0 rfl (fun r l => by pointwise) (fun r l => by pointwise) x l
  · exact fun x l => rows_eq0 _ _ _ _ 0 rfl (fun r l => by pointwise) (fun r l => by pointwise) x l
  · intro r l; pointwise
  · intro r l; pointwise
  · intro r l; pointwise
  · intro r l; pointwise
  · intro n; pointwise
  · intro n; pointwise
  · intro x j r
    rw [mask111]
    unfold seen
    simp
    try omega

/-- Row block 1 of a point. -/
theorem tile1_val (hk : Fin 2) (d : Fin 64) (j : Fin 4) (r : Fin 128) :
    tile1 (F := Ideal) i x0 x1 x2 x3 x4 x5 (ix2 ⟨hk.val * 64 + d.val, by omega⟩ ⟨j.val * 128 + r.val, by omega⟩) = entry i x0 x1 x2 x3 x4 x5 1 r j hk d := by
  refine tile_val _ _ _ _ _ _ _ _ _ _ _ _ _ _ _ (rows x1 x3 1) (rows x2 x4 1) (fun r c => x0 (ix2 ⟨(1 : Fin 4).val * 128 + r.val, by omega⟩ c))
    (fun x l => (low_read i x0 x1 x2 x3 x4 x5 x l).trans (slt64 l)) (fun l => (top_read i x0 x1 x2 x3 x4 x5 l).trans (slt64 l)) ?_ ?_ ?_ ?_ ?_ ?_ (fun hk n => x5 (ix3 hk 0 n)) ?_ ?_
    (seen (i 0).val 1) ?_ (bias0 i x0 x1 x2 x3 x4 x5) (bias1 i x0 x1 x2 x3 x4 x5) hk d j r
  · exact fun x l => rows_eq _ _ _ _ 1 (by decide) (fun r l => by pointwise) (fun r l => by pointwise) x l
  · exact fun x l => rows_eq _ _ _ _ 1 (by decide) (fun r l => by pointwise) (fun r l => by pointwise) x l
  · intro r l; pointwise
  · intro r l; pointwise
  · intro r l; pointwise
  · intro r l; pointwise
  · intro n; pointwise
  · intro n; pointwise
  · intro x j r
    rw [mask110]
    unfold seen
    simp
    try omega

/-- Row block 2 of a point. -/
theorem tile2_val (hk : Fin 2) (d : Fin 64) (j : Fin 4) (r : Fin 128) :
    tile2 (F := Ideal) i x0 x1 x2 x3 x4 x5 (ix2 ⟨hk.val * 64 + d.val, by omega⟩ ⟨j.val * 128 + r.val, by omega⟩) = entry i x0 x1 x2 x3 x4 x5 2 r j hk d := by
  refine tile_val _ _ _ _ _ _ _ _ _ _ _ _ _ _ _ (rows x1 x3 2) (rows x2 x4 2) (fun r c => x0 (ix2 ⟨(2 : Fin 4).val * 128 + r.val, by omega⟩ c))
    (fun x l => (low_read i x0 x1 x2 x3 x4 x5 x l).trans (slt64 l)) (fun l => (top_read i x0 x1 x2 x3 x4 x5 l).trans (slt64 l)) ?_ ?_ ?_ ?_ ?_ ?_ (fun hk n => x5 (ix3 hk 0 n)) ?_ ?_
    (seen (i 0).val 2) ?_ (bias0 i x0 x1 x2 x3 x4 x5) (bias1 i x0 x1 x2 x3 x4 x5) hk d j r
  · exact fun x l => rows_eq _ _ _ _ 2 (by decide) (fun r l => by pointwise) (fun r l => by pointwise) x l
  · exact fun x l => rows_eq _ _ _ _ 2 (by decide) (fun r l => by pointwise) (fun r l => by pointwise) x l
  · intro r l; pointwise
  · intro r l; pointwise
  · intro r l; pointwise
  · intro r l; pointwise
  · intro n; pointwise
  · intro n; pointwise
  · intro x j r
    rw [mask110]
    unfold seen
    simp
    try omega

/-- Row block 3 of a point. -/
theorem tile3_val (hk : Fin 2) (d : Fin 64) (j : Fin 4) (r : Fin 128) :
    tile3 (F := Ideal) i x0 x1 x2 x3 x4 x5 (ix2 ⟨hk.val * 64 + d.val, by omega⟩ ⟨j.val * 128 + r.val, by omega⟩) = entry i x0 x1 x2 x3 x4 x5 3 r j hk d := by
  refine tile_val _ _ _ _ _ _ _ _ _ _ _ _ _ _ _ (rows x1 x3 3) (rows x2 x4 3) (fun r c => x0 (ix2 ⟨(3 : Fin 4).val * 128 + r.val, by omega⟩ c))
    (fun x l => (low_read i x0 x1 x2 x3 x4 x5 x l).trans (slt64 l)) (fun l => (top_read i x0 x1 x2 x3 x4 x5 l).trans (slt64 l)) ?_ ?_ ?_ ?_ ?_ ?_ (fun hk n => x5 (ix3 hk 0 n)) ?_ ?_
    (seen (i 0).val 3) ?_ (bias0 i x0 x1 x2 x3 x4 x5) (bias1 i x0 x1 x2 x3 x4 x5) hk d j r
  · exact fun x l => rows_eq _ _ _ _ 3 (by decide) (fun r l => by pointwise) (fun r l => by pointwise) x l
  · exact fun x l => rows_eq _ _ _ _ 3 (by decide) (fun r l => by pointwise) (fun r l => by pointwise) x l
  · intro r l; pointwise
  · intro r l; pointwise
  · intro r l; pointwise
  · intro r l; pointwise
  · intro n; pointwise
  · intro n; pointwise
  · intro x j r
    rw [mask110]
    unfold seen
    simp
    try omega

end Point

end Cert.KernelIdeal.Swa

end
-- ==== Proof.SwaKernel.lean ====
module

public import proofs.«01_k».proof.Proof.SwaOut
public import proofs.«01_k».proof.Proof.Gen.KernelIdeal.Value
public import Idealize.ShloMosaic.Lib.Pipeline.Value
public import Idealize.ShloMosaic.Lib.Quiescent

@[expose] public section

set_option backward.proofsInPublic true
set_option maxRecDepth 16384

noncomputable section

open Idealize.ShloMosaic Idealize.ShloMosaic.TcCoe Idealize.SL.Sem
open Idealize.ShloMosaic.Pipeline (Dat)

namespace Cert.KernelIdeal.Swa

open Cert.KernelIdeal Cert.KernelIdeal.Gen

section Point
variable (i : grid0.Coords) (x0 : Vec Ideal S512x512 .bf16) (x1 x2 : Vec Ideal S512x128 .bf16) (x3 x4 : Vec Ideal S128x128 .bf16) (x5 : Vec Ideal S2x1x512 .f32)

/-- A point's result at a row and a column of its block. -/
def point (R C : Fin 512) : EReal :=
  entry i x0 x1 x2 x3 x4 x5 ⟨R.val / 128, by omega⟩ ⟨R.val % 128, by omega⟩ ⟨C.val / 128, by omega⟩ ⟨C.val % 128 / 64, by omega⟩ ⟨C.val % 64, by omega⟩

/-- A piece of a point's result: a tile's four heads' columns, at their place. -/
theorem piece (a j : Fin 4) (T : FVec Ideal S128x512 .f32) (z0 z1 : Fin 128)
    (hT : ∀ (hk : Fin 2) (d : Fin 64) (j : Fin 4) (r : Fin 128), T (ix2 ⟨hk.val * 64 + d.val, by omega⟩ ⟨j.val * 128 + r.val, by omega⟩) = entry i x0 x1 x2 x3 x4 x5 a r j hk d) :
    T (ix2 z1 ⟨j.val * 128 + z0.val, by omega⟩) = point i x0 x1 x2 x3 x4 x5 ⟨a.val * 128 + z0.val, by omega⟩ ⟨j.val * 128 + z1.val, by omega⟩ := by
  have e := hT ⟨z1.val / 64, by omega⟩ ⟨z1.val % 64, by omega⟩ j z0
  have h : (⟨z1.val / 64 * 64 + z1.val % 64, by omega⟩ : Fin 128) = z1 := Fin.ext (by show z1.val / 64 * 64 + z1.val % 64 = z1.val; omega)
  rw [show (⟨(⟨z1.val / 64, by omega⟩ : Fin 2).val * 64 + (⟨z1.val % 64, by omega⟩ : Fin 64).val, by simp; omega⟩ : Fin 128) = z1 from h] at e
  rw [e]
  unfold point
  congr 1
  · exact Fin.ext (by show a.val = (a.val * 128 + z0.val) / 128; omega)
  · exact Fin.ext (by show z0.val = (a.val * 128 + z0.val) % 128; omega)
  · exact Fin.ext (by show j.val = (j.val * 128 + z1.val) / 128; omega)
  · exact Fin.ext (by show z1.val / 64 = (j.val * 128 + z1.val) % 128 / 64; omega)
  · exact Fin.ext (by show z1.val % 64 = (j.val * 128 + z1.val) % 64; omega)

/-- Four heads' columns of a tile, read at a query and a lane. -/
theorem cut0_at (T : FVec Ideal S128x512 .f32) (z0 z1 : Fin 128) : cut0 T (ix2 z0 z1) = T (ix2 z1 ⟨(0 : Fin 4).val * 128 + z0.val, by simp; omega⟩) := by
  have e : (⟨(0 : Fin 4).val * 128 + z0.val, by simp; omega⟩ : Fin 512) = ⟨z0.val, by omega⟩ := Fin.ext (by simp)
  rw [e]
  pointwise [cut0]
@[inherit_doc cut0_at] theorem cut1_at (T : FVec Ideal S128x512 .f32) (z0 z1 : Fin 128) : cut1 T (ix2 z0 z1) = T (ix2 z1 ⟨(1 : Fin 4).val * 128 + z0.val, by simp; omega⟩) := by
  have e : (⟨(1 : Fin 4).val * 128 + z0.val, by simp; omega⟩ : Fin 512) = ⟨128 + z0.val, by omega⟩ := Fin.ext (by simp)
  rw [e]
  pointwise [cut1]
@[inherit_doc cut0_at] theorem cut2_at (T : FVec Ideal S128x512 .f32) (z0 z1 : Fin 128) : cut2 T (ix2 z0 z1) = T (ix2 z1 ⟨(2 : Fin 4).val * 128 + z0.val, by simp; omega⟩) := by
  have e : (⟨(2 : Fin 4).val * 128 + z0.val, by simp; omega⟩ : Fin 512) = ⟨256 + z0.val, by omega⟩ := Fin.ext (by simp)
  rw [e]
  pointwise [cut2]
@[inherit_doc cut0_at] theorem cut3_at (T : FVec Ideal S128x512 .f32) (z0 z1 : Fin 128) : cut3 T (ix2 z0 z1) = T (ix2 z1 ⟨(3 : Fin 4).val * 128 + z0.val, by simp; omega⟩) := by
  have e : (⟨(3 : Fin 4).val * 128 + z0.val, by simp; omega⟩ : Fin 512) = ⟨384 + z0.val, by omega⟩ := Fin.ext (by simp)
  rw [e]
  pointwise [cut3]

/-- The body's sixteen stores are the pieces of `point`. -/
theorem out_apply (y : S512x512.Idx) : out0_6 (F := Ideal) i x0 x1 x2 x3 x4 x5 y = point i x0 x1 x2 x3 x4 x5 (y 0) (y 1) := by
  rw [out_eq]
  refine View.canon_apply_of_pieces (Val := Elt Ideal) (e := .bf16) (fun y : S512x512.Idx => point i x0 x1 x2 x3 x4 x5 (y 0) (y 1)) _ ?_ y (cover0_6 _ _ _ _ _ _ _ _ _ _ _ _ _ _ _ _ y)
  intro p hp z
  rcases List.mem_cons.mp hp with rfl | hp
  · change (⟨2, ![128, 128]⟩ : Shape).Idx at z
    idx_vars z
    have e : r0_22.emb (ix2 z0 z1) = ix2 ⟨(3 : Fin 4).val * 128 + z0.val, by simp; omega⟩ ⟨(3 : Fin 4).val * 128 + z1.val, by simp; omega⟩ := Common.emb2 _ z0 z1
    rw [e]
    exact (cut3_at _ z0 z1).trans (piece i x0 x1 x2 x3 x4 x5 3 3 _ z0 z1 (tile3_val i x0 x1 x2 x3 x4 x5))
  rcases List.mem_cons.mp hp with rfl | hp
  · change (⟨2, ![128, 128]⟩ : Shape).Idx at z
    idx_vars z
    have e : r0_21.emb (ix2 z0 z1) = ix2 ⟨(3 : Fin 4).val * 128 + z0.val, by simp; omega⟩ ⟨(2 : Fin 4).val * 128 + z1.val, by simp; omega⟩ := Common.emb2 _ z0 z1
    rw [e]
    exact (cut2_at _ z0 z1).trans (piece i x0 x1 x2 x3 x4 x5 3 2 _ z0 z1 (tile3_val i x0 x1 x2 x3 x4 x5))
  rcases List.mem_cons.mp hp with rfl | hp
  · change (⟨2, ![128, 128]⟩ : Shape).Idx at z
    idx_vars z
    have e : r0_20.emb (ix2 z0 z1) = ix2 ⟨(3 : Fin 4).val * 128 + z0.val, by simp; omega⟩ ⟨(1 : Fin 4).val * 128 + z1.val, by simp; omega⟩ := Common.emb2 _ z0 z1
    rw [e]
    exact (cut1_at _ z0 z1).trans (piece i x0 x1 x2 x3 x4 x5 3 1 _ z0 z1 (tile3_val i x0 x1 x2 x3 x4 x5))
  rcases List.mem_cons.mp hp with rfl | hp
  · change (⟨2, ![128, 128]⟩ : Shape).Idx at z
    idx_vars z
    have e : r0_19.emb (ix2 z0 z1) = ix2 ⟨(3 : Fin 4).val * 128 + z0.val, by simp; omega⟩ ⟨(0 : Fin 4).val * 128 + z1.val, by simp; omega⟩ := Common.emb2 _ z0 z1
    rw [e]
    exact (cut0_at _ z0 z1).trans (piece i x0 x1 x2 x3 x4 x5 3 0 _ z0 z1 (tile3_val i x0 x1 x2 x3 x4 x5))
  rcases List.mem_cons.mp hp with rfl | hp
  · change (⟨2, ![128, 128]⟩ : Shape).Idx at z
    idx_vars z
    have e : r0_17.emb (ix2 z0 z1) = ix2 ⟨(2 : Fin 4).val * 128 + z0.val, by simp; omega⟩ ⟨(3 : Fin 4).val * 128 + z1.val, by simp; omega⟩ := Common.emb2 _ z0 z1
    rw [e]
    exact (cut3_at _ z0 z1).trans (piece i x0 x1 x2 x3 x4 x5 2 3 _ z0 z1 (tile2_val i x0 x1 x2 x3 x4 x5))
  rcases List.mem_cons.mp hp with rfl | hp
  · change (⟨2, ![128, 128]⟩ : Shape).Idx at z
    idx_vars z
    have e : r0_16.emb (ix2 z0 z1) = ix2 ⟨(2 : Fin 4).val * 128 + z0.val, by simp; omega⟩ ⟨(2 : Fin 4).val * 128 + z1.val, by simp; omega⟩ := Common.emb2 _ z0 z1
    rw [e]
    exact (cut2_at _ z0 z1).trans (piece i x0 x1 x2 x3 x4 x5 2 2 _ z0 z1 (tile2_val i x0 x1 x2 x3 x4 x5))
  rcases List.mem_cons.mp hp with rfl | hp
  · change (⟨2, ![128, 128]⟩ : Shape).Idx at z
    idx_vars z
    have e : r0_15.emb (ix2 z0 z1) = ix2 ⟨(2 : Fin 4).val * 128 + z0.val, by simp; omega⟩ ⟨(1 : Fin 4).val * 128 + z1.val, by simp; omega⟩ := Common.emb2 _ z0 z1
    rw [e]
    exact (cut1_at _ z0 z1).trans (piece i x0 x1 x2 x3 x4 x5 2 1 _ z0 z1 (tile2_val i x0 x1 x2 x3 x4 x5))
  rcases List.mem_cons.mp hp with rfl | hp
  · change (⟨2, ![128, 128]⟩ : Shape).Idx at z
    idx_vars z
    have e : r0_14.emb (ix2 z0 z1) = ix2 ⟨(2 : Fin 4).val * 128 + z0.val, by simp; omega⟩ ⟨(0 : Fin 4).val * 128 + z1.val, by simp; omega⟩ := Common.emb2 _ z0 z1
    rw [e]
    exact (cut0_at _ z0 z1).trans (piece i x0 x1 x2 x3 x4 x5 2 0 _ z0 z1 (tile2_val i x0 x1 x2 x3 x4 x5))
  rcases List.mem_cons.mp hp with rfl | hp
  · change (⟨2, ![128, 128]⟩ : Shape).Idx at z
    idx_vars z
    have e : r0_12.emb (ix2 z0 z1) = ix2 ⟨(1 : Fin 4).val * 128 + z0.val, by simp; omega⟩ ⟨(3 : Fin 4).val * 128 + z1.val, by simp; omega⟩ := Common.emb2 _ z0 z1
    rw [e]
    exact (cut3_at _ z0 z1).trans (piece i x0 x1 x2 x3 x4 x5 1 3 _ z0 z1 (tile1_val i x0 x1 x2 x3 x4 x5))
  rcases List.mem_cons.mp hp with rfl | hp
  · change (⟨2, ![128, 128]⟩ : Shape).Idx at z
    idx_vars z
    have e : r0_11.emb (ix2 z0 z1) = ix2 ⟨(1 : Fin 4).val * 128 + z0.val, by simp; omega⟩ ⟨(2 : Fin 4).val * 128 + z1.val, by simp; omega⟩ := Common.emb2 _ z0 z1
    rw [e]
    exact (cut2_at _ z0 z1).trans (piece i x0 x1 x2 x3 x4 x5 1 2 _ z0 z1 (tile1_val i x0 x1 x2 x3 x4 x5))
  rcases List.mem_cons.mp hp with rfl | hp
  · change (⟨2, ![128, 128]⟩ : Shape).Idx at z
    idx_vars z
    have e : r0_10.emb (ix2 z0 z1) = ix2 ⟨(1 : Fin 4).val * 128 + z0.val, by simp; omega⟩ ⟨(1 : Fin 4).val * 128 + z1.val, by simp; omega⟩ := Common.emb2 _ z0 z1
    rw [e]
    exact (cut1_at _ z0 z1).trans (piece i x0 x1 x2 x3 x4 x5 1 1 _ z0 z1 (tile1_val i x0 x1 x2 x3 x4 x5))
  rcases List.mem_cons.mp hp with rfl | hp
  · change (⟨2, ![128, 128]⟩ : Shape).Idx at z
    idx_vars z
    have e : r0_9.emb (ix2 z0 z1) = ix2 ⟨(1 : Fin 4).val * 128 + z0.val, by simp; omega⟩ ⟨(0 : Fin 4).val * 128 + z1.val, by simp; omega⟩ := Common.emb2 _ z0 z1
    rw [e]
    exact (cut0_at _ z0 z1).trans (piece i x0 x1 x2 x3 x4 x5 1 0 _ z0 z1 (tile1_val i x0 x1 x2 x3 x4 x5))
  rcases List.mem_cons.mp hp with rfl | hp
  · change (⟨2, ![128, 128]⟩ : Shape).Idx at z
    idx_vars z
    have e : r0_6.emb (ix2 z0 z1) = ix2 ⟨(0 : Fin 4).val * 128 + z0.val, by simp; omega⟩ ⟨(3 : Fin 4).val * 128 + z1.val, by simp; omega⟩ := Common.emb2 _ z0 z1
    rw [e]
    exact (cut3_at _ z0 z1).trans (piece i x0 x1 x2 x3 x4 x5 0 3 _ z0 z1 (tile0_val i x0 x1 x2 x3 x4 x5))
  rcases List.mem_cons.mp hp with rfl | hp
  · change (⟨2, ![128, 128]⟩ : Shape).Idx at z
    idx_vars z
    have e : r0_5.emb (ix2 z0 z1) = ix2 ⟨(0 : Fin 4).val * 128 + z0.val, by simp; omega⟩ ⟨(2 : Fin 4).val * 128 + z1.val, by simp; omega⟩ := Common.emb2 _ z0 z1
    rw [e]
    exact (cut2_at _ z0 z1).trans (piece i x0 x1 x2 x3 x4 x5 0 2 _ z0 z1 (tile0_val i x0 x1 x2 x3 x4 x5))
  rcases List.mem_cons.mp hp with rfl | hp
  · change (⟨2, ![128, 128]⟩ : Shape).Idx at z
    idx_vars z
    have e : r0_3.emb (ix2 z0 z1) = ix2 ⟨(0 : Fin 4).val * 128 + z0.val, by simp; omega⟩ ⟨(1 : Fin 4).val * 128 + z1.val, by simp; omega⟩ := Common.emb2 _ z0 z1
    rw [e]
    exact (cut1_at _ z0 z1).trans (piece i x0 x1 x2 x3 x4 x5 0 1 _ z0 z1 (tile0_val i x0 x1 x2 x3 x4 x5))
  rcases List.mem_cons.mp hp with rfl | hp
  · change (⟨2, ![128, 128]⟩ : Shape).Idx at z
    idx_vars z
    have e : r0_2.emb (ix2 z0 z1) = ix2 ⟨(0 : Fin 4).val * 128 + z0.val, by simp; omega⟩ ⟨(0 : Fin 4).val * 128 + z1.val, by simp; omega⟩ := Common.emb2 _ z0 z1
    rw [e]
    exact (cut0_at _ z0 z1).trans (piece i x0 x1 x2 x3 x4 x5 0 0 _ z0 z1 (tile0_val i x0 x1 x2 x3 x4 x5))
  cases hp

end Point

variable (m : (ℓ : Loc nD τ sig) → Buf (Elt Ideal) ℓ) (ρ : Dev nD → PrngReg)

/-- The queries, of a core's arguments. -/
abbrev qArr (c : Dev nD) : S1x16384x512.Idx → EReal := m ((c : Thread nD τ).loc main_arg0)
/-- The keys. -/
abbrev kArr (c : Dev nD) : S1x16384x128.Idx → EReal := m ((c : Thread nD τ).loc main_arg1)
/-- The values. -/
abbrev vArr (c : Dev nD) : S1x16384x128.Idx → EReal := m ((c : Thread nD τ).loc main_arg2)
/-- The sinks. -/
abbrev sArr (c : Dev nD) : S8.Idx → EReal := m ((c : Thread nD τ).loc main_arg3)

/-- The projections' row the region finds: queries, keys and values at their columns, zeros elsewhere. -/
theorem V_v8 (c : Dev nD) : (V m c main_v8 : S16384x5632.Idx → EReal) =
    concatenate S16384x5632 1 [⟨S16384x4608, broadcastInDim S16384x4608 ![] bcast_S_S16384x4608 (constant (F := Ideal) S_ .bf16 0x0000#16)⟩,
      ⟨S16384x512, truncf .bf16 (shapeCast S16384x512 (qArr m c : FVec Ideal S1x16384x512 .f32) shapeCasts_S1x16384x512_S16384x512) bitsLt_bf16_f32⟩,
      ⟨S16384x256, broadcastInDim S16384x256 ![] bcast_S_S16384x256 (constant (F := Ideal) S_ .bf16 0x0000#16)⟩,
      ⟨S16384x128, truncf .bf16 (shapeCast S16384x128 (kArr m c : FVec Ideal S1x16384x128 .f32) shapeCasts_S1x16384x128_S16384x128) bitsLt_bf16_f32⟩,
      ⟨S16384x128, truncf .bf16 (shapeCast S16384x128 (vArr m c : FVec Ideal S1x16384x128 .f32) shapeCasts_S1x16384x128_S16384x128) bitsLt_bf16_f32⟩]
      concatenates_S16384x4608_S16384x512_S16384x256_S16384x128_S16384x128_S16384x5632_d1 := by
  unfold_abbrev_sides
  after_results
  rfl

/-- The queries' columns. -/
theorem V_q (c : Dev nD) (r : Fin 16384) (l : Fin 512) (h : 4608 + l.val < 5632) :
    (V m c main_v8 : S16384x5632.Idx → EReal) (ix2 r ⟨4608 + l.val, h⟩) = qArr m c (ix3 0 r l) := by
  rw [V_v8]
  pointwise
/-- The keys' columns. -/
theorem V_k (c : Dev nD) (r : Fin 16384) (l : Fin 128) (h : 5376 + l.val < 5632) :
    (V m c main_v8 : S16384x5632.Idx → EReal) (ix2 r ⟨5376 + l.val, h⟩) = kArr m c (ix3 0 r l) := by
  rw [V_v8]
  pointwise
  rw [dif_neg (by omega), dif_neg (by omega), dif_neg (by omega), dif_pos (by omega)]
  exact congrArg _ (congrArg (ix3 0 r) (Fin.ext (by show _ = l.val; simp only []; omega)))
/-- The values' columns. -/
theorem V_v (c : Dev nD) (r : Fin 16384) (l : Fin 128) (h : 5504 + l.val < 5632) :
    (V m c main_v8 : S16384x5632.Idx → EReal) (ix2 r ⟨5504 + l.val, h⟩) = vArr m c (ix3 0 r l) := by
  rw [V_v8]
  pointwise
  rw [dif_neg (by omega), dif_neg (by omega), dif_neg (by omega), dif_neg (by omega)]
  exact congrArg _ (congrArg (ix3 0 r) (Fin.ext (by show _ = l.val; simp only []; omega)))

/-- The heads in the kernel's order, as the gather's start indices. -/
def heads : IVec S2x4x1 32 :=
  broadcastInDim S2x4x1 ![0, 1] bcast_S2x4_S2x4x1_0_1 (select (constantI S2x4 1 0#1) (addi (fun i => lit0 (S2x4.rowMajor i)) (broadcastInDim S2x4 ![] bcast_S_S2x4 (constantI S_ 32 8#32))) (fun i => lit0 (S2x4.rowMajor i)))

/-- The start index of a head group's `j`-th place. -/
theorem heads_apply (hk : Fin 2) (j : Fin 4) : heads (ix3 hk j 0) = lit0 (S2x4.rowMajor (ix2 hk j)) := by
  pointwise [heads]

/-- The kernel's order of the heads, as numbers. -/
theorem heads_val : ∀ (hk : Fin 2) (j : Fin 4), min (lit0 (S2x4.rowMajor (ix2 hk j))).toInt.toNat (8 - 1) = hk.val * 4 + (Att.ord j).val := by
  decide +kernel

/-- The sinks' row the region finds. -/
theorem V_v16 (c : Dev nD) : (V m c main_v16 : S2x1x512.Idx → EReal) =
    shapeCast S2x1x512 (shapeCast S2x512 (broadcastInDim S2x4x128 ![0, 1] bcast_S2x4_S2x4x128_0_1
      (Host.gather gather_S8_S2x4x1_S2x4_n_0_n_n_0_2_1 (sArr m c : FVec Ideal S8 .f32) heads)) shapeCasts_S2x4x128_S2x512) shapeCasts_S2x512_S2x1x512 := by
  unfold_abbrev_sides
  after_results
  rfl

/-- The gathered sinks: a head's sink at its place. -/
theorem gather_apply (s : FVec Ideal S8 .f32) (hk : Fin 2) (j : Fin 4) (h : hk.val * 4 + (Att.ord j).val < 8) :
    Host.gather gather_S8_S2x4x1_S2x4_n_0_n_n_0_2_1 s heads (ix2 hk j) = s (ix1 ⟨hk.val * 4 + (Att.ord j).val, h⟩) := by
  refine (ValueIdx.gather_take_apply (N := 8) (R := 2) (C := 4) (by decide) _ s heads (ix2 hk j)).trans ?_
  refine congrArg s (congrArg ix1 (Fin.ext ?_))
  show min (heads (ix3 hk j 0)).toInt.toNat (8 - 1) = _
  rw [heads_apply, heads_val]

/-- The sinks' row at a head group, a place and a query. -/
theorem V_s (c : Dev nD) (hk : Fin 2) (j : Fin 4) (r : Fin 128) (h' : j.val * 128 + r.val < 512) (h : hk.val * 4 + (Att.ord j).val < 8) :
    (V m c main_v16 : S2x1x512.Idx → EReal) (ix3 hk 0 ⟨j.val * 128 + r.val, h'⟩) = sArr m c (ix1 ⟨hk.val * 4 + (Att.ord j).val, h⟩) := by
  rw [V_v16, ← gather_apply (sArr m c) hk j h]
  generalize Host.gather gather_S8_S2x4x1_S2x4_n_0_n_n_0_2_1 (sArr m c : FVec Ideal S8 .f32) heads = G
  pointwise

/-- A point of the grid, as a block below 32. -/
theorem lt_N (t : Fin cfg0.N) : t.val < 32 := lt_of_lt_of_eq t.isLt (by decide)

/-- The windows' block indices at a point. -/
theorem idx (t : Fin cfg0.N) : (win0_0.index t 0 = t.val ∧ win0_0.index t 1 = 9) ∧ (win0_1.index t 0 = t.val ∧ win0_1.index t 1 = 42) ∧ (win0_2.index t 0 = t.val ∧ win0_2.index t 1 = 43)
   ∧ (win0_3.index t 0 = 4 * t.val - 1 ∧ win0_3.index t 1 = 42) ∧ (win0_4.index t 0 = 4 * t.val - 1 ∧ win0_4.index t 1 = 43)
   ∧ (win0_5.index t 0 = 0 ∧ win0_5.index t 1 = 0 ∧ win0_5.index t 2 = 0) ∧ (win0_6.index t 0 = t.val ∧ win0_6.index t 1 = 0) :=
  (by decide +kernel : ∀ t : Fin grid0.N, (win0_0.index t 0 = t.val ∧ win0_0.index t 1 = 9) ∧ (win0_1.index t 0 = t.val ∧ win0_1.index t 1 = 42) ∧ (win0_2.index t 0 = t.val ∧ win0_2.index t 1 = 43)
   ∧ (win0_3.index t 0 = 4 * t.val - 1 ∧ win0_3.index t 1 = 42) ∧ (win0_4.index t 0 = 4 * t.val - 1 ∧ win0_4.index t 1 = 43)
   ∧ (win0_5.index t 0 = 0 ∧ win0_5.index t 1 = 0 ∧ win0_5.index t 2 = 0) ∧ (win0_6.index t 0 = t.val ∧ win0_6.index t 1 = 0)) t

/-- The grid's coordinate at a point. -/
theorem coord (t : Fin cfg0.N) : (cfg0.grid.coords t 0).val = t.val :=
  (by decide +kernel : ∀ t : Fin grid0.N, (grid0.coords t 0).val = t.val) t

/-- A block of the queries: 512 rows. -/
theorem iblk0 (c : Dev nD) (t : Fin cfg0.N) (a : Fin 512) (k : Fin 512) (h : t.val * 512 + a.val < 16384) :
    (iblk m c 0 t : S512x512.Idx → EReal) (ix2 a k) = qArr m c (ix3 0 ⟨t.val * 512 + a.val, h⟩ k) := by
  have e := (idx t).1
  refine Eq.trans ?_ (V_q m c ⟨t.val * 512 + a.val, h⟩ k (by omega))
  show (V m c main_v8 : S16384x5632.Idx → EReal) _ = _
  refine congrArg _ (funext fun d => Fin.ext ?_)
  match d with
  | ⟨0, _⟩ => show win0_0.index t 0 * 512 + 1 * a.val = t.val * 512 + a.val; rw [e.1, Nat.one_mul]
  | ⟨1, _⟩ => show win0_0.index t 1 * 512 + 1 * k.val = 4608 + k.val; rw [e.2]; omega

/-- A block of the keys: 512 rows. -/
theorem iblk1 (c : Dev nD) (t : Fin cfg0.N) (a : Fin 512) (k : Fin 128) (h : t.val * 512 + a.val < 16384) :
    (iblk m c 1 t : S512x128.Idx → EReal) (ix2 a k) = kArr m c (ix3 0 ⟨t.val * 512 + a.val, h⟩ k) := by
  have e := (idx t).2.1
  refine Eq.trans ?_ (V_k m c ⟨t.val * 512 + a.val, h⟩ k (by omega))
  show (V m c main_v8 : S16384x5632.Idx → EReal) _ = _
  refine congrArg _ (funext fun d => Fin.ext ?_)
  match d with
  | ⟨0, _⟩ => show win0_1.index t 0 * 512 + 1 * a.val = t.val * 512 + a.val; rw [e.1, Nat.one_mul]
  | ⟨1, _⟩ => show win0_1.index t 1 * 128 + 1 * k.val = 5376 + k.val; rw [e.2]; omega

/-- A block of the values: 512 rows. -/
theorem iblk2 (c : Dev nD) (t : Fin cfg0.N) (a : Fin 512) (k : Fin 128) (h : t.val * 512 + a.val < 16384) :
    (iblk m c 2 t : S512x128.Idx → EReal) (ix2 a k) = vArr m c (ix3 0 ⟨t.val * 512 + a.val, h⟩ k) := by
  have e := (idx t).2.2.1
  refine Eq.trans ?_ (V_v m c ⟨t.val * 512 + a.val, h⟩ k (by omega))
  show (V m c main_v8 : S16384x5632.Idx → EReal) _ = _
  refine congrArg _ (funext fun d => Fin.ext ?_)
  match d with
  | ⟨0, _⟩ => show win0_2.index t 0 * 512 + 1 * a.val = t.val * 512 + a.val; rw [e.1, Nat.one_mul]
  | ⟨1, _⟩ => show win0_2.index t 1 * 128 + 1 * k.val = 5504 + k.val; rw [e.2]; omega

/-- The keys' halo: the 128 rows before the block's. -/
theorem iblk3 (c : Dev nD) (t : Fin cfg0.N) (a : Fin 128) (k : Fin 128) (h : (4 * t.val - 1) * 128 + a.val < 16384) :
    (iblk m c 3 t : S128x128.Idx → EReal) (ix2 a k) = kArr m c (ix3 0 ⟨(4 * t.val - 1) * 128 + a.val, h⟩ k) := by
  have e := (idx t).2.2.2.1
  refine Eq.trans ?_ (V_k m c ⟨(4 * t.val - 1) * 128 + a.val, h⟩ k (by omega))
  show (V m c main_v8 : S16384x5632.Idx → EReal) _ = _
  refine congrArg _ (funext fun d => Fin.ext ?_)
  match d with
  | ⟨0, _⟩ => show win0_3.index t 0 * 128 + 1 * a.val = (4 * t.val - 1) * 128 + a.val; rw [e.1, Nat.one_mul]
  | ⟨1, _⟩ => show win0_3.index t 1 * 128 + 1 * k.val = 5376 + k.val; rw [e.2]; omega

/-- The values' halo: the 128 rows before the block's. -/
theorem iblk4 (c : Dev nD) (t : Fin cfg0.N) (a : Fin 128) (k : Fin 128) (h : (4 * t.val - 1) * 128 + a.val < 16384) :
    (iblk m c 4 t : S128x128.Idx → EReal) (ix2 a k) = vArr m c (ix3 0 ⟨(4 * t.val - 1) * 128 + a.val, h⟩ k) := by
  have e := (idx t).2.2.2.2.1
  refine Eq.trans ?_ (V_v m c ⟨(4 * t.val - 1) * 128 + a.val, h⟩ k (by omega))
  show (V m c main_v8 : S16384x5632.Idx → EReal) _ = _
  refine congrArg _ (funext fun d => Fin.ext ?_)
  match d with
  | ⟨0, _⟩ => show win0_4.index t 0 * 128 + 1 * a.val = (4 * t.val - 1) * 128 + a.val; rw [e.1, Nat.one_mul]
  | ⟨1, _⟩ => show win0_4.index t 1 * 128 + 1 * k.val = 5504 + k.val; rw [e.2]; omega

/-- The sinks, one row at every point. -/
theorem iblk5 (c : Dev nD) (t : Fin cfg0.N) (hk : Fin 2) (j : Fin 4) (r : Fin 128) (h' : j.val * 128 + r.val < 512) (h : hk.val * 4 + (Att.ord j).val < 8) :
    (iblk m c 5 t : S2x1x512.Idx → EReal) (ix3 hk 0 ⟨j.val * 128 + r.val, h'⟩) = sArr m c (ix1 ⟨hk.val * 4 + (Att.ord j).val, h⟩) := by
  have e := (idx t).2.2.2.2.2.1
  refine Eq.trans ?_ (V_s m c hk j r h' h)
  show (V m c main_v16 : S2x1x512.Idx → EReal) _ = _
  refine congrArg _ (funext fun d => Fin.ext ?_)
  match d with
  | ⟨0, _⟩ => show win0_5.index t 0 * 2 + 1 * hk.val = hk.val; rw [e.1]; omega
  | ⟨1, _⟩ => show win0_5.index t 1 * 1 + 1 * 0 = 0; rw [e.2.1]
  | ⟨2, _⟩ => show win0_5.index t 2 * 512 + 1 * (j.val * 128 + r.val) = j.val * 128 + r.val; rw [e.2.2]; omega

/-! ## The whole result -/

/-- The key or value rows that block `B`'s queries may see: its own 128 and the 128 before them, zeros before the sequence. -/
def win (K : S1x16384x128.Idx → EReal) (B : Fin 128) (x : Fin 256) (l : Fin 128) : EReal :=
  if h : 128 ≤ B.val * 128 + x.val then K (ix3 0 ⟨B.val * 128 + x.val - 128, by omega⟩ l) else 0

/-- The keys of its window that a query sees. -/
def vis (B : Fin 128) (x : Fin 256) (r : Fin 128) : Prop := (x.val ≤ r.val + 128 ∧ r.val < x.val) ∧ 128 ≤ B.val * 128 + x.val

instance (B : Fin 128) (x : Fin 256) (r : Fin 128) : Decidable (vis B x r) := by unfold vis; infer_instance

/-- The masked scores of query `r` of block `B` against its 256 keys, at head `hk * 4 + g`. -/
def sc (q : S1x16384x512.Idx → EReal) (k : S1x16384x128.Idx → EReal) (B : Fin 128) (hk : Fin 2) (g : Fin 4) (r : Fin 128) : Fin 256 → EReal :=
  scores (win k B) (fun r l => q (ix3 0 ⟨B.val * 128 + r.val, by omega⟩ l)) (vis B) hk g r

/-- One entry of the result, in the kernel's order of work. -/
def glob (q : S1x16384x512.Idx → EReal) (k v : S1x16384x128.Idx → EReal) (s : S8.Idx → EReal) (B : Fin 128) (r : Fin 128) (j : Fin 4) (hk : Fin 2) (d : Fin 64) : EReal :=
  Att.kcol (sc q k B hk (Att.ord j) r) (s (ix1 ⟨hk.val * 4 + (Att.ord j).val, by omega⟩)) (fun x => win v B x ⟨hk.val * 64 + d.val, by omega⟩)

/-- The whole result at a row and a column. -/
def whole (q : S1x16384x512.Idx → EReal) (k v : S1x16384x128.Idx → EReal) (s : S8.Idx → EReal) (R : Fin 16384) (C : Fin 512) : EReal :=
  glob q k v s ⟨R.val / 128, by omega⟩ ⟨R.val % 128, by omega⟩ ⟨C.val / 128, by omega⟩ ⟨C.val % 128 / 64, by omega⟩ ⟨C.val % 64, by omega⟩

/-- The result array as the claim names it. -/
def W (c : Dev nD) : S16384x512.Idx → EReal := fun i => whole (qArr m c) (kArr m c) (vArr m c) (sArr m c) (i 0) (i 1)

/-- A point's rows are the rows of its block's window, wherever they lie in the sequence. -/
theorem rows_win (X : Vec Ideal S512x128 .bf16) (Y : Vec Ideal S128x128 .bf16) (K : S1x16384x128.Idx → EReal) (n : Nat) (hn : n < 32)
    (hX : ∀ (a : Fin 512) (l : Fin 128) (h : n * 512 + a.val < 16384), X (ix2 a l) = K (ix3 0 ⟨n * 512 + a.val, h⟩ l))
    (hY : ∀ (a l : Fin 128) (h : (4 * n - 1) * 128 + a.val < 16384), Y (ix2 a l) = K (ix3 0 ⟨(4 * n - 1) * 128 + a.val, h⟩ l))
    (a : Fin 4) (x : Fin 256) (l : Fin 128) (B : Fin 128) (hB : B.val = 4 * n + a.val) (hv : 128 ≤ B.val * 128 + x.val) :
    rows X Y a x l = win K B x l := by
  unfold rows win
  rw [dif_pos hv]
  split
  · rename_i h
    rw [hY _ _ (by simp only []; omega)]
    exact congrArg K (congrArg (ix3 0 · l) (Fin.ext (by simp only []; omega)))
  · rename_i h
    rw [hX _ _ (by simp only []; omega)]
    exact congrArg K (congrArg (ix3 0 · l) (Fin.ext (by simp only []; omega)))

/-- A point's entry is the whole result's. -/
theorem entry_glob (c : Dev nD) (t : Fin cfg0.N) (a : Fin 4) (r : Fin 128) (j : Fin 4) (hk : Fin 2) (d : Fin 64) (B : Fin 128) (hB : B.val = 4 * t.val + a.val) :
    entry (cfg0.grid.coords t) (iblk m c 0 t) (iblk m c 1 t) (iblk m c 2 t) (iblk m c 3 t) (iblk m c 4 t) (iblk m c 5 t) a r j hk d
      = glob (qArr m c) (kArr m c) (vArr m c) (sArr m c) B r j hk d := by
  have ht := lt_N t
  have hv : ∀ x : Fin 256, seen (cfg0.grid.coords t 0).val a x r ↔ vis B x r := by
    intro x
    unfold seen vis
    rw [coord t, hB]
    constructor <;> intro h <;> refine ⟨h.1, ?_⟩ <;> omega
  have hsc : scores (rows (iblk m c 1 t) (iblk m c 3 t) a) (fun r l => (iblk m c 0 t : S512x512.Idx → EReal) (ix2 ⟨a.val * 128 + r.val, by omega⟩ l)) (seen (cfg0.grid.coords t 0).val a) hk (Att.ord j) r
      = sc (qArr m c) (kArr m c) B hk (Att.ord j) r := by
    funext x
    unfold sc scores
    by_cases h : vis B x r
    · rw [if_pos h, if_pos ((hv x).mpr h)]
      refine congrArg₂ _ ?_ rfl
      unfold dot
      refine congrArg₂ _ (Finset.sum_congr rfl fun e _ => congrArg₂ _ ?_ ?_) rfl
      · exact rows_win _ _ (kArr m c) t.val ht (iblk1 m c t) (iblk3 m c t) a x _ B hB h.2
      · refine (iblk0 m c t _ _ (by simp only []; omega)).trans ?_
        exact congrArg (qArr m c) (congrArg (ix3 0 · _) (Fin.ext (by simp only []; omega)))
    · rw [if_neg h, if_neg (fun h' => h ((hv x).mp h'))]
  unfold entry glob
  rw [hsc, iblk5 m c t hk j r (by omega) (by omega)]
  refine Att.kcol_congr _ _ _ _ fun x hx => ?_
  have h : vis B x r := by
    by_contra h
    exact hx (by unfold sc scores; exact if_neg h)
  exact rows_win _ _ (vArr m c) t.val ht (iblk2 m c t) (iblk4 m c t) a x _ B hB h.2

/-- What point `t` writes back is its block of the whole result. -/
theorem flushed_eq (c : Dev nD) (t : Fin cfg0.N) :
    (dats m 0 c).flushed 6 t = (win0_6.blk t).view.read (Elt Ideal) (W m c) := by
  rw [Value.flushed6]
  funext y
  change S512x512.Idx at y
  have ht := lt_N t
  obtain ⟨a, l, rfl⟩ : ∃ (a : Fin 512) (l : Fin 512), y = ix2 a l := ⟨y 0, y 1, eq_ix2 y⟩
  have hr : t.val * 512 + a.val < 16384 := by have := a.isLt; omega
  refine (out_apply _ _ _ _ _ _ _ (ix2 a l)).trans ?_
  have e : (win0_6.blk t).view.emb (ix2 a l) = (ix2 ⟨t.val * 512 + a.val, hr⟩ l : S16384x512.Idx) := by
    funext d
    apply Fin.ext
    match d with
    | ⟨0, _⟩ => show win0_6.index t 0 * 512 + 1 * a.val = t.val * 512 + a.val; rw [(idx t).2.2.2.2.2.2.1, Nat.one_mul]
    | ⟨1, _⟩ => show win0_6.index t 1 * 512 + 1 * l.val = l.val; rw [(idx t).2.2.2.2.2.2.2]; omega
  refine Eq.trans ?_ (congrArg (W m c) e).symm
  show point _ _ _ _ _ _ _ a l = whole _ _ _ _ ⟨t.val * 512 + a.val, hr⟩ l
  unfold point whole
  rw [entry_glob m c t _ _ _ _ _ ⟨(t.val * 512 + a.val) / 128, by omega⟩ (by simp only []; omega)]
  refine congrArg (fun r => glob _ _ _ _ _ r _ _ _) (Fin.ext ?_)
  simp only []
  omega

/-- An index of the result is in point `t`'s block exactly when its row is among the point's 512. -/
theorem mem_blk (t : Fin cfg0.N) (i : S16384x512.Idx) (h : t.val = (i 0).val / 512) :
    i ∈ ((cfg0.win 6).blk t).view.set := by
  show i ∈ ((View.whole main_v17).slice (win0_6.rect t)).set
  rw [View.set_slice_whole, Rect.mem_set_unit]
  have h0 : (i 0).val < 16384 := (i 0).isLt
  have h1 : (i 1).val < 512 := (i 1).isLt
  intro d
  match d with
  | ⟨0, _⟩ => show win0_6.index t 0 * 512 ≤ (i 0).val ∧ (i 0).val < win0_6.index t 0 * 512 + 512; rw [(idx t).2.2.2.2.2.2.1]; omega
  | ⟨1, _⟩ => show win0_6.index t 1 * 512 ≤ (i 1).val ∧ (i 1).val < win0_6.index t 1 * 512 + 512; rw [(idx t).2.2.2.2.2.2.2]; omega

/-- The result array after the run is `W`. -/
theorem final (c : Dev nD) : (dats m 0 c).arrAt 6 cfg0.N = W m c :=
  (dats m 0 c).arrAt_eq_of_cover 6 (W m c) (fun t _ => flushed_eq m c t) fun i => by
    have h0 : ((i : S16384x512.Idx) 0).val < 16384 := ((i : S16384x512.Idx) 0).isLt
    have hN : cfg0.N = 32 := by decide
    exact ⟨⟨((i : S16384x512.Idx) 0).val / 512, by omega⟩, flush0_6 _, mem_blk _ i rfl⟩

end Cert.KernelIdeal.Swa

end
-- ==== Proof.SwaRef.lean ====
module

public import proofs.«01_k».proof.Defs
public import proofs.«01_k».proof.Proof.SwaKernel
public import proofs.«01_k».proof.Proof.Gen.ReferenceIdeal.Read
public import Idealize.ShloMosaic.Lib.Pointwise
public import Idealize.ShloMosaic.Lib.Affine
public import Mathlib.Analysis.SpecialFunctions.Pow.Real

@[expose] public section

set_option backward.proofsInPublic true
set_option maxRecDepth 16384

noncomputable section

open Idealize.ShloMosaic Idealize.ShloMosaic.TcCoe Idealize.SL.Sem
open Cert.KernelIdeal.Swa (win vis sc dot scores whole glob)

namespace Cert.ReferenceIdeal.Swa

open Cert.ReferenceIdeal Cert.ReferenceIdeal.Read Cert.ReferenceIdeal.Facts

variable [Cert.ReferenceIdeal.Facts]
variable (x0 : FVec Ideal S1x16384x512 .f32) (x1 x2 : FVec Ideal S1x16384x128 .f32) (x3 : FVec Ideal S8 .f32)

/-- The scale's word is one eighth. -/
theorem eighth : Ideal.ofBits .f32 1040187392#32 = ((1 / 8 : ℝ) : EReal) := by
  simp [Ideal.ofBits, Ideal.ieee, -EReal.coe_mul]; norm_num
/-- The slopes' base. -/
theorem two : Ideal.ofBits .f32 1073741824#32 = ((2 : ℝ) : EReal) := by
  simp [Ideal.ofBits, Ideal.ieee, -EReal.coe_mul]; norm_num
/-- The slopes' divisor. -/
theorem eight : Ideal.ofBits .f32 1090519040#32 = ((8 : ℝ) : EReal) := by
  simp [Ideal.ofBits, Ideal.ieee, -EReal.coe_mul]; norm_num
/-- The slopes' factor. -/
theorem meight : Ideal.ofBits .f32 3238002688#32 = ((-8 : ℝ) : EReal) := by
  simp [Ideal.ofBits, Ideal.ieee, -EReal.coe_mul, -EReal.coe_neg]; norm_num
/-- The window's length. -/
theorem win_len : Ideal.ofBits .f32 1124073472#32 = ((128 : ℝ) : EReal) := by
  simp [Ideal.ofBits, Ideal.ieee, -EReal.coe_mul]; norm_num

/-- The keys of a block's window. -/
theorem v7_apply (b : Fin 128) (x : Fin 256) (hk : Fin 2) (d : Fin 64) :
    val_main_v7 (F := Ideal) x1 (ix5 0 b x hk d) = win x1 b x ⟨hk.val * 64 + d.val, by omega⟩ := by
  pointwise [val_main_v7, val_main_v6, val_main_v5, val_main_v4, val_main_v3, val_main_v1, val_main_cst]
  unfold win
  split
  · split
    · rw [dif_neg (by omega)]
    · rw [dif_pos (by omega)]
      exact congrArg x1 (congrArg (ix3 0 · _) (Fin.ext (by simp only []; omega)))
  · rw [dif_pos (by omega)]
    exact congrArg x1 (congrArg (ix3 0 · _) (Fin.ext (by simp only []; omega)))

/-- The values of a block's window. -/
theorem v12_apply (b : Fin 128) (x : Fin 256) (hk : Fin 2) (d : Fin 64) :
    val_main_v12 (F := Ideal) x2 (ix5 0 b x hk d) = win x2 b x ⟨hk.val * 64 + d.val, by omega⟩ := by
  pointwise [val_main_v12, val_main_v11, val_main_v10, val_main_v9, val_main_v8, val_main_v2, val_main_cst_0]
  unfold win
  split
  · split
    · rw [dif_neg (by omega)]
    · rw [dif_pos (by omega)]
      exact congrArg x2 (congrArg (ix3 0 · _) (Fin.ext (by simp only []; omega)))
  · rw [dif_pos (by omega)]
    exact congrArg x2 (congrArg (ix3 0 · _) (Fin.ext (by simp only []; omega)))

/-- The scaled product of a key and a query. -/
theorem v16_apply (b : Fin 128) (hk : Fin 2) (g : Fin 4) (q : Fin 128) (x : Fin 256) :
    val_main_v16 (F := Ideal) x0 x1 (ix6 0 b hk g q x) = dot (win x1 b) (fun r l => x0 (ix3 0 ⟨b.val * 128 + r.val, by omega⟩ l)) hk g x q := by
  unfold dot
  simp only [← v7_apply]
  pointwise [val_main_v16, val_main_v15, val_main_v14, val_main_v13, val_main_v0, val_main_cst_1]
  rw [eighth]

/-- The distance of a query and a key. -/
theorem v26_apply (q : Fin 128) (x : Fin 256) : val_main_v26 (F := Ideal) (ix2 q x) = ((((q.val : Int) + 128 - x.val : Int) : ℝ) : EReal) := by
  pointwise [val_main_v26, val_main_v25, val_main_v24, val_main_v23, val_main_v22, val_main_v21, val_main_c, val_main_v20, val_main_v19, val_main_v18, val_main_v17]
  show (((BitVec.ofNat 32 q.val + 128#32 - BitVec.ofNat 32 x.val).toInt : ℝ) : EReal) = _
  rw [Cert.KernelIdeal.Swa.dist_toInt _ _ q.isLt x.isLt]

/-- The slopes. -/
theorem v57_apply (h : Fin 8) : val_main_v57 (F := Ideal) (ix1 h) = ((Att.slope h.val : ℝ) : EReal) := by
  pointwise [val_main_v57, val_main_v56, val_main_cst_10, val_main_v55, val_main_v54, val_main_cst_9, val_main_v53, val_main_v52, val_main_cst_8, val_main_v51, val_main_v50, val_main_cst_7, val_main_v49, val_main_v48]
  have hs : (FloatOps.sitofp (F := Ideal) .f32 (BitVec.ofNat 32 h.val) : EReal) = ((h.val : ℝ) : EReal) := by
    show (((BitVec.ofNat 32 h.val).toInt : ℝ) : EReal) = _
    rw [(by decide +kernel : ∀ h : Fin 8, (BitVec.ofNat 32 h.val).toInt = (h.val : Int)) h]
    rfl
  rw [hs, two, eight, meight, show (1 : EReal) = ((1 : ℝ) : EReal) from rfl, ← EReal.coe_add, ← EReal.coe_mul, Ideal.div_coe (by norm_num : (8 : ℝ) ≠ 0), ← EReal.coe_mul]
  show ((Real.rpow 2 _ : ℝ) : EReal) = _
  congr 1
  show (2 : ℝ) ^ (-8 * ((h.val : ℝ) + 1) * (1 / 8)) = _
  rw [show -8 * ((h.val : ℝ) + 1) * (1 / 8) = -((h.val + 1 : ℕ) : ℝ) by push_cast; ring, Real.rpow_neg (by norm_num), Real.rpow_natCast]
  unfold Att.slope
  rw [one_div, inv_pow]

/-- A decision's bit is set when the decision is true. -/
theorem bit_one (p : Bool) : BitVec.ofBool p = 1#1 ↔ p = true := by cases p <;> decide

/-- The mask. -/
theorem v47_apply (b q : Fin 128) (x : Fin 256) : val_main_v47 (F := Ideal) (ix3 b q x) = 1#1 ↔ vis b x q := by
  have e1 : val_main_v47 (F := Ideal) (ix3 b q x) = IntOp.andi (val_main_v40 (F := Ideal) (ix2 q x)) (val_main_v43 (F := Ideal) (ix2 b x)) := by
    pointwise [val_main_v47, val_main_v46, val_main_v45, val_main_v44, val_main_v41]
  have e2 : val_main_v40 (F := Ideal) (ix2 q x) = 1#1 ↔ (x.val ≤ q.val + 128 ∧ q.val < x.val) := by
    pointwise [val_main_v40, val_main_v39, val_main_v38, val_main_cst_5, val_main_v37, val_main_v36, val_main_cst_4]
    rw [IntOp.andi_eq_one, v26_apply, win_len, bit_one, bit_one, decide_eq_true_iff, decide_eq_true_iff, EReal.coe_lt_coe_iff, EReal.coe_nonneg, Int.cast_nonneg_iff,
      show (128 : ℝ) = ((128 : Int) : ℝ) by norm_num, Int.cast_lt]
    omega
  have e3 : val_main_v43 (F := Ideal) (ix2 b x) = 1#1 ↔ 128 ≤ b.val * 128 + x.val := by
    pointwise [val_main_v43, val_main_v42, val_main_c_6, val_main_v35, val_main_v34, val_main_v33, val_main_v32, val_main_v31, val_main_c_3, val_main_v30, val_main_v29, val_main_c_2, val_main_v28, val_main_v27, val_main_v20, val_main_v19]
    rw [IntOp.cmpi_sge]
    have e : (IntOp.addi (IntOp.subi (IntOp.muli (BitVec.ofNat 32 b.val) 128#32) 128#32) (BitVec.ofNat 32 x.val)).toInt = (b.val : Int) * 128 - 128 + x.val := by
      show (BitVec.ofNat 32 b.val * 128#32 - 128#32 + BitVec.ofNat 32 x.val).toInt = _
      rw [BitVec.toInt_add, (by decide +kernel : ∀ b : Fin 128, (BitVec.ofNat 32 b.val * 128#32 - 128#32).toInt = (b.val : Int) * 128 - 128) b]
      simp only [BitVec.toInt_ofNat', Int.bmod]
      omega
    rw [e, show (0#32 : BitVec 32).toInt = 0 by decide]
    omega
  rw [e1, IntOp.andi_eq_one, e2, e3]
  rfl

/-- The masked scores. -/
theorem v68_apply (b : Fin 128) (hk : Fin 2) (g : Fin 4) (q : Fin 128) (x : Fin 256) :
    val_main_v68 (F := Ideal) x0 x1 (ix6 0 b hk g q x) = sc x0 x1 b hk g q x := by
  pointwise [val_main_v68, val_main_call0_v2, val_main_call0_v1, val_main_call0_v0, val_main_cst_11, val_main_v67, val_main_v66, val_main_v65, val_main_v64, val_main_v63, val_main_v62, val_main_v61, val_main_v60, val_main_v59, val_main_v58]
  rw [v16_apply, v57_apply, v26_apply, ← EReal.coe_mul]
  unfold sc scores
  by_cases h : vis b x q
  · rw [if_pos h, (v47_apply b q x).mpr h]
    rfl
  · rw [if_neg h, ValueIdx.eq_zero_of_ne_one (fun h' => h ((v47_apply b q x).mp h'))]
    exact Cert.KernelIdeal.Swa.negInf

/-- The masked scores with the sink appended. -/
theorem v72_apply (b : Fin 128) (hk : Fin 2) (g : Fin 4) (q : Fin 128) (x : Fin 257) :
    val_main_v72 (F := Ideal) x0 x1 x3 (ix6 0 b hk g q x) = Att.app (sc x0 x1 b hk g q) (x3 (ix1 ⟨hk.val * 4 + g.val, by omega⟩)) x := by
  pointwise [val_main_v72, val_main_v71, val_main_v70, val_main_v69]
  unfold Att.app
  simp only [v68_apply]

/-- The result's columns: the heads in the kernel's order. -/
theorem v93_apply (b q : Fin 128) (j : Fin 4) (hk : Fin 2) (d : Fin 64) :
    val_main_v93 (F := Ideal) x0 x1 x2 x3 (ix2 ⟨b.val * 128 + q.val, by omega⟩ ⟨j.val * 128 + hk.val * 64 + d.val, by omega⟩)
      = val_main_v85 (F := Ideal) x0 x1 x2 x3 (ix6 0 b hk d (Att.ord j) q) := by
  pointwise [val_main_v93, val_main_v92, val_main_v91, val_main_v90, val_main_v89, val_main_v88, val_main_v87, val_main_v86]
  generalize val_main_v85 (F := Ideal) x0 x1 x2 x3 = G
  revert j
  intro j
  fin_cases j <;> rfl

/-- The maximum of the masked scores and the sink. -/
theorem v73_apply (b : Fin 128) (hk : Fin 2) (g : Fin 4) (q : Fin 128) :
    val_main_v73 (F := Ideal) x0 x1 x3 (ix5 0 b hk g q) = Finset.fold max ⊥ (Att.app (sc x0 x1 b hk g q) (x3 (ix1 ⟨hk.val * 4 + g.val, by omega⟩))) Finset.univ := by
  have e : ∀ x : Fin 257, val_main_v72 (F := Ideal) x0 x1 x3 (ix6 0 b hk g q x) = _ := v72_apply x0 x1 x3 b hk g q
  rw [← funext e]
  unfold val_main_v73
  generalize val_main_v72 (F := Ideal) x0 x1 x3 = G
  rw [Host.reduce_eq_fold_single (a := 5) _ _ _ _ (by decide)]
  have hi : val_main_cst_12 (F := Ideal) (Shape.Idx.first Gen.h_S_) = ⊥ := (val_main_cst_12_apply _).trans Cert.KernelIdeal.Swa.negInf
  rw [hi]
  refine congrArg (fun f => Finset.fold max ⊥ f Finset.univ) (funext fun x => congrArg G ?_)
  funext a
  exact Fin.ext (match a with
    | ⟨0, _⟩ => rfl
    | ⟨1, _⟩ => rfl
    | ⟨2, _⟩ => rfl
    | ⟨3, _⟩ => rfl
    | ⟨4, _⟩ => rfl
    | ⟨5, _⟩ => rfl)

/-- The exponential of a difference from a maximum, in the operations' names. -/
theorem exp_sub_max (a b c : EReal) : FloatOps.hostUnary (F := Ideal) (φ := .f32) .exp (FloatOps.subf (F := Ideal) (φ := .f32) a (FloatOps.maximumf (F := Ideal) (φ := .f32) b c)) = Ideal.exp (a - max b c) := rfl

/-- The exponentials: each masked score, and the sink, less the maximum. -/
theorem v79_apply (b : Fin 128) (hk : Fin 2) (g : Fin 4) (q : Fin 128) (x : Fin 257) :
    val_main_v79 (F := Ideal) x0 x1 x3 (ix6 0 b hk g q x) = Ideal.exp (Att.app (sc x0 x1 b hk g q) (x3 (ix1 ⟨hk.val * 4 + g.val, by omega⟩)) x
      - max ⊥ (Finset.fold max ⊥ (Att.app (sc x0 x1 b hk g q) (x3 (ix1 ⟨hk.val * 4 + g.val, by omega⟩))) Finset.univ)) := by
  rw [← v72_apply, ← v73_apply, ← exp_sub_max]
  have h : idx_main_v76 (idx_main_v77 (ix6 0 b hk g q x)) = ix5 0 b hk g q := eq_ix5 _
  have h5 : val_main_v74 (F := Ideal) (ix5 0 b hk g q) = ⊥ := (val_main_v74_apply _).trans ((val_main_cst_13_apply _).trans Cert.KernelIdeal.Swa.negInf)
  rw [val_main_v79_apply, val_main_v78_apply, val_main_v77_apply, val_main_v76_apply, h, val_main_v75_apply, h5]

/-- The normaliser. -/
theorem v80_apply (b : Fin 128) (hk : Fin 2) (g : Fin 4) (q : Fin 128) :
    val_main_v80 (F := Ideal) x0 x1 x3 (ix5 0 b hk g q) = 0 + ∑ x : Fin 257, val_main_v79 (F := Ideal) x0 x1 x3 (ix6 0 b hk g q x) := by
  refine (val_main_v80_apply x0 x1 x3 _).trans ?_
  generalize val_main_v79 (F := Ideal) x0 x1 x3 = G
  refine congrArg₂ _ ?_ (Finset.sum_congr rfl fun x _ => congrArg G ?_)
  · pointwise [val_main_cst_14]
  · exact eq_ix6 _

/-- The probabilities. -/
theorem v84_apply (b : Fin 128) (hk : Fin 2) (g : Fin 4) (q : Fin 128) (x : Fin 256) :
    val_main_v84 (F := Ideal) x0 x1 x3 (ix6 0 b hk g q x) = Ideal.div (val_main_v79 (F := Ideal) x0 x1 x3 (ix6 0 b hk g q ⟨x.val, by omega⟩)) (val_main_v80 (F := Ideal) x0 x1 x3 (ix5 0 b hk g q)) := by
  unfold val_main_v84 val_main_v83 val_main_v82 val_main_v81
  generalize val_main_v79 (F := Ideal) x0 x1 x3 = G
  generalize val_main_v80 (F := Ideal) x0 x1 x3 = H
  pointwise

/-- The weighted sum, over the probabilities and the values. -/
theorem v85_sum (b : Fin 128) (hk : Fin 2) (d : Fin 64) (g : Fin 4) (q : Fin 128) :
    val_main_v85 (F := Ideal) x0 x1 x2 x3 (ix6 0 b hk d g q)
      = ∑ x : Fin 256, val_main_v12 (F := Ideal) x2 (ix5 0 b x hk d) * val_main_v84 (F := Ideal) x0 x1 x3 (ix6 0 b hk g q x) := by
  refine (val_main_v85_apply x0 x1 x2 x3 _).trans ?_
  generalize val_main_v12 (F := Ideal) x2 = G
  generalize val_main_v84 (F := Ideal) x0 x1 x3 = H
  exact Finset.sum_congr rfl fun x _ => congrArg₂ _ (congrArg G (eq_ix5 _)) (congrArg H (eq_ix6 _))

/-- The weighted sum of the values, in the reference's order of work. -/
theorem v85_apply (b : Fin 128) (hk : Fin 2) (d : Fin 64) (g : Fin 4) (q : Fin 128) :
    val_main_v85 (F := Ideal) x0 x1 x2 x3 (ix6 0 b hk d g q)
      = Att.rcol (sc x0 x1 b hk g q) (x3 (ix1 ⟨hk.val * 4 + g.val, by omega⟩)) (fun x => win x2 b x ⟨hk.val * 64 + d.val, by omega⟩) := by
  rw [v85_sum]
  unfold Att.rcol
  refine Finset.sum_congr rfl fun x _ => ?_
  have ha : Att.app (sc x0 x1 b hk g q) (x3 (ix1 ⟨hk.val * 4 + g.val, by omega⟩)) ⟨x.val, by omega⟩ = sc x0 x1 b hk g q x := by
    unfold Att.app
    exact dif_pos x.isLt
  rw [v12_apply, v84_apply, v80_apply, v79_apply, ha]
  refine congrArg (_ * ·) (congrArg (Ideal.div _) (congrArg (0 + ·) (Finset.sum_congr rfl fun y _ => ?_)))
  exact v79_apply x0 x1 x3 b hk g q y

end Cert.ReferenceIdeal.Swa

end
-- ==== Proof.Swa.lean ====
module

public import proofs.«01_k».proof.Proof.SwaRef
public import Idealize.ShloMosaic.Lib.Quiescent

@[expose] public section

set_option backward.proofsInPublic true
set_option maxRecDepth 16384

noncomputable section

open Idealize.ShloMosaic Idealize.ShloMosaic.TcCoe Idealize.SL.Sem
open Cert.KernelIdeal (S1x16384x512 S1x16384x128 S16384x512)
open Cert.KernelIdeal.Swa

namespace Cert.Proof

/-- The largest word of a 32-bit float is +∞. -/
theorem posInf : Ideal.ofBits .f32 2139095040#32 = ⊤ := by
  simp [Ideal.ofBits, Ideal.ieee]

/-- A number whose magnitude is below +∞ is real. -/
theorem real_of_abs (x : EReal) (h : max x (-x) < ⊤) : ∃ r : ℝ, x = (r : EReal) := by
  induction x with
  | bot => simp at h
  | coe r => exact ⟨r, rfl⟩
  | top => simp at h

section Pre
variable [Cert.Pre_finite_scores.Facts] (q : FVec Ideal Cert.Pre_finite_scores.S1x16384x512 .f32) (k v : FVec Ideal Cert.Pre_finite_scores.S1x16384x128 .f32) (s : FVec Ideal Cert.Pre_finite_scores.S8 .f32)

/-- The precondition makes every query number real. -/
theorem real_q (h : (Cert.Pre_finite_scores.fn (F := Ideal) q k v s).1 = fun _ => 1#1) (r : Fin 16384) (l : Fin 512) : ∃ a : ℝ, q (ix3 0 r l) = (a : EReal) := by
  have e := congrFun h (ix3 0 r l)
  dsimp only [Cert.Pre_finite_scores.fn] at e
  have e' : BitVec.ofBool (decide (max (q (ix3 0 r l)) (-(q (ix3 0 r l))) < Ideal.ofBits .f32 2139095040#32)) = 1#1 := by
    refine Eq.trans ?_ e
    pointwise
    rfl
  rw [Cert.ReferenceIdeal.Swa.bit_one, decide_eq_true_iff, posInf] at e'
  exact real_of_abs _ e'

/-- The precondition makes every key number real. -/
theorem real_k (h : (Cert.Pre_finite_scores.fn (F := Ideal) q k v s).2.1 = fun _ => 1#1) (r : Fin 16384) (l : Fin 128) : ∃ a : ℝ, k (ix3 0 r l) = (a : EReal) := by
  have e := congrFun h (ix3 0 r l)
  dsimp only [Cert.Pre_finite_scores.fn] at e
  have e' : BitVec.ofBool (decide (max (k (ix3 0 r l)) (-(k (ix3 0 r l))) < Ideal.ofBits .f32 2139095040#32)) = 1#1 := by
    refine Eq.trans ?_ e
    pointwise
    rfl
  rw [Cert.ReferenceIdeal.Swa.bit_one, decide_eq_true_iff, posInf] at e'
  exact real_of_abs _ e'

/-- The precondition makes every sink real. -/
theorem real_s (h : (Cert.Pre_finite_scores.fn (F := Ideal) q k v s).2.2 = fun _ => 1#1) (r : Fin 8) : ∃ a : ℝ, s (ix1 r) = (a : EReal) := by
  have e := congrFun h (ix1 r)
  dsimp only [Cert.Pre_finite_scores.fn] at e
  have e' : BitVec.ofBool (decide (max (s (ix1 r)) (-(s (ix1 r))) < Ideal.ofBits .f32 2139095040#32)) = 1#1 := by
    refine Eq.trans ?_ e
    pointwise
    rfl
  rw [Cert.ReferenceIdeal.Swa.bit_one, decide_eq_true_iff, posInf] at e'
  exact real_of_abs _ e'

end Pre

/-- Scores of real queries and keys are never +∞. -/
theorem sc_ne_top (q : S1x16384x512.Idx → EReal) (k : S1x16384x128.Idx → EReal) (hq : ∀ r l, ∃ a : ℝ, q (ix3 0 r l) = (a : EReal)) (hkr : ∀ r l, ∃ a : ℝ, k (ix3 0 r l) = (a : EReal))
    (B : Fin 128) (hk : Fin 2) (g : Fin 4) (r : Fin 128) (x : Fin 256) : sc q k B hk g r x ≠ ⊤ := by
  unfold sc scores
  split
  · rename_i hv
    obtain ⟨a, ha⟩ : ∃ a : ℝ, dot (win k B) (fun r l => q (ix3 0 ⟨B.val * 128 + r.val, by omega⟩ l)) hk g x r = (a : EReal) := by
      have hw : ∀ l, ∃ a : ℝ, win k B x l = (a : EReal) := fun l => by
        unfold win
        rw [dif_pos hv.2]
        exact hkr _ _
      choose f hf using hq
      choose w hw using hw
      unfold dot
      simp only [hf, hw, ← EReal.coe_mul]
      rw [Att.coe_sum, ← EReal.coe_mul]
      exact ⟨_, rfl⟩
    rw [ha, ← EReal.coe_sub]
    exact EReal.coe_ne_top _
  · exact bot_ne_top

/-- The sliding-window attention call computes the reference's function, at the ideal instance, from finite queries, keys and sinks. -/
theorem algebraic_swa [Cert.ReferenceIdeal.Facts] [Cert.Pre_finite_scores.Facts] : Cert.algebraic_KernelIdeal_ReferenceIdeal_pre_finite_scores := by
  intro m g m' g' hpre hargs
  refine ⟨fun c => W m c, (θ_run Cert.KernelIdeal.defs _ _).mono (fun r h c => ?_) (Cert.KernelIdeal.Value.run_blocks (F := Ideal) m g),
    (θ_run Cert.ReferenceIdeal.defs _ _).mono (fun r h c => ?_) (Cert.ReferenceIdeal.Value.run (F := Ideal) m' g')⟩
  · exact ⟨(h c).1.trans (final m c), (h c).2⟩
  · refine ⟨(h c).1.trans ?_, (h c).2⟩
    obtain ⟨h0, h1, h2, h3⟩ := hargs c
    refine (Cert.ReferenceIdeal.Read.val_main_v93_eq (F := Ideal) m' c).trans ?_
    rw [h0, h1, h2, h3]
    obtain ⟨pq, pk, ps⟩ := hpre c
    have hq := real_q _ _ _ _ pq
    have hkr := real_k _ _ _ _ pk
    have hs := real_s _ _ _ _ ps
    funext i
    obtain ⟨R, C, rfl⟩ : ∃ (R : Fin 16384) (C : Fin 512), i = ix2 R C := ⟨i 0, i 1, eq_ix2 i⟩
    have e : (ix2 R C : S16384x512.Idx) = ix2 ⟨(⟨R.val / 128, by omega⟩ : Fin 128).val * 128 + (⟨R.val % 128, by omega⟩ : Fin 128).val, by simp only []; omega⟩
        ⟨(⟨C.val / 128, by omega⟩ : Fin 4).val * 128 + (⟨C.val % 128 / 64, by omega⟩ : Fin 2).val * 64 + (⟨C.val % 64, by omega⟩ : Fin 64).val, by simp only []; omega⟩ :=
      congrArg₂ _ (Fin.ext (by simp only []; omega)) (Fin.ext (by simp only []; omega))
    refine (congrArg _ e).trans ?_
    refine (Cert.ReferenceIdeal.Swa.v93_apply _ _ _ _ _ _ _ _ _).trans ?_
    refine (Cert.ReferenceIdeal.Swa.v85_apply _ _ _ _ _ _ _ _ _).trans ?_
    show _ = whole _ _ _ _ R C
    unfold whole glob
    obtain ⟨a, ha⟩ := hs ⟨(⟨C.val % 128 / 64, by omega⟩ : Fin 2).val * 4 + (Att.ord ⟨C.val / 128, by omega⟩).val, by omega⟩
    have ha' : sArr m c (ix1 ⟨(⟨C.val % 128 / 64, by omega⟩ : Fin 2).val * 4 + (Att.ord ⟨C.val / 128, by omega⟩).val, by omega⟩) = (a : EReal) := ha
    rw [ha']
    refine Eq.trans ?_ (Att.kcol_eq_rcol _ (sc_ne_top _ _ hq hkr _ _ _ _) a _).symm
    exact congrArg (fun z => Att.rcol _ z _) ha'

end Cert.Proof

end
-- ==== Proof.Down.lean ====
module

public import proofs.«01_k».proof.Defs
public import proofs.«01_k».proof.Proof.Gen.KernelDownIdeal.Value
public import proofs.«01_k».proof.Proof.Gen.ReferenceDownIdeal.Read
public import Idealize.ShloMosaic.Lib.Pipeline.Value
public import Idealize.ShloMosaic.Lib.Pointwise
public import Idealize.ShloMosaic.Lib.Quiescent
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.KernelDownIdeal.Dn

open Cert.KernelDownIdeal Cert.KernelDownIdeal.Gen

/-- Entry (row, column) of the down projection: the gated activations times layer 1's weight. -/
def proj (g : FVec Ideal ⟨2, ![16384, 5632]⟩ .bf16) (w : FVec Ideal ⟨3, ![2, 5632, 2048]⟩ .f32) (r : Fin 16384) (c : Fin 2048) : EReal :=
  ∑ k : Fin 5632, g (ix2 r k) * w (ix3 1 k c)

/-- Entry (row, column) of the block's result: the residual plus the gated, weighted RMS-normalised projection. -/
def spec (g : FVec Ideal ⟨2, ![16384, 5632]⟩ .bf16) (w : FVec Ideal ⟨3, ![2, 5632, 2048]⟩ .f32) (x : FVec Ideal ⟨2, ![16384, 2048]⟩ .f32)
    (pn : FVec Ideal ⟨1, ![2048]⟩ .f32) (g2 : FVec Ideal ⟨2, ![1, 2048]⟩ .f32) (r : Fin 16384) (c : Fin 2048) : EReal :=
  x (ix2 r c) + g2 (ix2 0 c) * (proj g w r c
    * Ideal.rsqrt (Ideal.div (∑ k : Fin 2048, proj g w r k * proj g w r k) (Ideal.ofBits .f32 0x45000000#32)
        + Ideal.ofBits .f32 0x358637BD#32) * pn (ix1 c))

open Cert.ReferenceDownIdeal.Read in
/-- The reference's result at (row, column) is `spec`. -/
theorem ref_apply [Cert.ReferenceDownIdeal.Facts] (g : FVec Ideal ⟨2, ![16384, 5632]⟩ .bf16) (w : FVec Ideal ⟨3, ![2, 5632, 2048]⟩ .f32) (x : FVec Ideal ⟨2, ![16384, 2048]⟩ .f32)
    (pn : FVec Ideal ⟨1, ![2048]⟩ .f32) (g2 : FVec Ideal ⟨2, ![1, 2048]⟩ .f32) (r : Fin 16384) (c : Fin 2048) :
    val_main_v19 (F := Ideal) g w x pn g2 (ix2 r c) = spec g w x pn g2 r c := by
  unfold spec proj
  pointwise [val_main_v0, val_main_v1, val_main_v2, val_main_v3, val_main_v4, val_main_cst, val_main_v5, val_main_v6, val_main_cst_0, val_main_v7, val_main_v8, val_main_cst_1, val_main_v9, val_main_v10, val_main_v11, val_main_v12, val_main_v13, val_main_v14, val_main_v15, val_main_v16, val_main_v17, val_main_v18, val_main_v19]

/-- What one grid point leaves in the output block, entry by entry: the same expression over the point's own blocks. -/
def blk (x0 : FVec Ideal ⟨2, ![512, 5632]⟩ .bf16) (x1 : FVec Ideal ⟨3, ![1, 5632, 2048]⟩ .bf16) (x2 : FVec Ideal ⟨2, ![512, 2048]⟩ .f32)
    (x3 x4 : FVec Ideal ⟨2, ![1, 2048]⟩ .f32) (a : Fin 512) (c : Fin 2048) : EReal :=
  x2 (ix2 a c) + x4 (ix2 0 c) * ((∑ k : Fin 5632, x0 (ix2 a k) * x1 (ix3 0 k c))
    * Ideal.rsqrt (Ideal.div (∑ l : Fin 2048, (∑ k : Fin 5632, x0 (ix2 a k) * x1 (ix3 0 k l)) * (∑ k : Fin 5632, x0 (ix2 a k) * x1 (ix3 0 k l)))
        (Ideal.ofBits .f32 0x45000000#32) + Ideal.ofBits .f32 0x358637BD#32) * x3 (ix2 0 c))

/-- The body's two stores are the two halves of `blk`. -/
theorem out_apply (x0 : FVec Ideal ⟨2, ![512, 5632]⟩ .bf16) (x1 : FVec Ideal ⟨3, ![1, 5632, 2048]⟩ .bf16) (x2 : FVec Ideal ⟨2, ![512, 2048]⟩ .f32)
    (x3 x4 : FVec Ideal ⟨2, ![1, 2048]⟩ .f32) (y : S512x2048.Idx) :
    out0_5 (F := Ideal) x0 x1 x2 x3 x4 y = blk x0 x1 x2 x3 x4 (y 0) (y 1) := by
  unfold out0_5
  refine View.canon_apply_of_pieces (Val := Elt Ideal) (e := .f32) (fun y : S512x2048.Idx => blk x0 x1 x2 x3 x4 (y 0) (y 1)) _ ?_ y (cover0_5 _ _ y)
  intro p hp z
  rcases List.mem_cons.mp hp with rfl | hp
  · change (⟨2, ![256, 2048]⟩ : Shape).Idx at z
    idx_vars z
    have e : r0_5.emb (ix2 z0 z1) = ix2 ⟨256 + z0.val, by omega⟩ z1 := (Common.emb2 _ z0 z1).trans (congrArg _ (Fin.ext (Nat.zero_add _)))
    rw [e]
    unfold blk
    pointwise [k0_pay1, k0_pay3, k0_pay4]
  · rcases List.mem_cons.mp hp with rfl | hp
    · change (⟨2, ![256, 2048]⟩ : Shape).Idx at z
      idx_vars z
      have e : r0_2.emb (ix2 z0 z1) = ix2 ⟨z0.val, by omega⟩ z1 := (Common.emb2 _ z0 z1).trans (congrArg₂ _ (Fin.ext (Nat.zero_add _)) (Fin.ext (Nat.zero_add _)))
      rw [e]
      unfold blk
      pointwise [k0_pay2]
    · cases hp

variable (m : (ℓ : Loc nD τ sig) → Buf (Elt Ideal) ℓ) (ρ : Dev nD → PrngReg)

/-- The whole result array of device `c`, from the arguments as launched. -/
def W (c : Dev nD) : Buf (Elt Ideal) ((c : Thread nD τ).loc main_v2) := fun i : S16384x2048.Idx =>
  spec (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- The weight the region finds: the argument, its format change the identity. -/
theorem V_v0 (c : Dev nD) : V m c main_v0 = (m ((c : Thread nD τ).loc main_arg1) : S2x5632x2048.Idx → EReal) := by
  unfold_abbrev_sides
  after_results
  rfl

/-- The norm's weight the region finds: the argument as one row. -/
theorem V_v1 (c : Dev nD) : V m c main_v1 = shapeCast S1x2048 (m ((c : Thread nD τ).loc main_arg3) : FVec Ideal S2048 .f32) shapeCasts_S2048_S1x2048 := by
  unfold_abbrev_sides
  after_results
  rfl

/-- Block rows of the gated activations. -/
theorem iblk0 (c : Dev nD) (t : Fin cfg0.N) (a : Fin 512) (k : Fin 5632) (h : t.val * 512 + a.val < 16384) :
    (iblk m c 0 t : S512x5632.Idx → EReal) (ix2 a k) = (m ((c : Thread nD τ).loc main_arg0) : S16384x5632.Idx → EReal) (ix2 ⟨t.val * 512 + a.val, h⟩ k) := by
  show (V m c main_arg0 : S16384x5632.Idx → EReal) _ = _
  rw [V_main_arg0]
  refine congrArg _ (funext fun d => Fin.ext ?_)
  have e : win0_0.index t 0 = t.val ∧ win0_0.index t 1 = 0 := (by decide +kernel : ∀ t : Fin grid0.N, win0_0.index t 0 = t.val ∧ win0_0.index t 1 = 0) t
  match d with
  | ⟨0, _⟩ => show win0_0.index t 0 * 512 + 1 * a.val = t.val * 512 + a.val; rw [e.1, Nat.one_mul]
  | ⟨1, _⟩ => show win0_0.index t 1 * 5632 + 1 * k.val = k.val; rw [e.2]; omega

/-- Layer 1's weight is the one block of the weights. -/
theorem iblk1 (c : Dev nD) (t : Fin cfg0.N) (k : Fin 5632) (l : Fin 2048) :
    (iblk m c 1 t : S1x5632x2048.Idx → EReal) (ix3 0 k l) = (m ((c : Thread nD τ).loc main_arg1) : S2x5632x2048.Idx → EReal) (ix3 1 k l) := by
  show (V m c main_v0 : S2x5632x2048.Idx → EReal) _ = _
  rw [V_v0]
  refine congrArg _ (funext fun d => Fin.ext ?_)
  have e : win0_1.index t 0 = 1 ∧ win0_1.index t 1 = 0 ∧ win0_1.index t 2 = 0 :=
    (by decide +kernel : ∀ t : Fin grid0.N, win0_1.index t 0 = 1 ∧ win0_1.index t 1 = 0 ∧ win0_1.index t 2 = 0) t
  match d with
  | ⟨0, _⟩ => show win0_1.index t 0 * 1 + 1 * 0 = 1; rw [e.1]
  | ⟨1, _⟩ => show win0_1.index t 1 * 5632 + 1 * k.val = k.val; rw [e.2.1]; omega
  | ⟨2, _⟩ => show win0_1.index t 2 * 2048 + 1 * l.val = l.val; rw [e.2.2]; omega

/-- Block rows of the residual. -/
theorem iblk2 (c : Dev nD) (t : Fin cfg0.N) (a : Fin 512) (k : Fin 2048) (h : t.val * 512 + a.val < 16384) :
    (iblk m c 2 t : S512x2048.Idx → EReal) (ix2 a k) = (m ((c : Thread nD τ).loc main_arg2) : S16384x2048.Idx → EReal) (ix2 ⟨t.val * 512 + a.val, h⟩ k) := by
  show (V m c main_arg2 : S16384x2048.Idx → EReal) _ = _
  rw [V_main_arg2]
  refine congrArg _ (funext fun d => Fin.ext ?_)
  have e : win0_2.index t 0 = t.val ∧ win0_2.index t 1 = 0 := (by decide +kernel : ∀ t : Fin grid0.N, win0_2.index t 0 = t.val ∧ win0_2.index t 1 = 0) t
  match d with
  | ⟨0, _⟩ => show win0_2.index t 0 * 512 + 1 * a.val = t.val * 512 + a.val; rw [e.1, Nat.one_mul]
  | ⟨1, _⟩ => show win0_2.index t 1 * 2048 + 1 * k.val = k.val; rw [e.2]; omega

/-- The norm's weight, one row at every point. -/
theorem iblk3 (c : Dev nD) (t : Fin cfg0.N) (k : Fin 2048) :
    (iblk m c 3 t : S1x2048.Idx → EReal) (ix2 0 k) = (m ((c : Thread nD τ).loc main_arg3) : S2048.Idx → EReal) (ix1 k) := by
  have h : (V m c main_v1 : S1x2048.Idx → EReal) (ix2 0 k) = (m ((c : Thread nD τ).loc main_arg3) : S2048.Idx → EReal) (ix1 k) := by
    rw [V_v1]; pointwise
  refine Eq.trans ?_ h
  show (V m c main_v1 : S1x2048.Idx → EReal) _ = _
  refine congrArg _ (funext fun d => Fin.ext ?_)
  have e : win0_3.index t 0 = 0 ∧ win0_3.index t 1 = 0 := (by decide +kernel : ∀ t : Fin grid0.N, win0_3.index t 0 = 0 ∧ win0_3.index t 1 = 0) t
  match d with
  | ⟨0, _⟩ => show win0_3.index t 0 * 1 + 1 * 0 = 0; rw [e.1]
  | ⟨1, _⟩ => show win0_3.index t 1 * 2048 + 1 * k.val = k.val; rw [e.2]; omega

/-- The gate, one row at every point. -/
theorem iblk4 (c : Dev nD) (t : Fin cfg0.N) (k : Fin 2048) :
    (iblk m c 4 t : S1x2048.Idx → EReal) (ix2 0 k) = (m ((c : Thread nD τ).loc main_arg4) : S1x2048.Idx → EReal) (ix2 0 k) := by
  show (V m c main_arg4 : S1x2048.Idx → EReal) _ = _
  rw [V_main_arg4]
  refine congrArg _ (funext fun d => Fin.ext ?_)
  have e : win0_4.index t 0 = 0 ∧ win0_4.index t 1 = 0 := (by decide +kernel : ∀ t : Fin grid0.N, win0_4.index t 0 = 0 ∧ win0_4.index t 1 = 0) t
  match d with
  | ⟨0, _⟩ => show win0_4.index t 0 * 1 + 1 * 0 = 0; rw [e.1]
  | ⟨1, _⟩ => show win0_4.index t 1 * 2048 + 1 * k.val = k.val; rw [e.2]; omega

/-- A point of the grid, as a row block below 32. -/
theorem lt_N (t : Fin cfg0.N) : t.val < 32 := lt_of_lt_of_eq t.isLt (by decide)

/-- The output window's block index at point `t`. -/
theorem idx5 (t : Fin cfg0.N) : win0_5.index t 0 = t.val ∧ win0_5.index t 1 = 0 :=
  (by decide +kernel : ∀ t : Fin grid0.N, win0_5.index t 0 = t.val ∧ win0_5.index t 1 = 0) t

/-- What point `t` writes back is its block of the whole result. -/
theorem flushed_eq (c : Dev nD) (t : Fin cfg0.N) :
    (dats m 0 c).flushed 5 t = (win0_5.blk t).view.read (Elt Ideal) (W m c) := by
  rw [Value.flushed5]
  funext y
  change S512x2048.Idx at y
  have ht := lt_N t
  obtain ⟨a, l, rfl⟩ : ∃ (a : Fin 512) (l : Fin 2048), y = ix2 a l := ⟨y 0, y 1, eq_ix2 y⟩
  have hr : t.val * 512 + a.val < 16384 := by have := a.isLt; omega
  refine (out_apply _ _ _ _ _ (ix2 a l)).trans ?_
  show blk _ _ _ _ _ a l = W m c _
  have e : (win0_5.blk t).view.emb (ix2 a l) = (ix2 ⟨t.val * 512 + a.val, hr⟩ l : S16384x2048.Idx) := by
    funext d
    apply Fin.ext
    match d with
    | ⟨0, _⟩ => show win0_5.index t 0 * 512 + 1 * a.val = t.val * 512 + a.val; rw [(idx5 t).1, Nat.one_mul]
    | ⟨1, _⟩ => show win0_5.index t 1 * 2048 + 1 * l.val = l.val; rw [(idx5 t).2]; omega
  refine Eq.trans ?_ (congrArg (W m c) e).symm
  show _ = spec _ _ _ _ _ ⟨t.val * 512 + a.val, hr⟩ l
  unfold blk spec proj
  simp only [iblk0 m c t a _ hr, iblk1 m c t, iblk2 m c t a l hr, iblk3 m c t, iblk4 m c t]

/-- An index of the result is in point `t`'s block exactly when its row is among the point's 512. -/
theorem mem_blk (t : Fin cfg0.N) (i : S16384x2048.Idx) (h : t.val = (i 0).val / 512) :
    i ∈ ((cfg0.win 5).blk t).view.set := by
  show i ∈ ((View.whole main_v2).slice (win0_5.rect t)).set
  rw [View.set_slice_whole, Rect.mem_set_unit]
  have h0 : (i 0).val < 16384 := (i 0).isLt
  have h1 : (i 1).val < 2048 := (i 1).isLt
  intro d
  match d with
  | ⟨0, _⟩ => show win0_5.index t 0 * 512 ≤ (i 0).val ∧ (i 0).val < win0_5.index t 0 * 512 + 512; rw [(idx5 t).1]; omega
  | ⟨1, _⟩ => show win0_5.index t 1 * 2048 ≤ (i 1).val ∧ (i 1).val < win0_5.index t 1 * 2048 + 2048; rw [(idx5 t).2]; omega

/-- The result array after the run is `W`. -/
theorem final (c : Dev nD) : (dats m 0 c).arrAt 5 cfg0.N = W m c :=
  (dats m 0 c).arrAt_eq_of_cover 5 (W m c) (fun t _ => flushed_eq m c t) fun i => by
    have h0 : ((i : S16384x2048.Idx) 0).val < 16384 := ((i : S16384x2048.Idx) 0).isLt
    have hN : cfg0.N = 32 := by decide
    exact ⟨⟨((i : S16384x2048.Idx) 0).val / 512, by omega⟩, flush0_5 _, mem_blk _ i rfl⟩

end Cert.KernelDownIdeal.Dn

namespace Cert.Proof

open Cert.KernelDownIdeal.Dn

/-- The down projection call computes the reference's function, at the ideal instance. -/
theorem algebraic_down [Cert.ReferenceDownIdeal.Facts] : Cert.algebraic_KernelDownIdeal_ReferenceDownIdeal := by
  intro m g m' g' _ hargs
  refine ⟨fun c => W m c, (θ_run Cert.KernelDownIdeal.defs _ _).mono (fun r h c => ?_) (Cert.KernelDownIdeal.Value.run_blocks (F := Ideal) m g),
    (θ_run Cert.ReferenceDownIdeal.defs _ _).mono (fun r h c => ?_) (Cert.ReferenceDownIdeal.Value.run (F := Ideal) m' g')⟩
  · exact ⟨(h c).1.trans (final m c), (h c).2⟩
  · refine ⟨(h c).1.trans ?_, (h c).2⟩
    obtain ⟨h0, h1, h2, h3, h4⟩ := hargs c
    rw [h0, h1, h2, h3, h4]
    refine (Cert.ReferenceDownIdeal.Read.val_main_v19_eq (F := Ideal) _ _ _ _ _).trans ?_
    funext i
    obtain ⟨a, l, rfl⟩ : ∃ (a : Fin 16384) (l : Fin 2048), i = ix2 a l := ⟨i 0, i 1, eq_ix2 i⟩
    exact ref_apply _ _ _ _ _ a l

end Cert.Proof

end
-- ==== Proof.UpTile.lean ====
module

public import proofs.«01_k».proof.Proof.Gen.KernelUpIdeal.Value
public import Idealize.ShloMosaic.Lib.Pipeline.Value
public import Idealize.ShloMosaic.Lib.Pointwise
public import Idealize.ShloMosaic.Lib.WritesUnit
public import proofs.«01_k».proof.Proof.Common

@[expose] public section

set_option maxRecDepth 16384

noncomputable section

open Idealize.ShloMosaic Idealize.ShloMosaic.TcCoe Idealize.SL.Sem

namespace Cert.KernelUpIdeal.Ut

open Cert.KernelUpIdeal Cert.KernelUpIdeal.Gen

/-! ## The body's payloads, entry by entry -/

/-- A half block's product with the weight block. -/
theorem pay7_apply (x : FVec Ideal S1024x2048 .bf16) (w : FVec Ideal S2048x512 .bf16) (a : Fin 1024) (l : Fin 512) :
    k0_pay7 (F := Ideal) x w (ix2 a l) = ∑ k : Fin 2048, x (ix2 a k) * w (ix2 k l) := by
  pointwise [k0_pay7]

/-- The four products are one function of their operands. -/
theorem pay10_eq : k0_pay10 (F := Ideal) = k0_pay7 := rfl

theorem pay16_eq : k0_pay16 (F := Ideal) = k0_pay7 := rfl

theorem pay20_eq : k0_pay20 (F := Ideal) = k0_pay7 := rfl

/-- Three taps and a bias, entry by entry, in the order the body adds them. -/
theorem pay8_apply (b w2 : FVec Ideal S1x512 .f32) (x2 : FVec Ideal S1024x512 .f32) (w1 : FVec Ideal S1x512 .f32) (x1 : FVec Ideal S1024x512 .f32)
    (w0 : FVec Ideal S1x512 .f32) (x0 : FVec Ideal S1024x512 .f32) (a : Fin 1024) (l : Fin 512) :
    k0_pay8 (F := Ideal) b w2 x2 w1 x1 w0 x0 (ix2 a l)
      = b (ix2 0 l) + w2 (ix2 0 l) * x2 (ix2 a l) + w1 (ix2 0 l) * x1 (ix2 a l) + w0 (ix2 0 l) * x0 (ix2 a l) := by
  pointwise [k0_pay8]

theorem pay11_eq : k0_pay11 (F := Ideal) = k0_pay8 := rfl

theorem pay21_eq : k0_pay21 (F := Ideal) = k0_pay8 := rfl

theorem pay18_eq (b w2 : FVec Ideal S1x512 .f32) (x2 : FVec Ideal S1024x512 .f32) (w1 : FVec Ideal S1x512 .f32) (x1 : FVec Ideal S1024x512 .f32)
    (w0 : FVec Ideal S1x512 .f32) (x0 : FVec Ideal S1024x512 .f32) :
    k0_pay18 (F := Ideal) (k0_pay17 b w2 x2 w1 x1) w0 x0 = k0_pay8 b w2 x2 w1 x1 w0 x0 := rfl

/-- The gelu, in the order the body computes it. -/
def gelu (u : EReal) : EReal :=
  Ideal.ofBits .f32 0x3F000000#32 * u * (Ideal.ofBits .f32 0x3F800000#32
    + Ideal.tanh (Ideal.ofBits .f32 0x3F4C422A#32 * (u + Ideal.ofBits .f32 0x3D372713#32 * (u * u * u))))

theorem pay15_apply (g u : FVec Ideal S1024x512 .f32) (a : Fin 1024) (l : Fin 512) :
    k0_pay15 (F := Ideal) g u (k0_pay13 g) (k0_pay14 g) (ix2 a l) = gelu (g (ix2 a l)) * u (ix2 a l) := by
  unfold gelu
  pointwise [k0_pay15, k0_pay13, k0_pay14]

theorem pay2_apply (g u : FVec Ideal S1024x512 .f32) (a : Fin 1024) (l : Fin 512) :
    k0_pay2 (F := Ideal) g u (ix2 a l) = gelu (g (ix2 a l)) * u (ix2 a l) := by
  unfold gelu
  pointwise [k0_pay2]

/-- The carried rows are copied as they are. -/
theorem pay9_eq (v : FVec Ideal S8x512 .f32) : k0_pay9 (F := Ideal) v = v := by
  unfold k0_pay9; exact shapeCast_self _ _

theorem pay12_eq (v : FVec Ideal S8x512 .f32) : k0_pay12 (F := Ideal) v = v := by
  unfold k0_pay12; exact shapeCast_self _ _

theorem pay19_eq (v : FVec Ideal S8x512 .f32) : k0_pay19 (F := Ideal) v = v := by
  unfold k0_pay19; exact shapeCast_self _ _

theorem pay1_eq (v : FVec Ideal S8x512 .f32) : k0_pay1 (F := Ideal) v = v := by
  unfold k0_pay1; exact shapeCast_self _ _

theorem pay5_apply (a : Fin 8) (l : Fin 512) : k0_pay5 (F := Ideal) (ix2 a l) = 0 := by
  have h : Ideal.ofBits .f32 0x00000000#32 = 0 := by simp [Ideal.ofBits, Ideal.ieee]
  refine Eq.trans ?_ h
  pointwise [k0_pay5]

theorem pay6_apply (a : Fin 8) (l : Fin 512) : k0_pay6 (F := Ideal) (ix2 a l) = 0 := pay5_apply a l

theorem pay3_apply (x : FVec Ideal S1x2048x512 .f32) (k : Fin 2048) (l : Fin 512) : k0_pay3 (F := Ideal) x (ix2 k l) = x (ix3 0 k l) := by
  pointwise [k0_pay3]

theorem pay4_apply (x : FVec Ideal S1x2048x512 .f32) (k : Fin 2048) (l : Fin 512) : k0_pay4 (F := Ideal) x (ix2 k l) = x (ix3 0 k l) := by
  pointwise [k0_pay4]

/-! ## Reading a list of stores -/

/-- Rows `o …` of a buffer of 1032 rows, loaded as 1024 rows. -/
theorem cov_1024 {o : ℕ} {κ : Kind} {sp : Space} (v : View sig κ sp S1032x512 .f32) (L : List (View.Piece (Elt Ideal) S1032x512 .f32))
    (inb : ∀ d, (![o, 0] : Fin 2 → ℕ) d + S1024x512.size d ≤ S1032x512.size d) (a : Fin 1024) (l : Fin 512) (h : o + a.val < 1032) :
    v.readCov L (Rect.unit (s := S1032x512) ![o, 0] S1024x512.size inb).toLoadRect (ix2 a l) = View.canon L (ix2 ⟨o + a.val, h⟩ l) := by
  rw [View.readCov_eq_canon']
  exact congrArg (View.canon L) ((Common.emb2 inb a l).trans (congrArg _ (Fin.ext (Nat.zero_add _))))

/-- Rows `o …` of a buffer of 1032 rows, loaded as 8 rows. -/
theorem cov_8 {o : ℕ} {κ : Kind} {sp : Space} (v : View sig κ sp S1032x512 .f32) (L : List (View.Piece (Elt Ideal) S1032x512 .f32))
    (inb : ∀ d, (![o, 0] : Fin 2 → ℕ) d + S8x512.size d ≤ S1032x512.size d) (a : Fin 8) (l : Fin 512) (h : o + a.val < 1032) :
    v.readCov L (Rect.unit (s := S1032x512) ![o, 0] S8x512.size inb).toLoadRect (ix2 a l) = View.canon L (ix2 ⟨o + a.val, h⟩ l) := by
  rw [View.readCov_eq_canon']
  exact congrArg (View.canon L) ((Common.emb2 inb a l).trans (congrArg _ (Fin.ext (Nat.zero_add _))))

/-- The newest store being rows 8 and after, those rows are its payload. -/
theorem canon_body (B : S1024x512.Idx → Elt Ideal .f32) (L : List (View.Piece (Elt Ideal) S1032x512 .f32))
    (inb : ∀ d, (![8, 0] : Fin 2 → ℕ) d + S1024x512.size d ≤ S1032x512.size d) (a : Fin 1024) (l : Fin 512) (h : 8 + a.val < 1032) :
    View.canon (⟨Rect.unit (s := S1032x512) ![8, 0] S1024x512.size inb, B⟩ :: L) (ix2 ⟨8 + a.val, h⟩ l) = B (ix2 a l) := by
  have e : (Rect.unit (s := S1032x512) ![8, 0] S1024x512.size inb).emb (ix2 a l) = ix2 ⟨8 + a.val, h⟩ l :=
    (Common.emb2 inb a l).trans (congrArg _ (Fin.ext (Nat.zero_add _)))
  exact (congrArg (View.canon (Val := Elt Ideal) (e := .f32) _) e.symm).trans
    (View.canon_cons_emb (Val := Elt Ideal) (e := .f32) (Rect.unit (s := S1032x512) ![8, 0] S1024x512.size inb) B L (ix2 a l))

/-- The newest store being rows 8 and after, the first 8 rows are what the rest left. -/
theorem canon_skip (B : S1024x512.Idx → Elt Ideal .f32) (L : List (View.Piece (Elt Ideal) S1032x512 .f32))
    (inb : ∀ d, (![8, 0] : Fin 2 → ℕ) d + S1024x512.size d ≤ S1032x512.size d) (a : Fin 8) (l : Fin 512) (h : a.val < 1032) :
    View.canon (⟨Rect.unit (s := S1032x512) ![8, 0] S1024x512.size inb, B⟩ :: L) (ix2 ⟨a.val, h⟩ l) = View.canon L (ix2 ⟨a.val, h⟩ l) := by
  refine View.canon_cons_of_not_mem _ L ?_
  show _ ∉ (Rect.unit (s := S1032x512) ![8, 0] S1024x512.size inb).set
  rw [Rect.mem_set_unit]
  intro hall
  have h8 : 8 ≤ a.val := (hall 0).1
  have := a.isLt
  omega

/-- The newest store being the first 8 rows, those rows are its payload. -/
theorem canon_head (H : S8x512.Idx → Elt Ideal .f32) (L : List (View.Piece (Elt Ideal) S1032x512 .f32))
    (inb : ∀ d, (![0, 0] : Fin 2 → ℕ) d + S8x512.size d ≤ S1032x512.size d) (a : Fin 8) (l : Fin 512) (h : a.val < 1032) :
    View.canon (⟨Rect.unit (s := S1032x512) ![0, 0] S8x512.size inb, H⟩ :: L) (ix2 ⟨a.val, h⟩ l) = H (ix2 a l) := by
  have e : (Rect.unit (s := S1032x512) ![0, 0] S8x512.size inb).emb (ix2 a l) = ix2 ⟨a.val, h⟩ l :=
    (Common.emb2 inb a l).trans (congrArg₂ _ (Fin.ext (Nat.zero_add _)) (Fin.ext (Nat.zero_add _)))
  exact (congrArg (View.canon (Val := Elt Ideal) (e := .f32) _) e.symm).trans
    (View.canon_cons_emb (Val := Elt Ideal) (e := .f32) (Rect.unit (s := S1032x512) ![0, 0] S8x512.size inb) H L (ix2 a l))

/-- A buffer written as 8 rows and then the 1024 after them is the function both payloads are parts of. -/
theorem canon_buf (z : ℕ → Fin 512 → EReal) (B : S1024x512.Idx → Elt Ideal .f32) (H : S8x512.Idx → Elt Ideal .f32)
    (L : List (View.Piece (Elt Ideal) S1032x512 .f32))
    (inb : ∀ d, (![8, 0] : Fin 2 → ℕ) d + S1024x512.size d ≤ S1032x512.size d)
    (inb' : ∀ d, (![0, 0] : Fin 2 → ℕ) d + S8x512.size d ≤ S1032x512.size d)
    (hB : ∀ (a : Fin 1024) (l : Fin 512), B (ix2 a l) = z (8 + a.val) l) (hH : ∀ (a : Fin 8) (l : Fin 512), H (ix2 a l) = z a.val l)
    (s : ℕ) (hs : s < 1032) (l : Fin 512) :
    View.canon (⟨Rect.unit (s := S1032x512) ![8, 0] S1024x512.size inb, B⟩ :: ⟨Rect.unit (s := S1032x512) ![0, 0] S8x512.size inb', H⟩ :: L) (ix2 ⟨s, hs⟩ l) = z s l := by
  by_cases h : s < 8
  · exact (canon_skip B _ inb ⟨s, h⟩ l hs).trans ((canon_head H L inb' ⟨s, h⟩ l hs).trans (hH ⟨s, h⟩ l))
  · obtain ⟨a, rfl⟩ : ∃ a, s = 8 + a := ⟨s - 8, by omega⟩
    exact (canon_body B _ inb ⟨a, by omega⟩ l hs).trans (hB ⟨a, by omega⟩ l)

/-- The same where the 1024 rows were written over contents of which only the first 8 rows are known. -/
theorem read_buf (z : ℕ → Fin 512 → EReal) {κ : Kind} {sp : Space} (v : View sig κ sp S1032x512 .f32) (f : v.ty.Contents (Elt Ideal))
    (B : S1024x512.Idx → Elt Ideal .f32) (inb : ∀ d, (![8, 0] : Fin 2 → ℕ) d + S1024x512.size d ≤ S1032x512.size d)
    (hB : ∀ (a : Fin 1024) (l : Fin 512), B (ix2 a l) = z (8 + a.val) l)
    (hf : ∀ (a : Fin 8) (l : Fin 512) (h : a.val < 1032), v.read (Elt Ideal) f (ix2 ⟨a.val, h⟩ l) = z a.val l)
    (s : ℕ) (hs : s < 1032) (l : Fin 512) :
    v.read (Elt Ideal) (v.writes (Elt Ideal) f [⟨Rect.unit (s := S1032x512) ![8, 0] S1024x512.size inb, B⟩]) (ix2 ⟨s, hs⟩ l) = z s l := by
  by_cases h : s < 8
  · refine (View.read_writes_cons_unit_of_not_mem v f inb B [] _ rfl 0 (Or.inl (show s < 8 from h))).trans ?_
    exact hf ⟨s, h⟩ l hs
  · obtain ⟨a, rfl⟩ : ∃ a, s = 8 + a := ⟨s - 8, by omega⟩
    refine (View.read_writes_cons_unit_of_mem v f inb B [] _ (ix2 ⟨a, by omega⟩ l) rfl fun d => ?_).trans (hB ⟨a, by omega⟩ l)
    match d with
    | ⟨0, _⟩ => rfl
    | ⟨1, _⟩ => exact (Nat.zero_add _).symm

/-! ## What one grid point computes, over its own blocks -/

/-- The projection's rows a point sees: 8 carried ones, then the point's own 2048. -/
def zz (halo : ℕ → Fin 512 → EReal) (x : FVec Ideal S2048x2048 .bf16) (w : FVec Ideal S2048x512 .bf16) (s : ℕ) (l : Fin 512) : EReal :=
  if s < 8 then halo s l else if h : s - 8 < 2048 then ∑ k : Fin 2048, x (ix2 ⟨s - 8, h⟩ k) * w (ix2 k l) else 0

/-- The point's own rows. -/
theorem zz_own (halo : ℕ → Fin 512 → EReal) (x : FVec Ideal S2048x2048 .bf16) (w : FVec Ideal S2048x512 .bf16) (a : Fin 2048) (l : Fin 512) :
    zz halo x w (8 + a.val) l = ∑ k : Fin 2048, x (ix2 a k) * w (ix2 k l) := by
  have e : (⟨8 + a.val - 8, by omega⟩ : Fin 2048) = a := Fin.ext (by show 8 + a.val - 8 = a.val; omega)
  unfold zz
  rw [if_neg (by omega), dif_pos (by omega), e]

/-- The carried rows. -/
theorem zz_halo (halo : ℕ → Fin 512 → EReal) (x : FVec Ideal S2048x2048 .bf16) (w : FVec Ideal S2048x512 .bf16) (a : Fin 8) (l : Fin 512) :
    zz halo x w a.val l = halo a.val l := if_pos a.isLt

/-- The short convolution at one row: bias, then the taps from the newest row to the oldest. -/
def conv (b : FVec Ideal S1x512 .f32) (w : FVec Ideal S3x512 .f32) (z : ℕ → Fin 512 → EReal) (a : ℕ) (l : Fin 512) : EReal :=
  b (ix2 0 l) + w (ix2 2 l) * z (a + 8) l + w (ix2 1 l) * z (a + 7) l + w (ix2 0 l) * z (a + 6) l

/-- A row of the taps, loaded on its own. -/
theorem tap_apply {o : ℕ} (X : S3x512.Idx → Elt Ideal .f32)
    (inb : ∀ d, (![o, 0] : Fin 2 → ℕ) d + S1x512.size d ≤ S3x512.size d) (l : Fin 512) (h : o < 3) :
    View.ld X (Rect.unit (s := S3x512) ![o, 0] S1x512.size inb) (ix2 0 l) = X (ix2 ⟨o, h⟩ l) :=
  congrArg X ((Common.emb2 inb 0 l).trans (congrArg₂ _ (Fin.ext (Nat.add_zero _)) (Fin.ext (Nat.zero_add _))))

/-- Rows `o …` of the point's activations. -/
theorem rows_apply {o : ℕ} (X : S2048x2048.Idx → Elt Ideal .bf16)
    (inb : ∀ d, (![o, 0] : Fin 2 → ℕ) d + S1024x2048.size d ≤ S2048x2048.size d) (a : Fin 1024) (k : Fin 2048) (h : o + a.val < 2048) :
    View.ld X (Rect.unit (s := S2048x2048) ![o, 0] S1024x2048.size inb) (ix2 a k) = X (ix2 ⟨o + a.val, h⟩ k) :=
  congrArg X ((Common.emb2 inb a k).trans (congrArg _ (Fin.ext (Nat.zero_add _))))

/-- Rows `o …` of a buffer of 1032 rows. -/
theorem ld_1024 {o : ℕ} (X : S1032x512.Idx → Elt Ideal .f32)
    (inb : ∀ d, (![o, 0] : Fin 2 → ℕ) d + S1024x512.size d ≤ S1032x512.size d) (a : Fin 1024) (l : Fin 512) (h : o + a.val < 1032) :
    View.ld X (Rect.unit (s := S1032x512) ![o, 0] S1024x512.size inb) (ix2 a l) = X (ix2 ⟨o + a.val, h⟩ l) :=
  congrArg X ((Common.emb2 inb a l).trans (congrArg _ (Fin.ext (Nat.zero_add _))))

/-- The product of a half block is the point's own rows. -/
theorem half_apply {o : ℕ} (halo : ℕ → Fin 512 → EReal) (x : FVec Ideal S2048x2048 .bf16) (w : FVec Ideal S2048x512 .bf16)
    (inb : ∀ d, (![o, 0] : Fin 2 → ℕ) d + S1024x2048.size d ≤ S2048x2048.size d) (a : Fin 1024) (l : Fin 512) (h : o + a.val < 2048) :
    k0_pay7 (F := Ideal) (View.ld (Val := Elt Ideal) (S := S2048x2048) (e' := .bf16) x (Rect.unit (s := S2048x2048) ![o, 0] S1024x2048.size inb)) w (ix2 a l)
      = zz halo x w (o + (8 + a.val)) l := by
  have e : o + (8 + a.val) = 8 + (⟨o + a.val, h⟩ : Fin 2048).val := by show o + (8 + a.val) = 8 + (o + a.val); omega
  rw [e, zz_own]
  refine (pay7_apply _ _ a l).trans (Finset.sum_congr rfl fun k _ => ?_)
  exact congrArg (· * w (ix2 k l)) (rows_apply x inb a k h)

/-- The taps over loads known to be rows of `z` are the short convolution of `z`. -/
theorem conv_apply (b : FVec Ideal S1x512 .f32) (w : FVec Ideal S3x512 .f32) (z : ℕ → Fin 512 → EReal) (s : ℕ)
    (i2 : ∀ d, (![2, 0] : Fin 2 → ℕ) d + S1x512.size d ≤ S3x512.size d) (i1 : ∀ d, (![1, 0] : Fin 2 → ℕ) d + S1x512.size d ≤ S3x512.size d)
    (i0 : ∀ d, (![0, 0] : Fin 2 → ℕ) d + S1x512.size d ≤ S3x512.size d) (v2 v1 v0 : FVec Ideal S1024x512 .f32) (a : Fin 1024) (l : Fin 512)
    (h2 : v2 (ix2 a l) = z (s + 8) l) (h1 : v1 (ix2 a l) = z (s + 7) l) (h0 : v0 (ix2 a l) = z (s + 6) l) :
    k0_pay8 (F := Ideal) b (View.ld (Val := Elt Ideal) (S := S3x512) (e' := .f32) w (Rect.unit (s := S3x512) ![2, 0] S1x512.size i2)) v2
        (View.ld (Val := Elt Ideal) (S := S3x512) (e' := .f32) w (Rect.unit (s := S3x512) ![1, 0] S1x512.size i1)) v1
        (View.ld (Val := Elt Ideal) (S := S3x512) (e' := .f32) w (Rect.unit (s := S3x512) ![0, 0] S1x512.size i0)) v0 (ix2 a l)
      = conv b w z s l := by
  refine (pay8_apply _ _ _ _ _ _ _ a l).trans ?_
  rw [h2, h1, h0]
  unfold conv
  exact congrArg₂ (· + ·) (congrArg₂ (· + ·) (congrArg (b (ix2 0 l) + · * z (s + 8) l) (tap_apply w i2 l (by omega)))
    (congrArg (· * z (s + 7) l) (tap_apply w i1 l (by omega)))) (congrArg (· * z (s + 6) l) (tap_apply w i0 l (by omega)))

/-- A result block stored as two halves is the function both halves are parts of. -/
theorem canon_out (y : ℕ → Fin 512 → EReal) (P Q : S1024x512.Idx → Elt Ideal .bf16)
    (i1 : ∀ d, (![1024, 0] : Fin 2 → ℕ) d + S1024x512.size d ≤ S2048x512.size d) (i0 : ∀ d, (![0, 0] : Fin 2 → ℕ) d + S1024x512.size d ≤ S2048x512.size d)
    (hP : ∀ (a : Fin 1024) (l : Fin 512), P (ix2 a l) = y (1024 + a.val) l) (hQ : ∀ (a : Fin 1024) (l : Fin 512), Q (ix2 a l) = y a.val l)
    (a : Fin 2048) (l : Fin 512) :
    View.canon (Val := Elt Ideal) (e := .bf16) [⟨Rect.unit (s := S2048x512) ![1024, 0] S1024x512.size i1, P⟩, ⟨Rect.unit (s := S2048x512) ![0, 0] S1024x512.size i0, Q⟩] (ix2 a l)
      = y a.val l := by
  by_cases h : a.val < 1024
  · have e : (Rect.unit (s := S2048x512) ![0, 0] S1024x512.size i0).emb (ix2 (⟨a.val, h⟩ : Fin 1024) l) = ix2 a l :=
      (Common.emb2 i0 _ l).trans (congrArg₂ _ (Fin.ext (Nat.zero_add _)) (Fin.ext (Nat.zero_add _)))
    refine (View.canon_cons_of_not_mem _ _ ?_).trans ((congrArg (View.canon (Val := Elt Ideal) (e := .bf16) _) e.symm).trans
      ((View.canon_cons_emb (Val := Elt Ideal) (e := .bf16) (Rect.unit (s := S2048x512) ![0, 0] S1024x512.size i0) Q [] (ix2 ⟨a.val, h⟩ l)).trans (hQ ⟨a.val, h⟩ l)))
    show _ ∉ (Rect.unit (s := S2048x512) ![1024, 0] S1024x512.size i1).set
    rw [Rect.mem_set_unit]
    intro hall
    have h8 : 1024 ≤ a.val := (hall 0).1
    omega
  · have ha : 1024 + (a.val - 1024) = a.val := by omega
    have e : (Rect.unit (s := S2048x512) ![1024, 0] S1024x512.size i1).emb (ix2 (⟨a.val - 1024, by omega⟩ : Fin 1024) l) = ix2 a l :=
      (Common.emb2 i1 _ l).trans (congrArg₂ _ (Fin.ext ha) (Fin.ext (Nat.zero_add _)))
    refine (congrArg (View.canon (Val := Elt Ideal) (e := .bf16) _) e.symm).trans
      ((View.canon_cons_emb (Val := Elt Ideal) (e := .bf16) (Rect.unit (s := S2048x512) ![1024, 0] S1024x512.size i1) P _ (ix2 ⟨a.val - 1024, by omega⟩ l)).trans
        ((hP ⟨a.val - 1024, by omega⟩ l).trans (congrArg (y · l) ha)))

end Cert.KernelUpIdeal.Ut

end
-- ==== Proof.UpRunA.lean ====
module

public import proofs.«01_k».proof.Proof.UpTile

@[expose] public section

set_option maxRecDepth 16384
set_option backward.proofsInPublic true

noncomputable section

open Idealize.ShloMosaic Idealize.ShloMosaic.TcCoe Idealize.SL.Sem

namespace Cert.KernelUpIdeal.RunA

open Cert.KernelUpIdeal Cert.KernelUpIdeal.Gen Cert.KernelUpIdeal.Ut

theorem hz : (![0, 0] : Fin 2 → Nat) = fun _ => 0 := funext fun a => by fin_cases a <;> rfl

theorem hz3 : (![0, 0, 0] : Fin 3 → Nat) = fun _ => 0 := funext fun a => by fin_cases a <;> rfl

variable (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S1032x512 .f32) (harg12 : arg12.IsWhole) (arg13 : Memref sig .tc .vmem S1032x512 .f32) (harg13 : arg13.IsWhole) (hc0 : cond0_0 i)
    (x0 : Vec Ideal S2048x2048 .bf16) (x1 : Vec Ideal S1x2048x512 .f32) (x2 : Vec Ideal S1x2048x512 .f32) (x3 : Vec Ideal S3x512 .f32) (x4 : Vec Ideal S3x512 .f32) (x5 : Vec Ideal S1x512 .f32) (x6 : Vec Ideal S1x512 .f32)

/-- The projection's rows the first point of a column block sees, for the gate: none carried. -/
abbrev zg : ℕ → Fin 512 → EReal := zz (fun _ _ => 0) x0 (k0_pay3 x1)

/-- The same for the up half. -/
abbrev zu : ℕ → Fin 512 → EReal := zz (fun _ _ => 0) x0 (k0_pay4 x2)

theorem v4_eq : kernelRun0_A.sl.v4 (F := Ideal) c arg3 harg3 arg10 x1 = k0_pay3 x1 := by
  unfold kernelRun0_A.sl.v4 kernelRun0_A.sl.HS0_1
  rw [View.readCov_unit_zero (S := S2048x512) _ hz]
  simp only [View.readAt_eq_ld, harg3.read_unread, View.ld_unit_zero (S := S1x2048x512) hz3]

theorem v31_eq : kernelRun0_A.sl.v31 (F := Ideal) c arg4 harg4 arg11 x2 = k0_pay4 x2 := by
  unfold kernelRun0_A.sl.v31 kernelRun0_A.sl.HS1_1
  rw [View.readCov_unit_zero (S := S2048x512) _ hz]
  simp only [View.readAt_eq_ld, harg4.read_unread, View.ld_unit_zero (S := S1x2048x512) hz3]

/-- The gate's buffer after the first half's product. -/
theorem g1 (s : ℕ) (hs : s < 1032) (l : Fin 512) :
    View.canon (kernelRun0_A.sl.HS2_2 (F := Ideal) c arg2 harg2 arg3 harg3 arg10 x0 x1) (ix2 ⟨s, hs⟩ l) = zg x0 x1 s l := by
  unfold kernelRun0_A.sl.HS2_2
  refine canon_buf (zg x0 x1) _ _ [] _ _ (fun a l => ?_) (fun a l => (pay5_apply a l).trans (zz_halo (fun _ _ => 0) x0 (k0_pay3 x1) a l).symm) s hs l
  rw [v4_eq, View.readAt_eq_ld, harg2.read_unread]
  exact (half_apply _ x0 _ _ a l (by omega)).trans (congrArg (zg x0 x1 · l) (Nat.zero_add _))

/-- The up half's buffer after the first half's product. -/
theorem u1 (s : ℕ) (hs : s < 1032) (l : Fin 512) :
    View.canon (kernelRun0_A.sl.HS3_2 (F := Ideal) c arg2 harg2 arg4 harg4 arg11 x0 x2) (ix2 ⟨s, hs⟩ l) = zu x0 x2 s l := by
  unfold kernelRun0_A.sl.HS3_2 kernelRun0_A.sl.r
  refine canon_buf (zu x0 x2) _ _ [] _ _ (fun a l => ?_) (fun a l => (pay6_apply a l).trans (zz_halo (fun _ _ => 0) x0 (k0_pay4 x2) a l).symm) s hs l
  rw [v31_eq, View.readAt_eq_ld, harg2.read_unread]
  exact (half_apply _ x0 _ _ a l (by omega)).trans (congrArg (zu x0 x2 · l) (Nat.zero_add _))

/-- The gate's buffer after the second half's product. -/
theorem g2 (s : ℕ) (hs : s < 1032) (l : Fin 512) :
    View.canon (kernelRun0_A.sl.HS2_4 (F := Ideal) c arg2 harg2 arg3 harg3 arg10 arg12 x0 x1) (ix2 ⟨s, hs⟩ l) = zg x0 x1 (1024 + s) l := by
  unfold kernelRun0_A.sl.HS2_4 kernelRun0_A.sl.v27
  refine canon_buf (fun s => zg x0 x1 (1024 + s)) _ _ _ _ _ (fun a l => ?_) (fun a l => ?_) s hs l
  · rw [v4_eq, View.readAt_eq_ld, harg2.read_unread]
    exact half_apply _ x0 _ _ a l (by omega)
  · rw [pay9_eq]
    exact (cov_8 _ _ _ a l (by omega)).trans (g1 (hs := by omega) (l := l) ..)

/-- The up half's buffer after the second half's product. -/
theorem u2 (s : ℕ) (hs : s < 1032) (l : Fin 512) :
    View.canon (kernelRun0_A.sl.HS3_4 (F := Ideal) c arg2 harg2 arg4 harg4 arg11 arg13 x0 x2) (ix2 ⟨s, hs⟩ l) = zu x0 x2 (1024 + s) l := by
  unfold kernelRun0_A.sl.HS3_4 kernelRun0_A.sl.v54 kernelRun0_A.sl.r_5
  refine canon_buf (fun s => zu x0 x2 (1024 + s)) _ _ _ _ _ (fun a l => ?_) (fun a l => ?_) s hs l
  · rw [v31_eq, View.readAt_eq_ld, harg2.read_unread]
    exact half_apply _ x0 _ _ a l (by omega)
  · rw [pay12_eq]
    exact (cov_8 _ _ _ a l (by omega)).trans (u1 (hs := by omega) (l := l) ..)

/-- The convolved gate, first half. -/
theorem r_1_apply (a : Fin 1024) (l : Fin 512) :
    kernelRun0_A.sl.r_1 (F := Ideal) c arg2 harg2 arg3 harg3 arg5 harg5 arg7 harg7 arg10 arg12 x0 x1 x3 x5 (ix2 a l) = conv x5 x3 (zg x0 x1) a.val l := by
  unfold kernelRun0_A.sl.r_1 kernelRun0_A.sl.v12 kernelRun0_A.sl.v18 kernelRun0_A.sl.v23
  simp only [View.readAt_eq_ld, harg5.read_unread, harg7.read_unread, View.ld_unit_zero (S := S1x512) hz]
  refine conv_apply x5 x3 (zg x0 x1) a.val _ _ _ _ _ _ a l ?_ ?_ ?_
  all_goals
    rw [Nat.add_comm a.val]
    exact (cov_1024 _ _ _ a l (by omega)).trans (g1 (hs := by omega) (l := l) ..)

/-- The convolved up half, first half. -/
theorem r_2_apply (a : Fin 1024) (l : Fin 512) :
    kernelRun0_A.sl.r_2 (F := Ideal) c arg2 harg2 arg4 harg4 arg6 harg6 arg8 harg8 arg11 arg13 x0 x2 x4 x6 (ix2 a l) = conv x6 x4 (zu x0 x2) a.val l := by
  unfold kernelRun0_A.sl.r_2 kernelRun0_A.sl.v39 kernelRun0_A.sl.v45 kernelRun0_A.sl.v50
  simp only [View.readAt_eq_ld, harg6.read_unread, harg8.read_unread, View.ld_unit_zero (S := S1x512) hz]
  refine conv_apply x6 x4 (zu x0 x2) a.val _ _ _ _ _ _ a l ?_ ?_ ?_
  all_goals
    rw [Nat.add_comm a.val]
    exact (cov_1024 _ _ _ a l (by omega)).trans (u1 (hs := by omega) (l := l) ..)

/-- The convolved gate, second half. -/
theorem r_8_apply (a : Fin 1024) (l : Fin 512) :
    kernelRun0_A.sl.r_8 (F := Ideal) c arg2 harg2 arg3 harg3 arg5 harg5 arg7 harg7 arg10 arg12 x0 x1 x3 x5 (ix2 a l) = conv x5 x3 (zg x0 x1) (1024 + a.val) l := by
  unfold kernelRun0_A.sl.r_8 kernelRun0_A.sl.r_7 kernelRun0_A.sl.r_6 kernelRun0_A.sl.v83 kernelRun0_A.sl.v89 kernelRun0_A.sl.v94
  rw [pay18_eq]
  simp only [View.readAt_eq_ld, harg5.read_unread, harg7.read_unread, View.ld_unit_zero (S := S1x512) hz]
  refine conv_apply x5 x3 (zg x0 x1) (1024 + a.val) _ _ _ _ _ _ a l ?_ ?_ ?_
  all_goals
    rw [Nat.add_assoc, Nat.add_comm a.val]
    exact (cov_1024 _ _ _ a l (by omega)).trans (g2 (hs := by omega) (l := l) ..)

/-- The convolved up half, second half. -/
theorem r_9_apply (a : Fin 1024) (l : Fin 512) :
    kernelRun0_A.sl.r_9 (F := Ideal) c arg2 harg2 arg4 harg4 arg6 harg6 arg8 harg8 arg11 arg13 x0 x2 x4 x6 (ix2 a l) = conv x6 x4 (zu x0 x2) (1024 + a.val) l := by
  unfold kernelRun0_A.sl.r_9 kernelRun0_A.sl.v110 kernelRun0_A.sl.v116 kernelRun0_A.sl.v121
  simp only [View.readAt_eq_ld, harg6.read_unread, harg8.read_unread, View.ld_unit_zero (S := S1x512) hz]
  refine conv_apply x6 x4 (zu x0 x2) (1024 + a.val) _ _ _ _ _ _ a l ?_ ?_ ?_
  all_goals
    rw [Nat.add_assoc, Nat.add_comm a.val]
    exact (cov_1024 _ _ _ a l (by omega)).trans (u2 (hs := by omega) (l := l) ..)

/-- The block the point leaves in the output. -/
theorem out_apply (a : Fin 2048) (l : Fin 512) :
    out0_A_7 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 (ix2 a l)
      = gelu (conv x5 x3 (zg x0 x1) a.val l) * conv x6 x4 (zu x0 x2) a.val l := by
  unfold out0_A_7
  rw [View.read_writes_junk_eq_canon]
  unfold kernelRun0_A
  dsimp only
  refine canon_out (fun a l => gelu (conv x5 x3 (zg x0 x1) a l) * conv x6 x4 (zu x0 x2) a l) _ _ _ _ (fun a l => ?_) (fun a l => ?_) a l
  · refine (pay2_apply _ _ a l).trans ?_
    rw [r_8_apply, r_9_apply]
  · unfold kernelRun0_A.sl.r_3 kernelRun0_A.sl.r_4
    refine (pay15_apply _ _ a l).trans ?_
    rw [r_1_apply, r_2_apply]

/-- The rows the point leaves for the next one, gate. -/
theorem sout2 (a : Fin 8) (l : Fin 512) (h : a.val < 1032) :
    sout0_A_2 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 (ix2 ⟨a.val, h⟩ l) = zg x0 x1 (2048 + a.val) l := by
  unfold sout0_A_2
  rw [View.read_writes_junk_eq_canon]
  unfold kernelRun0_A
  dsimp only
  refine (canon_head _ _ _ a l h).trans ?_
  rw [pay19_eq]
  unfold kernelRun0_A.sl.v98
  exact (cov_8 _ _ _ a l (by omega)).trans ((g2 (hs := by omega) (l := l) ..).trans (congrArg (zg x0 x1 · l) (Nat.add_assoc 1024 1024 a.val).symm))

/-- The rows the point leaves for the next one, up half. -/
theorem sout3 (a : Fin 8) (l : Fin 512) (h : a.val < 1032) :
    sout0_A_3 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 (ix2 ⟨a.val, h⟩ l) = zu x0 x2 (2048 + a.val) l := by
  unfold sout0_A_3
  rw [View.read_writes_junk_eq_canon]
  unfold kernelRun0_A
  dsimp only
  refine (canon_head _ _ _ a l h).trans ?_
  rw [pay1_eq]
  unfold kernelRun0_A.sl.v125
  exact (cov_8 _ _ _ a l (by omega)).trans ((u2 (hs := by omega) (l := l) ..).trans (congrArg (zu x0 x2 · l) (Nat.add_assoc 1024 1024 a.val).symm))

/-- The weight block the point leaves, gate. -/
theorem sout0 : sout0_A_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 = k0_pay3 x1 := by
  unfold sout0_A_0
  rw [View.read_writes_junk_eq_canon]
  unfold kernelRun0_A
  dsimp only
  unfold kernelRun0_A.sl.HS0_1
  rw [View.canon_unit_zero (S := S2048x512) hz]
  simp only [View.readAt_eq_ld, harg3.read_unread, View.ld_unit_zero (S := S1x2048x512) hz3]

/-- The weight block the point leaves, up half. -/
theorem sout1 : sout0_A_1 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 = k0_pay4 x2 := by
  unfold sout0_A_1
  rw [View.read_writes_junk_eq_canon]
  unfold kernelRun0_A
  dsimp only
  unfold kernelRun0_A.sl.HS1_1
  rw [View.canon_unit_zero (S := S2048x512) hz]
  simp only [View.readAt_eq_ld, harg4.read_unread, View.ld_unit_zero (S := S1x2048x512) hz3]

end Cert.KernelUpIdeal.RunA

end
-- ==== Proof.UpRunB.lean ====
module

public import proofs.«01_k».proof.Proof.UpTile

@[expose] public section

set_option maxRecDepth 16384
set_option backward.proofsInPublic true

noncomputable section

open Idealize.ShloMosaic Idealize.ShloMosaic.TcCoe Idealize.SL.Sem

namespace Cert.KernelUpIdeal.RunB

open Cert.KernelUpIdeal Cert.KernelUpIdeal.Gen Cert.KernelUpIdeal.Ut

theorem hz : (![0, 0] : Fin 2 → Nat) = fun _ => 0 := funext fun a => by fin_cases a <;> rfl

theorem hz3 : (![0, 0, 0] : Fin 3 → Nat) = fun _ => 0 := funext fun a => by fin_cases a <;> rfl

variable (c : Dev nD) (i : grid0.Coords) (arg2 : Memref sig .tc .vmem S2048x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S2048x512 .bf16) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S1032x512 .f32) (harg12 : arg12.IsWhole) (arg13 : Memref sig .tc .vmem S1032x512 .f32) (harg13 : arg13.IsWhole) (hc0 : ¬cond0_0 i)
    (x0 : Vec Ideal S2048x2048 .bf16) (x1 : Vec Ideal S1x2048x512 .f32) (x2 : Vec Ideal S1x2048x512 .f32) (x3 : Vec Ideal S3x512 .f32) (x4 : Vec Ideal S3x512 .f32) (x5 : Vec Ideal S1x512 .f32) (x6 : Vec Ideal S1x512 .f32) (xs0 : Vec Ideal S2048x512 .bf16) (xs1 : Vec Ideal S2048x512 .bf16) (xs2 : Vec Ideal S1032x512 .f32) (xs3 : Vec Ideal S1032x512 .f32)

/-- The projection's rows a later point sees, for the gate: the carried 8, then its own. -/
abbrev zg : ℕ → Fin 512 → EReal := zz (fun s l => if h : s < 1032 then xs2 (ix2 ⟨s, h⟩ l) else 0) x0 xs0

/-- The same for the up half. -/
abbrev zu : ℕ → Fin 512 → EReal := zz (fun s l => if h : s < 1032 then xs3 (ix2 ⟨s, h⟩ l) else 0) x0 xs1

/-- The gate's product of the first half. -/
theorem gB (a : Fin 1024) (l : Fin 512) (inb) :
    k0_pay7 (F := Ideal) (View.ld (Val := Elt Ideal) (S := S2048x2048) (e' := .bf16) x0 (Rect.unit (s := S2048x2048) ![0, 0] S1024x2048.size inb)) xs0 (ix2 a l)
      = zg x0 xs0 xs2 (8 + a.val) l :=
  (half_apply _ x0 _ _ a l (by omega)).trans (congrArg (zg x0 xs0 xs2 · l) (Nat.zero_add _))

/-- The gate's buffer's rows after the first half's product, which it has stored. -/
theorem g1 (s : ℕ) (h8 : 8 ≤ s) (hs : s < 1032) (l : Fin 512) :
    View.canon (kernelRun0_B.sl.HS2_1 (F := Ideal) c arg2 harg2 arg10 harg10 x0 xs0) (ix2 ⟨s, hs⟩ l) = zg x0 xs0 xs2 s l := by
  obtain ⟨a, rfl⟩ : ∃ a, s = 8 + a := ⟨s - 8, by omega⟩
  unfold kernelRun0_B.sl.HS2_1
  refine (canon_body _ [] _ ⟨a, by omega⟩ l hs).trans ?_
  simp only [View.readAt_eq_ld, harg2.read_unread, harg10.read_unread, View.ld_unit_zero (S := S2048x512) hz]
  exact gB x0 xs0 xs2 ⟨a, by omega⟩ l _

/-- The same buffer's every row, over what the point before left. -/
theorem g1' (s : ℕ) (hs : s < 1032) (l : Fin 512) :
    arg12.view.read (Elt Ideal) (arg12.view.writes (Elt Ideal) (harg12.unread xs2) (kernelRun0_B.sl.HS2_1 (F := Ideal) c arg2 harg2 arg10 harg10 x0 xs0)) (ix2 ⟨s, hs⟩ l)
      = zg x0 xs0 xs2 s l := by
  unfold kernelRun0_B.sl.HS2_1
  refine read_buf (zg x0 xs0 xs2) _ _ _ _ (fun a l => ?_) (fun a l h => ?_) s hs l
  · simp only [View.readAt_eq_ld, harg2.read_unread, harg10.read_unread, View.ld_unit_zero (S := S2048x512) hz]
    exact gB x0 xs0 xs2 a l _
  · rw [harg12.read_unread]
    exact ((zz_halo _ _ _ a l).trans (dif_pos h)).symm

/-- The up half's product of the first half. -/
theorem uB (a : Fin 1024) (l : Fin 512) (inb) :
    k0_pay7 (F := Ideal) (View.ld (Val := Elt Ideal) (S := S2048x2048) (e' := .bf16) x0 (Rect.unit (s := S2048x2048) ![0, 0] S1024x2048.size inb)) xs1 (ix2 a l)
      = zu x0 xs1 xs3 (8 + a.val) l :=
  (half_apply _ x0 _ _ a l (by omega)).trans (congrArg (zu x0 xs1 xs3 · l) (Nat.zero_add _))

/-- The up half's buffer's rows after the first half's product, which it has stored. -/
theorem u1 (s : ℕ) (h8 : 8 ≤ s) (hs : s < 1032) (l : Fin 512) :
    View.canon (kernelRun0_B.sl.HS3_1 (F := Ideal) c arg2 harg2 arg11 harg11 x0 xs1) (ix2 ⟨s, hs⟩ l) = zu x0 xs1 xs3 s l := by
  obtain ⟨a, rfl⟩ : ∃ a, s = 8 + a := ⟨s - 8, by omega⟩
  unfold kernelRun0_B.sl.HS3_1 kernelRun0_B.sl.r
  refine (canon_body _ [] _ ⟨a, by omega⟩ l hs).trans ?_
  simp only [View.readAt_eq_ld, harg2.read_unread, harg11.read_unread, View.ld_unit_zero (S := S2048x512) hz]
  exact uB x0 xs1 xs3 ⟨a, by omega⟩ l _

/-- The same buffer's every row, over what the point before left. -/
theorem u1' (s : ℕ) (hs : s < 1032) (l : Fin 512) :
    arg13.view.read (Elt Ideal) (arg13.view.writes (Elt Ideal) (harg13.unread xs3) (kernelRun0_B.sl.HS3_1 (F := Ideal) c arg2 harg2 arg11 harg11 x0 xs1)) (ix2 ⟨s, hs⟩ l)
      = zu x0 xs1 xs3 s l := by
  unfold kernelRun0_B.sl.HS3_1 kernelRun0_B.sl.r
  refine read_buf (zu x0 xs1 xs3) _ _ _ _ (fun a l => ?_) (fun a l h => ?_) s hs l
  · simp only [View.readAt_eq_ld, harg2.read_unread, harg11.read_unread, View.ld_unit_zero (S := S2048x512) hz]
    exact uB x0 xs1 xs3 a l _
  · rw [harg13.read_unread]
    exact ((zz_halo _ _ _ a l).trans (dif_pos h)).symm

/-- The gate's buffer after the second half's product. -/
theorem g2 (s : ℕ) (hs : s < 1032) (l : Fin 512) :
    View.canon (kernelRun0_B.sl.HS2_3 (F := Ideal) c arg2 harg2 arg10 harg10 arg12 x0 xs0) (ix2 ⟨s, hs⟩ l) = zg x0 xs0 xs2 (1024 + s) l := by
  unfold kernelRun0_B.sl.HS2_3 kernelRun0_B.sl.v27
  refine canon_buf (fun s => zg x0 xs0 xs2 (1024 + s)) _ _ _ _ _ (fun a l => ?_) (fun a l => ?_) s hs l
  · simp only [View.readAt_eq_ld, harg2.read_unread, harg10.read_unread, View.ld_unit_zero (S := S2048x512) hz]
    exact half_apply _ x0 _ _ a l (by omega)
  · rw [pay9_eq]
    exact (cov_8 _ _ _ a l (by omega)).trans (g1 (h8 := by omega) (hs := by omega) (l := l) ..)

/-- The up half's buffer after the second half's product. -/
theorem u2 (s : ℕ) (hs : s < 1032) (l : Fin 512) :
    View.canon (kernelRun0_B.sl.HS3_3 (F := Ideal) c arg2 harg2 arg11 harg11 arg13 x0 xs1) (ix2 ⟨s, hs⟩ l) = zu x0 xs1 xs3 (1024 + s) l := by
  unfold kernelRun0_B.sl.HS3_3 kernelRun0_B.sl.v54 kernelRun0_B.sl.r_5
  refine canon_buf (fun s => zu x0 xs1 xs3 (1024 + s)) _ _ _ _ _ (fun a l => ?_) (fun a l => ?_) s hs l
  · simp only [View.readAt_eq_ld, harg2.read_unread, harg11.read_unread, View.ld_unit_zero (S := S2048x512) hz]
    exact half_apply _ x0 _ _ a l (by omega)
  · rw [pay12_eq]
    exact (cov_8 _ _ _ a l (by omega)).trans (u1 (h8 := by omega) (hs := by omega) (l := l) ..)

/-- The convolved gate, first half. -/
theorem r_1_apply (a : Fin 1024) (l : Fin 512) :
    kernelRun0_B.sl.r_1 (F := Ideal) c arg2 harg2 arg5 harg5 arg7 harg7 arg10 harg10 arg12 harg12 x0 x3 x5 xs0 xs2 (ix2 a l) = conv x5 x3 (zg x0 xs0 xs2) a.val l := by
  unfold kernelRun0_B.sl.r_1 kernelRun0_B.sl.v12
  simp only [View.readAt_eq_ld, harg5.read_unread, harg7.read_unread, View.ld_unit_zero (S := S1x512) hz]
  refine conv_apply x5 x3 (zg x0 xs0 xs2) a.val _ _ _ _ _ _ a l ?_ ?_ ?_
  · rw [Nat.add_comm a.val]
    exact (cov_1024 _ _ _ a l (by omega)).trans (g1 (h8 := by omega) (hs := by omega) (l := l) ..)
  all_goals
    rw [Nat.add_comm a.val]
    exact (ld_1024 _ _ a l (by omega)).trans (g1' (hs := by omega) (l := l) ..)

/-- The convolved up half, first half. -/
theorem r_2_apply (a : Fin 1024) (l : Fin 512) :
    kernelRun0_B.sl.r_2 (F := Ideal) c arg2 harg2 arg6 harg6 arg8 harg8 arg11 harg11 arg13 harg13 x0 x4 x6 xs1 xs3 (ix2 a l) = conv x6 x4 (zu x0 xs1 xs3) a.val l := by
  unfold kernelRun0_B.sl.r_2 kernelRun0_B.sl.v39
  simp only [View.readAt_eq_ld, harg6.read_unread, harg8.read_unread, View.ld_unit_zero (S := S1x512) hz]
  refine conv_apply x6 x4 (zu x0 xs1 xs3) a.val _ _ _ _ _ _ a l ?_ ?_ ?_
  · rw [Nat.add_comm a.val]
    exact (cov_1024 _ _ _ a l (by omega)).trans (u1 (h8 := by omega) (hs := by omega) (l := l) ..)
  all_goals
    rw [Nat.add_comm a.val]
    exact (ld_1024 _ _ a l (by omega)).trans (u1' (hs := by omega) (l := l) ..)

/-- The convolved gate, second half. -/
theorem r_8_apply (a : Fin 1024) (l : Fin 512) :
    kernelRun0_B.sl.r_8 (F := Ideal) c arg2 harg2 arg5 harg5 arg7 harg7 arg10 harg10 arg12 x0 x3 x5 xs0 (ix2 a l) = conv x5 x3 (zg x0 xs0 xs2) (1024 + a.val) l := by
  unfold kernelRun0_B.sl.r_8 kernelRun0_B.sl.r_7 kernelRun0_B.sl.r_6 kernelRun0_B.sl.v83 kernelRun0_B.sl.v89 kernelRun0_B.sl.v94
  rw [pay18_eq]
  simp only [View.readAt_eq_ld, harg5.read_unread, harg7.read_unread, View.ld_unit_zero (S := S1x512) hz]
  refine conv_apply x5 x3 (zg x0 xs0 xs2) (1024 + a.val) _ _ _ _ _ _ a l ?_ ?_ ?_
  all_goals
    rw [Nat.add_assoc, Nat.add_comm a.val]
    exact (cov_1024 _ _ _ a l (by omega)).trans (g2 (hs := by omega) (l := l) ..)

/-- The convolved up half, second half. -/
theorem r_9_apply (a : Fin 1024) (l : Fin 512) :
    kernelRun0_B.sl.r_9 (F := Ideal) c arg2 harg2 arg6 harg6 arg8 harg8 arg11 harg11 arg13 x0 x4 x6 xs1 (ix2 a l) = conv x6 x4 (zu x0 xs1 xs3) (1024 + a.val) l := by
  unfold kernelRun0_B.sl.r_9 kernelRun0_B.sl.v110 kernelRun0_B.sl.v116 kernelRun0_B.sl.v121
  simp only [View.readAt_eq_ld, harg6.read_unread, harg8.read_unread, View.ld_unit_zero (S := S1x512) hz]
  refine conv_apply x6 x4 (zu x0 xs1 xs3) (1024 + a.val) _ _ _ _ _ _ a l ?_ ?_ ?_
  all_goals
    rw [Nat.add_assoc, Nat.add_comm a.val]
    exact (cov_1024 _ _ _ a l (by omega)).trans (u2 (hs := by omega) (l := l) ..)

/-- The block the point leaves in the output. -/
theorem out_apply (a : Fin 2048) (l : Fin 512) :
    out0_B_7 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 xs2 xs3 (ix2 a l)
      = gelu (conv x5 x3 (zg x0 xs0 xs2) a.val l) * conv x6 x4 (zu x0 xs1 xs3) a.val l := by
  unfold out0_B_7
  rw [View.read_writes_junk_eq_canon]
  unfold kernelRun0_B
  dsimp only
  refine canon_out (fun a l => gelu (conv x5 x3 (zg x0 xs0 xs2) a l) * conv x6 x4 (zu x0 xs1 xs3) a l) _ _ _ _ (fun a l => ?_) (fun a l => ?_) a l
  · refine (pay2_apply _ _ a l).trans ?_
    rw [r_8_apply (xs2 := xs2), r_9_apply (xs3 := xs3)]
  · unfold kernelRun0_B.sl.r_3 kernelRun0_B.sl.r_4
    refine (pay15_apply _ _ a l).trans ?_
    rw [r_1_apply, r_2_apply]

/-- The rows the point leaves for the next one, gate. -/
theorem sout2 (a : Fin 8) (l : Fin 512) (h : a.val < 1032) :
    sout0_B_2 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 xs2 xs3 (ix2 ⟨a.val, h⟩ l) = zg x0 xs0 xs2 (2048 + a.val) l := by
  unfold sout0_B_2
  rw [View.read_writes_junk_eq_canon]
  unfold kernelRun0_B
  dsimp only
  refine (canon_head _ _ _ a l h).trans ?_
  rw [pay19_eq]
  unfold kernelRun0_B.sl.v98
  exact (cov_8 _ _ _ a l (by omega)).trans ((g2 (hs := by omega) (l := l) ..).trans (congrArg (zg x0 xs0 xs2 · l) (Nat.add_assoc 1024 1024 a.val).symm))

/-- The rows the point leaves for the next one, up half. -/
theorem sout3 (a : Fin 8) (l : Fin 512) (h : a.val < 1032) :
    sout0_B_3 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 xs1 xs2 xs3 (ix2 ⟨a.val, h⟩ l) = zu x0 xs1 xs3 (2048 + a.val) l := by
  unfold sout0_B_3
  rw [View.read_writes_junk_eq_canon]
  unfold kernelRun0_B
  dsimp only
  refine (canon_head _ _ _ a l h).trans ?_
  rw [pay1_eq]
  unfold kernelRun0_B.sl.v125
  exact (cov_8 _ _ _ a l (by omega)).trans ((u2 (hs := by omega) (l := l) ..).trans (congrArg (zu x0 xs1 xs3 · l) (Nat.add_assoc 1024 1024 a.val).symm))

end Cert.KernelUpIdeal.RunB

end
-- ==== Proof.UpRef.lean ====
module

public import proofs.«01_k».proof.Proof.UpTile
public import Idealize.ShloMosaic.Lib.KernelVsHost
public import proofs.«01_k».proof.Proof.Gen.ReferenceUpIdeal.Read

@[expose] public section

set_option maxRecDepth 16384

noncomputable section

open Idealize.ShloMosaic Idealize.ShloMosaic.TcCoe Idealize.SL.Sem

namespace Cert.KernelUpIdeal.Ut

/-- The up projection with two zero rows in front: entry (padded row, column). -/
def xp (h : FVec Ideal ⟨2, ![16384, 2048]⟩ .bf16) (w : FVec Ideal ⟨3, ![2, 2048, 11264]⟩ .f32) (s : ℕ) (c : Fin 11264) : EReal :=
  if hs : 2 ≤ s ∧ s - 2 < 16384 then ∑ k : Fin 2048, h (ix2 ⟨s - 2, hs.2⟩ k) * w (ix3 1 k c) else 0

/-- The short convolution over rows: bias, then the taps from the newest row to the oldest. -/
def cv (h : FVec Ideal ⟨2, ![16384, 2048]⟩ .bf16) (w : FVec Ideal ⟨3, ![2, 2048, 11264]⟩ .f32) (cw : FVec Ideal ⟨2, ![3, 11264]⟩ .f32)
    (cb : FVec Ideal ⟨1, ![11264]⟩ .f32) (r : ℕ) (c : Fin 11264) : EReal :=
  cb (ix1 c) + cw (ix2 2 c) * xp h w (r + 2) c + cw (ix2 1 c) * xp h w (r + 1) c + cw (ix2 0 c) * xp h w r c

/-- Entry (row, column) of the result: the gelu of the convolved gate, times the convolved up half. -/
def spec (h : FVec Ideal ⟨2, ![16384, 2048]⟩ .bf16) (w : FVec Ideal ⟨3, ![2, 2048, 11264]⟩ .f32) (cw : FVec Ideal ⟨2, ![3, 11264]⟩ .f32)
    (cb : FVec Ideal ⟨1, ![11264]⟩ .f32) (r : Fin 16384) (c : Fin 5632) : EReal :=
  gelu (cv h w cw cb r.val ⟨c.val, by omega⟩) * cv h w cw cb r.val ⟨5632 + c.val, by omega⟩

variable (h : FVec Ideal ⟨2, ![16384, 2048]⟩ .bf16) (w : FVec Ideal ⟨3, ![2, 2048, 11264]⟩ .f32) (cw : FVec Ideal ⟨2, ![3, 11264]⟩ .f32)
  (cb : FVec Ideal ⟨1, ![11264]⟩ .f32)

open Cert.ReferenceUpIdeal.Read

/-- The reference's projection. -/
theorem v3_apply [Cert.ReferenceUpIdeal.Facts] (r : Fin 16384) (c : Fin 11264) :
    val_main_v3 (F := Ideal) h w (ix2 r c) = ∑ k : Fin 2048, h (ix2 r k) * w (ix3 1 k c) := by
  pointwise [val_main_v0, val_main_v1, val_main_v2, val_main_v3]

/-- The reference's padded projection. -/
theorem v4_apply [Cert.ReferenceUpIdeal.Facts] (s : ℕ) (hs : s < 16386) (c : Fin 11264) :
    val_main_v4 (F := Ideal) h w (ix2 ⟨s, hs⟩ c) = xp h w s c := by
  unfold xp
  by_cases h2 : 2 ≤ s ∧ s - 2 < 16384
  · rw [dif_pos h2, ← v3_apply h w ⟨s - 2, h2.2⟩ c]
    unfold val_main_v4
    generalize val_main_v3 (F := Ideal) h w = y
    pointwise
    rw [dif_pos h2]
  · rw [dif_neg h2]
    unfold val_main_v4
    generalize val_main_v3 (F := Ideal) h w = y
    pointwise [val_main_call0_v0, val_main_c]
    rw [dif_neg h2]
    exact sitofp_zero (φ := .f32)

/-- The reference's convolved projection. -/
theorem v29_apply [Cert.ReferenceUpIdeal.Facts] (r : Fin 16384) (c : Fin 11264) :
    val_main_v29 (F := Ideal) h w cw cb (ix2 r c) = cv h w cw cb r.val c := by
  unfold cv
  rw [← v4_apply h w (r.val + 2) (by omega), ← v4_apply h w (r.val + 1) (by omega), ← v4_apply h w r.val (by omega)]
  pointwise [val_main_v5, val_main_v6, val_main_v7, val_main_v8, val_main_v9, val_main_v10, val_main_cst, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29]
  simp only [Nat.add_comm 1 r.val, Nat.add_comm 2 r.val, mul_comm (val_main_v4 (F := Ideal) h w _)]
  generalize cw (ix2 0 c) * _ = a0
  generalize cw (ix2 1 c) * _ = a1
  generalize cw (ix2 2 c) * _ = a2
  rw [add_comm, add_comm (a0 + a1), add_comm a0, ← add_assoc, ← add_assoc]

/-- The reference's result. -/
theorem v46_apply [Cert.ReferenceUpIdeal.Facts] (r : Fin 16384) (c : Fin 5632) :
    val_main_v46 (F := Ideal) h w cw cb (ix2 r c) = spec h w cw cb r c := by
  unfold spec gelu
  rw [← v29_apply, ← v29_apply]
  pointwise [val_main_v30, val_main_v31, val_main_v32, val_main_v33, val_main_cst_0, val_main_v34, val_main_v35, val_main_v36, val_main_cst_1, val_main_v37, val_main_v38, val_main_v39, val_main_cst_2, val_main_v40, val_main_v41, val_main_cst_3, val_main_v42, val_main_v43, val_main_v44, val_main_v45, val_main_v46]
  refine congrArg (· * _) ?_
  rw [← mul_assoc, mul_comm (val_main_v29 (F := Ideal) h w cw cb _) (Ideal.ofBits FTy.f32 1056964608#32)]

end Cert.KernelUpIdeal.Ut

end
-- ==== Proof.Up.lean ====
module

public import proofs.«01_k».proof.Defs
public import proofs.«01_k».proof.Proof.UpRunA
public import proofs.«01_k».proof.Proof.UpRunB
public import proofs.«01_k».proof.Proof.UpRef
public import proofs.«01_k».proof.Proof.Gen.KernelUpIdeal.Value
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelUpIdeal.Up

open Cert.KernelUpIdeal Cert.KernelUpIdeal.Gen Cert.KernelUpIdeal.Ut

variable (m : (ℓ : Loc nD τ sig) → Buf (Elt Ideal) ℓ) (ρ : Dev nD → PrngReg)

/-- The activations argument of device `c`. -/
abbrev hA (c : Dev nD) : FVec Ideal ⟨2, ![16384, 2048]⟩ .bf16 := m ((c : Thread nD τ).loc main_arg0)

/-- The up weight argument of device `c`. -/
abbrev wA (c : Dev nD) : FVec Ideal ⟨3, ![2, 2048, 11264]⟩ .f32 := m ((c : Thread nD τ).loc main_arg1)

/-- The taps argument of device `c`. -/
abbrev cwA (c : Dev nD) : FVec Ideal ⟨2, ![3, 11264]⟩ .f32 := m ((c : Thread nD τ).loc main_arg2)

/-- The bias argument of device `c`. -/
abbrev cbA (c : Dev nD) : FVec Ideal ⟨1, ![11264]⟩ .f32 := m ((c : Thread nD τ).loc main_arg3)

/-- The whole result array of device `c`, from the arguments as launched. -/
def W (c : Dev nD) : Buf (Elt Ideal) ((c : Thread nD τ).loc main_v1) := fun i : S16384x5632.Idx =>
  spec (hA m c) (wA m c) (cwA m c) (cbA m c) (i 0) (i 1)

/-- Column `l` of column block `j`. -/
def col (j : ℕ) (l : Fin 512) : Fin 11264 := ⟨(512 * j + l.val) % 11264, Nat.mod_lt _ (by decide)⟩

/-- Inside the array a block's column is at its place. -/
theorem col_val (j : ℕ) (hj : j < 22) (l : Fin 512) : (col j l).val = 512 * j + l.val :=
  Nat.mod_eq_of_lt (by have := l.isLt; omega)

/-- The bias the region finds: the argument as one row. -/
theorem V_v0 (c : Dev nD) : V m c main_v0 = shapeCast S1x11264 (m ((c : Thread nD τ).loc main_arg3) : FVec Ideal S11264 .f32) shapeCasts_S11264_S1x11264 := by
  unfold_abbrev_sides
  after_results
  rfl

/-- The grid has 88 points. -/
theorem lt_N (t : Fin cfg0.N) : t.val < 88 := lt_of_lt_of_eq t.isLt (by decide)

/-- Block rows of the activations. -/
theorem iblk0 (c : Dev nD) (t : Fin cfg0.N) (a : Fin 2048) (k : Fin 2048) (h : 2048 * (t.val % 8) + a.val < 16384) :
    (iblk m c 0 t : S2048x2048.Idx → EReal) (ix2 a k) = hA m c (ix2 ⟨2048 * (t.val % 8) + a.val, h⟩ k) := by
  show (V m c main_arg0 : S16384x2048.Idx → EReal) _ = _
  rw [V_main_arg0]
  refine congrArg _ (funext fun d => Fin.ext ?_)
  have e : win0_0.index t 0 = t.val % 8 ∧ win0_0.index t 1 = 0 := (by decide +kernel : ∀ t : Fin grid0.N, win0_0.index t 0 = t.val % 8 ∧ win0_0.index t 1 = 0) t
  match d with
  | ⟨0, _⟩ => show win0_0.index t 0 * 2048 + 1 * a.val = 2048 * (t.val % 8) + a.val; rw [e.1]; omega
  | ⟨1, _⟩ => show win0_0.index t 1 * 2048 + 1 * k.val = k.val; rw [e.2]; omega

/-- The gate half's weight columns. -/
theorem iblk1 (c : Dev nD) (t : Fin cfg0.N) (k : Fin 2048) (l : Fin 512) :
    (iblk m c 1 t : S1x2048x512.Idx → EReal) (ix3 0 k l) = wA m c (ix3 1 k (col (t.val / 8) l)) := by
  show (V m c main_arg1 : S2x2048x11264.Idx → EReal) _ = _
  rw [V_main_arg1]
  refine congrArg _ (funext fun d => Fin.ext ?_)
  have ht := lt_N t
  have e : win0_1.index t 0 = 1 ∧ win0_1.index t 1 = 0 ∧ win0_1.index t 2 = t.val / 8 :=
    (by decide +kernel : ∀ t : Fin grid0.N, win0_1.index t 0 = 1 ∧ win0_1.index t 1 = 0 ∧ win0_1.index t 2 = t.val / 8) t
  match d with
  | ⟨0, _⟩ => show win0_1.index t 0 * 1 + 1 * 0 = 1; rw [e.1]
  | ⟨1, _⟩ => show win0_1.index t 1 * 2048 + 1 * k.val = k.val; rw [e.2.1]; omega
  | ⟨2, _⟩ => show win0_1.index t 2 * 512 + 1 * l.val = (col (t.val / 8) l).val; rw [e.2.2, col_val _ (by omega)]; omega

/-- The up half's weight columns. -/
theorem iblk2 (c : Dev nD) (t : Fin cfg0.N) (k : Fin 2048) (l : Fin 512) :
    (iblk m c 2 t : S1x2048x512.Idx → EReal) (ix3 0 k l) = wA m c (ix3 1 k (col (t.val / 8 + 11) l)) := by
  show (V m c main_arg1 : S2x2048x11264.Idx → EReal) _ = _
  rw [V_main_arg1]
  refine congrArg _ (funext fun d => Fin.ext ?_)
  have ht := lt_N t
  have e : win0_2.index t 0 = 1 ∧ win0_2.index t 1 = 0 ∧ win0_2.index t 2 = t.val / 8 + 11 :=
    (by decide +kernel : ∀ t : Fin grid0.N, win0_2.index t 0 = 1 ∧ win0_2.index t 1 = 0 ∧ win0_2.index t 2 = t.val / 8 + 11) t
  match d with
  | ⟨0, _⟩ => show win0_2.index t 0 * 1 + 1 * 0 = 1; rw [e.1]
  | ⟨1, _⟩ => show win0_2.index t 1 * 2048 + 1 * k.val = k.val; rw [e.2.1]; omega
  | ⟨2, _⟩ => show win0_2.index t 2 * 512 + 1 * l.val = (col (t.val / 8 + 11) l).val; rw [e.2.2, col_val _ (by omega)]; omega

/-- The gate half's taps. -/
theorem iblk3 (c : Dev nD) (t : Fin cfg0.N) (k : Fin 3) (l : Fin 512) :
    (iblk m c 3 t : S3x512.Idx → EReal) (ix2 k l) = cwA m c (ix2 k (col (t.val / 8) l)) := by
  show (V m c main_arg2 : S3x11264.Idx → EReal) _ = _
  rw [V_main_arg2]
  refine congrArg _ (funext fun d => Fin.ext ?_)
  have ht := lt_N t
  have e : win0_3.index t 0 = 0 ∧ win0_3.index t 1 = t.val / 8 := (by decide +kernel : ∀ t : Fin grid0.N, win0_3.index t 0 = 0 ∧ win0_3.index t 1 = t.val / 8) t
  match d with
  | ⟨0, _⟩ => show win0_3.index t 0 * 3 + 1 * k.val = k.val; rw [e.1]; omega
  | ⟨1, _⟩ => show win0_3.index t 1 * 512 + 1 * l.val = (col (t.val / 8) l).val; rw [e.2, col_val _ (by omega)]; omega

/-- The up half's taps. -/
theorem iblk4 (c : Dev nD) (t : Fin cfg0.N) (k : Fin 3) (l : Fin 512) :
    (iblk m c 4 t : S3x512.Idx → EReal) (ix2 k l) = cwA m c (ix2 k (col (t.val / 8 + 11) l)) := by
  show (V m c main_arg2 : S3x11264.Idx → EReal) _ = _
  rw [V_main_arg2]
  refine congrArg _ (funext fun d => Fin.ext ?_)
  have ht := lt_N t
  have e : win0_4.index t 0 = 0 ∧ win0_4.index t 1 = t.val / 8 + 11 := (by decide +kernel : ∀ t : Fin grid0.N, win0_4.index t 0 = 0 ∧ win0_4.index t 1 = t.val / 8 + 11) t
  match d with
  | ⟨0, _⟩ => show win0_4.index t 0 * 3 + 1 * k.val = k.val; rw [e.1]; omega
  | ⟨1, _⟩ => show win0_4.index t 1 * 512 + 1 * l.val = (col (t.val / 8 + 11) l).val; rw [e.2, col_val _ (by omega)]; omega

/-- The bias row at a column. -/
theorem v0_apply (c : Dev nD) (l : Fin 11264) : (V m c main_v0 : S1x11264.Idx → EReal) (ix2 0 l) = cbA m c (ix1 l) := by
  rw [V_v0]
  refine shapeCast_apply (s := S11264) (t := S1x11264) _ _ _ _ ?_
  rw [Shape.rowMajor_val_two, Shape.rowMajor_val_one]
  show l.val = 0 * 11264 + l.val
  omega

/-- The gate half's bias. -/
theorem iblk5 (c : Dev nD) (t : Fin cfg0.N) (l : Fin 512) :
    (iblk m c 5 t : S1x512.Idx → EReal) (ix2 0 l) = cbA m c (ix1 (col (t.val / 8) l)) := by
  refine Eq.trans ?_ (v0_apply m c _)
  show (V m c main_v0 : S1x11264.Idx → EReal) _ = _
  refine congrArg _ (funext fun d => Fin.ext ?_)
  have ht := lt_N t
  have e : win0_5.index t 0 = 0 ∧ win0_5.index t 1 = t.val / 8 := (by decide +kernel : ∀ t : Fin grid0.N, win0_5.index t 0 = 0 ∧ win0_5.index t 1 = t.val / 8) t
  match d with
  | ⟨0, _⟩ => show win0_5.index t 0 * 1 + 1 * 0 = 0; rw [e.1]
  | ⟨1, _⟩ => show win0_5.index t 1 * 512 + 1 * l.val = (col (t.val / 8) l).val; rw [e.2, col_val _ (by omega)]; omega

/-- The up half's bias. -/
theorem iblk6 (c : Dev nD) (t : Fin cfg0.N) (l : Fin 512) :
    (iblk m c 6 t : S1x512.Idx → EReal) (ix2 0 l) = cbA m c (ix1 (col (t.val / 8 + 11) l)) := by
  refine Eq.trans ?_ (v0_apply m c _)
  show (V m c main_v0 : S1x11264.Idx → EReal) _ = _
  refine congrArg _ (funext fun d => Fin.ext ?_)
  have ht := lt_N t
  have e : win0_6.index t 0 = 0 ∧ win0_6.index t 1 = t.val / 8 + 11 := (by decide +kernel : ∀ t : Fin grid0.N, win0_6.index t 0 = 0 ∧ win0_6.index t 1 = t.val / 8 + 11) t
  match d with
  | ⟨0, _⟩ => show win0_6.index t 0 * 1 + 1 * 0 = 0; rw [e.1]
  | ⟨1, _⟩ => show win0_6.index t 1 * 512 + 1 * l.val = (col (t.val / 8 + 11) l).val; rw [e.2, col_val _ (by omega)]; omega

/-- Six rows into a block's halo, a point's projected rows are the padded projection's. -/
theorem zz_eq (h : FVec Ideal ⟨2, ![16384, 2048]⟩ .bf16) (w : FVec Ideal ⟨3, ![2, 2048, 11264]⟩ .f32) (halo : ℕ → Fin 512 → EReal)
    (x : FVec Ideal S2048x2048 .bf16) (wb : FVec Ideal S2048x512 .bf16) (i : ℕ) (hi : i < 8) (l : Fin 512) (q : Fin 11264)
    (hx : ∀ (a k : Fin 2048) (ha : 2048 * i + a.val < 16384), x (ix2 a k) = h (ix2 ⟨2048 * i + a.val, ha⟩ k))
    (hw : ∀ k : Fin 2048, wb (ix2 k l) = w (ix3 1 k q))
    (hh : ∀ a : ℕ, 6 ≤ a → a < 8 → halo a l = xp h w (2048 * i + a - 6) q) (s : ℕ) (h6 : 6 ≤ s) (hs : s < 2056) :
    zz halo x wb s l = xp h w (2048 * i + s - 6) q := by
  unfold zz
  by_cases h8 : s < 8
  · rw [if_pos h8]; exact hh s h6 h8
  · rw [if_neg h8, dif_pos (by omega)]
    unfold xp
    rw [dif_pos (by omega)]
    refine Finset.sum_congr rfl fun k _ => ?_
    rw [hx _ k (by show 2048 * i + (s - 8) < 16384; omega), hw]
    have e : 2048 * i + (s - 8) = 2048 * i + s - 6 - 2 := by omega
    simp only [e]

/-- A point's convolution is the whole convolution at the point's rows and columns. -/
theorem conv_eq (h : FVec Ideal ⟨2, ![16384, 2048]⟩ .bf16) (w : FVec Ideal ⟨3, ![2, 2048, 11264]⟩ .f32) (cw : FVec Ideal ⟨2, ![3, 11264]⟩ .f32)
    (cb : FVec Ideal ⟨1, ![11264]⟩ .f32) (b : FVec Ideal S1x512 .f32) (ws : FVec Ideal S3x512 .f32) (z : ℕ → Fin 512 → EReal) (i : ℕ) (l : Fin 512) (q : Fin 11264)
    (hb : b (ix2 0 l) = cb (ix1 q)) (hw : ∀ o : Fin 3, ws (ix2 o l) = cw (ix2 o q))
    (hz : ∀ s : ℕ, 6 ≤ s → s < 2056 → z s l = xp h w (2048 * i + s - 6) q) (a : Fin 2048) :
    conv b ws z a.val l = cv h w cw cb (2048 * i + a.val) q := by
  unfold conv cv
  have ha := a.isLt
  rw [hb, hw, hw, hw, hz _ (by omega) (by omega), hz _ (by omega) (by omega), hz _ (by omega) (by omega),
    show 2048 * i + (a.val + 8) - 6 = 2048 * i + a.val + 2 from by omega, show 2048 * i + (a.val + 7) - 6 = 2048 * i + a.val + 1 from by omega,
    show 2048 * i + (a.val + 6) - 6 = 2048 * i + a.val from by omega]

/-- Before the first row block the halo is zero. -/
theorem halo_zero (h : FVec Ideal ⟨2, ![16384, 2048]⟩ .bf16) (w : FVec Ideal ⟨3, ![2, 2048, 11264]⟩ .f32) (i : ℕ) (hi : i = 0) (q : Fin 11264) (a : ℕ) (h8 : a < 8) :
    (0 : EReal) = xp h w (2048 * i + a - 6) q := by
  unfold xp
  rw [dif_neg (by omega)]

/-- The projected rows at a first row block, gate half. -/
theorem zgA (c : Dev nD) (t : Fin cfg0.N) (h0 : t.val % 8 = 0) (l : Fin 512) (s : ℕ) (h6 : 6 ≤ s) (hs : s < 2056) :
    RunA.zg (iblk m c 0 t) (iblk m c 1 t) s l = xp (hA m c) (wA m c) (2048 * (t.val % 8) + s - 6) (col (t.val / 8) l) :=
  zz_eq _ _ _ _ _ _ (by omega) l _ (fun a k ha => iblk0 m c t a k ha) (fun k => (pay3_apply _ k l).trans (iblk1 m c t k l))
    (fun a _ h8 => halo_zero _ _ _ h0 _ a h8) s h6 hs

/-- The projected rows at a first row block, up half. -/
theorem zuA (c : Dev nD) (t : Fin cfg0.N) (h0 : t.val % 8 = 0) (l : Fin 512) (s : ℕ) (h6 : 6 ≤ s) (hs : s < 2056) :
    RunA.zu (iblk m c 0 t) (iblk m c 2 t) s l = xp (hA m c) (wA m c) (2048 * (t.val % 8) + s - 6) (col (t.val / 8 + 11) l) :=
  zz_eq _ _ _ _ _ _ (by omega) l _ (fun a k ha => iblk0 m c t a k ha) (fun k => (pay4_apply _ k l).trans (iblk2 m c t k l))
    (fun a _ h8 => halo_zero _ _ _ h0 _ a h8) s h6 hs

/-- What point `n` leaves in the carried buffers: both weight blocks, and the halo of the next row block. -/
def Inv (c : Dev nD) (n : ℕ) (o : FVec Ideal S2048x512 .bf16 × FVec Ideal S2048x512 .bf16 × FVec Ideal S2048x512 .bf16 × FVec Ideal S1032x512 .f32 × FVec Ideal S1032x512 .f32) : Prop :=
  (∀ (k : Fin 2048) (l : Fin 512), o.2.1 (ix2 k l) = wA m c (ix3 1 k (col (n / 8) l)))
  ∧ (∀ (k : Fin 2048) (l : Fin 512), o.2.2.1 (ix2 k l) = wA m c (ix3 1 k (col (n / 8 + 11) l)))
  ∧ (∀ (a : Fin 8) (l : Fin 512) (h : a.val < 1032), 6 ≤ a.val → o.2.2.2.1 (ix2 ⟨a.val, h⟩ l) = xp (hA m c) (wA m c) (2048 * (n % 8) + (2048 + a.val) - 6) (col (n / 8) l))
  ∧ (∀ (a : Fin 8) (l : Fin 512) (h : a.val < 1032), 6 ≤ a.val → o.2.2.2.2 (ix2 ⟨a.val, h⟩ l) = xp (hA m c) (wA m c) (2048 * (n % 8) + (2048 + a.val) - 6) (col (n / 8 + 11) l))

/-- The projected rows at a later row block, gate half. -/
theorem zgB (c : Dev nD) (t : Fin cfg0.N) (h0 : ¬t.val % 8 = 0) (o) (ho : Inv m c (t.val - 1) o) (l : Fin 512) (s : ℕ) (h6 : 6 ≤ s) (hs : s < 2056) :
    RunB.zg (iblk m c 0 t) o.2.1 o.2.2.2.1 s l = xp (hA m c) (wA m c) (2048 * (t.val % 8) + s - 6) (col (t.val / 8) l) := by
  have e : (t.val - 1) / 8 = t.val / 8 := by omega
  refine zz_eq _ _ _ _ _ _ (by omega) l _ (fun a k ha => iblk0 m c t a k ha) (fun k => (ho.1 k l).trans (by rw [e])) (fun a ha h8 => ?_) s h6 hs
  refine (dif_pos (show a < 1032 by omega)).trans ((ho.2.2.1 ⟨a, h8⟩ l _ ha).trans ?_)
  rw [e, show 2048 * ((t.val - 1) % 8) + (2048 + a) - 6 = 2048 * (t.val % 8) + a - 6 from by omega]

/-- The projected rows at a later row block, up half. -/
theorem zuB (c : Dev nD) (t : Fin cfg0.N) (h0 : ¬t.val % 8 = 0) (o) (ho : Inv m c (t.val - 1) o) (l : Fin 512) (s : ℕ) (h6 : 6 ≤ s) (hs : s < 2056) :
    RunB.zu (iblk m c 0 t) o.2.2.1 o.2.2.2.2 s l = xp (hA m c) (wA m c) (2048 * (t.val % 8) + s - 6) (col (t.val / 8 + 11) l) := by
  have e : (t.val - 1) / 8 = t.val / 8 := by omega
  refine zz_eq _ _ _ _ _ _ (by omega) l _ (fun a k ha => iblk0 m c t a k ha) (fun k => (ho.2.1 k l).trans (by rw [e])) (fun a ha h8 => ?_) s h6 hs
  refine (dif_pos (show a < 1032 by omega)).trans ((ho.2.2.2 ⟨a, h8⟩ l _ ha).trans ?_)
  rw [e, show 2048 * ((t.val - 1) % 8) + (2048 + a) - 6 = 2048 * (t.val % 8) + a - 6 from by omega]

set_option maxHeartbeats 1000000 in
/-- Every point leaves the carried buffers as `Inv` says. -/
theorem inv (c : Dev nD) (n : ℕ) : ∀ hn : n < cfg0.N, Inv m c n (outsAt0 m c n hn) := by
  induction n using Nat.strong_induction_on with
  | _ n ih =>
    intro hn
    by_cases h0 : n % 8 = 0
    · rw [show outsAt0 m c n hn = _ from outsAt0_A m c ⟨n, hn⟩ h0]
      unfold Inv
      dsimp only
      refine ⟨fun k l => ?_, fun k l => ?_, fun a l h ha => ?_, fun a l h ha => ?_⟩
      · exact (congrFun (RunA.sout0 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) scM0_0 (Memref.isWhole_whole _) scM0_1 (Memref.isWhole_whole _) scM0_2 (Memref.isWhole_whole _) scM0_3 (Memref.isWhole_whole _) ((hcond0_0 ⟨n, hn⟩).mpr h0) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩)) _).trans ((pay3_apply _ k l).trans (iblk1 m c ⟨n, hn⟩ k l))
      · exact (congrFun (RunA.sout1 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) scM0_0 (Memref.isWhole_whole _) scM0_1 (Memref.isWhole_whole _) scM0_2 (Memref.isWhole_whole _) scM0_3 (Memref.isWhole_whole _) ((hcond0_0 ⟨n, hn⟩).mpr h0) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩)) _).trans ((pay4_apply _ k l).trans (iblk2 m c ⟨n, hn⟩ k l))
      · refine Eq.trans (RunA.sout2 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) scM0_0 (Memref.isWhole_whole _) scM0_1 (Memref.isWhole_whole _) scM0_2 (Memref.isWhole_whole _) scM0_3 (Memref.isWhole_whole _) ((hcond0_0 ⟨n, hn⟩).mpr h0) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) a l h) (zgA m c ⟨n, hn⟩ h0 l (2048 + a.val) (by omega) (by have := a.isLt; omega))
      · refine Eq.trans (RunA.sout3 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) scM0_0 (Memref.isWhole_whole _) scM0_1 (Memref.isWhole_whole _) scM0_2 (Memref.isWhole_whole _) scM0_3 (Memref.isWhole_whole _) ((hcond0_0 ⟨n, hn⟩).mpr h0) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) a l h) (zuA m c ⟨n, hn⟩ h0 l (2048 + a.val) (by omega) (by have := a.isLt; omega))
    · have hi := ih (n - 1) (by omega) (by omega)
      have e : (n - 1) / 8 = n / 8 := by omega
      rw [show outsAt0 m c n hn = _ from outsAt0_B m c ⟨n, hn⟩ h0]
      unfold Inv
      dsimp only
      refine ⟨fun k l => ?_, fun k l => ?_, fun a l h ha => ?_, fun a l h ha => ?_⟩
      · exact (hi.1 k l).trans (by rw [e])
      · exact (hi.2.1 k l).trans (by rw [e])
      · refine Eq.trans (RunB.sout2 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) scM0_0 (Memref.isWhole_whole _) scM0_1 (Memref.isWhole_whole _) scM0_2 (Memref.isWhole_whole _) scM0_3 (Memref.isWhole_whole _) (fun h => h0 ((hcond0_0 ⟨n, hn⟩).mp h)) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (outsAt0 m c (n - 1) (Nat.lt_of_le_of_lt (Nat.sub_le _ _) hn)).2.1 (outsAt0 m c (n - 1) (Nat.lt_of_le_of_lt (Nat.sub_le _ _) hn)).2.2.1 (outsAt0 m c (n - 1) (Nat.lt_of_le_of_lt (Nat.sub_le _ _) hn)).2.2.2.1 (outsAt0 m c (n - 1) (Nat.lt_of_le_of_lt (Nat.sub_le _ _) hn)).2.2.2.2 a l h) (zgB m c ⟨n, hn⟩ h0 _ hi l (2048 + a.val) (by omega) (by have := a.isLt; omega))
      · refine Eq.trans (RunB.sout3 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) scM0_0 (Memref.isWhole_whole _) scM0_1 (Memref.isWhole_whole _) scM0_2 (Memref.isWhole_whole _) scM0_3 (Memref.isWhole_whole _) (fun h => h0 ((hcond0_0 ⟨n, hn⟩).mp h)) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (outsAt0 m c (n - 1) (Nat.lt_of_le_of_lt (Nat.sub_le _ _) hn)).2.1 (outsAt0 m c (n - 1) (Nat.lt_of_le_of_lt (Nat.sub_le _ _) hn)).2.2.1 (outsAt0 m c (n - 1) (Nat.lt_of_le_of_lt (Nat.sub_le _ _) hn)).2.2.2.1 (outsAt0 m c (n - 1) (Nat.lt_of_le_of_lt (Nat.sub_le _ _) hn)).2.2.2.2 a l h) (zuB m c ⟨n, hn⟩ h0 _ hi l (2048 + a.val) (by omega) (by have := a.isLt; omega))

/-- What point `t` leaves in the output block, over the whole arrays. -/
theorem out_eq (c : Dev nD) (t : Fin cfg0.N) (a : Fin 2048) (l : Fin 512) :
    (outsAt0 m c t.val t.isLt).1 (ix2 a l)
      = gelu (cv (hA m c) (wA m c) (cwA m c) (cbA m c) (2048 * (t.val % 8) + a.val) (col (t.val / 8) l))
        * cv (hA m c) (wA m c) (cwA m c) (cbA m c) (2048 * (t.val % 8) + a.val) (col (t.val / 8 + 11) l) := by
  by_cases h0 : t.val % 8 = 0
  · rw [outsAt0_A m c t h0]
    dsimp only
    refine Eq.trans (RunA.out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) a l) ?_
    rw [conv_eq (hA m c) (wA m c) (cwA m c) (cbA m c) _ _ _ (t.val % 8) l _ (iblk5 m c t l) (fun o => iblk3 m c t o l) (zgA m c t h0 l) a,
      conv_eq (hA m c) (wA m c) (cwA m c) (cbA m c) _ _ _ (t.val % 8) l _ (iblk6 m c t l) (fun o => iblk4 m c t o l) (zuA m c t h0 l) a]
  · have hi := inv m c (t.val - 1) (Nat.lt_of_le_of_lt (Nat.sub_le _ _) t.isLt)
    rw [outsAt0_B m c t h0]
    dsimp only
    refine Eq.trans (RunB.out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 a l) ?_
    rw [conv_eq (hA m c) (wA m c) (cwA m c) (cbA m c) _ _ _ (t.val % 8) l _ (iblk5 m c t l) (fun o => iblk3 m c t o l) (zgB m c t h0 _ hi l) a,
      conv_eq (hA m c) (wA m c) (cwA m c) (cbA m c) _ _ _ (t.val % 8) l _ (iblk6 m c t l) (fun o => iblk4 m c t o l) (zuB m c t h0 _ hi l) a]

/-- The output window's block index at point `t`. -/
theorem idx7 (t : Fin cfg0.N) : win0_7.index t 0 = t.val % 8 ∧ win0_7.index t 1 = t.val / 8 :=
  (by decide +kernel : ∀ t : Fin grid0.N, win0_7.index t 0 = t.val % 8 ∧ win0_7.index t 1 = t.val / 8) t

/-- What point `t` writes back is its block of the whole result. -/
theorem flushed_eq (c : Dev nD) (t : Fin cfg0.N) :
    (dats m 0 c).flushed 7 t = (win0_7.blk t).view.read (Elt Ideal) (W m c) := by
  rw [Value.flushed7]
  funext y
  change S2048x512.Idx at y
  have ht := lt_N t
  obtain ⟨a, l, rfl⟩ : ∃ (a : Fin 2048) (l : Fin 512), y = ix2 a l := ⟨y 0, y 1, eq_ix2 y⟩
  have hr : 2048 * (t.val % 8) + a.val < 16384 := by have := a.isLt; omega
  have hl : 512 * (t.val / 8) + l.val < 5632 := by have := l.isLt; omega
  refine (out_eq m c t a l).trans ?_
  have e : (win0_7.blk t).view.emb (ix2 a l) = (ix2 ⟨2048 * (t.val % 8) + a.val, hr⟩ ⟨512 * (t.val / 8) + l.val, hl⟩ : S16384x5632.Idx) := by
    funext d
    apply Fin.ext
    match d with
    | ⟨0, _⟩ => show win0_7.index t 0 * 2048 + 1 * a.val = 2048 * (t.val % 8) + a.val; rw [(idx7 t).1]; omega
    | ⟨1, _⟩ => show win0_7.index t 1 * 512 + 1 * l.val = 512 * (t.val / 8) + l.val; rw [(idx7 t).2]; omega
  refine Eq.trans ?_ (congrArg (W m c) e).symm
  show _ = spec _ _ _ _ ⟨2048 * (t.val % 8) + a.val, hr⟩ ⟨512 * (t.val / 8) + l.val, hl⟩
  unfold spec
  have eg : col (t.val / 8) l = ⟨512 * (t.val / 8) + l.val, by omega⟩ := Fin.ext (col_val _ (by omega) l)
  have eu : col (t.val / 8 + 11) l = ⟨5632 + (512 * (t.val / 8) + l.val), by omega⟩ :=
    Fin.ext ((col_val _ (by omega) l).trans (by show _ = 5632 + (512 * (t.val / 8) + l.val); omega))
  rw [eg, eu]

/-- An index of the result is in the block of the point its row block and column block name. -/
theorem mem_blk (t : Fin cfg0.N) (i : S16384x5632.Idx) (h : t.val = (i 1).val / 512 * 8 + (i 0).val / 2048) :
    i ∈ ((cfg0.win 7).blk t).view.set := by
  show i ∈ ((View.whole main_v1).slice (win0_7.rect t)).set
  rw [View.set_slice_whole, Rect.mem_set_unit]
  have h0 : (i 0).val < 16384 := (i 0).isLt
  have h1 : (i 1).val < 5632 := (i 1).isLt
  intro d
  match d with
  | ⟨0, _⟩ => show win0_7.index t 0 * 2048 ≤ (i 0).val ∧ (i 0).val < win0_7.index t 0 * 2048 + 2048; rw [(idx7 t).1]; omega
  | ⟨1, _⟩ => show win0_7.index t 1 * 512 ≤ (i 1).val ∧ (i 1).val < win0_7.index t 1 * 512 + 512; rw [(idx7 t).2]; omega

/-- The result array after the run is `W`. -/
theorem final (c : Dev nD) : (dats m 0 c).arrAt 7 cfg0.N = W m c :=
  (dats m 0 c).arrAt_eq_of_cover 7 (W m c) (fun t _ => flushed_eq m c t) fun i => by
    have h0 : ((i : S16384x5632.Idx) 0).val < 16384 := ((i : S16384x5632.Idx) 0).isLt
    have h1 : ((i : S16384x5632.Idx) 1).val < 5632 := ((i : S16384x5632.Idx) 1).isLt
    have hN : cfg0.N = 88 := by decide
    exact ⟨⟨((i : S16384x5632.Idx) 1).val / 512 * 8 + ((i : S16384x5632.Idx) 0).val / 2048, by omega⟩, flush0_7 _, mem_blk _ i rfl⟩

end Cert.KernelUpIdeal.Up

namespace Cert.Proof

open Cert.KernelUpIdeal.Up

/-- The up projection call computes the reference's function, at the ideal instance. -/
theorem algebraic_up [Cert.ReferenceUpIdeal.Facts] : Cert.algebraic_KernelUpIdeal_ReferenceUpIdeal := by
  intro m g m' g' _ hargs
  refine ⟨fun c => W m c, (θ_run Cert.KernelUpIdeal.defs _ _).mono (fun r h c => ?_) (Cert.KernelUpIdeal.Value.run_blocks (F := Ideal) m g),
    (θ_run Cert.ReferenceUpIdeal.defs _ _).mono (fun r h c => ?_) (Cert.ReferenceUpIdeal.Value.run (F := Ideal) m' g')⟩
  · exact ⟨(h c).1.trans (final m c), (h c).2⟩
  · refine ⟨(h c).1.trans ?_, (h c).2⟩
    obtain ⟨h0, h1, h2, h3⟩ := hargs c
    refine (Cert.ReferenceUpIdeal.Read.val_main_v46_eq (F := Ideal) m' c).trans ?_
    rw [h0, h1, h2, h3]
    funext i
    obtain ⟨a, l, rfl⟩ : ∃ (a : Fin 16384) (l : Fin 5632), i = ix2 a l := ⟨i 0, i 1, eq_ix2 i⟩
    exact Cert.KernelUpIdeal.Ut.v46_apply _ _ _ _ a l

end Cert.Proof

end
-- ==== Proof.OutRef.lean ====
module

public import proofs.«01_k».proof.Proof.Gen.ReferenceOutIdeal.Read
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem

namespace Cert.KernelOutIdeal.Ot

/-- The place of a query head of a group: the two middle heads change places. -/
def om (g : ℕ) : ℕ := g % 2 * 2 + g / 2 % 2

/-- The weight row (within the attention's 512) that goes with column `j` of the attention's result as its call leaves it. -/
def sg (j : Fin 512) : Fin 512 := ⟨(j.val / 64 % 2 * 4 + om (j.val / 128)) * 64 + j.val % 64, by unfold om; omega⟩

/-- The column of the attention's result that goes with weight row `q`. -/
def ta (q : Fin 512) : Fin 512 := ⟨om (q.val / 64 % 4) * 128 + q.val / 256 * 64 + q.val % 64, by unfold om; omega⟩

/-- The two orders are each other's inverse. -/
def perm : Fin 512 ≃ Fin 512 where
  toFun := sg
  invFun := ta
  left_inv := by decide +kernel
  right_inv := by decide +kernel

/-- Root-mean-square normalisation of a row, at an entry. -/
def rms (y : Fin 2048 → EReal) (c : Fin 2048) : EReal :=
  y c * Ideal.rsqrt (Ideal.div (∑ k : Fin 2048, y k * y k) (Ideal.ofBits .f32 0x45000000#32) + Ideal.ofBits .f32 0x358637BD#32)

/-- The three mixers' results against layer 1's out weight, the attention's columns in its call's order. -/
def mix (oa : FVec Ideal ⟨2, ![16384, 1024]⟩ .bf16) (ob oc : FVec Ideal ⟨2, ![16384, 512]⟩ .bf16) (w : FVec Ideal ⟨3, ![2, 2048, 2048]⟩ .f32)
    (r : Fin 16384) (c : Fin 2048) : EReal :=
  (∑ k : Fin 1024, oa (ix2 r k) * w (ix3 1 ⟨k.val, by omega⟩ c)) + (∑ k : Fin 512, ob (ix2 r k) * w (ix3 1 ⟨1024 + k.val, by omega⟩ c))
    + ∑ k : Fin 512, oc (ix2 r k) * w (ix3 1 ⟨1536 + (sg k).val, by omega⟩ c)

/-- The residual stream after the sub-layer, at an entry. -/
def spec1 (oa : FVec Ideal ⟨2, ![16384, 1024]⟩ .bf16) (ob oc : FVec Ideal ⟨2, ![16384, 512]⟩ .bf16) (w : FVec Ideal ⟨3, ![2, 2048, 2048]⟩ .f32)
    (x : FVec Ideal ⟨2, ![16384, 2048]⟩ .f32) (pn : FVec Ideal ⟨1, ![2048]⟩ .f32) (g1 : FVec Ideal ⟨2, ![1, 2048]⟩ .f32) (r : Fin 16384) (c : Fin 2048) : EReal :=
  x (ix2 r c) + g1 (ix2 0 c) * (rms (mix oa ob oc w r) c * pn (ix1 c))

/-- The next sub-layer's input, at an entry. -/
def spec2 (oa : FVec Ideal ⟨2, ![16384, 1024]⟩ .bf16) (ob oc : FVec Ideal ⟨2, ![16384, 512]⟩ .bf16) (w : FVec Ideal ⟨3, ![2, 2048, 2048]⟩ .f32)
    (x : FVec Ideal ⟨2, ![16384, 2048]⟩ .f32) (pn : FVec Ideal ⟨1, ![2048]⟩ .f32) (g1 : FVec Ideal ⟨2, ![1, 2048]⟩ .f32)
    (fn : FVec Ideal ⟨1, ![2048]⟩ .f32) (sc sh : FVec Ideal ⟨2, ![1, 2048]⟩ .f32) (r : Fin 16384) (c : Fin 2048) : EReal :=
  rms (spec1 oa ob oc w x pn g1 r) c * fn (ix1 c) * (Ideal.ofBits .f32 0x3F800000#32 + sc (ix2 0 c)) + sh (ix2 0 c)

open Cert.ReferenceOutIdeal.Read Cert.ReferenceOutIdeal

variable (oa : FVec Ideal ⟨2, ![16384, 1024]⟩ .bf16) (ob oc : FVec Ideal ⟨2, ![16384, 512]⟩ .bf16) (w : FVec Ideal ⟨3, ![2, 2048, 2048]⟩ .f32)
  (x : FVec Ideal ⟨2, ![16384, 2048]⟩ .f32) (pn : FVec Ideal ⟨1, ![2048]⟩ .f32) (g1 : FVec Ideal ⟨2, ![1, 2048]⟩ .f32)
  (fn : FVec Ideal ⟨1, ![2048]⟩ .f32) (sc sh : FVec Ideal ⟨2, ![1, 2048]⟩ .f32)

/-- One head's columns of the attention's result. -/
theorem v0_apply [Facts] (r : Fin 16384) (g : Fin 4) (h : Fin 2) (d : Fin 64) :
    val_main_v0 (F := Ideal) oc (ix4 r g h d) = oc (ix2 r ⟨g.val * 128 + h.val * 64 + d.val, by omega⟩) := by
  rw [val_main_v0_apply]
  refine congrArg oc (funext fun a => Fin.ext ?_)
  match a with
  | ⟨0, _⟩ => show (((r.val * 4 + g.val) * 2 + h.val) * 64 + d.val) / 512 = r.val; omega
  | ⟨1, _⟩ => show (((r.val * 4 + g.val) * 2 + h.val) * 64 + d.val) % 512 = g.val * 128 + h.val * 64 + d.val; omega

/-- The reference's reordered attention columns, head by head. -/
theorem v9_apply [Facts] (r : Fin 16384) (b : Fin 8) (d : Fin 64) :
    val_main_v9 (F := Ideal) oc (ix4 r b 0 d) = oc (ix2 r ⟨om (b.val % 4) * 128 + b.val / 4 * 64 + d.val, by unfold om; omega⟩) := by
  have e : om (b.val % 4) * 128 + b.val / 4 * 64 + d.val < 512 := by unfold om; omega
  refine Eq.trans ?_ (v0_apply oc r ⟨om (b.val % 4), by unfold om; omega⟩ ⟨b.val / 4, by omega⟩ d)
  unfold val_main_v9
  fin_cases b
  all_goals (pointwise [val_main_v1, val_main_v2, val_main_v3, val_main_v4, val_main_v5, val_main_v6, val_main_v7, val_main_v8])

/-- The reference's reordered attention columns. -/
theorem v10_apply [Facts] (r : Fin 16384) (q : Fin 512) :
    val_main_v10 (F := Ideal) oc (ix2 r q) = oc (ix2 r (ta q)) := by
  rw [val_main_v10_apply]
  have e : idx_main_v10 (ix2 r q) = ix4 r ⟨q.val / 64, by omega⟩ 0 ⟨q.val % 64, by omega⟩ := by
    funext a
    apply Fin.ext
    match a with
    | ⟨0, _⟩ => show (r.val * 512 + q.val) / 512 = r.val; omega
    | ⟨1, _⟩ => show (r.val * 512 + q.val) / 64 % 8 = q.val / 64; omega
    | ⟨2, _⟩ => rfl
    | ⟨3, _⟩ => show (r.val * 512 + q.val) % 64 = q.val % 64; omega
  rw [e, v9_apply]
  refine congrArg oc (congrArg (ix2 r) (Fin.ext ?_))
  show om (q.val / 64 % 4) * 128 + q.val / 64 / 4 * 64 + q.val % 64 = om (q.val / 64 % 4) * 128 + q.val / 256 * 64 + q.val % 64
  omega

/-- The reference's joined columns: the recurrence's. -/
theorem v11_a [Facts] (r : Fin 16384) (k : Fin 1024) (h : k.val < 2048) :
    val_main_v11 (F := Ideal) oa ob oc (ix2 r ⟨k.val, h⟩) = oa (ix2 r k) := by
  unfold val_main_v11
  generalize val_main_v10 (F := Ideal) oc = y
  pointwise

/-- The reference's joined columns: the latent attention's. -/
theorem v11_b [Facts] (r : Fin 16384) (k : Fin 512) (h : 1024 + k.val < 2048) :
    val_main_v11 (F := Ideal) oa ob oc (ix2 r ⟨1024 + k.val, h⟩) = ob (ix2 r k) := by
  unfold val_main_v11
  generalize val_main_v10 (F := Ideal) oc = y
  pointwise

/-- The reference's joined columns: the window attention's. -/
theorem v11_c [Facts] (r : Fin 16384) (k : Fin 512) (h : 1536 + k.val < 2048) :
    val_main_v11 (F := Ideal) oa ob oc (ix2 r ⟨1536 + k.val, h⟩) = oc (ix2 r (ta k)) := by
  rw [← v10_apply oc r k]
  unfold val_main_v11
  generalize val_main_v10 (F := Ideal) oc = y
  pointwise
  rw [dif_neg (by omega), dif_neg (by omega)]
  exact congrArg y (congrArg (ix2 r) (Fin.ext (by show 1536 + k.val - 1024 - 512 = k.val; omega)))

/-- The reference's projection. -/
theorem v15_apply [Facts] (r : Fin 16384) (c : Fin 2048) :
    val_main_v15 (F := Ideal) oa ob oc w (ix2 r c) = ∑ k : Fin 2048, val_main_v11 (F := Ideal) oa ob oc (ix2 r k) * w (ix3 1 k c) := by
  pointwise [val_main_v12, val_main_v13, val_main_v14, val_main_v15]

/-- The reference's projection is `mix`. -/
theorem v15_mix [Facts] (r : Fin 16384) (c : Fin 2048) :
    val_main_v15 (F := Ideal) oa ob oc w (ix2 r c) = mix oa ob oc w r c := by
  rw [v15_apply]
  unfold mix
  refine (Fin.sum_univ_add (a := 1536) (b := 512) (fun k : Fin 2048 => val_main_v11 (F := Ideal) oa ob oc (ix2 r k) * w (ix3 1 k c))).trans ?_
  refine congrArg₂ (· + ·) ?_ ?_
  · refine (Fin.sum_univ_add (a := 1024) (b := 512) (fun k : Fin 1536 => val_main_v11 (F := Ideal) oa ob oc (ix2 r (Fin.castAdd 512 k)) * w (ix3 1 (Fin.castAdd 512 k) c))).trans ?_
    refine congrArg₂ (· + ·) (Finset.sum_congr rfl fun k _ => ?_) (Finset.sum_congr rfl fun k _ => ?_)
    · exact congrArg (· * _) (v11_a oa ob oc r k (by omega))
    · exact congrArg (· * _) (v11_b oa ob oc r k (by omega))
  · refine Eq.trans (Finset.sum_congr rfl fun k _ => congrArg (· * _) (v11_c oa ob oc r k (by omega))) ?_
    refine (Equiv.sum_comp perm _).symm.trans (Finset.sum_congr rfl fun k _ => ?_)
    exact congrArg₂ (· * ·) (congrArg oc (congrArg (ix2 r) (perm.left_inv k))) rfl

/-- The reference's first result. -/
theorem v31_apply [Facts] (r : Fin 16384) (c : Fin 2048) :
    val_main_v31 (F := Ideal) oa ob oc w x pn g1 (ix2 r c) = spec1 oa ob oc w x pn g1 r c := by
  unfold spec1 rms
  simp only [← v15_mix]
  pointwise [val_main_v16, val_main_cst, val_main_v17, val_main_v18, val_main_cst_0, val_main_v19, val_main_v20, val_main_cst_1, val_main_v21, val_main_v22, val_main_v23, val_main_v24, val_main_v25, val_main_v26, val_main_v27, val_main_v28, val_main_v29, val_main_v30, val_main_v31]

/-- The reference's second result. -/
theorem v51_apply [Facts] (r : Fin 16384) (c : Fin 2048) :
    val_main_v51 (F := Ideal) oa ob oc w x pn g1 fn sc sh (ix2 r c) = spec2 oa ob oc w x pn g1 fn sc sh r c := by
  unfold spec2 rms
  simp only [← v31_apply]
  pointwise [val_main_v32, val_main_cst_2, val_main_v33, val_main_v34, val_main_cst_3, val_main_v35, val_main_v36, val_main_cst_4, val_main_v37, val_main_v38, val_main_v39, val_main_v40, val_main_v41, val_main_v42, val_main_v43, val_main_v44, val_main_cst_5, val_main_v45, val_main_v46, val_main_v47, val_main_v48, val_main_v49, val_main_v50, val_main_v51]

end Cert.KernelOutIdeal.Ot

end
-- ==== Proof.OutBlk.lean ====
module

public import proofs.«01_k».proof.Proof.OutRef
public import proofs.«01_k».proof.Proof.Gen.KernelOutIdeal.Value
public import proofs.«01_k».proof.Proof.Common

@[expose] public section

set_option maxRecDepth 16384

noncomputable section

open Idealize.ShloMosaic Idealize.ShloMosaic.TcCoe Idealize.SL.Sem

namespace Cert.KernelOutIdeal.Ot

open Cert.KernelOutIdeal Cert.KernelOutIdeal.Gen

variable (x0 : FVec Ideal S512x1024 .bf16) (x1 x2 : FVec Ideal S512x512 .bf16) (x3 : FVec Ideal S1x2048x2048 .bf16) (x4 : FVec Ideal S512x2048 .f32)
  (x5 x6 x7 x8 x9 : FVec Ideal S1x2048 .f32)

/-- A point's projection over its own blocks. -/
def bmix (a : Fin 512) (c : Fin 2048) : EReal :=
  (∑ k : Fin 1024, x0 (ix2 a k) * x3 (ix3 0 ⟨k.val, by omega⟩ c)) + (∑ k : Fin 512, x1 (ix2 a k) * x3 (ix3 0 ⟨1024 + k.val, by omega⟩ c))
    + ∑ k : Fin 512, x2 (ix2 a k) * x3 (ix3 0 ⟨1536 + k.val, by omega⟩ c)

/-- A point's first result over its own blocks. -/
def blk1 (a : Fin 512) (c : Fin 2048) : EReal :=
  x4 (ix2 a c) + x6 (ix2 0 c) * (rms (bmix x0 x1 x2 x3 a) c * x5 (ix2 0 c))

/-- A point's second result over its own blocks. -/
def blk2 (a : Fin 512) (c : Fin 2048) : EReal :=
  rms (blk1 x0 x1 x2 x3 x4 x5 x6 a) c * x7 (ix2 0 c) * (Ideal.ofBits .f32 0x3F800000#32 + x8 (ix2 0 c)) + x9 (ix2 0 c)

/-- The lower half's first result. -/
theorem pay3_apply (a : Fin 256) (c : Fin 2048) :
    k0_pay3 (F := Ideal) (View.ld x4 r0_5) (k0_pay10 x0 x1 x2 x3 x4 x5 x6 x7 x8 x9) (ix2 a c) = blk1 x0 x1 x2 x3 x4 x5 x6 ⟨a.val, by omega⟩ c := by
  unfold blk1 rms bmix
  pointwise [k0_pay3, k0_pay10, k0_pay2]

/-- The upper half's first result. -/
theorem pay7_apply (a : Fin 256) (c : Fin 2048) :
    k0_pay7 (F := Ideal) (k0_pay11 x0 x1 x2 x3 x4 x5 x6 x7 x8 x9) (View.ld x1 r0_8) (k0_pay12 x0 x1 x2 x3 x4 x5 x6 x7 x8 x9) (View.ld x2 r0_8) (View.ld x3 r0_4) (View.ld x4 r0_9) (View.ld x6 r0_6) (View.ld x5 r0_6) (ix2 a c)
      = blk1 x0 x1 x2 x3 x4 x5 x6 ⟨256 + a.val, by omega⟩ c := by
  unfold blk1 rms bmix
  pointwise [k0_pay7, k0_pay11, k0_pay12, k0_pay5, k0_pay6]

/-- The body's two stores to the first result are the two halves of `blk1`. -/
theorem out10_apply (y : S512x2048.Idx) :
    out0_10 (F := Ideal) x0 x1 x2 x3 x4 x5 x6 x7 x8 x9 y = blk1 x0 x1 x2 x3 x4 x5 x6 (y 0) (y 1) := by
  unfold out0_10
  refine View.canon_apply_of_pieces (Val := Elt Ideal) (e := .f32) (fun y : S512x2048.Idx => blk1 x0 x1 x2 x3 x4 x5 x6 (y 0) (y 1)) _ ?_ y (cover0_10 _ _ y)
  intro p hp z
  rcases List.mem_cons.mp hp with rfl | hp
  · change (⟨2, ![256, 2048]⟩ : Shape).Idx at z
    idx_vars z
    have e : r0_9.emb (ix2 z0 z1) = ix2 ⟨256 + z0.val, by omega⟩ z1 := (Common.emb2 _ z0 z1).trans (congrArg _ (Fin.ext (Nat.zero_add _)))
    rw [e]
    exact pay7_apply x0 x1 x2 x3 x4 x5 x6 x7 x8 x9 z0 z1
  · rcases List.mem_cons.mp hp with rfl | hp
    · change (⟨2, ![256, 2048]⟩ : Shape).Idx at z
      idx_vars z
      have e : r0_5.emb (ix2 z0 z1) = ix2 ⟨z0.val, by omega⟩ z1 := (Common.emb2 _ z0 z1).trans (congrArg₂ _ (Fin.ext (Nat.zero_add _)) (Fin.ext (Nat.zero_add _)))
      rw [e]
      exact pay3_apply x0 x1 x2 x3 x4 x5 x6 x7 x8 x9 z0 z1
    · cases hp

/-- The body's two stores to the second result are the two halves of `blk2`. -/
theorem out11_apply (y : S512x2048.Idx) :
    out0_11 (F := Ideal) x0 x1 x2 x3 x4 x5 x6 x7 x8 x9 y = blk2 x0 x1 x2 x3 x4 x5 x6 x7 x8 x9 (y 0) (y 1) := by
  unfold out0_11
  refine View.canon_apply_of_pieces (Val := Elt Ideal) (e := .bf16) (fun y : S512x2048.Idx => blk2 x0 x1 x2 x3 x4 x5 x6 x7 x8 x9 (y 0) (y 1)) _ ?_ y (cover0_11 _ _ y)
  intro p hp z
  rcases List.mem_cons.mp hp with rfl | hp
  · change (⟨2, ![256, 2048]⟩ : Shape).Idx at z
    idx_vars z
    have e : r0_9.emb (ix2 z0 z1) = ix2 ⟨256 + z0.val, by omega⟩ z1 := (Common.emb2 _ z0 z1).trans (congrArg _ (Fin.ext (Nat.zero_add _)))
    rw [e]
    show _ = blk2 x0 x1 x2 x3 x4 x5 x6 x7 x8 x9 ⟨256 + z0.val, by omega⟩ z1
    unfold blk2 rms
    simp only [← pay7_apply x0 x1 x2 x3 x4 x5 x6 x7 x8 x9]
    unfold k0_pay9
    generalize k0_pay7 (F := Ideal) (k0_pay11 x0 x1 x2 x3 x4 x5 x6 x7 x8 x9) _ _ _ _ _ _ _ = P
    pointwise [k0_pay1, k0_pay8]
  · rcases List.mem_cons.mp hp with rfl | hp
    · change (⟨2, ![256, 2048]⟩ : Shape).Idx at z
      idx_vars z
      have e : r0_5.emb (ix2 z0 z1) = ix2 ⟨z0.val, by omega⟩ z1 := (Common.emb2 _ z0 z1).trans (congrArg₂ _ (Fin.ext (Nat.zero_add _)) (Fin.ext (Nat.zero_add _)))
      rw [e]
      show _ = blk2 x0 x1 x2 x3 x4 x5 x6 x7 x8 x9 ⟨z0.val, by omega⟩ z1
      unfold blk2 rms
      simp only [← pay3_apply x0 x1 x2 x3 x4 x5 x6 x7 x8 x9]
      unfold k0_pay4
      generalize k0_pay3 (F := Ideal) _ (k0_pay10 x0 x1 x2 x3 x4 x5 x6 x7 x8 x9) = P
      pointwise
    · cases hp

end Cert.KernelOutIdeal.Ot

end
-- ==== Proof.OutLay.lean ====
module

public import proofs.«01_k».proof.Proof.OutRef
public import proofs.«01_k».proof.KernelOutIdeal
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem

namespace Cert.KernelOutIdeal.Ot

open Cert.KernelOutIdeal

variable [Facts]
open Facts₀

/-- The order of the query heads of a group, as the gather's start indices. -/
def heads : IVec S4x1 32 :=
  broadcastInDim S4x1 ![0] bcast_S4_S4x1_0 (select (constantI S4 1 0#1) (addi (fun i => lit0 (S4.rowMajor i)) (broadcastInDim S4 ![] bcast_S_S4 (constantI S_ 32 4#32))) (fun i => lit0 (S4.rowMajor i)))

/-- The start index of a place. -/
theorem heads_apply (g : Fin 4) : heads (ix2 g 0) = lit0 (S4.rowMajor (ix1 g)) := by
  pointwise [heads]

/-- The order, as numbers. -/
theorem heads_val : ∀ g : Fin 4, min (lit0 (S4.rowMajor (ix1 g))).toInt.toNat (4 - 1) = om g.val := by
  decide +kernel

/-- The gather takes whole heads in that order. -/
theorem gather_apply (y : FVec Ideal S2x2x4x64x2048 .f32) (a h : Fin 2) (g : Fin 4) (e : Fin 64) (c : Fin 2048) (hg : om g.val < 4) :
    Host.gather gather_S2x2x4x64x2048_S4x1_S2x2x4x64x2048_0134_2_n_n_2_1_221642048 y heads (ix5 a h g e c) = y (ix5 a h ⟨om g.val, hg⟩ e c) := by
  unfold Host.gather
  refine congrArg y (funext fun d => Fin.ext ?_)
  match d with
  | ⟨0, _⟩ => exact Nat.zero_add _
  | ⟨1, _⟩ => exact Nat.zero_add _
  | ⟨2, _⟩ =>
    refine Eq.trans ?_ ((congrArg (fun v : BitVec 32 => min v.toInt.toNat (4 - 1)) (heads_apply g)).trans (heads_val g))
    refine Eq.trans (b := min (heads (ix2 g 0)).toInt.toNat (4 - 1) + 0 + 0) ?_ rfl
    refine congrArg (fun v : BitVec 32 => min v.toInt.toNat (4 - 1) + 0 + 0) (congrArg heads ?_)
    funext b
    match b with
    | ⟨0, _⟩ => rfl
    | ⟨1, _⟩ => rfl
  | ⟨3, _⟩ => exact Nat.zero_add _
  | ⟨4, _⟩ => exact Nat.zero_add _

/-- The window attention's rows of the out weight, laid out for its call's column order. -/
def wc (w : FVec Ideal S2x2048x2048 .f32) : FVec Ideal S2x512x2048 .f32 :=
  shapeCast S2x512x2048 (transpose S2x4x2x64x2048 [0, 2, 1, 3, 4]
    (Host.gather gather_S2x2x4x64x2048_S4x1_S2x2x4x64x2048_0134_2_n_n_2_1_221642048
      (shapeCast S2x2x4x64x2048 (extractStridedSlice S2x512x2048 ![0, 1536, 0] w slices_S2x2048x2048_S2x512x2048_0_1536_0) shapeCasts_S2x512x2048_S2x2x4x64x2048) heads)
    transposes_S2x2x4x64x2048_S2x4x2x64x2048_0_2_1_3_4) shapeCasts_S2x4x2x64x2048_S2x512x2048

/-- The out weight as the host code lays it out. -/
def wl (w : FVec Ideal S2x2048x2048 .f32) : FVec Ideal S2x2048x2048 .bf16 :=
  concatenate S2x2048x2048 1 [⟨S2x1536x2048, (truncf .bf16 (extractStridedSlice S2x1536x2048 ![0, 0, 0] w slices_S2x2048x2048_S2x1536x2048_0_0_0) bitsLt_bf16_f32 : FVec Ideal S2x1536x2048 .bf16)⟩,
    ⟨S2x512x2048, (truncf .bf16 (wc w) bitsLt_bf16_f32 : FVec Ideal S2x512x2048 .bf16)⟩] concatenates_S2x1536x2048_S2x512x2048_S2x2048x2048_d1

/-- A laid-out row is the row of its head. -/
theorem wc_apply (w : FVec Ideal S2x2048x2048 .f32) (b : Fin 2) (k : Fin 512) (c : Fin 2048) (h : 1536 + (sg k).val < 2048) :
    wc w (ix3 b k c) = w (ix3 b ⟨1536 + (sg k).val, h⟩ c) := by
  have hk := k.isLt
  have hg : om (k.val / 128) < 4 := by unfold om; omega
  unfold wc
  refine (shapeCast_apply (s := S2x4x2x64x2048) (t := S2x512x2048) _ _ (ix3 b k c) (ix5 b ⟨k.val / 128, by omega⟩ ⟨k.val / 64 % 2, by omega⟩ ⟨k.val % 64, by omega⟩ c) ?_).trans ?_
  · rw [Shape.rowMajor_val_five, Shape.rowMajor_val_three]
    show (((b.val * 4 + k.val / 128) * 2 + k.val / 64 % 2) * 64 + k.val % 64) * 2048 + c.val = (b.val * 512 + k.val) * 2048 + c.val
    omega
  · refine Eq.trans (b := Host.gather gather_S2x2x4x64x2048_S4x1_S2x2x4x64x2048_0134_2_n_n_2_1_221642048
      (shapeCast S2x2x4x64x2048 (extractStridedSlice S2x512x2048 ![0, 1536, 0] w slices_S2x2048x2048_S2x512x2048_0_1536_0) shapeCasts_S2x512x2048_S2x2x4x64x2048) heads
        (ix5 b ⟨k.val / 64 % 2, by omega⟩ ⟨k.val / 128, by omega⟩ ⟨k.val % 64, by omega⟩ c)) ?_ ?_
    · generalize Host.gather _ _ heads = y
      pointwise
    · rw [gather_apply _ _ _ _ _ _ hg]
      refine (shapeCast_apply (s := S2x512x2048) (t := S2x2x4x64x2048) _ _ _ (ix3 b (sg k) c) ?_).trans ?_
      · rw [Shape.rowMajor_val_five, Shape.rowMajor_val_three]
        have hs : (sg k).val = (k.val / 64 % 2 * 4 + om (k.val / 128)) * 64 + k.val % 64 := rfl
        show (b.val * 512 + (sg k).val) * 2048 + c.val
          = (((b.val * 2 + k.val / 64 % 2) * 4 + om (k.val / 128)) * 64 + k.val % 64) * 2048 + c.val
        omega
      · pointwise

/-- The first rows of the laid-out weight are the weight's. -/
theorem wl_lo (w : FVec Ideal S2x2048x2048 .f32) (b : Fin 2) (p : ℕ) (hp : p < 1536) (c : Fin 2048) (h : p < 2048) :
    wl w (ix3 b ⟨p, h⟩ c) = w (ix3 b ⟨p, h⟩ c) := by
  unfold wl
  generalize wc w = y
  pointwise
  try rw [dif_pos hp]

/-- The last rows of the laid-out weight are the window attention's. -/
theorem wl_hi (w : FVec Ideal S2x2048x2048 .f32) (b : Fin 2) (k : Fin 512) (c : Fin 2048) (h : 1536 + k.val < 2048) (h' : 1536 + (sg k).val < 2048) :
    wl w (ix3 b ⟨1536 + k.val, h⟩ c) = w (ix3 b ⟨1536 + (sg k).val, h'⟩ c) := by
  refine Eq.trans ?_ (wc_apply w b k c h')
  unfold wl
  generalize wc w = y
  pointwise

end Cert.KernelOutIdeal.Ot

end
-- ==== Proof.Out.lean ====
module

public import proofs.«01_k».proof.Defs
public import proofs.«01_k».proof.Proof.OutBlk
public import proofs.«01_k».proof.Proof.OutLay
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelOutIdeal.Ot

open Cert.KernelOutIdeal Cert.KernelOutIdeal.Gen

variable (m : (ℓ : Loc nD τ sig) → Buf (Elt Ideal) ℓ) (ρ : Dev nD → PrngReg)

/-- The whole first result of device `c`, from the arguments as launched. -/
def W1 (c : Dev nD) : Buf (Elt Ideal) ((c : Thread nD τ).loc main_v15_0) := fun i : S16384x2048.Idx =>
  spec1 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1)

/-- The whole second result of device `c`, from the arguments as launched. -/
def W2 (c : Dev nD) : Buf (Elt Ideal) ((c : Thread nD τ).loc main_v15_1) := fun i : S16384x2048.Idx =>
  spec2 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (i 0) (i 1)

/-- The weight the region finds: the argument as the host code lays it out. -/
theorem V_v12 (c : Dev nD) : V m c main_v12 = wl (m ((c : Thread nD τ).loc main_arg3)) := by
  unfold_abbrev_sides
  after_results
  rfl

/-- The first norm's weight the region finds: the argument as one row. -/
theorem V_v13 (c : Dev nD) : V m c main_v13 = shapeCast S1x2048 (m ((c : Thread nD τ).loc main_arg5) : FVec Ideal S2048 .f32) shapeCasts_S2048_S1x2048 := by
  unfold_abbrev_sides
  after_results
  rfl

/-- The second norm's weight the region finds: the argument as one row. -/
theorem V_v14 (c : Dev nD) : V m c main_v14 = shapeCast S1x2048 (m ((c : Thread nD τ).loc main_arg7) : FVec Ideal S2048 .f32) shapeCasts_S2048_S1x2048 := by
  unfold_abbrev_sides
  after_results
  rfl

/-- Block rows of the first attention. -/
theorem iblk0 (c : Dev nD) (t : Fin cfg0.N) (a : Fin 512) (k : Fin 1024) (h : t.val * 512 + a.val < 16384) :
    (iblk m c 0 t : S512x1024.Idx → EReal) (ix2 a k) = (m ((c : Thread nD τ).loc main_arg0) : S16384x1024.Idx → EReal) (ix2 ⟨t.val * 512 + a.val, h⟩ k) := by
  show (V m c main_arg0 : S16384x1024.Idx → EReal) _ = _
  rw [V_main_arg0]
  refine congrArg _ (funext fun d => Fin.ext ?_)
  have e : win0_0.index t 0 = t.val ∧ win0_0.index t 1 = 0 := (by decide +kernel : ∀ t : Fin grid0.N, win0_0.index t 0 = t.val ∧ win0_0.index t 1 = 0) t
  match d with
  | ⟨0, _⟩ => show win0_0.index t 0 * 512 + 1 * a.val = t.val * 512 + a.val; rw [e.1, Nat.one_mul]
  | ⟨1, _⟩ => show win0_0.index t 1 * 1024 + 1 * k.val = k.val; rw [e.2]; omega

/-- Block rows of the delta-rule attention. -/
theorem iblk1 (c : Dev nD) (t : Fin cfg0.N) (a : Fin 512) (k : Fin 512) (h : t.val * 512 + a.val < 16384) :
    (iblk m c 1 t : S512x512.Idx → EReal) (ix2 a k) = (m ((c : Thread nD τ).loc main_arg1) : S16384x512.Idx → EReal) (ix2 ⟨t.val * 512 + a.val, h⟩ k) := by
  show (V m c main_arg1 : S16384x512.Idx → EReal) _ = _
  rw [V_main_arg1]
  refine congrArg _ (funext fun d => Fin.ext ?_)
  have e : win0_1.index t 0 = t.val ∧ win0_1.index t 1 = 0 := (by decide +kernel : ∀ t : Fin grid0.N, win0_1.index t 0 = t.val ∧ win0_1.index t 1 = 0) t
  match d with
  | ⟨0, _⟩ => show win0_1.index t 0 * 512 + 1 * a.val = t.val * 512 + a.val; rw [e.1, Nat.one_mul]
  | ⟨1, _⟩ => show win0_1.index t 1 * 512 + 1 * k.val = k.val; rw [e.2]; omega

/-- Block rows of the window attention. -/
theorem iblk2 (c : Dev nD) (t : Fin cfg0.N) (a : Fin 512) (k : Fin 512) (h : t.val * 512 + a.val < 16384) :
    (iblk m c 2 t : S512x512.Idx → EReal) (ix2 a k) = (m ((c : Thread nD τ).loc main_arg2) : S16384x512.Idx → EReal) (ix2 ⟨t.val * 512 + a.val, h⟩ k) := by
  show (V m c main_arg2 : S16384x512.Idx → EReal) _ = _
  rw [V_main_arg2]
  refine congrArg _ (funext fun d => Fin.ext ?_)
  have e : win0_2.index t 0 = t.val ∧ win0_2.index t 1 = 0 := (by decide +kernel : ∀ t : Fin grid0.N, win0_2.index t 0 = t.val ∧ win0_2.index t 1 = 0) t
  match d with
  | ⟨0, _⟩ => show win0_2.index t 0 * 512 + 1 * a.val = t.val * 512 + a.val; rw [e.1, Nat.one_mul]
  | ⟨1, _⟩ => show win0_2.index t 1 * 512 + 1 * k.val = k.val; rw [e.2]; omega

/-- Block rows of the residual. -/
theorem iblk4 (c : Dev nD) (t : Fin cfg0.N) (a : Fin 512) (k : Fin 2048) (h : t.val * 512 + a.val < 16384) :
    (iblk m c 4 t : S512x2048.Idx → EReal) (ix2 a k) = (m ((c : Thread nD τ).loc main_arg4) : S16384x2048.Idx → EReal) (ix2 ⟨t.val * 512 + a.val, h⟩ k) := by
  show (V m c main_arg4 : S16384x2048.Idx → EReal) _ = _
  rw [V_main_arg4]
  refine congrArg _ (funext fun d => Fin.ext ?_)
  have e : win0_4.index t 0 = t.val ∧ win0_4.index t 1 = 0 := (by decide +kernel : ∀ t : Fin grid0.N, win0_4.index t 0 = t.val ∧ win0_4.index t 1 = 0) t
  match d with
  | ⟨0, _⟩ => show win0_4.index t 0 * 512 + 1 * a.val = t.val * 512 + a.val; rw [e.1, Nat.one_mul]
  | ⟨1, _⟩ => show win0_4.index t 1 * 2048 + 1 * k.val = k.val; rw [e.2]; omega

/-- The laid-out weight's second half is the one block of the weights. -/
theorem iblk3 (c : Dev nD) (t : Fin cfg0.N) (k l : Fin 2048) :
    (iblk m c 3 t : S1x2048x2048.Idx → EReal) (ix3 0 k l) = wl (m ((c : Thread nD τ).loc main_arg3)) (ix3 1 k l) := by
  show (V m c main_v12 : S2x2048x2048.Idx → EReal) _ = _
  rw [V_v12]
  refine congrArg _ (funext fun d => Fin.ext ?_)
  have e : win0_3.index t 0 = 1 ∧ win0_3.index t 1 = 0 ∧ win0_3.index t 2 = 0 :=
    (by decide +kernel : ∀ t : Fin grid0.N, win0_3.index t 0 = 1 ∧ win0_3.index t 1 = 0 ∧ win0_3.index t 2 = 0) t
  match d with
  | ⟨0, _⟩ => show win0_3.index t 0 * 1 + 1 * 0 = 1; rw [e.1]
  | ⟨1, _⟩ => show win0_3.index t 1 * 2048 + 1 * k.val = k.val; rw [e.2.1]; omega
  | ⟨2, _⟩ => show win0_3.index t 2 * 2048 + 1 * l.val = l.val; rw [e.2.2]; omega

/-- The first norm's weight, one row at every point. -/
theorem iblk5 (c : Dev nD) (t : Fin cfg0.N) (k : Fin 2048) :
    (iblk m c 5 t : S1x2048.Idx → EReal) (ix2 0 k) = (m ((c : Thread nD τ).loc main_arg5) : S2048.Idx → EReal) (ix1 k) := by
  have h : (V m c main_v13 : S1x2048.Idx → EReal) (ix2 0 k) = (m ((c : Thread nD τ).loc main_arg5) : S2048.Idx → EReal) (ix1 k) := by
    rw [V_v13]; pointwise
  refine Eq.trans ?_ h
  show (V m c main_v13 : S1x2048.Idx → EReal) _ = _
  refine congrArg _ (funext fun d => Fin.ext ?_)
  have e : win0_5.index t 0 = 0 ∧ win0_5.index t 1 = 0 := (by decide +kernel : ∀ t : Fin grid0.N, win0_5.index t 0 = 0 ∧ win0_5.index t 1 = 0) t
  match d with
  | ⟨0, _⟩ => show win0_5.index t 0 * 1 + 1 * 0 = 0; rw [e.1]
  | ⟨1, _⟩ => show win0_5.index t 1 * 2048 + 1 * k.val = k.val; rw [e.2]; omega

/-- The second norm's weight, one row at every point. -/
theorem iblk7 (c : Dev nD) (t : Fin cfg0.N) (k : Fin 2048) :
    (iblk m c 7 t : S1x2048.Idx → EReal) (ix2 0 k) = (m ((c : Thread nD τ).loc main_arg7) : S2048.Idx → EReal) (ix1 k) := by
  have h : (V m c main_v14 : S1x2048.Idx → EReal) (ix2 0 k) = (m ((c : Thread nD τ).loc main_arg7) : S2048.Idx → EReal) (ix1 k) := by
    rw [V_v14]; pointwise
  refine Eq.trans ?_ h
  show (V m c main_v14 : S1x2048.Idx → EReal) _ = _
  refine congrArg _ (funext fun d => Fin.ext ?_)
  have e : win0_7.index t 0 = 0 ∧ win0_7.index t 1 = 0 := (by decide +kernel : ∀ t : Fin grid0.N, win0_7.index t 0 = 0 ∧ win0_7.index t 1 = 0) t
  match d with
  | ⟨0, _⟩ => show win0_7.index t 0 * 1 + 1 * 0 = 0; rw [e.1]
  | ⟨1, _⟩ => show win0_7.index t 1 * 2048 + 1 * k.val = k.val; rw [e.2]; omega

/-- The gate, one row at every point. -/
theorem iblk6 (c : Dev nD) (t : Fin cfg0.N) (k : Fin 2048) :
    (iblk m c 6 t : S1x2048.Idx → EReal) (ix2 0 k) = (m ((c : Thread nD τ).loc main_arg6) : S1x2048.Idx → EReal) (ix2 0 k) := by
  show (V m c main_arg6 : S1x2048.Idx → EReal) _ = _
  rw [V_main_arg6]
  refine congrArg _ (funext fun d => Fin.ext ?_)
  have e : win0_6.index t 0 = 0 ∧ win0_6.index t 1 = 0 := (by decide +kernel : ∀ t : Fin grid0.N, win0_6.index t 0 = 0 ∧ win0_6.index t 1 = 0) t
  match d with
  | ⟨0, _⟩ => show win0_6.index t 0 * 1 + 1 * 0 = 0; rw [e.1]
  | ⟨1, _⟩ => show win0_6.index t 1 * 2048 + 1 * k.val = k.val; rw [e.2]; omega

/-- The scale, one row at every point. -/
theorem iblk8 (c : Dev nD) (t : Fin cfg0.N) (k : Fin 2048) :
    (iblk m c 8 t : S1x2048.Idx → EReal) (ix2 0 k) = (m ((c : Thread nD τ).loc main_arg8) : S1x2048.Idx → EReal) (ix2 0 k) := by
  show (V m c main_arg8 : S1x2048.Idx → EReal) _ = _
  rw [V_main_arg8]
  refine congrArg _ (funext fun d => Fin.ext ?_)
  have e : win0_8.index t 0 = 0 ∧ win0_8.index t 1 = 0 := (by decide +kernel : ∀ t : Fin grid0.N, win0_8.index t 0 = 0 ∧ win0_8.index t 1 = 0) t
  match d with
  | ⟨0, _⟩ => show win0_8.index t 0 * 1 + 1 * 0 = 0; rw [e.1]
  | ⟨1, _⟩ => show win0_8.index t 1 * 2048 + 1 * k.val = k.val; rw [e.2]; omega

/-- The shift, one row at every point. -/
theorem iblk9 (c : Dev nD) (t : Fin cfg0.N) (k : Fin 2048) :
    (iblk m c 9 t : S1x2048.Idx → EReal) (ix2 0 k) = (m ((c : Thread nD τ).loc main_arg9) : S1x2048.Idx → EReal) (ix2 0 k) := by
  show (V m c main_arg9 : S1x2048.Idx → EReal) _ = _
  rw [V_main_arg9]
  refine congrArg _ (funext fun d => Fin.ext ?_)
  have e : win0_9.index t 0 = 0 ∧ win0_9.index t 1 = 0 := (by decide +kernel : ∀ t : Fin grid0.N, win0_9.index t 0 = 0 ∧ win0_9.index t 1 = 0) t
  match d with
  | ⟨0, _⟩ => show win0_9.index t 0 * 1 + 1 * 0 = 0; rw [e.1]
  | ⟨1, _⟩ => show win0_9.index t 1 * 2048 + 1 * k.val = k.val; rw [e.2]; omega

/-- A point's projection is the whole projection's row. -/
theorem bmix_eq (c : Dev nD) (t : Fin cfg0.N) (a : Fin 512) (h : t.val * 512 + a.val < 16384) (l : Fin 2048) :
    bmix (iblk m c 0 t) (iblk m c 1 t) (iblk m c 2 t) (iblk m c 3 t) a l = mix (m ((c : Thread nD τ).loc main_arg0)) (m ((c : Thread nD τ).loc main_arg1)) (m ((c : Thread nD τ).loc main_arg2))
      (m ((c : Thread nD τ).loc main_arg3)) ⟨t.val * 512 + a.val, h⟩ l := by
  unfold bmix mix
  refine congrArg₂ (· + ·) (congrArg₂ (· + ·) (Finset.sum_congr rfl fun k _ => ?_) (Finset.sum_congr rfl fun k _ => ?_)) (Finset.sum_congr rfl fun k _ => ?_)
  · exact congrArg₂ (· * ·) (iblk0 m c t a k h) ((iblk3 m c t _ l).trans (wl_lo _ _ _ (by have := k.isLt; omega) _ _))
  · exact congrArg₂ (· * ·) (iblk1 m c t a k h) ((iblk3 m c t _ l).trans (wl_lo _ _ _ (by have := k.isLt; omega) _ _))
  · exact congrArg₂ (· * ·) (iblk2 m c t a k h) ((iblk3 m c t _ l).trans (wl_hi _ _ k _ _ _))

/-- A point's first result is the whole first result's row. -/
theorem blk1_eq (c : Dev nD) (t : Fin cfg0.N) (a : Fin 512) (h : t.val * 512 + a.val < 16384) (l : Fin 2048) :
    blk1 (iblk m c 0 t) (iblk m c 1 t) (iblk m c 2 t) (iblk m c 3 t) (iblk m c 4 t) (iblk m c 5 t) (iblk m c 6 t) a l
      = spec1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) ⟨t.val * 512 + a.val, h⟩ l := by
  unfold blk1 spec1
  exact congrArg₂ (· + ·) (iblk4 m c t a l h) (congrArg₂ (· * ·) (iblk6 m c t l)
    (congrArg₂ (· * ·) (congrArg (fun y => rms y l) (funext fun k => bmix_eq m c t a h k)) (iblk5 m c t l)))

/-- A point's second result is the whole second result's row. -/
theorem blk2_eq (c : Dev nD) (t : Fin cfg0.N) (a : Fin 512) (h : t.val * 512 + a.val < 16384) (l : Fin 2048) :
    blk2 (iblk m c 0 t) (iblk m c 1 t) (iblk m c 2 t) (iblk m c 3 t) (iblk m c 4 t) (iblk m c 5 t) (iblk m c 6 t) (iblk m c 7 t) (iblk m c 8 t) (iblk m c 9 t) a l
      = spec2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) ⟨t.val * 512 + a.val, h⟩ l := by
  unfold blk2 spec2
  exact congrArg₂ (· + ·) (congrArg₂ (· * ·) (congrArg₂ (· * ·) (congrArg (fun y => rms y l) (funext fun k => blk1_eq m c t a h k)) (iblk7 m c t l))
    (congrArg (Ideal.ofBits .f32 0x3F800000#32 + ·) (iblk8 m c t l))) (iblk9 m c t l)

/-- A point of the grid, as a row block below 32. -/
theorem lt_N (t : Fin cfg0.N) : t.val < 32 := lt_of_lt_of_eq t.isLt (by decide)

/-- The first result's block index at point `t`. -/
theorem idx10 (t : Fin cfg0.N) : win0_10.index t 0 = t.val ∧ win0_10.index t 1 = 0 :=
  (by decide +kernel : ∀ t : Fin grid0.N, win0_10.index t 0 = t.val ∧ win0_10.index t 1 = 0) t

/-- What point `t` writes back to the first result is its block of the whole. -/
theorem flushed_eq10 (c : Dev nD) (t : Fin cfg0.N) :
    (dats m 0 c).flushed 10 t = (win0_10.blk t).view.read (Elt Ideal) (W1 m c) := by
  rw [Value.flushed10]
  funext y
  change S512x2048.Idx at y
  have ht := lt_N t
  obtain ⟨a, l, rfl⟩ : ∃ (a : Fin 512) (l : Fin 2048), y = ix2 a l := ⟨y 0, y 1, eq_ix2 y⟩
  have hr : t.val * 512 + a.val < 16384 := by have := a.isLt; omega
  refine (out10_apply (iblk m c 0 t) (iblk m c 1 t) (iblk m c 2 t) (iblk m c 3 t) (iblk m c 4 t) (iblk m c 5 t) (iblk m c 6 t) (iblk m c 7 t) (iblk m c 8 t) (iblk m c 9 t) (ix2 a l)).trans ?_
  refine (blk1_eq m c t a hr l).trans ?_
  have e : (win0_10.blk t).view.emb (ix2 a l) = (ix2 ⟨t.val * 512 + a.val, hr⟩ l : S16384x2048.Idx) := by
    funext d
    apply Fin.ext
    match d with
    | ⟨0, _⟩ => show win0_10.index t 0 * 512 + 1 * a.val = t.val * 512 + a.val; rw [(idx10 t).1, Nat.one_mul]
    | ⟨1, _⟩ => show win0_10.index t 1 * 2048 + 1 * l.val = l.val; rw [(idx10 t).2]; omega
  exact (congrArg (W1 m c) e).symm

/-- An index of the first result is in point `t`'s block exactly when its row is among the point's 512. -/
theorem mem_blk10 (t : Fin cfg0.N) (i : S16384x2048.Idx) (h : t.val = (i 0).val / 512) :
    i ∈ ((cfg0.win 10).blk t).view.set := by
  show i ∈ ((View.whole main_v15_0).slice (win0_10.rect t)).set
  rw [View.set_slice_whole, Rect.mem_set_unit]
  have h0 : (i 0).val < 16384 := (i 0).isLt
  have h1 : (i 1).val < 2048 := (i 1).isLt
  intro d
  match d with
  | ⟨0, _⟩ => show win0_10.index t 0 * 512 ≤ (i 0).val ∧ (i 0).val < win0_10.index t 0 * 512 + 512; rw [(idx10 t).1]; omega
  | ⟨1, _⟩ => show win0_10.index t 1 * 2048 ≤ (i 1).val ∧ (i 1).val < win0_10.index t 1 * 2048 + 2048; rw [(idx10 t).2]; omega

/-- The first result array after the run is `W1`. -/
theorem final10 (c : Dev nD) : (dats m 0 c).arrAt 10 cfg0.N = W1 m c :=
  (dats m 0 c).arrAt_eq_of_cover 10 (W1 m c) (fun t _ => flushed_eq10 m c t) fun i => by
    have h0 : ((i : S16384x2048.Idx) 0).val < 16384 := ((i : S16384x2048.Idx) 0).isLt
    have hN : cfg0.N = 32 := by decide
    exact ⟨⟨((i : S16384x2048.Idx) 0).val / 512, by omega⟩, flush0_10 _, mem_blk10 _ i rfl⟩

/-- The second result's block index at point `t`. -/
theorem idx11 (t : Fin cfg0.N) : win0_11.index t 0 = t.val ∧ win0_11.index t 1 = 0 :=
  (by decide +kernel : ∀ t : Fin grid0.N, win0_11.index t 0 = t.val ∧ win0_11.index t 1 = 0) t

/-- What point `t` writes back to the second result is its block of the whole. -/
theorem flushed_eq11 (c : Dev nD) (t : Fin cfg0.N) :
    (dats m 0 c).flushed 11 t = (win0_11.blk t).view.read (Elt Ideal) (W2 m c) := by
  rw [Value.flushed11]
  funext y
  change S512x2048.Idx at y
  have ht := lt_N t
  obtain ⟨a, l, rfl⟩ : ∃ (a : Fin 512) (l : Fin 2048), y = ix2 a l := ⟨y 0, y 1, eq_ix2 y⟩
  have hr : t.val * 512 + a.val < 16384 := by have := a.isLt; omega
  refine (out11_apply (iblk m c 0 t) (iblk m c 1 t) (iblk m c 2 t) (iblk m c 3 t) (iblk m c 4 t) (iblk m c 5 t) (iblk m c 6 t) (iblk m c 7 t) (iblk m c 8 t) (iblk m c 9 t) (ix2 a l)).trans ?_
  refine (blk2_eq m c t a hr l).trans ?_
  have e : (win0_11.blk t).view.emb (ix2 a l) = (ix2 ⟨t.val * 512 + a.val, hr⟩ l : S16384x2048.Idx) := by
    funext d
    apply Fin.ext
    match d with
    | ⟨0, _⟩ => show win0_11.index t 0 * 512 + 1 * a.val = t.val * 512 + a.val; rw [(idx11 t).1, Nat.one_mul]
    | ⟨1, _⟩ => show win0_11.index t 1 * 2048 + 1 * l.val = l.val; rw [(idx11 t).2]; omega
  exact (congrArg (W2 m c) e).symm

/-- An index of the second result is in point `t`'s block exactly when its row is among the point's 512. -/
theorem mem_blk11 (t : Fin cfg0.N) (i : S16384x2048.Idx) (h : t.val = (i 0).val / 512) :
    i ∈ ((cfg0.win 11).blk t).view.set := by
  show i ∈ ((View.whole main_v15_1).slice (win0_11.rect t)).set
  rw [View.set_slice_whole, Rect.mem_set_unit]
  have h0 : (i 0).val < 16384 := (i 0).isLt
  have h1 : (i 1).val < 2048 := (i 1).isLt
  intro d
  match d with
  | ⟨0, _⟩ => show win0_11.index t 0 * 512 ≤ (i 0).val ∧ (i 0).val < win0_11.index t 0 * 512 + 512; rw [(idx11 t).1]; omega
  | ⟨1, _⟩ => show win0_11.index t 1 * 2048 ≤ (i 1).val ∧ (i 1).val < win0_11.index t 1 * 2048 + 2048; rw [(idx11 t).2]; omega

/-- The second result array after the run is `W2`. -/
theorem final11 (c : Dev nD) : (dats m 0 c).arrAt 11 cfg0.N = W2 m c :=
  (dats m 0 c).arrAt_eq_of_cover 11 (W2 m c) (fun t _ => flushed_eq11 m c t) fun i => by
    have h0 : ((i : S16384x2048.Idx) 0).val < 16384 := ((i : S16384x2048.Idx) 0).isLt
    have hN : cfg0.N = 32 := by decide
    exact ⟨⟨((i : S16384x2048.Idx) 0).val / 512, by omega⟩, flush0_11 _, mem_blk11 _ i rfl⟩

end Cert.KernelOutIdeal.Ot

namespace Cert.Proof

open Cert.KernelOutIdeal.Ot

/-- The out projection call computes the reference's two functions, at the ideal instance. -/
theorem algebraic_out [Cert.ReferenceOutIdeal.Facts] : Cert.algebraic_KernelOutIdeal_ReferenceOutIdeal := by
  intro m g m' g' _ hargs
  refine ⟨fun c => W1 m c, fun c => W2 m c, (θ_run Cert.KernelOutIdeal.defs _ _).mono (fun r h c => ?_) (Cert.KernelOutIdeal.Value.run_blocks (F := Ideal) m g),
    (θ_run Cert.ReferenceOutIdeal.defs _ _).mono (fun r h c => ?_) (Cert.ReferenceOutIdeal.Value.run (F := Ideal) m' g')⟩
  · exact ⟨(h c).1.trans (final10 m c), (h c).2.1.trans (final11 m c), (h c).2.2⟩
  · obtain ⟨h0, h1, h2, h3, h4, h5, h6, h7, h8, h9⟩ := hargs c
    refine ⟨(h c).1.trans ?_, (h c).2.1.trans ?_, (h c).2.2⟩
    · refine (Cert.ReferenceOutIdeal.Read.val_main_v31_eq (F := Ideal) m' c).trans ?_
      rw [h0, h1, h2, h3, h4, h5, h6]
      funext i
      obtain ⟨a, l, rfl⟩ : ∃ (a : Fin 16384) (l : Fin 2048), i = ix2 a l := ⟨i 0, i 1, eq_ix2 i⟩
      exact v31_apply _ _ _ _ _ _ _ a l
    · refine (Cert.ReferenceOutIdeal.Read.val_main_v51_eq (F := Ideal) m' c).trans ?_
      rw [h0, h1, h2, h3, h4, h5, h6, h7, h8, h9]
      funext i
      obtain ⟨a, l, rfl⟩ : ∃ (a : Fin 16384) (l : Fin 2048), i = ix2 a l := ⟨i 0, i 1, eq_ix2 i⟩
      exact v51_apply _ _ _ _ _ _ _ _ _ _ a l

end Cert.Proof

end
-- ==== Proof.InRef.lean ====
module

public import proofs.«01_k».proof.Proof.Gen.ReferenceInIdeal.Read
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem

namespace Cert.KernelInIdeal.Ip

open Cert.ReferenceInIdeal.Read Cert.ReferenceInIdeal

variable (h : FVec Ideal ⟨2, ![16384, 2048]⟩ .bf16) (w : FVec Ideal ⟨3, ![2, 2048, 5520]⟩ .f32)

/-- One projection of a row: the row against a column of layer 1's weight. -/
def proj (r : Fin 16384) (c : Fin 5520) : EReal := ∑ k : Fin 2048, h (ix2 r k) * w (ix3 1 k c)

/-- The reference's product. -/
theorem v3_apply [Facts] (r : Fin 16384) (c : Fin 5520) : val_main_v3 (F := Ideal) h w (ix2 r c) = proj h w r c := by
  unfold proj
  pointwise [val_main_v0, val_main_v1, val_main_v2, val_main_v3]

/-- The reference's columns: the recurrence's queries. -/
theorem ref_q [Facts] (r : Fin 16384) (j : Fin 1024) (hj : 0 + j.val < 5632) :
    val_main_v18 (F := Ideal) h w (ix2 r ⟨0 + j.val, hj⟩) = proj h w r ⟨0 + j.val, by omega⟩ := by
  rw [← v3_apply]
  unfold val_main_v18 val_main_v4 val_main_v5 val_main_v6 val_main_v7 val_main_v10 val_main_v16 val_main_cst val_main_v13 val_main_v11 val_main_v12 val_main_v17 val_main_cst_0 val_main_v14 val_main_v15
  generalize val_main_v3 (F := Ideal) h w = y
  pointwise

/-- The reference's columns: the recurrence's keys. -/
theorem ref_k [Facts] (r : Fin 16384) (j : Fin 1024) (hj : 1024 + j.val < 5632) :
    val_main_v18 (F := Ideal) h w (ix2 r ⟨1024 + j.val, hj⟩) = proj h w r ⟨1024 + j.val, by omega⟩ := by
  rw [← v3_apply]
  unfold val_main_v18 val_main_v4 val_main_v5 val_main_v6 val_main_v7 val_main_v10 val_main_v16 val_main_cst val_main_v13 val_main_v11 val_main_v12 val_main_v17 val_main_cst_0 val_main_v14 val_main_v15
  generalize val_main_v3 (F := Ideal) h w = y
  pointwise

/-- The reference's columns: the recurrence's values. -/
theorem ref_v [Facts] (r : Fin 16384) (j : Fin 1024) (hj : 2048 + j.val < 5632) :
    val_main_v18 (F := Ideal) h w (ix2 r ⟨2048 + j.val, hj⟩) = proj h w r ⟨2048 + j.val, by omega⟩ := by
  rw [← v3_apply]
  unfold val_main_v18 val_main_v4 val_main_v5 val_main_v6 val_main_v7 val_main_v10 val_main_v16 val_main_cst val_main_v13 val_main_v11 val_main_v12 val_main_v17 val_main_cst_0 val_main_v14 val_main_v15
  generalize val_main_v3 (F := Ideal) h w = y
  pointwise
  all_goals
    rw [dif_neg (by omega), dif_neg (by omega), dif_pos (by omega)]
    exact congrArg y (congrArg (ix2 r) (Fin.ext (by dsimp only; omega)))

/-- The reference's columns: the recurrence's gates. -/
theorem ref_z [Facts] (r : Fin 16384) (j : Fin 1024) (hj : 3072 + j.val < 5632) :
    val_main_v18 (F := Ideal) h w (ix2 r ⟨3072 + j.val, hj⟩) = proj h w r ⟨3072 + j.val, by omega⟩ := by
  rw [← v3_apply]
  unfold val_main_v18 val_main_v4 val_main_v5 val_main_v6 val_main_v7 val_main_v10 val_main_v16 val_main_cst val_main_v13 val_main_v11 val_main_v12 val_main_v17 val_main_cst_0 val_main_v14 val_main_v15
  generalize val_main_v3 (F := Ideal) h w = y
  pointwise
  all_goals
    rw [dif_neg (by omega), dif_neg (by omega), dif_neg (by omega), dif_pos (by omega)]
    exact congrArg y (congrArg (ix2 r) (Fin.ext (by dsimp only; omega)))

/-- The reference's columns: the latent queries. -/
theorem ref_cq [Facts] (r : Fin 16384) (j : Fin 448) (hj : 4096 + j.val < 5632) :
    val_main_v18 (F := Ideal) h w (ix2 r ⟨4096 + j.val, hj⟩) = proj h w r ⟨4112 + j.val, by omega⟩ := by
  rw [← v3_apply]
  unfold val_main_v18 val_main_v4 val_main_v5 val_main_v6 val_main_v7 val_main_v10 val_main_v16 val_main_cst val_main_v13 val_main_v11 val_main_v12 val_main_v17 val_main_cst_0 val_main_v14 val_main_v15
  generalize val_main_v3 (F := Ideal) h w = y
  pointwise
  all_goals
    rw [dif_neg (by omega), dif_neg (by omega), dif_neg (by omega), dif_neg (by omega), dif_pos (by omega)]
    exact congrArg y (congrArg (ix2 r) (Fin.ext (by dsimp only; omega)))

/-- The reference's columns: the zeros after the latent queries. -/
theorem ref_n0 [Facts] (r : Fin 16384) (j : Fin 64) (hj : 4544 + j.val < 5632) :
    val_main_v18 (F := Ideal) h w (ix2 r ⟨4544 + j.val, hj⟩) = 0 := by
  unfold val_main_v18 val_main_v4 val_main_v5 val_main_v6 val_main_v7 val_main_v10 val_main_v16 val_main_cst val_main_v13 val_main_v11 val_main_v12 val_main_v17 val_main_cst_0 val_main_v14 val_main_v15
  generalize val_main_v3 (F := Ideal) h w = y
  pointwise
  all_goals
    rw [dif_neg (by omega), dif_neg (by omega), dif_neg (by omega), dif_neg (by omega), dif_neg (by omega), dif_pos (by omega)]

/-- The reference's columns: the window attention's queries. -/
theorem ref_sq [Facts] (r : Fin 16384) (j : Fin 512) (hj : 4608 + j.val < 5632) :
    val_main_v18 (F := Ideal) h w (ix2 r ⟨4608 + j.val, hj⟩) = proj h w r ⟨4752 + j.val, by omega⟩ := by
  rw [← v3_apply]
  unfold val_main_v18 val_main_v4 val_main_v5 val_main_v6 val_main_v7 val_main_v10 val_main_v16 val_main_cst val_main_v13 val_main_v11 val_main_v12 val_main_v17 val_main_cst_0 val_main_v14 val_main_v15
  generalize val_main_v3 (F := Ideal) h w = y
  pointwise
  all_goals
    rw [dif_neg (by omega), dif_neg (by omega), dif_neg (by omega), dif_neg (by omega), dif_neg (by omega), dif_neg (by omega), dif_pos (by omega)]
    exact congrArg y (congrArg (ix2 r) (Fin.ext (by dsimp only; omega)))

/-- The reference's columns: the latent keys and values. -/
theorem ref_ckv [Facts] (r : Fin 16384) (j : Fin 128) (hj : 5120 + j.val < 5632) :
    val_main_v18 (F := Ideal) h w (ix2 r ⟨5120 + j.val, hj⟩) = proj h w r ⟨4560 + j.val, by omega⟩ := by
  rw [← v3_apply]
  unfold val_main_v18 val_main_v4 val_main_v5 val_main_v6 val_main_v7 val_main_v10 val_main_v16 val_main_cst val_main_v13 val_main_v11 val_main_v12 val_main_v17 val_main_cst_0 val_main_v14 val_main_v15
  generalize val_main_v3 (F := Ideal) h w = y
  pointwise
  all_goals
    rw [dif_neg (by omega), dif_neg (by omega), dif_neg (by omega), dif_neg (by omega), dif_neg (by omega), dif_neg (by omega), dif_neg (by omega), dif_pos (by omega)]
    exact congrArg y (congrArg (ix2 r) (Fin.ext (by dsimp only; omega)))

/-- The reference's columns: the rotated key. -/
theorem ref_kr [Facts] (r : Fin 16384) (j : Fin 64) (hj : 5248 + j.val < 5632) :
    val_main_v18 (F := Ideal) h w (ix2 r ⟨5248 + j.val, hj⟩) = proj h w r ⟨4688 + j.val, by omega⟩ := by
  rw [← v3_apply]
  unfold val_main_v18 val_main_v4 val_main_v5 val_main_v6 val_main_v7 val_main_v10 val_main_v16 val_main_cst val_main_v13 val_main_v11 val_main_v12 val_main_v17 val_main_cst_0 val_main_v14 val_main_v15
  generalize val_main_v3 (F := Ideal) h w = y
  pointwise
  all_goals
    rw [dif_neg (by omega), dif_neg (by omega), dif_neg (by omega), dif_neg (by omega), dif_neg (by omega), dif_neg (by omega), dif_neg (by omega), dif_neg (by omega), dif_pos (by omega)]
    exact congrArg y (congrArg (ix2 r) (Fin.ext (by dsimp only; omega)))

/-- The reference's columns: the zeros after the rotated key. -/
theorem ref_n1 [Facts] (r : Fin 16384) (j : Fin 64) (hj : 5312 + j.val < 5632) :
    val_main_v18 (F := Ideal) h w (ix2 r ⟨5312 + j.val, hj⟩) = 0 := by
  unfold val_main_v18 val_main_v4 val_main_v5 val_main_v6 val_main_v7 val_main_v10 val_main_v16 val_main_cst val_main_v13 val_main_v11 val_main_v12 val_main_v17 val_main_cst_0 val_main_v14 val_main_v15
  generalize val_main_v3 (F := Ideal) h w = y
  pointwise
  all_goals
    rw [dif_neg (by omega), dif_neg (by omega), dif_neg (by omega), dif_neg (by omega), dif_neg (by omega), dif_neg (by omega), dif_neg (by omega), dif_neg (by omega), dif_neg (by omega), dif_pos (by omega)]

/-- The reference's columns: the window attention's keys. -/
theorem ref_sk [Facts] (r : Fin 16384) (j : Fin 128) (hj : 5376 + j.val < 5632) :
    val_main_v18 (F := Ideal) h w (ix2 r ⟨5376 + j.val, hj⟩) = proj h w r ⟨5264 + j.val, by omega⟩ := by
  rw [← v3_apply]
  unfold val_main_v18 val_main_v4 val_main_v5 val_main_v6 val_main_v7 val_main_v10 val_main_v16 val_main_cst val_main_v13 val_main_v11 val_main_v12 val_main_v17 val_main_cst_0 val_main_v14 val_main_v15
  generalize val_main_v3 (F := Ideal) h w = y
  pointwise
  all_goals
    rw [dif_neg (by omega), dif_neg (by omega), dif_neg (by omega), dif_neg (by omega), dif_neg (by omega), dif_neg (by omega), dif_neg (by omega), dif_neg (by omega), dif_neg (by omega), dif_neg (by omega), dif_pos (by omega)]
    exact congrArg y (congrArg (ix2 r) (Fin.ext (by dsimp only; omega)))

/-- The reference's columns: the window attention's values. -/
theorem ref_sv [Facts] (r : Fin 16384) (j : Fin 128) (hj : 5504 + j.val < 5632) :
    val_main_v18 (F := Ideal) h w (ix2 r ⟨5504 + j.val, hj⟩) = proj h w r ⟨5392 + j.val, by omega⟩ := by
  rw [← v3_apply]
  unfold val_main_v18 val_main_v4 val_main_v5 val_main_v6 val_main_v7 val_main_v10 val_main_v16 val_main_cst val_main_v13 val_main_v11 val_main_v12 val_main_v17 val_main_cst_0 val_main_v14 val_main_v15
  generalize val_main_v3 (F := Ideal) h w = y
  pointwise
  all_goals
    rw [dif_neg (by omega), dif_neg (by omega), dif_neg (by omega), dif_neg (by omega), dif_neg (by omega), dif_neg (by omega), dif_neg (by omega), dif_neg (by omega), dif_neg (by omega), dif_neg (by omega), dif_neg (by omega)]
    exact congrArg y (congrArg (ix2 r) (Fin.ext (by dsimp only; omega)))

/-- The reference's columns: the decay's inputs. -/
theorem ref_a [Facts] (r : Fin 16384) (j : Fin 8) (hj : 0 + j.val < 128) :
    val_main_v21 (F := Ideal) h w (ix2 r ⟨0 + j.val, hj⟩) = proj h w r ⟨4096 + j.val, by omega⟩ := by
  rw [← v3_apply]
  unfold val_main_v21 val_main_v8 val_main_v9 val_main_v20 val_main_cst_1
  generalize val_main_v3 (F := Ideal) h w = y
  pointwise

/-- The reference's columns: the step's inputs. -/
theorem ref_b [Facts] (r : Fin 16384) (j : Fin 8) (hj : 8 + j.val < 128) :
    val_main_v21 (F := Ideal) h w (ix2 r ⟨8 + j.val, hj⟩) = proj h w r ⟨4104 + j.val, by omega⟩ := by
  rw [← v3_apply]
  unfold val_main_v21 val_main_v8 val_main_v9 val_main_v20 val_main_cst_1
  generalize val_main_v3 (F := Ideal) h w = y
  pointwise

/-- The reference's columns: the zeros after the gates. -/
theorem ref_n2 [Facts] (r : Fin 16384) (j : Fin 112) (hj : 16 + j.val < 128) :
    val_main_v21 (F := Ideal) h w (ix2 r ⟨16 + j.val, hj⟩) = 0 := by
  unfold val_main_v21 val_main_v8 val_main_v9 val_main_v20 val_main_cst_1
  generalize val_main_v3 (F := Ideal) h w = y
  pointwise
  all_goals
    rw [dif_neg (by omega), dif_neg (by omega)]

end Cert.KernelInIdeal.Ip

end
-- ==== Proof.InLay.lean ====
module

public import proofs.«01_k».proof.KernelInIdeal
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem

namespace Cert.KernelInIdeal.Ip

open Cert.KernelInIdeal

variable [Facts]
open Facts₀

variable (w : FVec Ideal S2x2048x5520 .f32)

/-- The packed projections' weight as the host code lays it out. -/
def wp : FVec Ideal S2x2048x5632 .bf16 :=
  concatenate S2x2048x5632 2 [⟨S2x2048x4096, (truncf .bf16 (extractStridedSlice S2x2048x4096 ![0, 0, 0] w slices_S2x2048x5520_S2x2048x4096_0_0_0) bitsLt_bf16_f32 : FVec Ideal S2x2048x4096 .bf16)⟩,
    ⟨S2x2048x448, (truncf .bf16 (extractStridedSlice S2x2048x448 ![0, 0, 4112] w slices_S2x2048x5520_S2x2048x448_0_0_4112) bitsLt_bf16_f32 : FVec Ideal S2x2048x448 .bf16)⟩,
    ⟨S2x2048x64, (broadcastInDim S2x2048x64 ![] bcast_S_S2x2048x64 (constant S_ .bf16 0x0000#16) : FVec Ideal S2x2048x64 .bf16)⟩,
    ⟨S2x2048x512, (truncf .bf16 (extractStridedSlice S2x2048x512 ![0, 0, 4752] w slices_S2x2048x5520_S2x2048x512_0_0_4752) bitsLt_bf16_f32 : FVec Ideal S2x2048x512 .bf16)⟩,
    ⟨S2x2048x128, (truncf .bf16 (extractStridedSlice S2x2048x128 ![0, 0, 4560] w slices_S2x2048x5520_S2x2048x128_0_0_4560) bitsLt_bf16_f32 : FVec Ideal S2x2048x128 .bf16)⟩,
    ⟨S2x2048x64, (truncf .bf16 (extractStridedSlice S2x2048x64 ![0, 0, 4688] w slices_S2x2048x5520_S2x2048x64_0_0_4688) bitsLt_bf16_f32 : FVec Ideal S2x2048x64 .bf16)⟩,
    ⟨S2x2048x64, (broadcastInDim S2x2048x64 ![] bcast_S_S2x2048x64 (constant S_ .bf16 0x0000#16) : FVec Ideal S2x2048x64 .bf16)⟩,
    ⟨S2x2048x128, (truncf .bf16 (extractStridedSlice S2x2048x128 ![0, 0, 5264] w slices_S2x2048x5520_S2x2048x128_0_0_5264) bitsLt_bf16_f32 : FVec Ideal S2x2048x128 .bf16)⟩,
    ⟨S2x2048x128, (truncf .bf16 (extractStridedSlice S2x2048x128 ![0, 0, 5392] w slices_S2x2048x5520_S2x2048x128_0_0_5392) bitsLt_bf16_f32 : FVec Ideal S2x2048x128 .bf16)⟩] concatenates_S2x2048x4096_S2x2048x448_S2x2048x64_S2x2048x512_S2x2048x128_S2x2048x64_S2x2048x64_S2x2048x128_S2x2048x128_S2x2048x5632_d2

/-- The gates' weight as the host code lays it out. -/
def wab : FVec Ideal S2x2048x128 .bf16 :=
  concatenate S2x2048x128 2 [⟨S2x2048x8, (truncf .bf16 (extractStridedSlice S2x2048x8 ![0, 0, 4096] w slices_S2x2048x5520_S2x2048x8_0_0_4096) bitsLt_bf16_f32 : FVec Ideal S2x2048x8 .bf16)⟩,
    ⟨S2x2048x8, (truncf .bf16 (extractStridedSlice S2x2048x8 ![0, 0, 4104] w slices_S2x2048x5520_S2x2048x8_0_0_4104) bitsLt_bf16_f32 : FVec Ideal S2x2048x8 .bf16)⟩,
    ⟨S2x2048x112, (broadcastInDim S2x2048x112 ![] bcast_S_S2x2048x112 (constant S_ .bf16 0x0000#16) : FVec Ideal S2x2048x112 .bf16)⟩] concatenates_S2x2048x8_S2x2048x8_S2x2048x112_S2x2048x128_d2

/-- The laid-out columns: the recurrence's queries. -/
theorem ker_q (b : Fin 2) (k : Fin 2048) (j : Fin 1024) (hj : 0 + j.val < 5632) :
    wp w (ix3 b k ⟨0 + j.val, hj⟩) = w (ix3 b k ⟨0 + j.val, by omega⟩) := by
  unfold wp
  pointwise
  all_goals
    rw [dif_pos (by omega)]

/-- The laid-out columns: the recurrence's keys. -/
theorem ker_k (b : Fin 2) (k : Fin 2048) (j : Fin 1024) (hj : 1024 + j.val < 5632) :
    wp w (ix3 b k ⟨1024 + j.val, hj⟩) = w (ix3 b k ⟨1024 + j.val, by omega⟩) := by
  unfold wp
  pointwise
  all_goals
    rw [dif_pos (by omega)]

/-- The laid-out columns: the recurrence's values. -/
theorem ker_v (b : Fin 2) (k : Fin 2048) (j : Fin 1024) (hj : 2048 + j.val < 5632) :
    wp w (ix3 b k ⟨2048 + j.val, hj⟩) = w (ix3 b k ⟨2048 + j.val, by omega⟩) := by
  unfold wp
  pointwise
  all_goals
    rw [dif_pos (by omega)]

/-- The laid-out columns: the recurrence's gates. -/
theorem ker_z (b : Fin 2) (k : Fin 2048) (j : Fin 1024) (hj : 3072 + j.val < 5632) :
    wp w (ix3 b k ⟨3072 + j.val, hj⟩) = w (ix3 b k ⟨3072 + j.val, by omega⟩) := by
  unfold wp
  pointwise
  all_goals
    rw [dif_pos (by omega)]

/-- The laid-out columns: the latent queries. -/
theorem ker_cq (b : Fin 2) (k : Fin 2048) (j : Fin 448) (hj : 4096 + j.val < 5632) :
    wp w (ix3 b k ⟨4096 + j.val, hj⟩) = w (ix3 b k ⟨4112 + j.val, by omega⟩) := by
  unfold wp
  pointwise

/-- The laid-out columns: the zeros after the latent queries. -/
theorem ker_n0 (b : Fin 2) (k : Fin 2048) (j : Fin 64) (hj : 4544 + j.val < 5632) :
    wp w (ix3 b k ⟨4544 + j.val, hj⟩) = 0 := by
  unfold wp
  pointwise
  all_goals
    rw [dif_neg (by omega), dif_neg (by omega), dif_pos (by omega)]

/-- The laid-out columns: the window attention's queries. -/
theorem ker_sq (b : Fin 2) (k : Fin 2048) (j : Fin 512) (hj : 4608 + j.val < 5632) :
    wp w (ix3 b k ⟨4608 + j.val, hj⟩) = w (ix3 b k ⟨4752 + j.val, by omega⟩) := by
  unfold wp
  pointwise
  all_goals
    rw [dif_neg (by omega), dif_neg (by omega), dif_neg (by omega), dif_pos (by omega)]
    exact congrArg w (congrArg (ix3 b k) (Fin.ext (by dsimp only; omega)))

/-- The laid-out columns: the latent keys and values. -/
theorem ker_ckv (b : Fin 2) (k : Fin 2048) (j : Fin 128) (hj : 5120 + j.val < 5632) :
    wp w (ix3 b k ⟨5120 + j.val, hj⟩) = w (ix3 b k ⟨4560 + j.val, by omega⟩) := by
  unfold wp
  pointwise
  all_goals
    rw [dif_neg (by omega), dif_neg (by omega), dif_neg (by omega), dif_neg (by omega), dif_pos (by omega)]
    exact congrArg w (congrArg (ix3 b k) (Fin.ext (by dsimp only; omega)))

/-- The laid-out columns: the rotated key. -/
theorem ker_kr (b : Fin 2) (k : Fin 2048) (j : Fin 64) (hj : 5248 + j.val < 5632) :
    wp w (ix3 b k ⟨5248 + j.val, hj⟩) = w (ix3 b k ⟨4688 + j.val, by omega⟩) := by
  unfold wp
  pointwise
  all_goals
    rw [dif_neg (by omega), dif_neg (by omega), dif_neg (by omega), dif_neg (by omega), dif_neg (by omega), dif_pos (by omega)]
    exact congrArg w (congrArg (ix3 b k) (Fin.ext (by dsimp only; omega)))

/-- The laid-out columns: the zeros after the rotated key. -/
theorem ker_n1 (b : Fin 2) (k : Fin 2048) (j : Fin 64) (hj : 5312 + j.val < 5632) :
    wp w (ix3 b k ⟨5312 + j.val, hj⟩) = 0 := by
  unfold wp
  pointwise
  all_goals
    rw [dif_neg (by omega), dif_neg (by omega), dif_neg (by omega), dif_neg (by omega), dif_neg (by omega), dif_neg (by omega), dif_pos (by omega)]

/-- The laid-out columns: the window attention's keys. -/
theorem ker_sk (b : Fin 2) (k : Fin 2048) (j : Fin 128) (hj : 5376 + j.val < 5632) :
    wp w (ix3 b k ⟨5376 + j.val, hj⟩) = w (ix3 b k ⟨5264 + j.val, by omega⟩) := by
  unfold wp
  pointwise
  all_goals
    rw [dif_neg (by omega), dif_neg (by omega), dif_neg (by omega), dif_neg (by omega), dif_neg (by omega), dif_neg (by omega), dif_neg (by omega), dif_pos (by omega)]
    exact congrArg w (congrArg (ix3 b k) (Fin.ext (by dsimp only; omega)))

/-- The laid-out columns: the window attention's values. -/
theorem ker_sv (b : Fin 2) (k : Fin 2048) (j : Fin 128) (hj : 5504 + j.val < 5632) :
    wp w (ix3 b k ⟨5504 + j.val, hj⟩) = w (ix3 b k ⟨5392 + j.val, by omega⟩) := by
  unfold wp
  pointwise
  all_goals
    rw [dif_neg (by omega), dif_neg (by omega), dif_neg (by omega), dif_neg (by omega), dif_neg (by omega), dif_neg (by omega), dif_neg (by omega), dif_neg (by omega)]
    exact congrArg w (congrArg (ix3 b k) (Fin.ext (by dsimp only; omega)))

/-- The laid-out columns: the decay's inputs. -/
theorem ker_a (b : Fin 2) (k : Fin 2048) (j : Fin 8) (hj : 0 + j.val < 128) :
    wab w (ix3 b k ⟨0 + j.val, hj⟩) = w (ix3 b k ⟨4096 + j.val, by omega⟩) := by
  unfold wab
  pointwise

/-- The laid-out columns: the step's inputs. -/
theorem ker_b (b : Fin 2) (k : Fin 2048) (j : Fin 8) (hj : 8 + j.val < 128) :
    wab w (ix3 b k ⟨8 + j.val, hj⟩) = w (ix3 b k ⟨4104 + j.val, by omega⟩) := by
  unfold wab
  pointwise

/-- The laid-out columns: the zeros after the gates. -/
theorem ker_n2 (b : Fin 2) (k : Fin 2048) (j : Fin 112) (hj : 16 + j.val < 128) :
    wab w (ix3 b k ⟨16 + j.val, hj⟩) = 0 := by
  unfold wab
  pointwise
  all_goals
    rw [dif_neg (by omega), dif_neg (by omega)]

end Cert.KernelInIdeal.Ip

end
-- ==== Proof.InRun.lean ====
module

public import proofs.«01_k».proof.Proof.Gen.KernelInIdeal.Frame
public import proofs.«01_k».proof.Proof.Gen.KernelInIdeal.Skeleton
public import Idealize.ShloMosaic.Lib.Pipeline.Value
public import Idealize.ShloMosaic.Lib.Claim

@[expose] public section

set_option maxRecDepth 16384

noncomputable section

namespace Cert.KernelInIdeal.Ip

open Cert.KernelInIdeal Cert.KernelInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid and the buffers -/

/-- The branch's condition: the point is its row tile's first. -/
abbrev cond0_0 (i : grid0.Coords) : Prop := k0_cond1 i = 1#1

/-- It holds at every eleventh point. -/
theorem hcond0_0 (t : Fin cfg0.N) : cond0_0 (grid0.coords t) ↔ t.val % 11 = 0 :=
  (by decide +kernel : ∀ t : Fin grid0.N, k0_cond1 (grid0.coords t) = 1#1 ↔ t.val % 11 = 0) t

/-- The windows' current buffers at point `t`. -/
abbrev ms0_0 (t : Fin cfg0.N) : Memref sig .tc .vmem S2048x2048 .bf16 := win0_0.stage (cfg0.slots t 0)
abbrev ms0_1 (t : Fin cfg0.N) : Memref sig .tc .vmem S1x2048x512 .bf16 := win0_1.stage (cfg0.slots t 1)
abbrev ms0_2 (t : Fin cfg0.N) : Memref sig .tc .vmem S1x2048x128 .bf16 := win0_2.stage (cfg0.slots t 2)
abbrev ms0_3 (t : Fin cfg0.N) : Memref sig .tc .vmem S2048x512 .bf16 := win0_3.stage (cfg0.slots t 3)
abbrev ms0_4 (t : Fin cfg0.N) : Memref sig .tc .vmem S2048x128 .f32 := win0_4.stage (cfg0.slots t 4)

/-- The body the launch runs at point `t`. -/
theorem body_row (t : Fin cfg0.N) : defs₀ (F := F) .tc cfg0.body (cfg0.bodyArgs t (cfg0.slots t)) = bodyAt0 t := by
  unfold defs₀; rw [Defs.onTc_tc]

/-! ## What the body leaves -/

/-- The whole of each block that the body reads or writes. -/
abbrev rh : Rect S2048x2048 := Rect.unit (s := S2048x2048) ![0, 0] S2048x2048.size inb_S2048x2048_S2048x2048_0_0
abbrev rw3 : Rect S1x2048x512 := Rect.unit (s := S1x2048x512) ![0, 0, 0] S1x2048x512.size inb_S1x2048x512_S1x2048x512_0_0_0
abbrev rw4 : Rect S1x2048x128 := Rect.unit (s := S1x2048x128) ![0, 0, 0] S1x2048x128.size inb_S1x2048x128_S1x2048x128_0_0_0
abbrev ro3 : Rect S2048x512 := Rect.unit (s := S2048x512) ![0, 0] S2048x512.size inb_S2048x512_S2048x512_0_0
abbrev ro4 : Rect S2048x128 := Rect.unit (s := S2048x128) ![0, 0] S2048x128.size inb_S2048x128_S2048x128_0_0

/-- The packed projections' block after the body. -/
def out3 (x0 : Vec F S2048x2048 .bf16) (x1 : Vec F S1x2048x512 .bf16) : Vec F S2048x512 .bf16 :=
  View.canon [⟨ro3, k0_pay1 (View.ld x0 rh) (View.ld x1 rw3)⟩]

/-- The gates' block after a point that stores it. -/
def out4 (x0 : Vec F S2048x2048 .bf16) (x2 : Vec F S1x2048x128 .bf16) : Vec F S2048x128 .f32 :=
  View.canon [⟨ro4, k0_pay2 (View.ld x0 rh) (View.ld x2 rw4)⟩]

/-- One store of the whole block covers it. -/
theorem cover3 (p : Vec F S2048x512 .bf16) (y : S2048x512.Idx) :
    ∃ pc ∈ ([⟨ro3, p⟩] : List (View.Piece (Elt F) S2048x512 .bf16)), y ∈ pc.1.set :=
  View.cover_of_tiled [⟨ro3, p⟩] S2048x512.size (by rfl) y

/-- One store of the whole block covers it. -/
theorem cover4 (p : Vec F S2048x128 .f32) (y : S2048x128.Idx) :
    ∃ pc ∈ ([⟨ro4, p⟩] : List (View.Piece (Elt F) S2048x128 .f32)), y ∈ pc.1.set :=
  View.cover_of_tiled [⟨ro4, p⟩] S2048x128.size (by rfl) y

set_option maxHeartbeats 1000000 in
/-- The body at a first column block: both outputs are stored. -/
theorem run_first (c : Dev nD) (i : grid0.Coords) (arg2 : Memref sig .tc .vmem S2048x2048 .bf16) (harg2 : arg2.IsWhole) (arg3 : Memref sig .tc .vmem S1x2048x512 .bf16) (harg3 : arg3.IsWhole) (arg4 : Memref sig .tc .vmem S1x2048x128 .bf16) (harg4 : arg4.IsWhole) (arg5 : Memref sig .tc .vmem S2048x512 .bf16) (harg5 : arg5.IsWhole) (arg6 : Memref sig .tc .vmem S2048x128 .f32) (harg6 : arg6.IsWhole) (hc0 : cond0_0 i)
    (x0 : Vec F S2048x2048 .bf16) (x1 : Vec F S1x2048x512 .bf16) (x2 : Vec F S1x2048x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out3 x0 x1) ∗ owns (c : Thread nD τ) arg6 fullShare (out4 x0 x2)) -∗ K ⟨⟩))
      ⊢ wp frame (wpE (defs₀ (F := F)) Variants.none c none) E (cc0_in_proj i arg2 harg2 arg3 harg3 arg4 harg4 arg5 harg5 arg6 harg6) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr; swap; · iexact H3
    ipureintro; exact View.read_writes_eq_canon _ _ _ (cover3 _)
  iexists _; isplitr; swap; · iexact H4
  ipureintro; exact View.read_writes_eq_canon _ _ _ (cover4 _)

set_option maxHeartbeats 1000000 in
/-- The body at a later column block: the gates' block stays as it is. -/
theorem run_later (c : Dev nD) (i : grid0.Coords) (arg2 : Memref sig .tc .vmem S2048x2048 .bf16) (harg2 : arg2.IsWhole) (arg3 : Memref sig .tc .vmem S1x2048x512 .bf16) (harg3 : arg3.IsWhole) (arg4 : Memref sig .tc .vmem S1x2048x128 .bf16) (harg4 : arg4.IsWhole) (arg5 : Memref sig .tc .vmem S2048x512 .bf16) (harg5 : arg5.IsWhole) (arg6 : Memref sig .tc .vmem S2048x128 .f32) (harg6 : arg6.IsWhole) (hc0 : ¬cond0_0 i)
    (x0 : Vec F S2048x2048 .bf16) (x1 : Vec F S1x2048x512 .bf16) (x2 : Vec F S1x2048x128 .bf16) (y : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare y
        ∗ (iprop(owns (c : Thread nD τ) arg2 fullShare x0 ∗ owns (c : Thread nD τ) arg3 fullShare x1 ∗ owns (c : Thread nD τ) arg4 fullShare x2 ∗ owns (c : Thread nD τ) arg5 fullShare (out3 x0 x1) ∗ owns (c : Thread nD τ) arg6 fullShare y) -∗ K ⟨⟩))
      ⊢ wp frame (wpE (defs₀ (F := F)) Variants.none c none) E (cc0_in_proj i arg2 harg2 arg3 harg3 arg4 harg4 arg5 harg5 arg6 harg6) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr; swap; · iexact H3
    ipureintro; exact View.read_writes_eq_canon _ _ _ (cover3 _)
  iexists f4; isplitr; · ipureintro; rfl
  iexact H4

/-! ## The run -/

/-- The first grid point of `t`'s row tile. -/
def base (t : Fin cfg0.N) : Fin cfg0.N := ⟨t.val / 11 * 11, Nat.lt_of_le_of_lt (Nat.div_mul_le_self _ _) t.isLt⟩

/-- The launch's data: each input's buffer holds its block, the packed output what the point computes, the gates'
    output what the row tile's first point computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t)
    | ⟨4, _⟩ => out4 (iblk m c 0 (base t)) (iblk m c 2 (base t))
  Φ _ := Pipeline.ΦA spec0 c
  q _ := fullShare
  owed _ := 0

/-- The data's arrays are the ones that the region finds. -/
theorem A_eq (c : Dev nD) (w : Fin cfg0.W) : (dats m 0 c).A w = V m c (Pipeline.arrRef spec0 w) := by
  dsimp only [dats]

/-- What the data say of each window after the body. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = out3 (iblk m c 0 t) (iblk m c 1 t) := by dsimp only [dats]
theorem after_4 (c : Dev nD) (t : Fin cfg0.N) : (dats m 0 c).after 4 t = out4 (iblk m c 0 (base t)) (iblk m c 2 (base t)) := by dsimp only [dats]

/-- Each input's buffer holds its block when the body runs. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The gates' window is live exactly at the first column blocks. -/
theorem live4 (t : Fin cfg0.N) (h : t.val % 11 = 0) : cfg0.idle 4 (grid0.coords t) = false := by
  have e : k0_cond1 (grid0.coords t) = 1#1 := (hcond0_0 t).mpr h
  show (!(k0_cond1 (grid0.coords t) == 1#1)) = false
  rw [e]; rfl

/-- Elsewhere it is idle. -/
theorem idle4 (t : Fin cfg0.N) (h : t.val % 11 ≠ 0) : cfg0.idle 4 (grid0.coords t) = true := by
  have e : k0_cond1 (grid0.coords t) ≠ 1#1 := fun e => h ((hcond0_0 t).mp e)
  show (!(k0_cond1 (grid0.coords t) == 1#1)) = true
  rw [beq_eq_false_iff_ne.mpr e]; rfl

/-- The gates' block is not written back before the last column block. -/
theorem noflush4 (t : Fin cfg0.N) (h : t.val % 11 ≠ 10) : (cfg0.win 4).flush t = false := by
  rw [← Bool.not_eq_true]; exact fun e => h ((flush0_4 t).mp e)

/-- At a later column block the gates' buffer still holds what the row tile's first point left. -/
theorem before_4 (c : Dev nD) (d) : ∀ (n : ℕ) (t : Fin cfg0.N), t.val % 11 = n + 1 → (dats m 0 c).before 4 t d = out4 (iblk m c 0 (base t)) (iblk m c 2 (base t)) := by
  intro n
  induction n with
  | zero =>
    intro t h
    have hb : base ⟨t.val - 1, Nat.lt_of_le_of_lt (Nat.sub_le _ _) t.isLt⟩ = base t := Fin.ext (by show (t.val - 1) / 11 * 11 = t.val / 11 * 11; omega)
    rw [(dats m 0 c).before_of_pos 4 t (by omega) rfl, noflush4 _ (by show (t.val - 1) % 11 ≠ 10; omega), if_neg Bool.false_ne_true]
    unfold Dat.left
    rw [live4 _ (by show (t.val - 1) % 11 = 0; omega)]
    refine Eq.trans (b := (dats m 0 c).after 4 ⟨t.val - 1, Nat.lt_of_le_of_lt (Nat.sub_le _ _) t.isLt⟩) rfl ?_
    rw [after_4, hb]
  | succ n ih =>
    intro t h
    have hb : base ⟨t.val - 1, Nat.lt_of_le_of_lt (Nat.sub_le _ _) t.isLt⟩ = base t := Fin.ext (by show (t.val - 1) / 11 * 11 = t.val / 11 * 11; omega)
    rw [(dats m 0 c).before_of_pos 4 t (by omega) rfl, noflush4 _ (by show (t.val - 1) % 11 ≠ 10; omega), if_neg Bool.false_ne_true]
    unfold Dat.left
    rw [idle4 _ (by show (t.val - 1) % 11 ≠ 0; omega)]
    refine (ih ⟨t.val - 1, Nat.lt_of_le_of_lt (Nat.sub_le _ _) t.isLt⟩ (by show (t.val - 1) % 11 = n + 1; omega)).trans ?_
    rw [hb]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (dats m 0 c).leavesExact 4 t)

/-- What the gates' buffer holds is what the window asks for: at a point that neither stores nor writes back, what the body found. -/
theorem leaves4 (c : Dev nD) (t : Fin cfg0.N) :
    owns (c : Thread nD τ) (ms0_4 t) fullShare (out4 (iblk m c 0 (base t)) (iblk m c 2 (base t))) ⊢ ((dats m 0 c).leavesExact 4 t : sProp 𝕄) := by
  by_cases h0 : t.val % 11 = 0
  · have e : (dats m 0 c).leavesExact 4 t = owns (c : Thread nD τ) (ms0_4 t) fullShare ((dats m 0 c).after 4 t) := by
      unfold Dat.leavesExact; rw [live4 t h0]
    rw [e, after_4]
  · by_cases h1 : t.val % 11 = 10
    · have e : (dats m 0 c).leavesExact 4 t = owns (c : Thread nD τ) (ms0_4 t) fullShare ((dats m 0 c).after 4 t) := by
        unfold Dat.leavesExact; rw [idle4 t h0, (flush0_4 t).mpr h1]
      rw [e, after_4]
    · rw [(dats m 0 c).leavesExact_idle 4 t (idle4 t h0) (noflush4 t h1)]
      have e := before_4 m c (out4 (iblk m c 0 (base t)) (iblk m c 2 (base t))) (t.val % 11 - 1) t (by omega)
      iintro H
      iexists (out4 (iblk m c 0 (base t)) (iblk m c 2 (base t)))
      rw [e]
      iexact H

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl, after_0, after_1, after_2, after_3]
  have L := leaves4 m c t
  by_cases h0 : t.val % 11 = 0
  · have hb : base t = t := Fin.ext (by show t.val / 11 * 11 = t.val; omega)
    rw [hb] at L
    iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ ((hcond0_0 t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply L; iexact H4
  · have e := fun d => before_4 m c d (t.val % 11 - 1) t (by omega)
    simp only [e]
    iintro ⟨HΦ, Ho, ⟨%d0, H0⟩, ⟨%d1, H1⟩, ⟨%d2, H2⟩, ⟨%d3, H3⟩, ⟨%d4, H4⟩⟩
    iapply (run_later c (grid0.coords t) _ _ _ _ _ _ _ _ _ _ (fun h => h0 ((hcond0_0 t).mp h)) (iblk m c 0 t) (iblk m c 1 t) (iblk m c 2 t) (out4 (iblk m c 0 (base t)) (iblk m c 2 (base t))) Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply L; iexact H4

/-- The launch's obligation at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
set_option maxHeartbeats 800000 in
/-- The run: every array of the launch ends at what the data say, every counter at zero. -/
theorem run_all : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The first argument after the run. -/
theorem keep0 (c : Dev nD) {μ : (ℓ : Loc nD τ sig) → Buf (Elt F) ℓ} (h : μ ((c : Thread nD τ).loc main_arg0) = (dats m 0 c).arrAt 0 cfg0.N) :
    μ ((c : Thread nD τ).loc main_arg0) = m ((c : Thread nD τ).loc main_arg0) :=
  h.trans (((dats m 0 c).arrAt_in 0 rfl _).trans ((A_eq m c 0).trans (V_main_arg0 m c)))

/-- The arguments after the run, and the counters. -/
theorem run_frame : θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun r h => ⟨fun c => ⟨keep0 m c (μ := r.2.mem) ((h.1 c).1 0),
      ((h.1 c).2 main_arg1 (Pipeline.mem_restRefs_of main_arg1 (by decide) (by decide))).trans (V_main_arg1 m c)⟩, h.2⟩) (run_all m ρ)

/-- The two results and the arguments after the run. -/
theorem run_values : θ_run defs (onTc (τ := τ) (main (F := F))) ⟨m, fun _ => 0, ρ⟩ fun r => ∀ c : Dev nD,
      r.2.mem ((c : Thread nD τ).loc main_v23_0) = (dats m 0 c).arrAt 3 cfg0.N
      ∧ r.2.mem ((c : Thread nD τ).loc main_v23_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.1 c).1 3, (h.1 c).1 4, keep0 m c (μ := r.2.mem) ((h.1 c).1 0),
      ((h.1 c).2 main_arg1 (Pipeline.mem_restRefs_of main_arg1 (by decide) (by decide))).trans (V_main_arg1 m c)⟩) (run_all m ρ)

/-- What a point writes back to the packed output. -/
theorem flushed3 (c : Dev nD) (t : Fin cfg0.N) :
    (dats m 0 c).flushed 3 t = (cfg0.win 3).cut (grid0.coords t) (out3 (iblk m c 0 t) (iblk m c 1 t)) := by
  show (cfg0.win 3).cut (grid0.coords t) ((dats m 0 c).after 3 t) = _
  rw [after_3]

/-- What a point writes back to the gates' output. -/
theorem flushed4 (c : Dev nD) (t : Fin cfg0.N) :
    (dats m 0 c).flushed 4 t = (cfg0.win 4).cut (grid0.coords t) (out4 (iblk m c 0 (base t)) (iblk m c 2 (base t))) := by
  show (cfg0.win 4).cut (grid0.coords t) ((dats m 0 c).after 4 t) = _
  rw [after_4]

end Cert.KernelInIdeal.Ip

end
-- ==== Proof.InBlk.lean ====
module

public import proofs.«01_k».proof.Proof.InRun
public import proofs.«01_k».proof.Proof.Common

@[expose] public section

set_option maxRecDepth 16384

noncomputable section

open Idealize.ShloMosaic Idealize.ShloMosaic.TcCoe Idealize.SL.Sem

namespace Cert.KernelInIdeal.Ip

open Cert.KernelInIdeal Cert.KernelInIdeal.Gen

variable (x0 : FVec Ideal S2048x2048 .bf16) (x1 : FVec Ideal S1x2048x512 .bf16) (x2 : FVec Ideal S1x2048x128 .bf16)

/-- A point's packed projections over its own blocks. -/
def blk3 (a : Fin 2048) (l : Fin 512) : EReal := ∑ k : Fin 2048, x0 (ix2 a k) * x1 (ix3 0 k l)

/-- A point's gates over its own blocks. -/
def blk4 (a : Fin 2048) (l : Fin 128) : EReal := ∑ k : Fin 2048, x0 (ix2 a k) * x2 (ix3 0 k l)

/-- The packed store's value. -/
theorem pay1_apply (a : Fin 2048) (l : Fin 512) :
    k0_pay1 (F := Ideal) (View.ld x0 rh) (View.ld x1 rw3) (ix2 a l) = blk3 x0 x1 a l := by
  unfold blk3
  pointwise [k0_pay1]

/-- The gates' store's value. -/
theorem pay2_apply (a : Fin 2048) (l : Fin 128) :
    k0_pay2 (F := Ideal) (View.ld x0 rh) (View.ld x2 rw4) (ix2 a l) = blk4 x0 x2 a l := by
  unfold blk4
  pointwise [k0_pay2]

/-- The packed block the body leaves. -/
theorem out3_apply (y : S2048x512.Idx) : out3 (F := Ideal) x0 x1 y = blk3 x0 x1 (y 0) (y 1) := by
  unfold out3
  refine View.canon_apply_of_pieces (Val := Elt Ideal) (e := .bf16) (fun y : S2048x512.Idx => blk3 x0 x1 (y 0) (y 1)) _ ?_ y (cover3 _ y)
  intro p hp z
  rcases List.mem_cons.mp hp with rfl | hp
  · change (⟨2, ![2048, 512]⟩ : Shape).Idx at z
    idx_vars z
    have e : ro3.emb (ix2 z0 z1) = ix2 z0 z1 := (Common.emb2 _ z0 z1).trans (congrArg₂ _ (Fin.ext (Nat.zero_add _)) (Fin.ext (Nat.zero_add _)))
    rw [e]
    exact pay1_apply x0 x1 z0 z1
  · cases hp

/-- The gates' block a storing point leaves. -/
theorem out4_apply (y : S2048x128.Idx) : out4 (F := Ideal) x0 x2 y = blk4 x0 x2 (y 0) (y 1) := by
  unfold out4
  refine View.canon_apply_of_pieces (Val := Elt Ideal) (e := .f32) (fun y : S2048x128.Idx => blk4 x0 x2 (y 0) (y 1)) _ ?_ y (cover4 _ y)
  intro p hp z
  rcases List.mem_cons.mp hp with rfl | hp
  · change (⟨2, ![2048, 128]⟩ : Shape).Idx at z
    idx_vars z
    have e : ro4.emb (ix2 z0 z1) = ix2 z0 z1 := (Common.emb2 _ z0 z1).trans (congrArg₂ _ (Fin.ext (Nat.zero_add _)) (Fin.ext (Nat.zero_add _)))
    rw [e]
    exact pay2_apply x0 x2 z0 z1
  · cases hp

end Cert.KernelInIdeal.Ip

end
-- ==== Proof.In.lean ====
module

public import proofs.«01_k».proof.Defs
public import proofs.«01_k».proof.Proof.Gen.KernelIn
public import proofs.«01_k».proof.Proof.InRef
public import proofs.«01_k».proof.Proof.InLay
public import proofs.«01_k».proof.Proof.InBlk
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelInIdeal.Ip

open Cert.KernelInIdeal Cert.KernelInIdeal.Gen

/-- A row against a column of the packed weight. -/
def spec3 (h : FVec Ideal S16384x2048 .bf16) (w : FVec Ideal S2x2048x5520 .f32) (r : Fin 16384) (c : Fin 5632) : EReal :=
  ∑ k : Fin 2048, h (ix2 r k) * wp w (ix3 1 k c)

/-- A row against a column of the gates' weight. -/
def spec4 (h : FVec Ideal S16384x2048 .bf16) (w : FVec Ideal S2x2048x5520 .f32) (r : Fin 16384) (c : Fin 128) : EReal :=
  ∑ k : Fin 2048, h (ix2 r k) * wab w (ix3 1 k c)

/-- Column by column, the reference's packed projections are the row against the laid-out weight. -/
theorem p_eq [Cert.ReferenceInIdeal.Facts] (h : FVec Ideal S16384x2048 .bf16) (w : FVec Ideal S2x2048x5520 .f32) (r : Fin 16384) (c : Fin 5632) :
    Cert.ReferenceInIdeal.Read.val_main_v18 (F := Ideal) h w (ix2 r c) = spec3 h w r c := by
  have hc := c.isLt
  by_cases h0 : c.val < 1024
  · obtain ⟨j, rfl⟩ : ∃ j : Fin 1024, c = ⟨0 + j.val, Nat.lt_of_lt_of_le (Nat.add_lt_add_left j.isLt _) (by decide)⟩ := ⟨⟨c.val - 0, by omega⟩, Fin.ext (by show c.val = 0 + (c.val - 0); omega)⟩
    rw [ref_q h w r j]
    exact Finset.sum_congr rfl fun k _ => congrArg (h (ix2 r k) * ·) (ker_q w 1 k j hc).symm
  by_cases h1 : c.val < 2048
  · obtain ⟨j, rfl⟩ : ∃ j : Fin 1024, c = ⟨1024 + j.val, Nat.lt_of_lt_of_le (Nat.add_lt_add_left j.isLt _) (by decide)⟩ := ⟨⟨c.val - 1024, by omega⟩, Fin.ext (by show c.val = 1024 + (c.val - 1024); omega)⟩
    rw [ref_k h w r j]
    exact Finset.sum_congr rfl fun k _ => congrArg (h (ix2 r k) * ·) (ker_k w 1 k j hc).symm
  by_cases h2 : c.val < 3072
  · obtain ⟨j, rfl⟩ : ∃ j : Fin 1024, c = ⟨2048 + j.val, Nat.lt_of_lt_of_le (Nat.add_lt_add_left j.isLt _) (by decide)⟩ := ⟨⟨c.val - 2048, by omega⟩, Fin.ext (by show c.val = 2048 + (c.val - 2048); omega)⟩
    rw [ref_v h w r j]
    exact Finset.sum_congr rfl fun k _ => congrArg (h (ix2 r k) * ·) (ker_v w 1 k j hc).symm
  by_cases h3 : c.val < 4096
  · obtain ⟨j, rfl⟩ : ∃ j : Fin 1024, c = ⟨3072 + j.val, Nat.lt_of_lt_of_le (Nat.add_lt_add_left j.isLt _) (by decide)⟩ := ⟨⟨c.val - 3072, by omega⟩, Fin.ext (by show c.val = 3072 + (c.val - 3072); omega)⟩
    rw [ref_z h w r j]
    exact Finset.sum_congr rfl fun k _ => congrArg (h (ix2 r k) * ·) (ker_z w 1 k j hc).symm
  by_cases h4 : c.val < 4544
  · obtain ⟨j, rfl⟩ : ∃ j : Fin 448, c = ⟨4096 + j.val, Nat.lt_of_lt_of_le (Nat.add_lt_add_left j.isLt _) (by decide)⟩ := ⟨⟨c.val - 4096, by omega⟩, Fin.ext (by show c.val = 4096 + (c.val - 4096); omega)⟩
    rw [ref_cq h w r j]
    exact Finset.sum_congr rfl fun k _ => congrArg (h (ix2 r k) * ·) (ker_cq w 1 k j hc).symm
  by_cases h5 : c.val < 4608
  · obtain ⟨j, rfl⟩ : ∃ j : Fin 64, c = ⟨4544 + j.val, Nat.lt_of_lt_of_le (Nat.add_lt_add_left j.isLt _) (by decide)⟩ := ⟨⟨c.val - 4544, by omega⟩, Fin.ext (by show c.val = 4544 + (c.val - 4544); omega)⟩
    rw [ref_n0 h w r j]
    exact (Finset.sum_eq_zero fun k _ => by rw [ker_n0 w 1 k j, mul_zero]).symm
  by_cases h6 : c.val < 5120
  · obtain ⟨j, rfl⟩ : ∃ j : Fin 512, c = ⟨4608 + j.val, Nat.lt_of_lt_of_le (Nat.add_lt_add_left j.isLt _) (by decide)⟩ := ⟨⟨c.val - 4608, by omega⟩, Fin.ext (by show c.val = 4608 + (c.val - 4608); omega)⟩
    rw [ref_sq h w r j]
    exact Finset.sum_congr rfl fun k _ => congrArg (h (ix2 r k) * ·) (ker_sq w 1 k j hc).symm
  by_cases h7 : c.val < 5248
  · obtain ⟨j, rfl⟩ : ∃ j : Fin 128, c = ⟨5120 + j.val, Nat.lt_of_lt_of_le (Nat.add_lt_add_left j.isLt _) (by decide)⟩ := ⟨⟨c.val - 5120, by omega⟩, Fin.ext (by show c.val = 5120 + (c.val - 5120); omega)⟩
    rw [ref_ckv h w r j]
    exact Finset.sum_congr rfl fun k _ => congrArg (h (ix2 r k) * ·) (ker_ckv w 1 k j hc).symm
  by_cases h8 : c.val < 5312
  · obtain ⟨j, rfl⟩ : ∃ j : Fin 64, c = ⟨5248 + j.val, Nat.lt_of_lt_of_le (Nat.add_lt_add_left j.isLt _) (by decide)⟩ := ⟨⟨c.val - 5248, by omega⟩, Fin.ext (by show c.val = 5248 + (c.val - 5248); omega)⟩
    rw [ref_kr h w r j]
    exact Finset.sum_congr rfl fun k _ => congrArg (h (ix2 r k) * ·) (ker_kr w 1 k j hc).symm
  by_cases h9 : c.val < 5376
  · obtain ⟨j, rfl⟩ : ∃ j : Fin 64, c = ⟨5312 + j.val, Nat.lt_of_lt_of_le (Nat.add_lt_add_left j.isLt _) (by decide)⟩ := ⟨⟨c.val - 5312, by omega⟩, Fin.ext (by show c.val = 5312 + (c.val - 5312); omega)⟩
    rw [ref_n1 h w r j]
    exact (Finset.sum_eq_zero fun k _ => by rw [ker_n1 w 1 k j, mul_zero]).symm
  by_cases h10 : c.val < 5504
  · obtain ⟨j, rfl⟩ : ∃ j : Fin 128, c = ⟨5376 + j.val, Nat.lt_of_lt_of_le (Nat.add_lt_add_left j.isLt _) (by decide)⟩ := ⟨⟨c.val - 5376, by omega⟩, Fin.ext (by show c.val = 5376 + (c.val - 5376); omega)⟩
    rw [ref_sk h w r j]
    exact Finset.sum_congr rfl fun k _ => congrArg (h (ix2 r k) * ·) (ker_sk w 1 k j hc).symm
  obtain ⟨j, rfl⟩ : ∃ j : Fin 128, c = ⟨5504 + j.val, Nat.lt_of_lt_of_le (Nat.add_lt_add_left j.isLt _) (by decide)⟩ := ⟨⟨c.val - 5504, by omega⟩, Fin.ext (by show c.val = 5504 + (c.val - 5504); omega)⟩
  rw [ref_sv h w r j]
  exact Finset.sum_congr rfl fun k _ => congrArg (h (ix2 r k) * ·) (ker_sv w 1 k j hc).symm

/-- Column by column, the reference's gates are the row against the laid-out weight. -/
theorem ab_eq [Cert.ReferenceInIdeal.Facts] (h : FVec Ideal S16384x2048 .bf16) (w : FVec Ideal S2x2048x5520 .f32) (r : Fin 16384) (c : Fin 128) :
    Cert.ReferenceInIdeal.Read.val_main_v21 (F := Ideal) h w (ix2 r c) = spec4 h w r c := by
  have hc := c.isLt
  by_cases h0 : c.val < 8
  · obtain ⟨j, rfl⟩ : ∃ j : Fin 8, c = ⟨0 + j.val, Nat.lt_of_lt_of_le (Nat.add_lt_add_left j.isLt _) (by decide)⟩ := ⟨⟨c.val - 0, by omega⟩, Fin.ext (by show c.val = 0 + (c.val - 0); omega)⟩
    rw [ref_a h w r j]
    exact Finset.sum_congr rfl fun k _ => congrArg (h (ix2 r k) * ·) (ker_a w 1 k j hc).symm
  by_cases h1 : c.val < 16
  · obtain ⟨j, rfl⟩ : ∃ j : Fin 8, c = ⟨8 + j.val, Nat.lt_of_lt_of_le (Nat.add_lt_add_left j.isLt _) (by decide)⟩ := ⟨⟨c.val - 8, by omega⟩, Fin.ext (by show c.val = 8 + (c.val - 8); omega)⟩
    rw [ref_b h w r j]
    exact Finset.sum_congr rfl fun k _ => congrArg (h (ix2 r k) * ·) (ker_b w 1 k j hc).symm
  obtain ⟨j, rfl⟩ : ∃ j : Fin 112, c = ⟨16 + j.val, Nat.lt_of_lt_of_le (Nat.add_lt_add_left j.isLt _) (by decide)⟩ := ⟨⟨c.val - 16, by omega⟩, Fin.ext (by show c.val = 16 + (c.val - 16); omega)⟩
  rw [ref_n2 h w r j]
  exact (Finset.sum_eq_zero fun k _ => by rw [ker_n2 w 1 k j, mul_zero]).symm

variable (m : (ℓ : Loc nD τ sig) → Buf (Elt Ideal) ℓ) (ρ : Dev nD → PrngReg)

/-- The whole packed result of device `c`: each row against the laid-out weight. -/
def W3 (c : Dev nD) : Buf (Elt Ideal) ((c : Thread nD τ).loc main_v23_0) := fun i : S16384x5632.Idx =>
  spec3 (m ((c : Thread nD τ).loc main_arg0)) (m ((c : Thread nD τ).loc main_arg1)) (i 0) (i 1)

/-- The whole gates' result of device `c`: each row against the laid-out weight. -/
def W4 (c : Dev nD) : Buf (Elt Ideal) ((c : Thread nD τ).loc main_v23_1) := fun i : S16384x128.Idx =>
  spec4 (m ((c : Thread nD τ).loc main_arg0)) (m ((c : Thread nD τ).loc main_arg1)) (i 0) (i 1)

/-- The packed weight the region finds: the argument as the host code lays it out. -/
theorem V_v16 (c : Dev nD) : V m c main_v16 = wp (m ((c : Thread nD τ).loc main_arg1)) := by
  unfold_abbrev_sides
  after_results
  rfl

/-- The gates' weight the region finds: the argument as the host code lays it out. -/
theorem V_v22 (c : Dev nD) : V m c main_v22 = wab (m ((c : Thread nD τ).loc main_arg1)) := by
  unfold_abbrev_sides
  after_results
  rfl

/-- A point of the grid, below 88. -/
theorem lt_N (t : Fin cfg0.N) : t.val < 88 := lt_of_lt_of_eq t.isLt (by decide)

/-- Block rows of the activations. -/
theorem iblk0 (c : Dev nD) (t : Fin cfg0.N) (a k : Fin 2048) (h : t.val / 11 * 2048 + a.val < 16384) :
    (iblk m c 0 t : S2048x2048.Idx → EReal) (ix2 a k) = (m ((c : Thread nD τ).loc main_arg0) : S16384x2048.Idx → EReal) (ix2 ⟨t.val / 11 * 2048 + a.val, h⟩ k) := by
  show (V m c main_arg0 : S16384x2048.Idx → EReal) _ = _
  rw [V_main_arg0]
  refine congrArg _ (funext fun d => Fin.ext ?_)
  have e : win0_0.index t 0 = t.val / 11 ∧ win0_0.index t 1 = 0 := (by decide +kernel : ∀ t : Fin grid0.N, win0_0.index t 0 = t.val / 11 ∧ win0_0.index t 1 = 0) t
  match d with
  | ⟨0, _⟩ => show win0_0.index t 0 * 2048 + 1 * a.val = t.val / 11 * 2048 + a.val; rw [e.1, Nat.one_mul]
  | ⟨1, _⟩ => show win0_0.index t 1 * 2048 + 1 * k.val = k.val; rw [e.2]; omega

/-- The packed weight's column block, of layer 1. -/
theorem iblk1 (c : Dev nD) (t : Fin cfg0.N) (k : Fin 2048) (l : Fin 512) (h : t.val % 11 * 512 + l.val < 5632) :
    (iblk m c 1 t : S1x2048x512.Idx → EReal) (ix3 0 k l) = wp (m ((c : Thread nD τ).loc main_arg1)) (ix3 1 k ⟨t.val % 11 * 512 + l.val, h⟩) := by
  show (V m c main_v16 : S2x2048x5632.Idx → EReal) _ = _
  rw [V_v16]
  refine congrArg _ (funext fun d => Fin.ext ?_)
  have e : win0_1.index t 0 = 1 ∧ win0_1.index t 1 = 0 ∧ win0_1.index t 2 = t.val % 11 :=
    (by decide +kernel : ∀ t : Fin grid0.N, win0_1.index t 0 = 1 ∧ win0_1.index t 1 = 0 ∧ win0_1.index t 2 = t.val % 11) t
  match d with
  | ⟨0, _⟩ => show win0_1.index t 0 * 1 + 1 * 0 = 1; rw [e.1]
  | ⟨1, _⟩ => show win0_1.index t 1 * 2048 + 1 * k.val = k.val; rw [e.2.1]; omega
  | ⟨2, _⟩ => show win0_1.index t 2 * 512 + 1 * l.val = t.val % 11 * 512 + l.val; rw [e.2.2, Nat.one_mul]

/-- The gates' weight, of layer 1. -/
theorem iblk2 (c : Dev nD) (t : Fin cfg0.N) (k : Fin 2048) (l : Fin 128) :
    (iblk m c 2 t : S1x2048x128.Idx → EReal) (ix3 0 k l) = wab (m ((c : Thread nD τ).loc main_arg1)) (ix3 1 k l) := by
  show (V m c main_v22 : S2x2048x128.Idx → EReal) _ = _
  rw [V_v22]
  refine congrArg _ (funext fun d => Fin.ext ?_)
  have e : win0_2.index t 0 = 1 ∧ win0_2.index t 1 = 0 ∧ win0_2.index t 2 = 0 :=
    (by decide +kernel : ∀ t : Fin grid0.N, win0_2.index t 0 = 1 ∧ win0_2.index t 1 = 0 ∧ win0_2.index t 2 = 0) t
  match d with
  | ⟨0, _⟩ => show win0_2.index t 0 * 1 + 1 * 0 = 1; rw [e.1]
  | ⟨1, _⟩ => show win0_2.index t 1 * 2048 + 1 * k.val = k.val; rw [e.2.1]; omega
  | ⟨2, _⟩ => show win0_2.index t 2 * 128 + 1 * l.val = l.val; rw [e.2.2]; omega

/-- A point's packed projections are the whole's. -/
theorem blk3_eq (c : Dev nD) (t : Fin cfg0.N) (a : Fin 2048) (l : Fin 512) (hr : t.val / 11 * 2048 + a.val < 16384) (hl : t.val % 11 * 512 + l.val < 5632) :
    blk3 (iblk m c 0 t) (iblk m c 1 t) a l = spec3 (m ((c : Thread nD τ).loc main_arg0)) (m ((c : Thread nD τ).loc main_arg1)) ⟨t.val / 11 * 2048 + a.val, hr⟩ ⟨t.val % 11 * 512 + l.val, hl⟩ := by
  unfold blk3 spec3
  exact Finset.sum_congr rfl fun k _ => congrArg₂ (· * ·) (iblk0 m c t a k hr) (iblk1 m c t k l hl)

/-- A point's gates are the whole's. -/
theorem blk4_eq (c : Dev nD) (t : Fin cfg0.N) (a : Fin 2048) (l : Fin 128) (hr : t.val / 11 * 2048 + a.val < 16384) :
    blk4 (iblk m c 0 t) (iblk m c 2 t) a l = spec4 (m ((c : Thread nD τ).loc main_arg0)) (m ((c : Thread nD τ).loc main_arg1)) ⟨t.val / 11 * 2048 + a.val, hr⟩ l := by
  unfold blk4 spec4
  exact Finset.sum_congr rfl fun k _ => congrArg₂ (· * ·) (iblk0 m c t a k hr) (iblk2 m c t k l)

/-- The packed result's block index at point `t`. -/
theorem idx3 (t : Fin cfg0.N) : win0_3.index t 0 = t.val / 11 ∧ win0_3.index t 1 = t.val % 11 :=
  (by decide +kernel : ∀ t : Fin grid0.N, win0_3.index t 0 = t.val / 11 ∧ win0_3.index t 1 = t.val % 11) t

/-- What point `t` writes back to the packed result is its block of the whole. -/
theorem flushed_eq3 (c : Dev nD) (t : Fin cfg0.N) :
    (dats m 0 c).flushed 3 t = (win0_3.blk t).view.read (Elt Ideal) (W3 m c) := by
  rw [flushed3]
  funext y
  change S2048x512.Idx at y
  have ht := lt_N t
  obtain ⟨a, l, rfl⟩ : ∃ (a : Fin 2048) (l : Fin 512), y = ix2 a l := ⟨y 0, y 1, eq_ix2 y⟩
  have hr : t.val / 11 * 2048 + a.val < 16384 := by have := a.isLt; omega
  have hl : t.val % 11 * 512 + l.val < 5632 := by have := l.isLt; omega
  refine (out3_apply (iblk m c 0 t) (iblk m c 1 t) (ix2 a l)).trans ?_
  have e : (win0_3.blk t).view.emb (ix2 a l) = (ix2 ⟨t.val / 11 * 2048 + a.val, hr⟩ ⟨t.val % 11 * 512 + l.val, hl⟩ : S16384x5632.Idx) := by
    funext d
    apply Fin.ext
    match d with
    | ⟨0, _⟩ => show win0_3.index t 0 * 2048 + 1 * a.val = t.val / 11 * 2048 + a.val; rw [(idx3 t).1, Nat.one_mul]
    | ⟨1, _⟩ => show win0_3.index t 1 * 512 + 1 * l.val = t.val % 11 * 512 + l.val; rw [(idx3 t).2, Nat.one_mul]
  refine Eq.trans ?_ (congrArg (W3 m c) e).symm
  exact blk3_eq m c t a l hr hl

/-- An index of the packed result is in point `t`'s block when its row and column tiles are the point's. -/
theorem mem_blk3 (t : Fin cfg0.N) (i : S16384x5632.Idx) (h : t.val = (i 0).val / 2048 * 11 + (i 1).val / 512) :
    i ∈ ((cfg0.win 3).blk t).view.set := by
  show i ∈ ((View.whole main_v23_0).slice (win0_3.rect t)).set
  rw [View.set_slice_whole, Rect.mem_set_unit]
  have h0 : (i 0).val < 16384 := (i 0).isLt
  have h1 : (i 1).val < 5632 := (i 1).isLt
  intro d
  match d with
  | ⟨0, _⟩ => show win0_3.index t 0 * 2048 ≤ (i 0).val ∧ (i 0).val < win0_3.index t 0 * 2048 + 2048; rw [(idx3 t).1]; omega
  | ⟨1, _⟩ => show win0_3.index t 1 * 512 ≤ (i 1).val ∧ (i 1).val < win0_3.index t 1 * 512 + 512; rw [(idx3 t).2]; omega

/-- The packed result array after the run is `W3`. -/
theorem final3 (c : Dev nD) : (dats m 0 c).arrAt 3 cfg0.N = W3 m c :=
  (dats m 0 c).arrAt_eq_of_cover 3 (W3 m c) (fun t _ => flushed_eq3 m c t) fun i => by
    have h0 : ((i : S16384x5632.Idx) 0).val < 16384 := ((i : S16384x5632.Idx) 0).isLt
    have h1 : ((i : S16384x5632.Idx) 1).val < 5632 := ((i : S16384x5632.Idx) 1).isLt
    have hN : cfg0.N = 88 := by decide
    exact ⟨⟨((i : S16384x5632.Idx) 0).val / 2048 * 11 + ((i : S16384x5632.Idx) 1).val / 512, by omega⟩, flush0_3 _, mem_blk3 _ i rfl⟩

/-- The gates' block index at point `t`. -/
theorem idx4 (t : Fin cfg0.N) : win0_4.index t 0 = t.val / 11 ∧ win0_4.index t 1 = 0 :=
  (by decide +kernel : ∀ t : Fin grid0.N, win0_4.index t 0 = t.val / 11 ∧ win0_4.index t 1 = 0) t

/-- What point `t` writes back to the gates is its block of the whole. -/
theorem flushed_eq4 (c : Dev nD) (t : Fin cfg0.N) :
    (dats m 0 c).flushed 4 t = (win0_4.blk t).view.read (Elt Ideal) (W4 m c) := by
  rw [flushed4]
  funext y
  change S2048x128.Idx at y
  have ht := lt_N t
  obtain ⟨a, l, rfl⟩ : ∃ (a : Fin 2048) (l : Fin 128), y = ix2 a l := ⟨y 0, y 1, eq_ix2 y⟩
  have hb : (base t).val = t.val / 11 * 11 := rfl
  have hr : t.val / 11 * 2048 + a.val < 16384 := by have := a.isLt; omega
  have hr' : (base t).val / 11 * 2048 + a.val < 16384 := by have := a.isLt; omega
  refine (out4_apply (iblk m c 0 (base t)) (iblk m c 2 (base t)) (ix2 a l)).trans ?_
  have e : (win0_4.blk t).view.emb (ix2 a l) = (ix2 ⟨(base t).val / 11 * 2048 + a.val, hr'⟩ l : S16384x128.Idx) := by
    funext d
    apply Fin.ext
    match d with
    | ⟨0, _⟩ => show win0_4.index t 0 * 2048 + 1 * a.val = (base t).val / 11 * 2048 + a.val; rw [(idx4 t).1]; omega
    | ⟨1, _⟩ => show win0_4.index t 1 * 128 + 1 * l.val = l.val; rw [(idx4 t).2]; omega
  refine Eq.trans ?_ (congrArg (W4 m c) e).symm
  exact blk4_eq m c (base t) a l hr'

/-- An index of the gates is in point `t`'s block when its row tile is the point's. -/
theorem mem_blk4 (t : Fin cfg0.N) (i : S16384x128.Idx) (h : t.val = (i 0).val / 2048 * 11 + 10) :
    i ∈ ((cfg0.win 4).blk t).view.set := by
  show i ∈ ((View.whole main_v23_1).slice (win0_4.rect t)).set
  rw [View.set_slice_whole, Rect.mem_set_unit]
  have h0 : (i 0).val < 16384 := (i 0).isLt
  have h1 : (i 1).val < 128 := (i 1).isLt
  intro d
  match d with
  | ⟨0, _⟩ => show win0_4.index t 0 * 2048 ≤ (i 0).val ∧ (i 0).val < win0_4.index t 0 * 2048 + 2048; rw [(idx4 t).1]; omega
  | ⟨1, _⟩ => show win0_4.index t 1 * 128 ≤ (i 1).val ∧ (i 1).val < win0_4.index t 1 * 128 + 128; rw [(idx4 t).2]; omega

/-- The gates' array after the run is `W4`. -/
theorem final4 (c : Dev nD) : (dats m 0 c).arrAt 4 cfg0.N = W4 m c :=
  (dats m 0 c).arrAt_eq_of_cover 4 (W4 m c) (fun t _ => flushed_eq4 m c t) fun i => by
    have h0 : ((i : S16384x128.Idx) 0).val < 16384 := ((i : S16384x128.Idx) 0).isLt
    have hN : cfg0.N = 88 := by decide
    exact ⟨⟨((i : S16384x128.Idx) 0).val / 2048 * 11 + 10, by omega⟩, (flush0_4 _).mpr (by show (((i : S16384x128.Idx) 0).val / 2048 * 11 + 10) % 11 = 10; omega), mem_blk4 _ i rfl⟩

end Cert.KernelInIdeal.Ip

namespace Cert.Proof

open Cert.KernelInIdeal.Ip

section
variable {F : FTy → Type} [FloatOps F]

/-- The printed program's body table is the ideal program's: the two have the same text. -/
theorem rows_in : Cert.KernelIn.defs₀ (F := F) = Cert.KernelInIdeal.defs₀ (F := F) := by
  unfold Cert.KernelIn.defs₀ Cert.KernelInIdeal.defs₀
  refine congrArg Defs.onTc (funext fun l => funext fun x => ?_)
  match l, x with
  | ⟨0, _⟩, (t, s) => rfl

set_option maxRecDepth 65536 in
/-- So are its procedures. -/
theorem defs_in : Cert.KernelIn.defs (F := F) = Cert.KernelInIdeal.defs (F := F) :=
  congrArg (Pipeline.defs (Cert.KernelIn.pcfgs (F := F))) rows_in

end

set_option maxRecDepth 65536 in
/-- The in projection's frame, of the program as printed: the ideal program's run, over words. -/
theorem frame_in : Cert.quiescent_KernelIn := by
  intro m ρ _
  rw [defs_in]
  exact run_frame (F := Bits) m ρ

/-- The in projection's frame, of the ideal program. -/
theorem frame_in_ideal : Cert.quiescent_KernelInIdeal := fun m ρ _ => run_frame m ρ

/-- The in projection call computes the reference's two functions, at the ideal instance. -/
theorem algebraic_in [Cert.ReferenceInIdeal.Facts] : Cert.algebraic_KernelInIdeal_ReferenceInIdeal := by
  intro m g m' g' _ hargs
  refine ⟨fun c => W3 m c, fun c => W4 m c, (θ_run Cert.KernelInIdeal.defs _ _).mono (fun r h c => ?_) (run_values (F := Ideal) m g),
    (θ_run Cert.ReferenceInIdeal.defs _ _).mono (fun r h c => ?_) (Cert.ReferenceInIdeal.Value.run (F := Ideal) m' g')⟩
  · exact ⟨(h c).1.trans (final3 m c), (h c).2.1.trans (final4 m c), (h c).2.2⟩
  · obtain ⟨h0, h1⟩ := hargs c
    refine ⟨(h c).1.trans ?_, (h c).2.1.trans ?_, (h c).2.2⟩
    · refine (Cert.ReferenceInIdeal.Read.val_main_v19_eq (F := Ideal) m' c).trans ?_
      rw [h0, h1]
      funext i
      obtain ⟨a, l, rfl⟩ : ∃ (a : Fin 16384) (l : Fin 5632), i = ix2 a l := ⟨i 0, i 1, eq_ix2 i⟩
      exact p_eq _ _ a l
    · refine (Cert.ReferenceInIdeal.Read.val_main_v21_eq (F := Ideal) _ _).trans ?_
      rw [h0, h1]
      funext i
      obtain ⟨a, l, rfl⟩ : ∃ (a : Fin 16384) (l : Fin 128), i = ix2 a l := ⟨i 0, i 1, eq_ix2 i⟩
      exact ab_eq _ _ a l

end Cert.Proof

end
-- ==== Proof.Pre.lean ====
module

public import proofs.«01_k».proof.Defs
public import proofs.«01_k».proof.Proof.Gen.KernelPreIdeal.Value
public import proofs.«01_k».proof.Proof.Gen.ReferencePreIdeal.Read
public import Idealize.ShloMosaic.Lib.Pipeline.Value
public import Idealize.ShloMosaic.Lib.Pointwise
public import Idealize.ShloMosaic.Lib.Quiescent
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.KernelPreIdeal.Pn

open Cert.KernelPreIdeal Cert.KernelPreIdeal.Gen

/-- Entry (row, column) of the modulated norm of an array of any number of rows, the weight, scale and shift given by column. -/
def spec {n : Nat} (x : FVec Ideal ⟨2, ![n, 2048]⟩ .f32) (w s h : Fin 2048 → EReal) (r : Fin n) (c : Fin 2048) : EReal :=
  x (ix2 r c) * Ideal.rsqrt (Ideal.div (∑ k : Fin 2048, x (ix2 r k) * x (ix2 r k)) (Ideal.ofBits .f32 0x45000000#32)
    + Ideal.ofBits .f32 0x358637BD#32) * w c * (Ideal.ofBits .f32 0x3F800000#32 + s c) + h c

open Cert.ReferencePreIdeal.Read in
/-- The reference's result at (row, column) is `spec`. -/
theorem ref_apply [Cert.ReferencePreIdeal.Facts] (x : FVec Ideal ⟨2, ![16384, 2048]⟩ .f32) (w : FVec Ideal ⟨1, ![2048]⟩ .f32)
    (s h : FVec Ideal ⟨2, ![1, 2048]⟩ .f32) (r : Fin 16384) (c : Fin 2048) :
    val_main_v19 (F := Ideal) x w s h (ix2 r c) = spec x (fun k => w (ix1 k)) (fun k => s (ix2 0 k)) (fun k => h (ix2 0 k)) r c := by
  unfold spec
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_cst_2, val_main_v13, val_main_v14, val_main_v15, val_main_v16, val_main_v17, val_main_v18, val_main_v19]

/-- The body's one store is `spec` of the point's blocks. -/
theorem out_apply (x0 : FVec Ideal ⟨2, ![1024, 2048]⟩ .f32) (x1 x2 x3 : FVec Ideal ⟨2, ![1, 2048]⟩ .f32) (y : S1024x2048.Idx) :
    out0_4 (F := Ideal) x0 x1 x2 x3 y
      = spec x0 (fun k => x1 (ix2 0 k)) (fun k => x2 (ix2 0 k)) (fun k => x3 (ix2 0 k)) (y 0) (y 1) := by
  unfold out0_4
  refine View.canon_apply_of_pieces (Val := Elt Ideal) (e := .bf16)
    (fun y : S1024x2048.Idx => spec x0 (fun k => x1 (ix2 0 k)) (fun k => x2 (ix2 0 k)) (fun k => x3 (ix2 0 k)) (y 0) (y 1)) _ ?_ y (cover0_4 _ y)
  intro p hp z
  rcases List.mem_cons.mp hp with rfl | hp
  · change (⟨2, ![1024, 2048]⟩ : Shape).Idx at z
    idx_vars z
    have e : r0_0.emb (ix2 z0 z1) = ix2 z0 z1 := (Common.emb2 _ z0 z1).trans (congrArg₂ _ (Fin.ext (Nat.zero_add _)) (Fin.ext (Nat.zero_add _)))
    rw [e]
    unfold spec
    pointwise [k0_pay1]
  · cases hp

variable (m : (ℓ : Loc nD τ sig) → Buf (Elt Ideal) ℓ) (ρ : Dev nD → PrngReg)

/-- The whole result array of device `c`, from the arguments as launched. -/
def W (c : Dev nD) : Buf (Elt Ideal) ((c : Thread nD τ).loc main_v1) := fun i : S16384x2048.Idx =>
  spec (m ((c : Thread nD τ).loc main_arg0)) (fun k => (m ((c : Thread nD τ).loc main_arg1) : S2048.Idx → EReal) (ix1 k))
    (fun k => (m ((c : Thread nD τ).loc main_arg2) : S1x2048.Idx → EReal) (ix2 0 k))
    (fun k => (m ((c : Thread nD τ).loc main_arg3) : S1x2048.Idx → EReal) (ix2 0 k)) (i 0) (i 1)

/-- The norm's weight the region finds: the argument as one row. -/
theorem V_v0 (c : Dev nD) : V m c main_v0 = shapeCast S1x2048 (m ((c : Thread nD τ).loc main_arg1) : FVec Ideal S2048 .f32) shapeCasts_S2048_S1x2048 := by
  unfold_abbrev_sides
  after_results
  rfl

/-- Block rows of the residual stream. -/
theorem iblk0 (c : Dev nD) (t : Fin cfg0.N) (a : Fin 1024) (k : Fin 2048) (h : t.val * 1024 + a.val < 16384) :
    (iblk m c 0 t : S1024x2048.Idx → EReal) (ix2 a k) = (m ((c : Thread nD τ).loc main_arg0) : S16384x2048.Idx → EReal) (ix2 ⟨t.val * 1024 + a.val, h⟩ k) := by
  show (V m c main_arg0 : S16384x2048.Idx → EReal) _ = _
  rw [V_main_arg0]
  refine congrArg _ (funext fun d => Fin.ext ?_)
  have e : win0_0.index t 0 = t.val ∧ win0_0.index t 1 = 0 := (by decide +kernel : ∀ t : Fin grid0.N, win0_0.index t 0 = t.val ∧ win0_0.index t 1 = 0) t
  match d with
  | ⟨0, _⟩ => show win0_0.index t 0 * 1024 + 1 * a.val = t.val * 1024 + a.val; rw [e.1, Nat.one_mul]
  | ⟨1, _⟩ => show win0_0.index t 1 * 2048 + 1 * k.val = k.val; rw [e.2]; omega

/-- The norm's weight, one row at every point. -/
theorem iblk1 (c : Dev nD) (t : Fin cfg0.N) (k : Fin 2048) :
    (iblk m c 1 t : S1x2048.Idx → EReal) (ix2 0 k) = (m ((c : Thread nD τ).loc main_arg1) : S2048.Idx → EReal) (ix1 k) := by
  have h : (V m c main_v0 : S1x2048.Idx → EReal) (ix2 0 k) = (m ((c : Thread nD τ).loc main_arg1) : S2048.Idx → EReal) (ix1 k) := by
    rw [V_v0]; pointwise
  refine Eq.trans ?_ h
  show (V m c main_v0 : S1x2048.Idx → EReal) _ = _
  refine congrArg _ (funext fun d => Fin.ext ?_)
  have e : win0_1.index t 0 = 0 ∧ win0_1.index t 1 = 0 := (by decide +kernel : ∀ t : Fin grid0.N, win0_1.index t 0 = 0 ∧ win0_1.index t 1 = 0) t
  match d with
  | ⟨0, _⟩ => show win0_1.index t 0 * 1 + 1 * 0 = 0; rw [e.1]
  | ⟨1, _⟩ => show win0_1.index t 1 * 2048 + 1 * k.val = k.val; rw [e.2]; omega

/-- The scale, one row at every point. -/
theorem iblk2 (c : Dev nD) (t : Fin cfg0.N) (k : Fin 2048) :
    (iblk m c 2 t : S1x2048.Idx → EReal) (ix2 0 k) = (m ((c : Thread nD τ).loc main_arg2) : S1x2048.Idx → EReal) (ix2 0 k) := by
  show (V m c main_arg2 : S1x2048.Idx → EReal) _ = _
  rw [V_main_arg2]
  refine congrArg _ (funext fun d => Fin.ext ?_)
  have e : win0_2.index t 0 = 0 ∧ win0_2.index t 1 = 0 := (by decide +kernel : ∀ t : Fin grid0.N, win0_2.index t 0 = 0 ∧ win0_2.index t 1 = 0) t
  match d with
  | ⟨0, _⟩ => show win0_2.index t 0 * 1 + 1 * 0 = 0; rw [e.1]
  | ⟨1, _⟩ => show win0_2.index t 1 * 2048 + 1 * k.val = k.val; rw [e.2]; omega

/-- The shift, one row at every point. -/
theorem iblk3 (c : Dev nD) (t : Fin cfg0.N) (k : Fin 2048) :
    (iblk m c 3 t : S1x2048.Idx → EReal) (ix2 0 k) = (m ((c : Thread nD τ).loc main_arg3) : S1x2048.Idx → EReal) (ix2 0 k) := by
  show (V m c main_arg3 : S1x2048.Idx → EReal) _ = _
  rw [V_main_arg3]
  refine congrArg _ (funext fun d => Fin.ext ?_)
  have e : win0_3.index t 0 = 0 ∧ win0_3.index t 1 = 0 := (by decide +kernel : ∀ t : Fin grid0.N, win0_3.index t 0 = 0 ∧ win0_3.index t 1 = 0) t
  match d with
  | ⟨0, _⟩ => show win0_3.index t 0 * 1 + 1 * 0 = 0; rw [e.1]
  | ⟨1, _⟩ => show win0_3.index t 1 * 2048 + 1 * k.val = k.val; rw [e.2]; omega

/-- A point of the grid, as a row block below 16. -/
theorem lt_N (t : Fin cfg0.N) : t.val < 16 := lt_of_lt_of_eq t.isLt (by decide)

/-- The output window's block index at point `t`. -/
theorem idx4 (t : Fin cfg0.N) : win0_4.index t 0 = t.val ∧ win0_4.index t 1 = 0 :=
  (by decide +kernel : ∀ t : Fin grid0.N, win0_4.index t 0 = t.val ∧ win0_4.index t 1 = 0) t

/-- What point `t` writes back is its block of the whole result. -/
theorem flushed_eq (c : Dev nD) (t : Fin cfg0.N) :
    (dats m 0 c).flushed 4 t = (win0_4.blk t).view.read (Elt Ideal) (W m c) := by
  rw [Value.flushed4]
  funext y
  change S1024x2048.Idx at y
  have ht := lt_N t
  obtain ⟨a, l, rfl⟩ : ∃ (a : Fin 1024) (l : Fin 2048), y = ix2 a l := ⟨y 0, y 1, eq_ix2 y⟩
  have hr : t.val * 1024 + a.val < 16384 := by have := a.isLt; omega
  refine (out_apply _ _ _ _ (ix2 a l)).trans ?_
  show spec _ _ _ _ a l = W m c _
  have e : (win0_4.blk t).view.emb (ix2 a l) = (ix2 ⟨t.val * 1024 + a.val, hr⟩ l : S16384x2048.Idx) := by
    funext d
    apply Fin.ext
    match d with
    | ⟨0, _⟩ => show win0_4.index t 0 * 1024 + 1 * a.val = t.val * 1024 + a.val; rw [(idx4 t).1, Nat.one_mul]
    | ⟨1, _⟩ => show win0_4.index t 1 * 2048 + 1 * l.val = l.val; rw [(idx4 t).2]; omega
  refine Eq.trans ?_ (congrArg (W m c) e).symm
  show _ = spec _ _ _ _ ⟨t.val * 1024 + a.val, hr⟩ l
  unfold spec
  simp only [iblk0 m c t a _ hr, iblk1 m c t, iblk2 m c t, iblk3 m c t]

/-- An index of the result is in point `t`'s block exactly when its row is among the point's 1024. -/
theorem mem_blk (t : Fin cfg0.N) (i : S16384x2048.Idx) (h : t.val = (i 0).val / 1024) :
    i ∈ ((cfg0.win 4).blk t).view.set := by
  show i ∈ ((View.whole main_v1).slice (win0_4.rect t)).set
  rw [View.set_slice_whole, Rect.mem_set_unit]
  have h0 : (i 0).val < 16384 := (i 0).isLt
  have h1 : (i 1).val < 2048 := (i 1).isLt
  intro d
  match d with
  | ⟨0, _⟩ => show win0_4.index t 0 * 1024 ≤ (i 0).val ∧ (i 0).val < win0_4.index t 0 * 1024 + 1024; rw [(idx4 t).1]; omega
  | ⟨1, _⟩ => show win0_4.index t 1 * 2048 ≤ (i 1).val ∧ (i 1).val < win0_4.index t 1 * 2048 + 2048; rw [(idx4 t).2]; omega

/-- The result array after the run is `W`. -/
theorem final (c : Dev nD) : (dats m 0 c).arrAt 4 cfg0.N = W m c :=
  (dats m 0 c).arrAt_eq_of_cover 4 (W m c) (fun t _ => flushed_eq m c t) fun i => by
    have h0 : ((i : S16384x2048.Idx) 0).val < 16384 := ((i : S16384x2048.Idx) 0).isLt
    have hN : cfg0.N = 16 := by decide
    exact ⟨⟨((i : S16384x2048.Idx) 0).val / 1024, by omega⟩, flush0_4 _, mem_blk _ i rfl⟩

end Cert.KernelPreIdeal.Pn

namespace Cert.Proof

open Cert.KernelPreIdeal.Pn

/-- The first norm's call computes the reference's function, at the ideal instance. -/
theorem algebraic_pre [Cert.ReferencePreIdeal.Facts] : Cert.algebraic_KernelPreIdeal_ReferencePreIdeal := by
  intro m g m' g' _ hargs
  refine ⟨fun c => W m c, (θ_run Cert.KernelPreIdeal.defs _ _).mono (fun r h c => ?_) (Cert.KernelPreIdeal.Value.run_blocks (F := Ideal) m g),
    (θ_run Cert.ReferencePreIdeal.defs _ _).mono (fun r h c => ?_) (Cert.ReferencePreIdeal.Value.run (F := Ideal) m' g')⟩
  · exact ⟨(h c).1.trans (final m c), (h c).2⟩
  · refine ⟨(h c).1.trans ?_, (h c).2⟩
    obtain ⟨h0, h1, h2, h3⟩ := hargs c
    rw [h0, h1, h2, h3]
    refine (Cert.ReferencePreIdeal.Read.val_main_v19_eq (F := Ideal) _ _ _ _).trans ?_
    funext i
    obtain ⟨a, l, rfl⟩ : ∃ (a : Fin 16384) (l : Fin 2048), i = ix2 a l := ⟨i 0, i 1, eq_ix2 i⟩
    exact ref_apply _ _ _ _ a l

end Cert.Proof

end
-- ==== Proof.Mod.lean ====
module

public import proofs.«01_k».proof.Defs
public import proofs.«01_k».proof.Proof.Gen.KernelModIdeal.Value
public import proofs.«01_k».proof.Proof.Gen.ReferenceModIdeal.Read
public import Idealize.ShloMosaic.Lib.Pipeline.Value
public import Idealize.ShloMosaic.Lib.Pointwise
public import Idealize.ShloMosaic.Lib.Quiescent
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.KernelModIdeal.Md

open Cert.KernelModIdeal Cert.KernelModIdeal.Gen

/-- The kernel's silu: half of the number, and that half times its hyperbolic tangent. -/
def act (x : EReal) : EReal :=
  Ideal.ofBits .f32 0x3F000000#32 * x + Ideal.ofBits .f32 0x3F000000#32 * x * Ideal.tanh (Ideal.ofBits .f32 0x3F000000#32 * x)

/-- The word of one half. -/
theorem half_word : Ideal.ofBits .f32 0x3F000000#32 = ((1 / 2 : ℝ) : EReal) := by
  simp [Ideal.ofBits, Ideal.ieee]
  rw [← EReal.coe_mul]
  norm_num

/-- The word of one. -/
theorem one_word : Ideal.ofBits .f32 0x3F800000#32 = ((1 : ℝ) : EReal) := by
  simp [Ideal.ofBits, Ideal.ieee]
  rw [← EReal.coe_mul]
  norm_num

/-- One plus the hyperbolic tangent of half a number, halved, is the logistic function of the number. -/
theorem tanh_half (r : ℝ) : 1 / 2 * r + 1 / 2 * r * Real.tanh (1 / 2 * r) = r * (1 + Real.exp (-r))⁻¹ := by
  have e : Real.exp (-r) = Real.exp (-(1 / 2 * r)) * Real.exp (-(1 / 2 * r)) := by rw [← Real.exp_add]; congr 1; ring
  have p := Real.exp_pos (1 / 2 * r)
  have q := Real.exp_pos (-(1 / 2 * r))
  have u : Real.exp (1 / 2 * r) * Real.exp (-(1 / 2 * r)) = 1 := by rw [← Real.exp_add]; simp
  rw [Real.tanh_eq_sinh_div_cosh, Real.sinh_eq, Real.cosh_eq, e]
  generalize Real.exp (1 / 2 * r) = a at *
  generalize Real.exp (-(1 / 2 * r)) = b at *
  have h1 : a + b ≠ 0 := by positivity
  have h2 : 1 + b * b ≠ 0 := by positivity
  field_simp
  linear_combination (2 * r * b) * u

/-- The kernel's silu is the number times its logistic function, above −∞. -/
theorem act_eq (x : EReal) (h : x ≠ ⊥) :
    act x = x * Ideal.div (Ideal.ofBits .f32 0x3F800000#32) (Ideal.ofBits .f32 0x3F800000#32 + Ideal.exp (-x)) := by
  have e1 : Ideal.div (Ideal.ofBits .f32 0x3F800000#32) (Ideal.ofBits .f32 0x3F800000#32 + Ideal.exp (-x)) = Ideal.logistic x := by
    rw [one_word]; rfl
  rw [e1]
  unfold act
  rw [half_word]
  induction x with
  | bot => exact absurd rfl h
  | top =>
    rw [EReal.coe_mul_top_of_pos (by norm_num)]
    simp
  | coe r =>
    rw [Ideal.logistic_coe, ← EReal.coe_mul, Ideal.tanh_coe, ← EReal.coe_mul, ← EReal.coe_add, ← EReal.coe_mul, tanh_half]

/-- A sum over 2048 is eight sums over 256. -/
theorem sum_parts (f : Fin 2048 → EReal) :
    ∑ k, f k = (∑ i : Fin 256, f ⟨0 + i.val, by omega⟩) + (∑ i : Fin 256, f ⟨256 + i.val, by omega⟩) + (∑ i : Fin 256, f ⟨512 + i.val, by omega⟩) + (∑ i : Fin 256, f ⟨768 + i.val, by omega⟩) + (∑ i : Fin 256, f ⟨1024 + i.val, by omega⟩) + (∑ i : Fin 256, f ⟨1280 + i.val, by omega⟩) + (∑ i : Fin 256, f ⟨1536 + i.val, by omega⟩) + (∑ i : Fin 256, f ⟨1792 + i.val, by omega⟩) := by
  have h : ∑ k, f k = ∑ j : Fin 8, ∑ i : Fin 256, f ⟨j.val * 256 + i.val, by omega⟩ := by
    rw [← Fintype.sum_prod_type']
    refine (Fintype.sum_equiv (finProdFinEquiv (m := 8) (n := 256)) _ _ fun p => ?_).symm
    refine congrArg f (Fin.ext ?_)
    show p.1.val * 256 + p.2.val = p.2.val + 256 * p.1.val
    omega
  rw [h, Fin.sum_univ_eight]
  rfl

/-- Entry (layer, column) of the modulation vectors: the bias plus the weights' column against the activated conditioning vector. -/
def spec (c : FVec Ideal ⟨2, ![1, 2048]⟩ .f32) (w : FVec Ideal ⟨3, ![2, 2048, 12288]⟩ .f32) (b : FVec Ideal ⟨2, ![2, 12288]⟩ .f32)
    (l : Fin 2) (n : Fin 12288) : EReal :=
  b (ix2 l n) + ∑ k : Fin 2048, w (ix3 l k n) * act (c (ix2 0 k))

open Cert.ReferenceModIdeal.Read in
/-- The reference's result at (layer, column) is `spec`, for a conditioning vector above −∞. -/
theorem ref_apply [Cert.ReferenceModIdeal.Facts] (c : FVec Ideal ⟨2, ![1, 2048]⟩ .f32) (w : FVec Ideal ⟨3, ![2, 2048, 12288]⟩ .f32)
    (b : FVec Ideal ⟨2, ![2, 12288]⟩ .f32) (hc : ∀ k, c (ix2 0 k) ≠ ⊥) (l : Fin 2) (n : Fin 12288) :
    val_main_v17 (F := Ideal) c w b (ix3 l 0 n) = spec c w b l n := by
  unfold spec
  rw [add_comm]
  simp only [act_eq _ (hc _), mul_comm (w _)]
  match l with
  | ⟨0, _⟩ => pointwise [val_main_call0_v0, val_main_call0_v1, val_main_call0_cst, val_main_call0_v2, val_main_call0_v3, val_main_call0_cst_0, val_main_call0_v4, val_main_call0_v5, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17]
  | ⟨1, _⟩ => pointwise [val_main_call0_v0, val_main_call0_v1, val_main_call0_cst, val_main_call0_v2, val_main_call0_v3, val_main_call0_cst_0, val_main_call0_v4, val_main_call0_v5, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17]

/-- The part of a column's sum over the 256 rows from `o`. -/
def part (x0 : FVec Ideal ⟨2, ![2048, 1]⟩ .f32) (x1 : FVec Ideal ⟨3, ![1, 2048, 1024]⟩ .f32) (o : Nat) (h : o + 256 ≤ 2048) (n : Fin 1024) : EReal :=
  ∑ i : Fin 256, x1 (ix3 0 ⟨o + i.val, by omega⟩ n) * act (x0 (ix2 ⟨o + i.val, by omega⟩ 0))

/-- What one grid point leaves in the output block: the bias and the eight parts of each column's sum. -/
def blk (x0 : FVec Ideal ⟨2, ![2048, 1]⟩ .f32) (x1 : FVec Ideal ⟨3, ![1, 2048, 1024]⟩ .f32) (x2 : FVec Ideal ⟨3, ![1, 1, 1024]⟩ .f32) (n : Fin 1024) : EReal :=
  x2 (ix3 0 0 n) + part x0 x1 0 (by decide) n + part x0 x1 256 (by decide) n + part x0 x1 512 (by decide) n + part x0 x1 768 (by decide) n + part x0 x1 1024 (by decide) n + part x0 x1 1280 (by decide) n + part x0 x1 1536 (by decide) n + part x0 x1 1792 (by decide) n

/-- The parts make up the whole sum. -/
theorem blk_eq (x0 : FVec Ideal ⟨2, ![2048, 1]⟩ .f32) (x1 : FVec Ideal ⟨3, ![1, 2048, 1024]⟩ .f32) (x2 : FVec Ideal ⟨3, ![1, 1, 1024]⟩ .f32) (n : Fin 1024) :
    blk x0 x1 x2 n = x2 (ix3 0 0 n) + ∑ k : Fin 2048, x1 (ix3 0 k n) * act (x0 (ix2 k 0)) := by
  rw [sum_parts fun k => x1 (ix3 0 k n) * act (x0 (ix2 k 0))]
  unfold blk part
  simp only [add_assoc]

/-- The body's one store is `blk`. -/
theorem out_apply (x0 : FVec Ideal ⟨2, ![2048, 1]⟩ .f32) (x1 : FVec Ideal ⟨3, ![1, 2048, 1024]⟩ .f32) (x2 : FVec Ideal ⟨3, ![1, 1, 1024]⟩ .f32) (n : Fin 1024) :
    out0_3 (F := Ideal) x0 x1 x2 (ix3 0 0 n) = blk x0 x1 x2 n := by
  unfold out0_3
  refine View.canon_apply_of_pieces (Val := Elt Ideal) (e := .f32) (fun y : S1x1x1024.Idx => blk x0 x1 x2 (y 2)) _ ?_ (ix3 0 0 n) (cover0_3 _ _)
  intro p hp z
  rcases List.mem_cons.mp hp with rfl | hp
  · change (⟨3, ![1, 1, 1024]⟩ : Shape).Idx at z
    have e : (r0_1.emb z : S1x1x1024.Idx) = z := funext fun d => Fin.ext (by
      match d with
      | ⟨0, _⟩ => show 0 + 1 * (z 0).val = (z 0).val; omega
      | ⟨1, _⟩ => show 0 + 1 * (z 1).val = (z 1).val; omega
      | ⟨2, _⟩ => show 0 + 1 * (z 2).val = (z 2).val; omega)
    rw [e]
    idx_vars z
    unfold blk part act
    pointwise [k0_pay1, k0_pay2, k0_pay3, k0_pay4, k0_pay5]
  · cases hp

variable (m : (ℓ : Loc nD τ sig) → Buf (Elt Ideal) ℓ) (ρ : Dev nD → PrngReg)

/-- The whole result array of device `c`, from the arguments as launched. -/
def W (c : Dev nD) : Buf (Elt Ideal) ((c : Thread nD τ).loc main_v2) := fun i : S2x1x12288.Idx =>
  spec (m ((c : Thread nD τ).loc main_arg0)) (m ((c : Thread nD τ).loc main_arg1)) (m ((c : Thread nD τ).loc main_arg2)) (i 0) (i 2)

/-- The conditioning vector the region finds: the argument as one column. -/
theorem V_v0 (c : Dev nD) : V m c main_v0 = shapeCast S2048x1 (m ((c : Thread nD τ).loc main_arg0) : FVec Ideal S1x2048 .f32) shapeCasts_S1x2048_S2048x1 := by
  unfold_abbrev_sides
  after_results
  rfl

/-- The bias the region finds: the argument with a unit axis. -/
theorem V_v1 (c : Dev nD) : V m c main_v1 = shapeCast S2x1x12288 (m ((c : Thread nD τ).loc main_arg2) : FVec Ideal S2x12288 .f32) shapeCasts_S2x12288_S2x1x12288 := by
  unfold_abbrev_sides
  after_results
  rfl

/-- The conditioning vector, one column at every point. -/
theorem iblk0 (c : Dev nD) (t : Fin cfg0.N) (k : Fin 2048) :
    (iblk m c 0 t : S2048x1.Idx → EReal) (ix2 k 0) = (m ((c : Thread nD τ).loc main_arg0) : S1x2048.Idx → EReal) (ix2 0 k) := by
  have h : (V m c main_v0 : S2048x1.Idx → EReal) (ix2 k 0) = (m ((c : Thread nD τ).loc main_arg0) : S1x2048.Idx → EReal) (ix2 0 k) := by
    rw [V_v0]; pointwise
  refine Eq.trans ?_ h
  show (V m c main_v0 : S2048x1.Idx → EReal) _ = _
  refine congrArg _ (funext fun d => Fin.ext ?_)
  have e : win0_0.index t 0 = 0 ∧ win0_0.index t 1 = 0 := (by decide +kernel : ∀ t : Fin grid0.N, win0_0.index t 0 = 0 ∧ win0_0.index t 1 = 0) t
  match d with
  | ⟨0, _⟩ => show win0_0.index t 0 * 2048 + 1 * k.val = k.val; rw [e.1]; omega
  | ⟨1, _⟩ => show win0_0.index t 1 * 1 + 1 * 0 = 0; rw [e.2]

/-- A point of the grid, as a layer and a column block. -/
theorem lt_N (t : Fin cfg0.N) : t.val < 24 := lt_of_lt_of_eq t.isLt (by decide)

/-- The layer of a point. -/
def lay (t : Fin cfg0.N) : Fin 2 := ⟨t.val / 12, by have := lt_N t; omega⟩

/-- A column of a point's block, among all columns. -/
def col (t : Fin cfg0.N) (n : Fin 1024) : Fin 12288 := ⟨t.val % 12 * 1024 + n.val, by omega⟩

/-- The weights' block at a point. -/
theorem iblk1 (c : Dev nD) (t : Fin cfg0.N) (k : Fin 2048) (n : Fin 1024) :
    (iblk m c 1 t : S1x2048x1024.Idx → EReal) (ix3 0 k n) = (m ((c : Thread nD τ).loc main_arg1) : S2x2048x12288.Idx → EReal) (ix3 (lay t) k (col t n)) := by
  show (V m c main_arg1 : S2x2048x12288.Idx → EReal) _ = _
  rw [V_main_arg1]
  refine congrArg _ (funext fun d => Fin.ext ?_)
  have e : win0_1.index t 0 = t.val / 12 ∧ win0_1.index t 1 = 0 ∧ win0_1.index t 2 = t.val % 12 :=
    (by decide +kernel : ∀ t : Fin grid0.N, win0_1.index t 0 = t.val / 12 ∧ win0_1.index t 1 = 0 ∧ win0_1.index t 2 = t.val % 12) t
  match d with
  | ⟨0, _⟩ => show win0_1.index t 0 * 1 + 1 * 0 = t.val / 12; rw [e.1]; omega
  | ⟨1, _⟩ => show win0_1.index t 1 * 2048 + 1 * k.val = k.val; rw [e.2.1]; omega
  | ⟨2, _⟩ => show win0_1.index t 2 * 1024 + 1 * n.val = t.val % 12 * 1024 + n.val; rw [e.2.2]; omega

/-- The unit axis leaves the entries as they are. -/
theorem unit_apply (b : FVec Ideal S2x12288 .f32) (l : Fin 2) (n : Fin 12288) :
    shapeCast S2x1x12288 b shapeCasts_S2x12288_S2x1x12288 (ix3 l 0 n) = b (ix2 l n) := by
  pointwise

/-- The bias's block at a point. -/
theorem iblk2 (c : Dev nD) (t : Fin cfg0.N) (n : Fin 1024) :
    (iblk m c 2 t : S1x1x1024.Idx → EReal) (ix3 0 0 n) = (m ((c : Thread nD τ).loc main_arg2) : S2x12288.Idx → EReal) (ix2 (lay t) (col t n)) := by
  have h : (V m c main_v1 : S2x1x12288.Idx → EReal) (ix3 (lay t) 0 (col t n)) = (m ((c : Thread nD τ).loc main_arg2) : S2x12288.Idx → EReal) (ix2 (lay t) (col t n)) := by
    rw [V_v1]; exact unit_apply _ _ _
  refine Eq.trans ?_ h
  show (V m c main_v1 : S2x1x12288.Idx → EReal) _ = _
  refine congrArg _ (funext fun d => Fin.ext ?_)
  have e : win0_2.index t 0 = t.val / 12 ∧ win0_2.index t 1 = 0 ∧ win0_2.index t 2 = t.val % 12 :=
    (by decide +kernel : ∀ t : Fin grid0.N, win0_2.index t 0 = t.val / 12 ∧ win0_2.index t 1 = 0 ∧ win0_2.index t 2 = t.val % 12) t
  match d with
  | ⟨0, _⟩ => show win0_2.index t 0 * 1 + 1 * 0 = t.val / 12; rw [e.1]; omega
  | ⟨1, _⟩ => show win0_2.index t 1 * 1 + 1 * 0 = 0; rw [e.2.1]
  | ⟨2, _⟩ => show win0_2.index t 2 * 1024 + 1 * n.val = t.val % 12 * 1024 + n.val; rw [e.2.2]; omega

/-- The output window's block index at a point. -/
theorem idx3 (t : Fin cfg0.N) : win0_3.index t 0 = t.val / 12 ∧ win0_3.index t 1 = 0 ∧ win0_3.index t 2 = t.val % 12 :=
  (by decide +kernel : ∀ t : Fin grid0.N, win0_3.index t 0 = t.val / 12 ∧ win0_3.index t 1 = 0 ∧ win0_3.index t 2 = t.val % 12) t

/-- What a point writes back is its block of the whole result. -/
theorem flushed_eq (c : Dev nD) (t : Fin cfg0.N) :
    (dats m 0 c).flushed 3 t = (win0_3.blk t).view.read (Elt Ideal) (W m c) := by
  rw [Value.flushed3]
  funext y
  change S1x1x1024.Idx at y
  obtain ⟨n, rfl⟩ : ∃ n : Fin 1024, y = ix3 0 0 n := ⟨y 2, (eq_ix3 y).trans (congrArg₂ (fun a b => ix3 a b (y 2)) (Subsingleton.elim (α := Fin 1) _ _) (Subsingleton.elim (α := Fin 1) _ _))⟩
  refine (out_apply _ _ _ n).trans ?_
  rw [blk_eq]
  have e : (win0_3.blk t).view.emb (ix3 0 0 n) = (ix3 (lay t) 0 (col t n) : S2x1x12288.Idx) := by
    funext d
    apply Fin.ext
    match d with
    | ⟨0, _⟩ => show win0_3.index t 0 * 1 + 1 * 0 = t.val / 12; rw [(idx3 t).1]; omega
    | ⟨1, _⟩ => show win0_3.index t 1 * 1 + 1 * 0 = 0; rw [(idx3 t).2.1]
    | ⟨2, _⟩ => show win0_3.index t 2 * 1024 + 1 * n.val = t.val % 12 * 1024 + n.val; rw [(idx3 t).2.2]; omega
  refine Eq.trans ?_ (congrArg (W m c) e).symm
  show _ = spec _ _ _ (lay t) (col t n)
  unfold spec
  simp only [iblk0 m c t, iblk1 m c t, iblk2 m c t]

/-- An index of the result is in the block of the point of its layer and column block. -/
theorem mem_blk (t : Fin cfg0.N) (i : S2x1x12288.Idx) (h : t.val = (i 0).val * 12 + (i 2).val / 1024) :
    i ∈ ((cfg0.win 3).blk t).view.set := by
  show i ∈ ((View.whole main_v2).slice (win0_3.rect t)).set
  rw [View.set_slice_whole, Rect.mem_set_unit]
  have h0 : (i 0).val < 2 := (i 0).isLt
  have h1 : (i 1).val < 1 := (i 1).isLt
  have h2 : (i 2).val < 12288 := (i 2).isLt
  intro d
  match d with
  | ⟨0, _⟩ => show win0_3.index t 0 * 1 ≤ (i 0).val ∧ (i 0).val < win0_3.index t 0 * 1 + 1; rw [(idx3 t).1]; omega
  | ⟨1, _⟩ => show win0_3.index t 1 * 1 ≤ (i 1).val ∧ (i 1).val < win0_3.index t 1 * 1 + 1; rw [(idx3 t).2.1]; omega
  | ⟨2, _⟩ => show win0_3.index t 2 * 1024 ≤ (i 2).val ∧ (i 2).val < win0_3.index t 2 * 1024 + 1024; rw [(idx3 t).2.2]; omega

/-- The result array after the run is `W`. -/
theorem final (c : Dev nD) : (dats m 0 c).arrAt 3 cfg0.N = W m c :=
  (dats m 0 c).arrAt_eq_of_cover 3 (W m c) (fun t _ => flushed_eq m c t) fun i => by
    have h0 : ((i : S2x1x12288.Idx) 0).val < 2 := ((i : S2x1x12288.Idx) 0).isLt
    have h2 : ((i : S2x1x12288.Idx) 2).val < 12288 := ((i : S2x1x12288.Idx) 2).isLt
    have hN : cfg0.N = 24 := by decide
    exact ⟨⟨((i : S2x1x12288.Idx) 0).val * 12 + ((i : S2x1x12288.Idx) 2).val / 1024, by omega⟩, flush0_3 _, mem_blk _ i rfl⟩

/-- The word of −∞. -/
theorem negInf : Ideal.ofBits .f32 0xFF800000#32 = ⊥ := by
  simp [Ideal.ofBits, Ideal.ieee]

/-- The precondition puts every entry of the conditioning vector above −∞. -/
theorem ne_bot [Cert.Pre_above_bottom.Facts] (c : FVec Ideal Cert.Pre_above_bottom.S1x2048 .f32) (w : FVec Ideal Cert.Pre_above_bottom.S2x2048x12288 .f32)
    (b : FVec Ideal Cert.Pre_above_bottom.S2x12288 .f32) (h : Cert.Pre_above_bottom.fn (F := Ideal) c w b = fun _ => 1#1) (k : Fin 2048) : c (ix2 0 k) ≠ ⊥ := by
  have e := congrFun h (ix2 0 k)
  dsimp only [Cert.Pre_above_bottom.fn] at e
  have e' : BitVec.ofBool (decide (Ideal.ofBits .f32 0xFF800000#32 < c (ix2 0 k))) = 1#1 := by
    refine Eq.trans ?_ e
    pointwise
  by_contra hc
  rw [hc, negInf, decide_eq_false (lt_irrefl _)] at e'
  exact absurd e' (by decide)

end Cert.KernelModIdeal.Md

namespace Cert.Proof

open Cert.KernelModIdeal.Md

/-- The modulation vectors' call computes the reference's function, at the ideal instance, from a conditioning vector above −∞. -/
theorem algebraic_mod [Cert.ReferenceModIdeal.Facts] [Cert.Pre_above_bottom.Facts] : Cert.algebraic_KernelModIdeal_ReferenceModIdeal_pre_above_bottom := by
  intro m g m' g' hpre hargs
  refine ⟨fun c => W m c, (θ_run Cert.KernelModIdeal.defs _ _).mono (fun r h c => ?_) (Cert.KernelModIdeal.Value.run_blocks (F := Ideal) m g),
    (θ_run Cert.ReferenceModIdeal.defs _ _).mono (fun r h c => ?_) (Cert.ReferenceModIdeal.Value.run (F := Ideal) m' g')⟩
  · exact ⟨(h c).1.trans (final m c), (h c).2⟩
  · refine ⟨(h c).1.trans ?_, (h c).2⟩
    obtain ⟨h0, h1, h2⟩ := hargs c
    rw [h0, h1, h2]
    refine (Cert.ReferenceModIdeal.Read.val_main_v17_eq (F := Ideal) _ _ _).trans ?_
    funext i
    obtain ⟨l, n, rfl⟩ : ∃ (l : Fin 2) (n : Fin 12288), i = ix3 l 0 n := ⟨i 0, i 2, (eq_ix3 i).trans (congrArg (fun b => ix3 (i 0) b (i 2)) (Subsingleton.elim (α := Fin 1) _ _))⟩
    exact ref_apply _ _ _ (ne_bot _ _ _ (hpre c)) l n

end Cert.Proof

end
-- ==== Proof.ProjRef.lean ====
module

public import proofs.«01_k».proof.Proof.Gen.ReferenceProjIdeal.Read
public import Idealize.ShloMosaic.Lib.Pointwise

@[expose] public section

set_option maxRecDepth 16384

noncomputable section

open Idealize.ShloMosaic Idealize.ShloMosaic.TcCoe Idealize.SL.Sem

namespace Cert.ReferenceProjIdeal.Pj

open Cert.ReferenceProjIdeal Cert.ReferenceProjIdeal.Read

/-- A row of compressed queries, normed: the mean is the sum times the real 1/448. -/
def nq (x w : Fin 448 → EReal) (k : Fin 448) : EReal :=
  x k * Ideal.rsqrt ((∑ i : Fin 448, x i * x i) * ((448⁻¹ : ℝ) : EReal) + Ideal.ofBits .f32 0x358637BD#32) * w k

/-- A row of compressed keys and values, normed. -/
def nkv (x w : Fin 128 → EReal) (k : Fin 128) : EReal :=
  x k * Ideal.rsqrt (Ideal.div (∑ i : Fin 128, x i * x i) (Ideal.ofBits .f32 0x43000000#32) + Ideal.ofBits .f32 0x358637BD#32) * w k

/-- A head's row of 192 entries, its last 64 turned by the angles, with 64 zeros after it. -/
def row (f : Fin 192 → EReal) (c s : Fin 32 → EReal) (j : Fin 256) : EReal :=
  if h : j.val < 128 then f ⟨j.val, by omega⟩
  else if h : j.val < 160 then f ⟨j.val, by omega⟩ * c ⟨j.val - 128, by omega⟩ - f ⟨j.val + 32, by omega⟩ * s ⟨j.val - 128, by omega⟩
  else if h : j.val < 192 then f ⟨j.val, h⟩ * c ⟨j.val - 160, by omega⟩ + f ⟨j.val - 32, by omega⟩ * s ⟨j.val - 160, by omega⟩
  else 0

/-- A head's queries before the turn. -/
def fq (x : Fin 448 → EReal) (n : Fin 448 → EReal) (w : FVec Ideal ⟨2, ![448, 768]⟩ .f32) (h : Fin 4) (i : Fin 192) : EReal :=
  ∑ k : Fin 448, nq x n k * w (ix2 k ⟨h.val * 192 + i.val, by omega⟩)

/-- A head's keys before the turn. -/
def fk (x : Fin 128 → EReal) (n : Fin 128 → EReal) (w : FVec Ideal ⟨2, ![128, 1024]⟩ .f32) (kr : Fin 64 → EReal) (h : Fin 4) (i : Fin 192) : EReal :=
  if hi : i.val < 128 then ∑ k : Fin 128, nkv x n k * w (ix2 k ⟨h.val * 256 + i.val, by omega⟩) else kr ⟨i.val - 128, by omega⟩

/-- The float word of 448 is the real 448. -/
theorem word448 : Ideal.ofBits .f32 0x43E00000#32 = ((448 : ℝ) : EReal) := by
  simp [Ideal.ofBits, Ideal.ieee]
  rw [← EReal.coe_mul]
  norm_num

/-- Division by the float word of 448 is a product with the real 1/448. -/
theorem div448 (x : EReal) : Ideal.div x (Ideal.ofBits .f32 0x43E00000#32) = x * ((448⁻¹ : ℝ) : EReal) := by
  rw [word448, Ideal.div_coe (by norm_num), one_div]

variable (x0 : FVec Ideal ⟨2, ![16384, 448]⟩ .f32) (x1 : FVec Ideal ⟨2, ![16384, 128]⟩ .f32) (x2 : FVec Ideal ⟨2, ![16384, 64]⟩ .f32)
  (x3 x4 : FVec Ideal ⟨2, ![16384, 32]⟩ .f32) (x5 : FVec Ideal ⟨1, ![448]⟩ .f32) (x6 : FVec Ideal ⟨2, ![448, 768]⟩ .f32)
  (x7 : FVec Ideal ⟨1, ![128]⟩ .f32) (x8 : FVec Ideal ⟨2, ![128, 1024]⟩ .f32)

/-- The normed compressed queries. -/
theorem v12_apply [Facts] (r : Fin 16384) (k : Fin 448) :
    val_main_v12 (F := Ideal) x0 x5 (ix2 r k) = nq (fun i => x0 (ix2 r i)) (fun i => x5 (ix1 i)) k := by
  unfold nq
  rw [← div448]
  pointwise [val_main_v0, val_main_cst, val_main_v1, val_main_v2, val_main_cst_0, val_main_v3, val_main_v4, val_main_cst_1, val_main_v5, val_main_v6, val_main_v7, val_main_v8, val_main_v9, val_main_v10, val_main_v11, val_main_v12]

/-- The normed compressed keys and values. -/
theorem v47_apply [Facts] (r : Fin 16384) (k : Fin 128) :
    val_main_v47 (F := Ideal) x1 x7 (ix2 r k) = nkv (fun i => x1 (ix2 r i)) (fun i => x7 (ix1 i)) k := by
  unfold nkv
  pointwise [val_main_v35, val_main_cst_3, val_main_v36, val_main_v37, val_main_cst_4, val_main_v38, val_main_v39, val_main_cst_5, val_main_v40, val_main_v41, val_main_v42, val_main_v43, val_main_v44, val_main_v45, val_main_v46, val_main_v47]

/-- The queries. -/
theorem v13_apply [Facts] (r : Fin 16384) (c : Fin 768) :
    val_main_v13 (F := Ideal) x0 x5 x6 (ix2 r c) = ∑ k : Fin 448, nq (fun i => x0 (ix2 r i)) (fun i => x5 (ix1 i)) k * x6 (ix2 k c) := by
  simp only [← v12_apply]
  pointwise [val_main_v13]

/-- The keys and values. -/
theorem v48_apply [Facts] (r : Fin 16384) (c : Fin 1024) :
    val_main_v48 (F := Ideal) x1 x7 x8 (ix2 r c) = ∑ k : Fin 128, nkv (fun i => x1 (ix2 r i)) (fun i => x7 (ix1 i)) k * x8 (ix2 k c) := by
  simp only [← v47_apply]
  pointwise [val_main_v48]

/-- A head's queries before the turn, as the reference reads them. -/
theorem v14_apply [Facts] (r : Fin 16384) (h : Fin 4) (i : Fin 192) :
    val_main_v14 (F := Ideal) x0 x5 x6 (ix3 r h i) = fq (fun i => x0 (ix2 r i)) (fun i => x5 (ix1 i)) x6 h i := by
  unfold fq
  rw [← v13_apply]
  generalize e : val_main_v13 (F := Ideal) x0 x5 x6 = y
  unfold val_main_v14
  rw [e]
  pointwise

/-- The reference's first result. -/
theorem v69_apply [Facts] (h : Fin 4) (r : Fin 16384) (j : Fin 256) :
    val_main_v69 (F := Ideal) x0 x3 x4 x5 x6 (ix3 h r j)
      = row (fq (fun i => x0 (ix2 r i)) (fun i => x5 (ix1 i)) x6 h) (fun i => x3 (ix2 r i)) (fun i => x4 (ix2 r i)) j * Ideal.ofBits .f32 0x3DD53B95#32 := by
  have e : fq (fun i => x0 (ix2 r i)) (fun i => x5 (ix1 i)) x6 h = fun i => val_main_v14 (F := Ideal) x0 x5 x6 (ix3 r h i) :=
    funext fun i => (v14_apply x0 x5 x6 r h i).symm
  rw [e]
  unfold row
  pointwise [val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_cst_2, val_main_v33, val_main_v34, val_main_cst_6, val_main_v66, val_main_v67, val_main_v68, val_main_v69]
  by_cases h1 : j.val < 128
  · simp only [h1, show j.val < 192 by omega, dite_true]
  by_cases h2 : j.val < 160
  · simp only [h1, h2, show j.val < 192 by omega, show j.val - 128 < 32 by omega, show ¬ (j.val + 32 < 128) by omega, dite_true, dite_false, show 128 + (j.val - 128) = j.val by omega, show 128 + (32 + (j.val - 128)) = j.val + 32 by omega, show j.val + 32 - 128 = 32 + (j.val - 128) by omega]
  by_cases h3 : j.val < 192
  · simp only [h1, h2, h3, show ¬ (j.val - 128 < 32) by omega, show ¬ (j.val - 32 < 128) by omega, dite_true, dite_false, show 128 + (32 + (j.val - 128 - 32)) = j.val by omega, show 128 + (j.val - 128 - 32) = j.val - 32 by omega, show 128 + (j.val - 128) = j.val by omega, show 128 + (j.val - 160) = j.val - 32 by omega, show j.val - 128 - 32 = j.val - 160 by omega, show 32 + (j.val - 160) = j.val - 128 by omega, show j.val - 32 - 128 = j.val - 160 by omega]
  · simp only [h1, h2, h3, dite_false, zero_mul]

/-- The reference's second result. -/
theorem v72_apply [Facts] (h : Fin 4) (r : Fin 16384) (j : Fin 256) :
    val_main_v72 (F := Ideal) x1 x2 x3 x4 x7 x8 (ix3 h r j)
      = row (fk (fun i => x1 (ix2 r i)) (fun i => x7 (ix1 i)) x8 (fun i => x2 (ix2 r i)) h) (fun i => x3 (ix2 r i)) (fun i => x4 (ix2 r i)) j := by
  unfold row fk
  simp only [← v48_apply]
  pointwise [val_main_v49, val_main_v50, val_main_v52, val_main_v53, val_main_v54, val_main_v55, val_main_v56, val_main_v57, val_main_v58, val_main_v59, val_main_v60, val_main_v61, val_main_v62, val_main_v63, val_main_v64, val_main_v65, val_main_cst_6, val_main_v66, val_main_v70, val_main_v71, val_main_v72]
  by_cases h1 : j.val < 128
  · simp only [h1, show j.val < 192 by omega, dite_true]
  by_cases h2 : j.val < 160
  · simp only [h1, h2, show j.val < 192 by omega, show j.val - 128 < 32 by omega, show ¬ (j.val + 32 < 128) by omega, dite_true, dite_false, show 128 + (j.val - 128) = j.val by omega, show 128 + (32 + (j.val - 128)) = j.val + 32 by omega, show j.val + 32 - 128 = 32 + (j.val - 128) by omega]
  by_cases h3 : j.val < 192
  · simp only [h1, h2, h3, show ¬ (j.val - 128 < 32) by omega, show ¬ (j.val - 32 < 128) by omega, dite_true, dite_false, show 128 + (32 + (j.val - 128 - 32)) = j.val by omega, show 128 + (j.val - 128 - 32) = j.val - 32 by omega, show 128 + (j.val - 128) = j.val by omega, show 128 + (j.val - 160) = j.val - 32 by omega, show j.val - 128 - 32 = j.val - 160 by omega, show 32 + (j.val - 160) = j.val - 128 by omega, show j.val - 32 - 128 = j.val - 160 by omega]
  · simp only [h1, h2, h3, dite_false, zero_mul]

/-- The reference's third result. -/
theorem v75_apply [Facts] (h : Fin 4) (b : Fin 32) (d : Fin 128) (l : Fin 512) :
    val_main_v75 (F := Ideal) x1 x7 x8 (ix4 h b d l)
      = ∑ k : Fin 128, nkv (fun i => x1 (ix2 ⟨b.val * 512 + l.val, by omega⟩ i)) (fun i => x7 (ix1 i)) k * x8 (ix2 k ⟨h.val * 256 + 128 + d.val, by omega⟩) := by
  rw [← v48_apply]
  pointwise [val_main_v49, val_main_v51, val_main_v73, val_main_v74, val_main_v75]
  exact congrArg _ (congrArg (ix2 _) (Fin.ext (by dsimp only; omega)))

end Cert.ReferenceProjIdeal.Pj

end
-- ==== Proof.ProjBlk.lean ====
module

public import proofs.«01_k».proof.Proof.ProjRef
public import proofs.«01_k».proof.Proof.Gen.KernelProjIdeal.Value
public import proofs.«01_k».proof.Proof.Common

@[expose] public section

set_option backward.proofsInPublic true
set_option maxRecDepth 16384

noncomputable section

open Idealize.ShloMosaic Idealize.ShloMosaic.TcCoe Idealize.SL.Sem

namespace Cert.KernelProjIdeal.Pj

open Cert.KernelProjIdeal Cert.KernelProjIdeal.Gen
open Cert.ReferenceProjIdeal.Pj

/-- Whether a column lies in the first half of its block of 64, as the kernel computes it. -/
def low (n : BitVec 32) : BitVec 1 :=
  IntOp.cmpi CmpIPredicate.slt
    (Scalar.select
      (IntOp.andi
        (IntOp.xori
          (IntOp.cmpi CmpIPredicate.slt (IntOp.remsi ArithUnit.vector n (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne (IntOp.remsi ArithUnit.vector n (Scalar.select (Scalar.cmpi CmpIPredicate.eq 64#32 0#32) 1#32 64#32)) 0#32))
      (IntOp.addi (IntOp.remsi ArithUnit.vector n (Scalar.select (Scalar.cmpi CmpIPredicate.eq 64#32 0#32) 1#32 64#32))
        (Scalar.select (Scalar.cmpi CmpIPredicate.eq 64#32 0#32) 1#32 64#32))
      (IntOp.remsi ArithUnit.vector n (Scalar.select (Scalar.cmpi CmpIPredicate.eq 64#32 0#32) 1#32 64#32)))
    32#32

/-- Of the columns 0 to 255 it is whether the remainder by 64 is below 32. -/
theorem low_eq (n : Fin 256) : low (BitVec.ofNat 32 n.val) = if n.val % 64 < 32 then 1#1 else 0#1 :=
  (by decide +kernel : ∀ n : Fin 256, low (BitVec.ofNat 32 n.val) = if n.val % 64 < 32 then 1#1 else 0#1) n

/-- Where a unit-stride rectangle of a rank-three array puts its local index. -/
theorem emb3 {A B C a b c o0 o1 o2 : Nat} (inb : ∀ d, (![o0, o1, o2] : Fin 3 → Nat) d + (⟨3, ![a, b, c]⟩ : Shape).size d ≤ (⟨3, ![A, B, C]⟩ : Shape).size d)
    (z0 : Fin a) (z1 : Fin b) (z2 : Fin c) :
    (Rect.unit (s := ⟨3, ![A, B, C]⟩) ![o0, o1, o2] (⟨3, ![a, b, c]⟩ : Shape).size inb).emb (ix3 z0 z1 z2)
      = ix3 ⟨o0 + z0.val, lt_of_lt_of_le (Nat.add_lt_add_left z0.isLt _) (inb 0)⟩ ⟨o1 + z1.val, lt_of_lt_of_le (Nat.add_lt_add_left z1.isLt _) (inb 1)⟩
        ⟨o2 + z2.val, lt_of_lt_of_le (Nat.add_lt_add_left z2.isLt _) (inb 2)⟩ := by
  funext d
  apply Fin.ext
  match d with
  | ⟨0, _⟩ => exact congrArg (o0 + ·) (Nat.one_mul _)
  | ⟨1, _⟩ => exact congrArg (o1 + ·) (Nat.one_mul _)
  | ⟨2, _⟩ => exact congrArg (o2 + ·) (Nat.one_mul _)

/-- Where a unit-stride rectangle of a rank-four array puts its local index. -/
theorem emb4 {A B C D a b c e o0 o1 o2 o3 : Nat}
    (inb : ∀ d, (![o0, o1, o2, o3] : Fin 4 → Nat) d + (⟨4, ![a, b, c, e]⟩ : Shape).size d ≤ (⟨4, ![A, B, C, D]⟩ : Shape).size d)
    (z0 : Fin a) (z1 : Fin b) (z2 : Fin c) (z3 : Fin e) :
    (Rect.unit (s := ⟨4, ![A, B, C, D]⟩) ![o0, o1, o2, o3] (⟨4, ![a, b, c, e]⟩ : Shape).size inb).emb (ix4 z0 z1 z2 z3)
      = ix4 ⟨o0 + z0.val, lt_of_lt_of_le (Nat.add_lt_add_left z0.isLt _) (inb 0)⟩ ⟨o1 + z1.val, lt_of_lt_of_le (Nat.add_lt_add_left z1.isLt _) (inb 1)⟩
        ⟨o2 + z2.val, lt_of_lt_of_le (Nat.add_lt_add_left z2.isLt _) (inb 2)⟩ ⟨o3 + z3.val, lt_of_lt_of_le (Nat.add_lt_add_left z3.isLt _) (inb 3)⟩ := by
  funext d
  apply Fin.ext
  match d with
  | ⟨0, _⟩ => exact congrArg (o0 + ·) (Nat.one_mul _)
  | ⟨1, _⟩ => exact congrArg (o1 + ·) (Nat.one_mul _)
  | ⟨2, _⟩ => exact congrArg (o2 + ·) (Nat.one_mul _)
  | ⟨3, _⟩ => exact congrArg (o3 + ·) (Nat.one_mul _)

/-- The value of the named constant is the real 1/448. -/
theorem inv_rank : Named.named (F := Ideal) Cert.KernelProjIdeal.κ "inv_rank" (φ := .f32) 0x3B124925#32 = ((448⁻¹ : ℝ) : EReal) :=
  IdealRules.named_const.ideal_named_scalar _ _ _ _ rfl

variable (x0 : FVec Ideal S512x512 .bf16) (x1 x2 : FVec Ideal S512x128 .bf16) (x3 x4 : FVec Ideal S512x128 .f32) (x5 : FVec Ideal S1x512 .f32)
  (x6 : FVec Ideal S512x768 .bf16) (x7 : FVec Ideal S1x128 .f32) (x8 : FVec Ideal S128x512 .bf16) (x9 : FVec Ideal S512x128 .bf16)

/-- The queries, over a point's own blocks. -/
def bq (a : Fin 512) (c : Fin 768) : EReal :=
  ∑ k : Fin 512, (x0 (ix2 a k) * Ideal.rsqrt ((∑ i : Fin 512, x0 (ix2 a i) * x0 (ix2 a i)) * ((448⁻¹ : ℝ) : EReal) + Ideal.ofBits .f32 0x358637BD#32) * x5 (ix2 0 k)) * x6 (ix2 k c)

/-- The queries of a point. -/
theorem pay8_apply (a : Fin 512) (c : Fin 768) : k0_pay8 (F := Ideal) x0 x5 x6 (ix2 a c) = bq x0 x5 x6 a c := by
  unfold bq
  rw [← inv_rank]
  pointwise [k0_pay8]

/-- The normed compressed keys and values of a point. -/
theorem pay18_apply (a : Fin 512) (k : Fin 128) : k0_pay18 (F := Ideal) x1 x7 (ix2 a k) = nkv (fun i => x1 (ix2 a i)) (fun i => x7 (ix2 0 i)) k := by
  unfold nkv
  pointwise [k0_pay18]

/-- The keys of a point. -/
theorem pay19_apply (a : Fin 512) (c : Fin 512) :
    k0_pay19 (F := Ideal) x1 x7 x8 (ix2 a c) = ∑ k : Fin 128, nkv (fun i => x1 (ix2 a i)) (fun i => x7 (ix2 0 i)) k * x8 (ix2 k c) := by
  simp only [← pay18_apply]
  pointwise [k0_pay19]

/-- The values of a point. -/
theorem pay20_apply (a : Fin 512) (c : Fin 512) :
    k0_pay20 (F := Ideal) x1 x7 x9 (ix2 a c) = ∑ k : Fin 128, x9 (ix2 a k) * nkv (fun i => x1 (ix2 c i)) (fun i => x7 (ix2 0 i)) k := by
  simp only [← pay18_apply]
  pointwise [k0_pay20]

/-- The turned queries of a point: the first half of a head's columns. -/
theorem pay16_lo (y : FVec Ideal S512x256 .f32) (c s : FVec Ideal S512x128 .f32) (a : Fin 512) (b : Fin 4) (k : Fin 32) (h : b.val * 64 + k.val < 256) :
    k0_pay16 (F := Ideal) y (k0_pay10 c) (k0_pay11 s) (Scalar.select (Scalar.cmpi .eq 64#32 0#32) 1#32 64#32) k0_pay12 k0_pay13 k0_pay14 k0_pay15 (ix2 a ⟨b.val * 64 + k.val, h⟩)
      = y (ix2 a ⟨b.val * 64 + k.val, h⟩) * c (ix2 a ⟨b.val % 2 * 64 + k.val, by omega⟩)
        + y (ix2 a ⟨b.val * 64 + 32 + k.val, by omega⟩) * s (ix2 a ⟨b.val % 2 * 64 + k.val, by omega⟩) := by
  have hm : low (BitVec.ofNat 32 (b.val * 64 + k.val)) = 1#1 := (low_eq ⟨b.val * 64 + k.val, h⟩).trans (if_pos (by dsimp only; omega))
  unfold low at hm
  pointwise [k0_pay6, k0_pay7, k0_pay10, k0_pay11, k0_pay12, k0_pay13, k0_pay14, k0_pay15, k0_pay16]
  rw [hm]
  have hs : ∀ p q : EReal, Scalar.select (1#1) p q = p := fun _ _ => rfl
  rw [hs]
  simp only [show (b.val * 64 + k.val + 256 - 224) % 256 = b.val * 64 + 32 + k.val by omega]
  by_cases hb : b.val * 64 + k.val < 128
  · simp only [hb, dite_true, show b.val % 2 * 64 + k.val = b.val * 64 + k.val by omega]
  · simp only [hb, dite_false, show b.val % 2 * 64 + k.val = b.val * 64 + k.val - 128 by omega]

/-- The turned queries of a point: the second half of a head's columns. -/
theorem pay16_hi (y : FVec Ideal S512x256 .f32) (c s : FVec Ideal S512x128 .f32) (a : Fin 512) (b : Fin 4) (k : Fin 32) (h : b.val * 64 + 32 + k.val < 256) :
    k0_pay16 (F := Ideal) y (k0_pay10 c) (k0_pay11 s) (Scalar.select (Scalar.cmpi .eq 64#32 0#32) 1#32 64#32) k0_pay12 k0_pay13 k0_pay14 k0_pay15 (ix2 a ⟨b.val * 64 + 32 + k.val, h⟩)
      = y (ix2 a ⟨b.val * 64 + 32 + k.val, h⟩) * c (ix2 a ⟨b.val % 2 * 64 + 32 + k.val, by omega⟩)
        + y (ix2 a ⟨b.val * 64 + k.val, by omega⟩) * s (ix2 a ⟨b.val % 2 * 64 + 32 + k.val, by omega⟩) := by
  have hm : low (BitVec.ofNat 32 (b.val * 64 + 32 + k.val)) = 0#1 := (low_eq ⟨b.val * 64 + 32 + k.val, h⟩).trans (if_neg (by dsimp only; omega))
  unfold low at hm
  pointwise [k0_pay6, k0_pay7, k0_pay10, k0_pay11, k0_pay12, k0_pay13, k0_pay14, k0_pay15, k0_pay16]
  rw [hm]
  have hs : ∀ p q : EReal, Scalar.select (0#1) p q = q := fun _ _ => rfl
  rw [hs]
  simp only [show (b.val * 64 + 32 + k.val + 256 - 32) % 256 = b.val * 64 + k.val by omega]
  by_cases hb : b.val * 64 + 32 + k.val < 128
  · simp only [hb, dite_true, show b.val % 2 * 64 + 32 + k.val = b.val * 64 + 32 + k.val by omega]
  · simp only [hb, dite_false, show b.val % 2 * 64 + 32 + k.val = b.val * 64 + 32 + k.val - 128 by omega]

/-- The turned keys of a point: the first half of the columns. -/
theorem pay22_lo (y : FVec Ideal S512x128 .bf16) (c s : FVec Ideal S512x128 .f32) (a : Fin 512) (k : Fin 32) (h : k.val < 64) :
    k0_pay22 (F := Ideal) c s y (ix2 a ⟨k.val, h⟩)
      = y (ix2 a ⟨k.val, by omega⟩) * c (ix2 a ⟨k.val, by omega⟩) + y (ix2 a ⟨32 + k.val, by omega⟩) * s (ix2 a ⟨k.val, by omega⟩) := by
  have hm : low (BitVec.ofNat 32 k.val) = 1#1 := (low_eq ⟨k.val, by omega⟩).trans (if_pos (by dsimp only; omega))
  unfold low at hm
  pointwise [k0_pay22]
  rw [hm]
  have hs : ∀ p q : EReal, Scalar.select (1#1) p q = p := fun _ _ => rfl
  rw [hs]
  simp only [show (k.val + 128 - 96) % 128 = 32 + k.val by omega]

/-- The turned keys of a point: the second half of the columns. -/
theorem pay22_hi (y : FVec Ideal S512x128 .bf16) (c s : FVec Ideal S512x128 .f32) (a : Fin 512) (k : Fin 32) (h : 32 + k.val < 64) :
    k0_pay22 (F := Ideal) c s y (ix2 a ⟨32 + k.val, h⟩)
      = y (ix2 a ⟨32 + k.val, by omega⟩) * c (ix2 a ⟨32 + k.val, by omega⟩) + y (ix2 a ⟨k.val, by omega⟩) * s (ix2 a ⟨32 + k.val, by omega⟩) := by
  have hm : low (BitVec.ofNat 32 (32 + k.val)) = 0#1 := (low_eq ⟨32 + k.val, by omega⟩).trans (if_neg (by dsimp only; omega))
  unfold low at hm
  pointwise [k0_pay22]
  rw [hm]
  have hs : ∀ p q : EReal, Scalar.select (0#1) p q = q := fun _ _ => rfl
  rw [hs]
  simp only [show (32 + k.val + 128 - 32) % 128 = k.val by omega]

/-- A head's store: columns of one array, then columns of another, then zeros. -/
def join {n m : Nat} (P : FVec Ideal ⟨2, ![512, n]⟩ .f32) (R : FVec Ideal ⟨2, ![512, m]⟩ .f32) (o u : Nat) (ho : o + 128 ≤ n) (hu : u + 64 ≤ m)
    (a : Fin 512) (j : Fin 256) : EReal :=
  if h : j.val < 128 then P (ix2 a ⟨o + j.val, by omega⟩) else if h : j.val - 128 < 64 then R (ix2 a ⟨u + (j.val - 128), by omega⟩) else 0

/-- The queries' store of head 0. -/
theorem pay23_apply (P : FVec Ideal S512x768 .f32) (R : FVec Ideal S512x256 .f32) (a : Fin 512) (j : Fin 256) :
    k0_pay23 (F := Ideal) P R k0_pay17 (ix3 0 a j) = join P R 0 0 (by omega) (by omega) a j * Ideal.ofBits .f32 0x3DD53B95#32 := by
  unfold join
  pointwise [k0_pay17, k0_pay23]

/-- The queries' store of head 1. -/
theorem pay26_apply (P : FVec Ideal S512x768 .f32) (R : FVec Ideal S512x256 .f32) (a : Fin 512) (j : Fin 256) :
    k0_pay26 (F := Ideal) P R k0_pay17 (ix3 0 a j) = join P R 128 64 (by omega) (by omega) a j * Ideal.ofBits .f32 0x3DD53B95#32 := by
  unfold join
  pointwise [k0_pay17, k0_pay26]

/-- The queries' store of head 2. -/
theorem pay29_apply (P : FVec Ideal S512x768 .f32) (R : FVec Ideal S512x256 .f32) (a : Fin 512) (j : Fin 256) :
    k0_pay29 (F := Ideal) P R k0_pay17 (ix3 0 a j) = join P R 256 128 (by omega) (by omega) a j * Ideal.ofBits .f32 0x3DD53B95#32 := by
  unfold join
  pointwise [k0_pay17, k0_pay29]

/-- The queries' store of head 3. -/
theorem pay3_apply (P : FVec Ideal S512x768 .f32) (R : FVec Ideal S512x256 .f32) (a : Fin 512) (j : Fin 256) :
    k0_pay3 (F := Ideal) P R k0_pay17 (ix3 0 a j) = join P R 384 192 (by omega) (by omega) a j * Ideal.ofBits .f32 0x3DD53B95#32 := by
  unfold join
  pointwise [k0_pay17, k0_pay3]

/-- The keys' store of head 0. -/
theorem pay24_apply (P : FVec Ideal S512x512 .f32) (c s : FVec Ideal S512x128 .f32) (y : FVec Ideal S512x128 .bf16) (a : Fin 512) (j : Fin 256) :
    k0_pay24 (F := Ideal) c s k0_pay17 P y (ix3 0 a j) = join P (k0_pay22 (F := Ideal) c s y) 0 0 (by omega) (by omega) a j := by
  unfold k0_pay24
  generalize k0_pay22 (F := Ideal) c s y = R
  unfold join
  pointwise [k0_pay17]

/-- The keys' store of head 1. -/
theorem pay27_apply (P : FVec Ideal S512x512 .f32) (R : FVec Ideal S512x64 .f32) (a : Fin 512) (j : Fin 256) :
    k0_pay27 (F := Ideal) k0_pay17 P R (ix3 0 a j) = join P R 128 0 (by omega) (by omega) a j := by
  unfold join
  pointwise [k0_pay17, k0_pay27]

/-- The keys' store of head 2. -/
theorem pay30_apply (P : FVec Ideal S512x512 .f32) (R : FVec Ideal S512x64 .f32) (a : Fin 512) (j : Fin 256) :
    k0_pay1 (k0_pay30 (F := Ideal) k0_pay17 P R) (ix3 0 a j) = join P R 256 0 (by omega) (by omega) a j := by
  unfold join
  pointwise [k0_pay17, k0_pay30, k0_pay1]

/-- The keys' store of head 3. -/
theorem pay4_apply (P : FVec Ideal S512x512 .f32) (R : FVec Ideal S512x64 .f32) (a : Fin 512) (j : Fin 256) :
    k0_pay4 (F := Ideal) k0_pay17 P R (ix3 0 a j) = join P R 384 0 (by omega) (by omega) a j := by
  unfold join
  pointwise [k0_pay17, k0_pay4]

/-- The values' store of head 0. -/
theorem pay25_apply (P : FVec Ideal S512x512 .f32) (d : Fin 128) (l : Fin 512) :
    k0_pay25 (F := Ideal) P (ix4 0 0 d l) = P (ix2 ⟨0 + d.val, by omega⟩ l) := by
  pointwise [k0_pay25]

/-- The values' store of head 1. -/
theorem pay28_apply (P : FVec Ideal S512x512 .f32) (d : Fin 128) (l : Fin 512) :
    k0_pay28 (F := Ideal) P (ix4 0 0 d l) = P (ix2 ⟨128 + d.val, by omega⟩ l) := by
  pointwise [k0_pay28]

/-- The values' store of head 2. -/
theorem pay2_apply (P : FVec Ideal S512x512 .f32) (d : Fin 128) (l : Fin 512) :
    k0_pay2 (F := Ideal) P (ix4 0 0 d l) = P (ix2 ⟨256 + d.val, by omega⟩ l) := by
  pointwise [k0_pay2]

/-- The values' store of head 3. -/
theorem pay5_apply (P : FVec Ideal S512x512 .f32) (d : Fin 128) (l : Fin 512) :
    k0_pay5 (F := Ideal) P (ix4 0 0 d l) = P (ix2 ⟨384 + d.val, by omega⟩ l) := by
  pointwise [k0_pay5]

/-- The whole loads read the blocks themselves. -/
theorem ld_a (x : Vec Ideal S512x128 .f32) : View.ld x r0_0 = x := by
  funext z
  change (⟨2, ![512, 128]⟩ : Shape).Idx at z
  idx_vars z
  show View.ld x _ _ = x _
  pointwise

/-- The whole loads read the blocks themselves. -/
theorem ld_b (x : Vec Ideal S512x128 .bf16) : View.ld x r0_0 = x := by
  funext z
  change (⟨2, ![512, 128]⟩ : Shape).Idx at z
  idx_vars z
  show View.ld x _ _ = x _
  pointwise

/-- The whole loads read the blocks themselves. -/
theorem ld_c (x : Vec Ideal S512x512 .bf16) : View.ld x r0_1 = x := by
  funext z
  change (⟨2, ![512, 512]⟩ : Shape).Idx at z
  idx_vars z
  show View.ld x _ _ = x _
  pointwise

/-- The whole loads read the blocks themselves. -/
theorem ld_d (x : Vec Ideal S1x512 .f32) : View.ld x r0_2 = x := by
  funext z
  change (⟨2, ![1, 512]⟩ : Shape).Idx at z
  idx_vars z
  show View.ld x _ _ = x _
  have hz : z0 = 0 := Subsingleton.elim _ _
  subst hz
  pointwise

/-- The whole loads read the blocks themselves. -/
theorem ld_e (x : Vec Ideal S512x768 .bf16) : View.ld x r0_3 = x := by
  funext z
  change (⟨2, ![512, 768]⟩ : Shape).Idx at z
  idx_vars z
  show View.ld x _ _ = x _
  pointwise

/-- The whole loads read the blocks themselves. -/
theorem ld_f (x : Vec Ideal S1x128 .f32) : View.ld x r0_4 = x := by
  funext z
  change (⟨2, ![1, 128]⟩ : Shape).Idx at z
  idx_vars z
  show View.ld x _ _ = x _
  have hz : z0 = 0 := Subsingleton.elim _ _
  subst hz
  pointwise

/-- The whole loads read the blocks themselves. -/
theorem ld_g (x : Vec Ideal S128x512 .bf16) : View.ld x r0_5 = x := by
  funext z
  change (⟨2, ![128, 512]⟩ : Shape).Idx at z
  idx_vars z
  show View.ld x _ _ = x _
  pointwise

/-- A point's first result at (head, row, column). -/
def b10 (h : Fin 4) (a : Fin 512) (j : Fin 256) : EReal :=
  join (k0_pay33 x0 x1 x2 x3 x4 x5 x6 x7 x8 x9) (k0_pay34 x0 x1 x2 x3 x4 x5 x6 x7 x8 x9) (h.val * 128) (h.val * 64) (by omega) (by omega) a j * Ideal.ofBits .f32 0x3DD53B95#32

/-- A point's second result at (head, row, column). -/
def b11 (h : Fin 4) (a : Fin 512) (j : Fin 256) : EReal :=
  join (k0_pay36 x0 x1 x2 x3 x4 x5 x6 x7 x8 x9) (k0_pay39 x0 x1 x2 x3 x4 x5 x6 x7 x8 x9) (h.val * 128) 0 (by omega) (by omega) a j

/-- A point's third result at (head, column, row). -/
def b12 (h : Fin 4) (d : Fin 128) (l : Fin 512) : EReal :=
  k0_pay37 (F := Ideal) x0 x1 x2 x3 x4 x5 x6 x7 x8 x9 (ix2 ⟨h.val * 128 + d.val, by omega⟩ l)

/-- The body's four stores to result 1 are the four heads of `b10`. -/
theorem out10_apply (y : S4x512x256.Idx) : out0_10 (F := Ideal) x0 x1 x2 x3 x4 x5 x6 x7 x8 x9 y = b10 x0 x1 x2 x3 x4 x5 x6 x7 x8 x9 (y 0) (y 1) (y 2) := by
  unfold out0_10
  refine View.canon_apply_of_pieces (Val := Elt Ideal) (e := .bf16) (fun y : S4x512x256.Idx => b10 x0 x1 x2 x3 x4 x5 x6 x7 x8 x9 (y 0) (y 1) (y 2)) _ ?_ y (cover0_10 _ _ _ _ y)
  intro p hp z
  rcases List.mem_cons.mp hp with rfl | hp
  · change (⟨3, ![1, 512, 256]⟩ : Shape).Idx at z
    idx_vars z
    have hz : z0 = 0 := Subsingleton.elim _ _
    subst hz
    have e : r0_12.emb (ix3 0 z1 z2) = ix3 3 z1 z2 := (emb3 _ 0 z1 z2).trans (congrArg₂ (ix3 (3 : Fin 4)) (Fin.ext (Nat.zero_add _)) (Fin.ext (Nat.zero_add _)))
    rw [e]
    exact pay3_apply _ _ z1 z2
  · rcases List.mem_cons.mp hp with rfl | hp
    · change (⟨3, ![1, 512, 256]⟩ : Shape).Idx at z
      idx_vars z
      have hz : z0 = 0 := Subsingleton.elim _ _
      subst hz
      have e : r0_10.emb (ix3 0 z1 z2) = ix3 2 z1 z2 := (emb3 _ 0 z1 z2).trans (congrArg₂ (ix3 (2 : Fin 4)) (Fin.ext (Nat.zero_add _)) (Fin.ext (Nat.zero_add _)))
      rw [e]
      exact pay29_apply _ _ z1 z2
    · rcases List.mem_cons.mp hp with rfl | hp
      · change (⟨3, ![1, 512, 256]⟩ : Shape).Idx at z
        idx_vars z
        have hz : z0 = 0 := Subsingleton.elim _ _
        subst hz
        have e : r0_8.emb (ix3 0 z1 z2) = ix3 1 z1 z2 := (emb3 _ 0 z1 z2).trans (congrArg₂ (ix3 (1 : Fin 4)) (Fin.ext (Nat.zero_add _)) (Fin.ext (Nat.zero_add _)))
        rw [e]
        exact pay26_apply _ _ z1 z2
      · rcases List.mem_cons.mp hp with rfl | hp
        · change (⟨3, ![1, 512, 256]⟩ : Shape).Idx at z
          idx_vars z
          have hz : z0 = 0 := Subsingleton.elim _ _
          subst hz
          have e : r0_6.emb (ix3 0 z1 z2) = ix3 0 z1 z2 := (emb3 _ 0 z1 z2).trans (congrArg₂ (ix3 (0 : Fin 4)) (Fin.ext (Nat.zero_add _)) (Fin.ext (Nat.zero_add _)))
          rw [e]
          exact pay23_apply _ _ z1 z2
        · cases hp

/-- The body's four stores to result 2 are the four heads of `b11`. -/
theorem out11_apply (y : S4x512x256.Idx) : out0_11 (F := Ideal) x0 x1 x2 x3 x4 x5 x6 x7 x8 x9 y = b11 x0 x1 x2 x3 x4 x5 x6 x7 x8 x9 (y 0) (y 1) (y 2) := by
  unfold out0_11
  refine View.canon_apply_of_pieces (Val := Elt Ideal) (e := .bf16) (fun y : S4x512x256.Idx => b11 x0 x1 x2 x3 x4 x5 x6 x7 x8 x9 (y 0) (y 1) (y 2)) _ ?_ y (cover0_11 _ _ _ _ y)
  intro p hp z
  rcases List.mem_cons.mp hp with rfl | hp
  · change (⟨3, ![1, 512, 256]⟩ : Shape).Idx at z
    idx_vars z
    have hz : z0 = 0 := Subsingleton.elim _ _
    subst hz
    have e : r0_12.emb (ix3 0 z1 z2) = ix3 3 z1 z2 := (emb3 _ 0 z1 z2).trans (congrArg₂ (ix3 (3 : Fin 4)) (Fin.ext (Nat.zero_add _)) (Fin.ext (Nat.zero_add _)))
    rw [e]
    exact pay4_apply _ _ z1 z2
  · rcases List.mem_cons.mp hp with rfl | hp
    · change (⟨3, ![1, 512, 256]⟩ : Shape).Idx at z
      idx_vars z
      have hz : z0 = 0 := Subsingleton.elim _ _
      subst hz
      have e : r0_10.emb (ix3 0 z1 z2) = ix3 2 z1 z2 := (emb3 _ 0 z1 z2).trans (congrArg₂ (ix3 (2 : Fin 4)) (Fin.ext (Nat.zero_add _)) (Fin.ext (Nat.zero_add _)))
      rw [e]
      exact pay30_apply _ _ z1 z2
    · rcases List.mem_cons.mp hp with rfl | hp
      · change (⟨3, ![1, 512, 256]⟩ : Shape).Idx at z
        idx_vars z
        have hz : z0 = 0 := Subsingleton.elim _ _
        subst hz
        have e : r0_8.emb (ix3 0 z1 z2) = ix3 1 z1 z2 := (emb3 _ 0 z1 z2).trans (congrArg₂ (ix3 (1 : Fin 4)) (Fin.ext (Nat.zero_add _)) (Fin.ext (Nat.zero_add _)))
        rw [e]
        exact pay27_apply _ _ z1 z2
      · rcases List.mem_cons.mp hp with rfl | hp
        · change (⟨3, ![1, 512, 256]⟩ : Shape).Idx at z
          idx_vars z
          have hz : z0 = 0 := Subsingleton.elim _ _
          subst hz
          have e : r0_6.emb (ix3 0 z1 z2) = ix3 0 z1 z2 := (emb3 _ 0 z1 z2).trans (congrArg₂ (ix3 (0 : Fin 4)) (Fin.ext (Nat.zero_add _)) (Fin.ext (Nat.zero_add _)))
          rw [e]
          exact pay24_apply _ _ _ _ z1 z2
        · cases hp

/-- The body's four stores to result 3 are the four heads of `b12`. -/
theorem out12_apply (y : S4x1x128x512.Idx) : out0_12 (F := Ideal) x0 x1 x2 x3 x4 x5 x6 x7 x8 x9 y = b12 x0 x1 x2 x3 x4 x5 x6 x7 x8 x9 (y 0) (y 2) (y 3) := by
  unfold out0_12
  refine View.canon_apply_of_pieces (Val := Elt Ideal) (e := .bf16) (fun y : S4x1x128x512.Idx => b12 x0 x1 x2 x3 x4 x5 x6 x7 x8 x9 (y 0) (y 2) (y 3)) _ ?_ y (cover0_12 _ _ _ _ y)
  intro p hp z
  rcases List.mem_cons.mp hp with rfl | hp
  · change (⟨4, ![1, 1, 128, 512]⟩ : Shape).Idx at z
    idx_vars z
    have hz : z0 = 0 := Subsingleton.elim _ _
    have hw : z1 = 0 := Subsingleton.elim _ _
    subst hz hw
    have e : r0_13.emb (ix4 0 0 z2 z3) = ix4 3 0 z2 z3 := (emb4 _ 0 0 z2 z3).trans (congrArg₂ (ix4 (3 : Fin 4) (0 : Fin 1)) (Fin.ext (Nat.zero_add _)) (Fin.ext (Nat.zero_add _)))
    rw [e]
    exact pay5_apply _ z2 z3
  · rcases List.mem_cons.mp hp with rfl | hp
    · change (⟨4, ![1, 1, 128, 512]⟩ : Shape).Idx at z
      idx_vars z
      have hz : z0 = 0 := Subsingleton.elim _ _
      have hw : z1 = 0 := Subsingleton.elim _ _
      subst hz hw
      have e : r0_11.emb (ix4 0 0 z2 z3) = ix4 2 0 z2 z3 := (emb4 _ 0 0 z2 z3).trans (congrArg₂ (ix4 (2 : Fin 4) (0 : Fin 1)) (Fin.ext (Nat.zero_add _)) (Fin.ext (Nat.zero_add _)))
      rw [e]
      exact pay2_apply _ z2 z3
    · rcases List.mem_cons.mp hp with rfl | hp
      · change (⟨4, ![1, 1, 128, 512]⟩ : Shape).Idx at z
        idx_vars z
        have hz : z0 = 0 := Subsingleton.elim _ _
        have hw : z1 = 0 := Subsingleton.elim _ _
        subst hz hw
        have e : r0_9.emb (ix4 0 0 z2 z3) = ix4 1 0 z2 z3 := (emb4 _ 0 0 z2 z3).trans (congrArg₂ (ix4 (1 : Fin 4) (0 : Fin 1)) (Fin.ext (Nat.zero_add _)) (Fin.ext (Nat.zero_add _)))
        rw [e]
        exact pay28_apply _ z2 z3
      · rcases List.mem_cons.mp hp with rfl | hp
        · change (⟨4, ![1, 1, 128, 512]⟩ : Shape).Idx at z
          idx_vars z
          have hz : z0 = 0 := Subsingleton.elim _ _
          have hw : z1 = 0 := Subsingleton.elim _ _
          subst hz hw
          have e : r0_7.emb (ix4 0 0 z2 z3) = ix4 0 0 z2 z3 := (emb4 _ 0 0 z2 z3).trans (congrArg₂ (ix4 (0 : Fin 4) (0 : Fin 1)) (Fin.ext (Nat.zero_add _)) (Fin.ext (Nat.zero_add _)))
          rw [e]
          exact (pay25_apply _ z2 z3).trans (congrArg (fun i => k0_pay37 (F := Ideal) x0 x1 x2 x3 x4 x5 x6 x7 x8 x9 (ix2 i z3)) (Fin.ext rfl))
        · cases hp

/-- A point's first result, its blocks holding a head's row and the angles. -/
theorem b10_row (h : Fin 4) (a : Fin 512) (j : Fin 256) (f : Fin 192 → EReal) (c s : Fin 32 → EReal)
    (hf1 : ∀ i : Fin 128, bq x0 x5 x6 a ⟨h.val * 128 + i.val, by omega⟩ = f ⟨i.val, by omega⟩)
    (hf2 : ∀ i : Fin 64, bq x0 x5 x6 a ⟨512 + (h.val * 64 + i.val), by omega⟩ = f ⟨128 + i.val, by omega⟩)
    (hc : ∀ (b : Fin 4) (k : Fin 32), x3 (ix2 a ⟨b.val * 32 + k.val, by omega⟩) = c k)
    (hse : ∀ (b : Fin 2) (k : Fin 32), x4 (ix2 a ⟨b.val * 64 + k.val, by omega⟩) = - s k)
    (hso : ∀ (b : Fin 2) (k : Fin 32), x4 (ix2 a ⟨b.val * 64 + 32 + k.val, by omega⟩) = s k) :
    b10 x0 x1 x2 x3 x4 x5 x6 x7 x8 x9 h a j = row f c s j * Ideal.ofBits .f32 0x3DD53B95#32 := by
  unfold b10 join row
  refine congrArg (· * Ideal.ofBits .f32 0x3DD53B95#32) ?_
  have hy : ∀ i : Fin 256, k0_pay9 (F := Ideal) x0 x5 x6 (ix2 a i) = bq x0 x5 x6 a ⟨512 + i.val, by omega⟩ := by
    intro i
    rw [← pay8_apply]
    unfold k0_pay9
    generalize k0_pay8 (F := Ideal) x0 x5 x6 = y
    pointwise
  by_cases h1 : j.val < 128
  · rw [dif_pos h1, dif_pos h1]
    unfold k0_pay33
    rw [ld_c, ld_d, ld_e, pay8_apply]
    exact hf1 ⟨j.val, h1⟩
  rw [dif_neg h1, dif_neg h1]
  by_cases h2 : j.val < 160
  · rw [dif_pos (by omega), dif_pos h2]
    unfold k0_pay34
    rw [ld_a, ld_a, ld_c, ld_d, ld_e]
    refine (pay16_lo _ x3 x4 a h ⟨j.val - 128, by omega⟩ (by dsimp only; omega)).trans ?_
    rw [hy, hy]
    refine Eq.trans (congrArg₂ (· + ·)
      (congrArg₂ (· * ·) ((hf2 ⟨j.val - 128, by omega⟩).trans (congrArg (a₂ := ⟨j.val, by omega⟩) f (Fin.ext (by dsimp only; omega))))
        (Eq.trans (congrArg (fun i => x3 (ix2 a i)) (Fin.ext (by dsimp only; omega))) (hc ⟨h.val % 2 * 2, by omega⟩ ⟨j.val - 128, by omega⟩)))
      (congrArg₂ (· * ·) (Eq.trans (congrArg (bq x0 x5 x6 a) (Fin.ext (by dsimp only; omega))) ((hf2 ⟨32 + (j.val - 128), by omega⟩).trans (congrArg (a₂ := ⟨j.val + 32, by omega⟩) f (Fin.ext (by dsimp only; omega)))))
        (hse ⟨h.val % 2, by omega⟩ ⟨j.val - 128, by omega⟩))) ?_
    rw [mul_neg, ← sub_eq_add_neg]
  rw [dif_neg h2]
  by_cases h3 : j.val < 192
  · rw [dif_pos (by omega), dif_pos h3]
    unfold k0_pay34
    rw [ld_a, ld_a, ld_c, ld_d, ld_e]
    refine Eq.trans (congrArg (fun i => k0_pay16 (F := Ideal) _ _ _ _ _ _ _ _ (ix2 a i)) (Fin.ext (by dsimp only; omega))) ((pay16_hi _ x3 x4 a h ⟨j.val - 160, by omega⟩ (by dsimp only; omega)).trans ?_)
    rw [hy, hy]
    exact congrArg₂ (· + ·)
      (congrArg₂ (· * ·) (Eq.trans (congrArg (bq x0 x5 x6 a) (Fin.ext (by dsimp only; omega))) ((hf2 ⟨32 + (j.val - 160), by omega⟩).trans (congrArg f (Fin.ext (by dsimp only; omega)))))
        (Eq.trans (congrArg (fun i => x3 (ix2 a i)) (Fin.ext (by dsimp only; omega))) (hc ⟨h.val % 2 * 2 + 1, by omega⟩ ⟨j.val - 160, by omega⟩)))
      (congrArg₂ (· * ·) ((hf2 ⟨j.val - 160, by omega⟩).trans (congrArg f (Fin.ext (by dsimp only; omega))))
        (hso ⟨h.val % 2, by omega⟩ ⟨j.val - 160, by omega⟩))
  · rw [dif_neg (by omega), dif_neg h3]

/-- A point's second result, its blocks holding a head's row and the angles. -/
theorem b11_row (h : Fin 4) (a : Fin 512) (j : Fin 256) (f : Fin 192 → EReal) (c s : Fin 32 → EReal)
    (hf1 : ∀ i : Fin 128, ∑ k : Fin 128, nkv (fun i => x1 (ix2 a i)) (fun i => x7 (ix2 0 i)) k * x8 (ix2 k ⟨h.val * 128 + i.val, by omega⟩) = f ⟨i.val, by omega⟩)
    (hf2 : ∀ i : Fin 64, x2 (ix2 a ⟨i.val, by omega⟩) = f ⟨128 + i.val, by omega⟩)
    (hc : ∀ (b : Fin 4) (k : Fin 32), x3 (ix2 a ⟨b.val * 32 + k.val, by omega⟩) = c k)
    (hse : ∀ (b : Fin 2) (k : Fin 32), x4 (ix2 a ⟨b.val * 64 + k.val, by omega⟩) = - s k)
    (hso : ∀ (b : Fin 2) (k : Fin 32), x4 (ix2 a ⟨b.val * 64 + 32 + k.val, by omega⟩) = s k) :
    b11 x0 x1 x2 x3 x4 x5 x6 x7 x8 x9 h a j = row f c s j := by
  unfold b11 join row
  have e31 : k0_pay31 (F := Ideal) x0 x1 x2 x3 x4 x5 x6 x7 x8 x9 = x3 := by
    unfold k0_pay31
    rw [ld_a]
    funext z
    change (⟨2, ![512, 128]⟩ : Shape).Idx at z
    idx_vars z
    pointwise [k0_pay6]
  have e32 : k0_pay32 (F := Ideal) x0 x1 x2 x3 x4 x5 x6 x7 x8 x9 = x4 := by
    unfold k0_pay32
    rw [ld_a]
    funext z
    change (⟨2, ![512, 128]⟩ : Shape).Idx at z
    idx_vars z
    pointwise [k0_pay7]
  have e38 : k0_pay38 (F := Ideal) x0 x1 x2 x3 x4 x5 x6 x7 x8 x9 = x2 := by
    unfold k0_pay38
    rw [ld_b]
    funext z
    change (⟨2, ![512, 128]⟩ : Shape).Idx at z
    idx_vars z
    pointwise [k0_pay21]
  by_cases h1 : j.val < 128
  · rw [dif_pos h1, dif_pos h1]
    unfold k0_pay36
    rw [ld_b, ld_f, ld_g, pay19_apply]
    exact hf1 ⟨j.val, h1⟩
  rw [dif_neg h1, dif_neg h1]
  by_cases h2 : j.val < 160
  · rw [dif_pos (by omega), dif_pos h2]
    unfold k0_pay39
    rw [e31, e32, e38]
    refine Eq.trans (congrArg (fun i => k0_pay22 (F := Ideal) x3 x4 x2 (ix2 a i)) (Fin.ext (by dsimp only; omega))) ((pay22_lo x2 x3 x4 a ⟨j.val - 128, by omega⟩ (by dsimp only; omega)).trans ?_)
    refine Eq.trans (congrArg₂ (· + ·)
      (congrArg₂ (· * ·) ((hf2 ⟨j.val - 128, by omega⟩).trans (congrArg (a₂ := ⟨j.val, by omega⟩) f (Fin.ext (by dsimp only; omega))))
        (Eq.trans (congrArg (fun i => x3 (ix2 a i)) (Fin.ext (by dsimp only; omega))) (hc 0 ⟨j.val - 128, by omega⟩)))
      (congrArg₂ (· * ·) ((hf2 ⟨32 + (j.val - 128), by omega⟩).trans (congrArg (a₂ := ⟨j.val + 32, by omega⟩) f (Fin.ext (by dsimp only; omega))))
        (Eq.trans (congrArg (fun i => x4 (ix2 a i)) (Fin.ext (by dsimp only; omega))) (hse 0 ⟨j.val - 128, by omega⟩)))) ?_
    rw [mul_neg, ← sub_eq_add_neg]
  rw [dif_neg h2]
  by_cases h3 : j.val < 192
  · rw [dif_pos (by omega), dif_pos h3]
    unfold k0_pay39
    rw [e31, e32, e38]
    refine Eq.trans (congrArg (fun i => k0_pay22 (F := Ideal) x3 x4 x2 (ix2 a i)) (Fin.ext (by dsimp only; omega))) ((pay22_hi x2 x3 x4 a ⟨j.val - 160, by omega⟩ (by dsimp only; omega)).trans ?_)
    exact congrArg₂ (· + ·)
      (congrArg₂ (· * ·) ((hf2 ⟨32 + (j.val - 160), by omega⟩).trans (congrArg f (Fin.ext (by dsimp only; omega))))
        (Eq.trans (congrArg (fun i => x3 (ix2 a i)) (Fin.ext (by dsimp only; omega))) (hc 1 ⟨j.val - 160, by omega⟩)))
      (congrArg₂ (· * ·) ((hf2 ⟨j.val - 160, by omega⟩).trans (congrArg f (Fin.ext (by dsimp only; omega))))
        (Eq.trans (congrArg (fun i => x4 (ix2 a i)) (Fin.ext (by dsimp only; omega))) (hso 0 ⟨j.val - 160, by omega⟩)))
  · rw [dif_neg (by omega), dif_neg h3]

/-- A point's third result. -/
theorem b12_eq (h : Fin 4) (d : Fin 128) (l : Fin 512) :
    b12 x0 x1 x2 x3 x4 x5 x6 x7 x8 x9 h d l
      = ∑ k : Fin 128, nkv (fun i => x1 (ix2 l i)) (fun i => x7 (ix2 0 i)) k * x9 (ix2 ⟨h.val * 128 + d.val, by omega⟩ k) := by
  unfold b12 k0_pay37
  rw [ld_b, ld_b, ld_f, pay20_apply]
  exact Finset.sum_congr rfl fun k _ => mul_comm _ _

/-- The queries over a point's blocks, the last 64 columns of the first being zero: only the first 448 count. -/
theorem bq_eq (a : Fin 512) (cc : Fin 768) (x n w : Fin 448 → EReal)
    (hx : ∀ k : Fin 448, x0 (ix2 a ⟨k.val, by omega⟩) = x k) (hz : ∀ k : Fin 64, x0 (ix2 a ⟨448 + k.val, by omega⟩) = 0)
    (hn : ∀ k : Fin 448, x5 (ix2 0 ⟨k.val, by omega⟩) = n k) (hw : ∀ k : Fin 448, x6 (ix2 ⟨k.val, by omega⟩ cc) = w k) :
    bq x0 x5 x6 a cc = ∑ k : Fin 448, nq x n k * w k := by
  have hs : (∑ i : Fin 512, x0 (ix2 a i) * x0 (ix2 a i)) = ∑ i : Fin 448, x i * x i := by
    refine (Fin.sum_univ_add (a := 448) (b := 64) (fun i : Fin 512 => x0 (ix2 a i) * x0 (ix2 a i))).trans ?_
    refine (congrArg₂ (· + ·) (Finset.sum_congr rfl fun k _ => congrArg₂ (· * ·) (hx k) (hx k))
      (Finset.sum_eq_zero fun k _ => (congrArg (· * x0 (ix2 a (Fin.natAdd 448 k))) (hz k)).trans (zero_mul _))).trans (add_zero _)
  unfold bq
  rw [hs]
  refine (Fin.sum_univ_add (a := 448) (b := 64) _).trans ?_
  refine (congrArg₂ (· + ·) (Finset.sum_congr rfl fun k _ => congrArg₂ (· * ·) (congrArg₂ (· * ·) (congrArg (· * _) (hx k)) (hn k)) (hw k))
    (Finset.sum_eq_zero fun k _ => ?_)).trans (add_zero _)
  have e : x0 (ix2 a (Fin.natAdd 448 k)) = 0 := hz k
  rw [e, zero_mul, zero_mul, zero_mul]

end Cert.KernelProjIdeal.Pj

end
-- ==== Proof.ProjLay.lean ====
module

public import proofs.«01_k».proof.KernelProjIdeal
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem

namespace Cert.KernelProjIdeal.Pj

open Cert.KernelProjIdeal

variable [Facts]
open Facts₀

/-- The packed projections as the host code lays them out. -/
def lp (q : FVec Ideal S16384x448 .f32) (kv : FVec Ideal S16384x128 .f32) (kr : FVec Ideal S16384x64 .f32) : FVec Ideal S16384x5632 .bf16 :=
  concatenate S16384x5632 1 [⟨S16384x4096, (broadcastInDim S16384x4096 ![] bcast_S_S16384x4096 (constant S_ .bf16 0x0000#16) : FVec Ideal S16384x4096 .bf16)⟩,
    ⟨S16384x448, (truncf .bf16 q bitsLt_bf16_f32 : FVec Ideal S16384x448 .bf16)⟩,
    ⟨S16384x576, (broadcastInDim S16384x576 ![] bcast_S_S16384x576 (constant S_ .bf16 0x0000#16) : FVec Ideal S16384x576 .bf16)⟩,
    ⟨S16384x128, (truncf .bf16 kv bitsLt_bf16_f32 : FVec Ideal S16384x128 .bf16)⟩,
    ⟨S16384x64, (truncf .bf16 kr bitsLt_bf16_f32 : FVec Ideal S16384x64 .bf16)⟩,
    ⟨S16384x320, (broadcastInDim S16384x320 ![] bcast_S_S16384x320 (constant S_ .bf16 0x0000#16) : FVec Ideal S16384x320 .bf16)⟩]
    concatenates_S16384x4096_S16384x448_S16384x576_S16384x128_S16384x64_S16384x320_S16384x5632_d1

/-- The cosines, four times side by side. -/
def lc (c : FVec Ideal S16384x32 .f32) : FVec Ideal S16384x128 .f32 :=
  concatenate S16384x128 1 [⟨S16384x32, c⟩, ⟨S16384x32, c⟩, ⟨S16384x32, c⟩, ⟨S16384x32, c⟩] concatenates_S16384x32_S16384x32_S16384x32_S16384x32_S16384x128_d1

/-- The sines, four times side by side, their signs alternating. -/
def ls (s : FVec Ideal S16384x32 .f32) : FVec Ideal S16384x128 .f32 :=
  concatenate S16384x128 1 [⟨S16384x32, (Host.negf s : FVec Ideal S16384x32 .f32)⟩, ⟨S16384x32, s⟩, ⟨S16384x32, (Host.negf s : FVec Ideal S16384x32 .f32)⟩, ⟨S16384x32, s⟩] concatenates_S16384x32_S16384x32_S16384x32_S16384x32_S16384x128_d1

/-- The queries' weight with its columns parted into those without and those with positions. -/
def lq0 (w : FVec Ideal S448x768 .f32) : FVec Ideal S448x768 .f32 :=
  concatenate S448x768 1 [⟨S448x512, (shapeCast S448x512 (extractStridedSlice S448x4x128 ![0, 0, 0] (shapeCast S448x4x192 w shapeCasts_S448x768_S448x4x192) slices_S448x4x192_S448x4x128_0_0_0) shapeCasts_S448x4x128_S448x512 : FVec Ideal S448x512 .f32)⟩,
    ⟨S448x256, (shapeCast S448x256 (extractStridedSlice S448x4x64 ![0, 0, 128] (shapeCast S448x4x192 w shapeCasts_S448x768_S448x4x192) slices_S448x4x192_S448x4x64_0_0_128) shapeCasts_S448x4x64_S448x256 : FVec Ideal S448x256 .f32)⟩] concatenates_S448x512_S448x256_S448x768_d1

/-- The queries' weight as the host code lays it out. -/
def lq (w : FVec Ideal S448x768 .f32) : FVec Ideal S512x768 .bf16 :=
  truncf .bf16 (pad S512x768 ![0, 0] ![64, 0] ![0, 0] (lq0 w) (sitofp .f32 (constantI S_ 32 0#32) : FVec Ideal S_ .f32) pads_S448x768_S512x768_0640_000 h_S_) bitsLt_bf16_f32

/-- The queries' norm weight as the host code lays it out. -/
def lqn (n : FVec Ideal S448 .f32) : FVec Ideal S1x512 .f32 :=
  shapeCast S1x512 (pad S512 ![0] ![64] ![0] n (sitofp .f32 (constantI S_ 32 0#32) : FVec Ideal S_ .f32) pads_S448_S512_0640 h_S_) shapeCasts_S512_S1x512

/-- The keys' weight as the host code lays it out. -/
def lk (w : FVec Ideal S128x1024 .f32) : FVec Ideal S128x512 .bf16 :=
  truncf .bf16 (shapeCast S128x512 (extractStridedSlice S128x4x128 ![0, 0, 0] (shapeCast S128x4x256 w shapeCasts_S128x1024_S128x4x256) slices_S128x4x256_S128x4x128_0_0_0) shapeCasts_S128x4x128_S128x512) bitsLt_bf16_f32

/-- The values' weight as the host code lays it out: transposed. -/
def lv (w : FVec Ideal S128x1024 .f32) : FVec Ideal S512x128 .bf16 :=
  truncf .bf16 (transpose S512x128 [1, 0] (shapeCast S128x512 (extractStridedSlice S128x4x128 ![0, 0, 128] (shapeCast S128x4x256 w shapeCasts_S128x1024_S128x4x256) slices_S128x4x256_S128x4x128_0_0_128) shapeCasts_S128x4x128_S128x512) transposes_S128x512_S512x128_1_0) bitsLt_bf16_f32

/-- The packed columns: the compressed queries. -/
theorem lp_q (q : FVec Ideal S16384x448 .f32) (kv : FVec Ideal S16384x128 .f32) (kr : FVec Ideal S16384x64 .f32) (r : Fin 16384) (k : Fin 448) (h : 4096 + k.val < 5632) :
    lp q kv kr (ix2 r ⟨4096 + k.val, h⟩) = q (ix2 r k) := by
  unfold lp
  pointwise

/-- The packed columns: the zeros after the compressed queries. -/
theorem lp_z (q : FVec Ideal S16384x448 .f32) (kv : FVec Ideal S16384x128 .f32) (kr : FVec Ideal S16384x64 .f32) (r : Fin 16384) (k : Fin 64) (h : 4544 + k.val < 5632) :
    lp q kv kr (ix2 r ⟨4544 + k.val, h⟩) = 0 := by
  unfold lp
  pointwise
  all_goals
    rw [dif_neg (by omega), dif_neg (by omega), dif_pos (by omega)]

/-- The packed columns: the compressed keys and values. -/
theorem lp_kv (q : FVec Ideal S16384x448 .f32) (kv : FVec Ideal S16384x128 .f32) (kr : FVec Ideal S16384x64 .f32) (r : Fin 16384) (k : Fin 128) (h : 5120 + k.val < 5632) :
    lp q kv kr (ix2 r ⟨5120 + k.val, h⟩) = kv (ix2 r k) := by
  unfold lp
  pointwise
  all_goals
    (repeat first | rw [dif_pos (by omega)] | rw [dif_neg (by omega)]) <;>
      exact congrArg (fun i => kv (ix2 r i)) (Fin.ext (by dsimp only; omega))

/-- The packed columns: the key shared by the heads. -/
theorem lp_kr (q : FVec Ideal S16384x448 .f32) (kv : FVec Ideal S16384x128 .f32) (kr : FVec Ideal S16384x64 .f32) (r : Fin 16384) (k : Fin 64) (h : 5248 + k.val < 5632) :
    lp q kv kr (ix2 r ⟨5248 + k.val, h⟩) = kr (ix2 r k) := by
  unfold lp
  pointwise
  all_goals
    (repeat first | rw [dif_pos (by omega)] | rw [dif_neg (by omega)]) <;>
      exact congrArg (fun i => kr (ix2 r i)) (Fin.ext (by dsimp only; omega))

/-- The cosines' columns repeat after 32. -/
theorem lc_apply (c : FVec Ideal S16384x32 .f32) (r : Fin 16384) (b : Fin 4) (k : Fin 32) (h : b.val * 32 + k.val < 128) :
    lc c (ix2 r ⟨b.val * 32 + k.val, h⟩) = c (ix2 r k) := by
  unfold lc
  fin_cases b <;> pointwise
  all_goals
    (repeat first | rw [dif_pos (by omega)] | rw [dif_neg (by omega)]) <;>
      exact congrArg (fun i => c (ix2 r i)) (Fin.ext (by dsimp only; omega))

/-- The sines' columns repeat after 32: the even blocks are negated. -/
theorem ls_even (s : FVec Ideal S16384x32 .f32) (r : Fin 16384) (b : Fin 2) (k : Fin 32) (h : b.val * 64 + k.val < 128) :
    ls s (ix2 r ⟨b.val * 64 + k.val, h⟩) = - s (ix2 r k) := by
  unfold ls
  fin_cases b <;> pointwise
  all_goals
    (repeat first | rw [dif_pos (by omega)] | rw [dif_neg (by omega)]) <;>
      exact congrArg (fun i => - s (ix2 r i)) (Fin.ext (by dsimp only; omega))

/-- The sines' columns repeat after 32: the odd blocks are as given. -/
theorem ls_odd (s : FVec Ideal S16384x32 .f32) (r : Fin 16384) (b : Fin 2) (k : Fin 32) (h : b.val * 64 + 32 + k.val < 128) :
    ls s (ix2 r ⟨b.val * 64 + 32 + k.val, h⟩) = s (ix2 r k) := by
  unfold ls
  fin_cases b <;> pointwise
  all_goals
    (repeat first | rw [dif_pos (by omega)] | rw [dif_neg (by omega)]) <;>
      exact congrArg (fun i => s (ix2 r i)) (Fin.ext (by dsimp only; omega))

/-- The parted columns: those without positions. -/
theorem lq0_a (w : FVec Ideal S448x768 .f32) (k : Fin 448) (g : Fin 4) (j : Fin 128) (h : g.val * 128 + j.val < 768) :
    lq0 w (ix2 k ⟨g.val * 128 + j.val, h⟩) = w (ix2 k ⟨g.val * 192 + j.val, by omega⟩) := by
  unfold lq0
  fin_cases g <;> pointwise
  all_goals
    (repeat first | rw [dif_pos (by omega)] | rw [dif_neg (by omega)]) <;>
      exact congrArg (fun i => w (ix2 k i)) (Fin.ext (by dsimp only; omega))

/-- The parted columns: those with positions. -/
theorem lq0_b (w : FVec Ideal S448x768 .f32) (k : Fin 448) (g : Fin 4) (j : Fin 64) (h : 512 + (g.val * 64 + j.val) < 768) :
    lq0 w (ix2 k ⟨512 + (g.val * 64 + j.val), h⟩) = w (ix2 k ⟨g.val * 192 + 128 + j.val, by omega⟩) := by
  unfold lq0
  fin_cases g <;> pointwise
  all_goals
    (repeat first | rw [dif_pos (by omega)] | rw [dif_neg (by omega)]) <;>
      exact congrArg (fun i => w (ix2 k i)) (Fin.ext (by dsimp only; omega))

/-- The first 448 rows of the queries' laid-out weight. -/
theorem lq_lo (w : FVec Ideal S448x768 .f32) (k : Fin 448) (c : Fin 768) (h : k.val < 512) :
    lq w (ix2 ⟨k.val, h⟩ c) = lq0 w (ix2 k c) := by
  unfold lq
  generalize lq0 w = y
  pointwise

/-- The first 448 entries of the queries' laid-out norm weight. -/
theorem lqn_lo (n : FVec Ideal S448 .f32) (k : Fin 448) (h : k.val < 512) :
    lqn n (ix2 0 ⟨k.val, h⟩) = n (ix1 k) := by
  unfold lqn
  pointwise

/-- The keys' laid-out weight. -/
theorem lk_apply (w : FVec Ideal S128x1024 .f32) (k : Fin 128) (g : Fin 4) (j : Fin 128) (h : g.val * 128 + j.val < 512) :
    lk w (ix2 k ⟨g.val * 128 + j.val, h⟩) = w (ix2 k ⟨g.val * 256 + j.val, by omega⟩) := by
  unfold lk
  fin_cases g <;> pointwise
  all_goals
    (repeat first | rw [dif_pos (by omega)] | rw [dif_neg (by omega)]) <;>
      exact congrArg (fun i => w (ix2 k i)) (Fin.ext (by dsimp only; omega))

/-- The values' laid-out weight. -/
theorem lv_apply (w : FVec Ideal S128x1024 .f32) (k : Fin 128) (g : Fin 4) (j : Fin 128) (h : g.val * 128 + j.val < 512) :
    lv w (ix2 ⟨g.val * 128 + j.val, h⟩ k) = w (ix2 k ⟨g.val * 256 + 128 + j.val, by omega⟩) := by
  unfold lv
  fin_cases g <;> pointwise
  all_goals
    (repeat first | rw [dif_pos (by omega)] | rw [dif_neg (by omega)]) <;>
      exact congrArg (fun i => w (ix2 k i)) (Fin.ext (by dsimp only; omega))

end Cert.KernelProjIdeal.Pj

end
-- ==== Proof.Proj.lean ====
module

public import proofs.«01_k».proof.Proof.ProjBlk
public import proofs.«01_k».proof.Proof.ProjLay
public import proofs.«01_k».proof.Defs

@[expose] public section

set_option backward.proofsInPublic true
set_option maxRecDepth 16384

noncomputable section

open Idealize.ShloMosaic Idealize.ShloMosaic.TcCoe Idealize.SL.Sem
open Idealize.ShloMosaic.Pipeline (Dat)

namespace Cert.KernelProjIdeal.Pj

open Cert.KernelProjIdeal Cert.KernelProjIdeal.Gen
open Cert.ReferenceProjIdeal.Pj (nq nkv row fq fk)

variable (m : (ℓ : Loc nD τ sig) → Buf (Elt Ideal) ℓ) (ρ : Dev nD → PrngReg)

/-- The packed projections the region finds. -/
theorem V_v6 (c : Dev nD) : V m c main_v6 = lp (m ((c : Thread nD τ).loc main_arg0) : FVec Ideal S16384x448 .f32) (m ((c : Thread nD τ).loc main_arg1) : FVec Ideal S16384x128 .f32) (m ((c : Thread nD τ).loc main_arg2) : FVec Ideal S16384x64 .f32) := by
  unfold_abbrev_sides
  simp only [hostOps0, hostOps0_1, hostOps0_2, hostOps0_3, hostOps0_4, List.flatten_cons, List.flatten_nil, List.append_nil, List.cons_append, List.nil_append]
  after_results
  rfl

/-- The cosines the region finds. -/
theorem V_v7 (c : Dev nD) : V m c main_v7 = lc (m ((c : Thread nD τ).loc main_arg3) : FVec Ideal S16384x32 .f32) := by
  unfold_abbrev_sides
  simp only [hostOps0, hostOps0_1, hostOps0_2, hostOps0_3, hostOps0_4, List.flatten_cons, List.flatten_nil, List.append_nil, List.cons_append, List.nil_append]
  after_results
  rfl

/-- The sines the region finds. -/
theorem V_v10 (c : Dev nD) : V m c main_v10 = ls (m ((c : Thread nD τ).loc main_arg4) : FVec Ideal S16384x32 .f32) := by
  unfold_abbrev_sides
  simp only [hostOps0, hostOps0_1, hostOps0_2, hostOps0_3, hostOps0_4, List.flatten_cons, List.flatten_nil, List.append_nil, List.cons_append, List.nil_append]
  after_results
  rfl

/-- The queries' weight the region finds. -/
theorem V_v18 (c : Dev nD) : V m c main_v18 = lq (m ((c : Thread nD τ).loc main_arg6) : FVec Ideal S448x768 .f32) := by
  unfold_abbrev_sides
  simp only [hostOps0, hostOps0_1, hostOps0_2, hostOps0_3, hostOps0_4, List.flatten_cons, List.flatten_nil, List.append_nil, List.cons_append, List.nil_append]
  after_results
  rfl

/-- The queries' norm weight the region finds. -/
theorem V_v20 (c : Dev nD) : V m c main_v20 = lqn (m ((c : Thread nD τ).loc main_arg5) : FVec Ideal S448 .f32) := by
  unfold_abbrev_sides
  simp only [hostOps0, hostOps0_1, hostOps0_2, hostOps0_3, hostOps0_4, List.flatten_cons, List.flatten_nil, List.append_nil, List.cons_append, List.nil_append]
  after_results
  rfl

/-- The keys' weight the region finds. -/
theorem V_v24 (c : Dev nD) : V m c main_v24 = lk (m ((c : Thread nD τ).loc main_arg8) : FVec Ideal S128x1024 .f32) := by
  unfold_abbrev_sides
  simp only [hostOps0, hostOps0_1, hostOps0_2, hostOps0_3, hostOps0_4, List.flatten_cons, List.flatten_nil, List.append_nil, List.cons_append, List.nil_append]
  after_results
  rfl

/-- The values' weight the region finds. -/
theorem V_v28 (c : Dev nD) : V m c main_v28 = lv (m ((c : Thread nD τ).loc main_arg8) : FVec Ideal S128x1024 .f32) := by
  unfold_abbrev_sides
  simp only [hostOps0, hostOps0_1, hostOps0_2, hostOps0_3, hostOps0_4, List.flatten_cons, List.flatten_nil, List.append_nil, List.cons_append, List.nil_append]
  after_results
  rfl

/-- The keys' norm weight the region finds. -/
theorem V_v29 (c : Dev nD) : V m c main_v29 = shapeCast S1x128 (m ((c : Thread nD τ).loc main_arg7) : FVec Ideal S128 .f32) shapeCasts_S128_S1x128 := by
  unfold_abbrev_sides
  simp only [hostOps0, hostOps0_1, hostOps0_2, hostOps0_3, hostOps0_4, List.flatten_cons, List.flatten_nil, List.append_nil, List.cons_append, List.nil_append]
  after_results
  rfl

/-- A point's compressed queries. -/
theorem iblk0 (c : Dev nD) (t : Fin cfg0.N) (a : Fin 512) (k : Fin 512) (h : t.val * 512 + a.val < 16384) :
    (iblk m c 0 t : S512x512.Idx → EReal) (ix2 a k) = (lp (m ((c : Thread nD τ).loc main_arg0) : FVec Ideal S16384x448 .f32) (m ((c : Thread nD τ).loc main_arg1) : FVec Ideal S16384x128 .f32) (m ((c : Thread nD τ).loc main_arg2) : FVec Ideal S16384x64 .f32)) (ix2 ⟨t.val * 512 + a.val, h⟩ ⟨4096 + k.val, by omega⟩) := by
  refine Eq.trans ?_ (congrFun (V_v6 m c) _)
  show (V m c main_v6 : S16384x5632.Idx → EReal) _ = _
  refine congrArg _ (funext fun d => Fin.ext ?_)
  have e : win0_0.index t 0 = t.val ∧ win0_0.index t 1 = 8 := (by decide +kernel : ∀ t : Fin grid0.N, win0_0.index t 0 = t.val ∧ win0_0.index t 1 = 8) t
  match d with
  | ⟨0, _⟩ => show win0_0.index t 0 * 512 + 1 * a.val = t.val * 512 + a.val; rw [e.1]; omega
  | ⟨1, _⟩ => show win0_0.index t 1 * 512 + 1 * k.val = 4096 + k.val; rw [e.2]; omega

/-- A point's compressed keys and values. -/
theorem iblk1 (c : Dev nD) (t : Fin cfg0.N) (a : Fin 512) (k : Fin 128) (h : t.val * 512 + a.val < 16384) :
    (iblk m c 1 t : S512x128.Idx → EReal) (ix2 a k) = (lp (m ((c : Thread nD τ).loc main_arg0) : FVec Ideal S16384x448 .f32) (m ((c : Thread nD τ).loc main_arg1) : FVec Ideal S16384x128 .f32) (m ((c : Thread nD τ).loc main_arg2) : FVec Ideal S16384x64 .f32)) (ix2 ⟨t.val * 512 + a.val, h⟩ ⟨5120 + k.val, by omega⟩) := by
  refine Eq.trans ?_ (congrFun (V_v6 m c) _)
  show (V m c main_v6 : S16384x5632.Idx → EReal) _ = _
  refine congrArg _ (funext fun d => Fin.ext ?_)
  have e : win0_1.index t 0 = t.val ∧ win0_1.index t 1 = 40 := (by decide +kernel : ∀ t : Fin grid0.N, win0_1.index t 0 = t.val ∧ win0_1.index t 1 = 40) t
  match d with
  | ⟨0, _⟩ => show win0_1.index t 0 * 512 + 1 * a.val = t.val * 512 + a.val; rw [e.1]; omega
  | ⟨1, _⟩ => show win0_1.index t 1 * 128 + 1 * k.val = 5120 + k.val; rw [e.2]; omega

/-- A point's shared keys. -/
theorem iblk2 (c : Dev nD) (t : Fin cfg0.N) (a : Fin 512) (k : Fin 128) (h : t.val * 512 + a.val < 16384) :
    (iblk m c 2 t : S512x128.Idx → EReal) (ix2 a k) = (lp (m ((c : Thread nD τ).loc main_arg0) : FVec Ideal S16384x448 .f32) (m ((c : Thread nD τ).loc main_arg1) : FVec Ideal S16384x128 .f32) (m ((c : Thread nD τ).loc main_arg2) : FVec Ideal S16384x64 .f32)) (ix2 ⟨t.val * 512 + a.val, h⟩ ⟨5248 + k.val, by omega⟩) := by
  refine Eq.trans ?_ (congrFun (V_v6 m c) _)
  show (V m c main_v6 : S16384x5632.Idx → EReal) _ = _
  refine congrArg _ (funext fun d => Fin.ext ?_)
  have e : win0_2.index t 0 = t.val ∧ win0_2.index t 1 = 41 := (by decide +kernel : ∀ t : Fin grid0.N, win0_2.index t 0 = t.val ∧ win0_2.index t 1 = 41) t
  match d with
  | ⟨0, _⟩ => show win0_2.index t 0 * 512 + 1 * a.val = t.val * 512 + a.val; rw [e.1]; omega
  | ⟨1, _⟩ => show win0_2.index t 1 * 128 + 1 * k.val = 5248 + k.val; rw [e.2]; omega

/-- A point's cosines. -/
theorem iblk3 (c : Dev nD) (t : Fin cfg0.N) (a : Fin 512) (k : Fin 128) (h : t.val * 512 + a.val < 16384) :
    (iblk m c 3 t : S512x128.Idx → EReal) (ix2 a k) = (lc (m ((c : Thread nD τ).loc main_arg3) : FVec Ideal S16384x32 .f32)) (ix2 ⟨t.val * 512 + a.val, h⟩ k) := by
  refine Eq.trans ?_ (congrFun (V_v7 m c) _)
  show (V m c main_v7 : S16384x128.Idx → EReal) _ = _
  refine congrArg _ (funext fun d => Fin.ext ?_)
  have e : win0_3.index t 0 = t.val ∧ win0_3.index t 1 = 0 := (by decide +kernel : ∀ t : Fin grid0.N, win0_3.index t 0 = t.val ∧ win0_3.index t 1 = 0) t
  match d with
  | ⟨0, _⟩ => show win0_3.index t 0 * 512 + 1 * a.val = t.val * 512 + a.val; rw [e.1]; omega
  | ⟨1, _⟩ => show win0_3.index t 1 * 128 + 1 * k.val = k.val; rw [e.2]; omega

/-- A point's sines. -/
theorem iblk4 (c : Dev nD) (t : Fin cfg0.N) (a : Fin 512) (k : Fin 128) (h : t.val * 512 + a.val < 16384) :
    (iblk m c 4 t : S512x128.Idx → EReal) (ix2 a k) = (ls (m ((c : Thread nD τ).loc main_arg4) : FVec Ideal S16384x32 .f32)) (ix2 ⟨t.val * 512 + a.val, h⟩ k) := by
  refine Eq.trans ?_ (congrFun (V_v10 m c) _)
  show (V m c main_v10 : S16384x128.Idx → EReal) _ = _
  refine congrArg _ (funext fun d => Fin.ext ?_)
  have e : win0_4.index t 0 = t.val ∧ win0_4.index t 1 = 0 := (by decide +kernel : ∀ t : Fin grid0.N, win0_4.index t 0 = t.val ∧ win0_4.index t 1 = 0) t
  match d with
  | ⟨0, _⟩ => show win0_4.index t 0 * 512 + 1 * a.val = t.val * 512 + a.val; rw [e.1]; omega
  | ⟨1, _⟩ => show win0_4.index t 1 * 128 + 1 * k.val = k.val; rw [e.2]; omega

/-- The queries' norm weight, whole at every point. -/
theorem iblk5 (c : Dev nD) (t : Fin cfg0.N) (k : Fin 512) :
    (iblk m c 5 t : S1x512.Idx → EReal) (ix2 0 k) = (lqn (m ((c : Thread nD τ).loc main_arg5) : FVec Ideal S448 .f32)) (ix2 0 k) := by
  refine Eq.trans ?_ (congrFun (V_v20 m c) _)
  show (V m c main_v20 : S1x512.Idx → EReal) _ = _
  refine congrArg _ (funext fun d => Fin.ext ?_)
  have e : win0_5.index t 0 = 0 ∧ win0_5.index t 1 = 0 := (by decide +kernel : ∀ t : Fin grid0.N, win0_5.index t 0 = 0 ∧ win0_5.index t 1 = 0) t
  match d with
  | ⟨0, _⟩ => show win0_5.index t 0 * 1 + 1 * 0 = 0; rw [e.1]
  | ⟨1, _⟩ => show win0_5.index t 1 * 512 + 1 * k.val = k.val; rw [e.2]; omega

/-- The queries' weight, whole at every point. -/
theorem iblk6 (c : Dev nD) (t : Fin cfg0.N) (a : Fin 512) (k : Fin 768) :
    (iblk m c 6 t : S512x768.Idx → EReal) (ix2 a k) = (lq (m ((c : Thread nD τ).loc main_arg6) : FVec Ideal S448x768 .f32)) (ix2 a k) := by
  refine Eq.trans ?_ (congrFun (V_v18 m c) _)
  show (V m c main_v18 : S512x768.Idx → EReal) _ = _
  refine congrArg _ (funext fun d => Fin.ext ?_)
  have e : win0_6.index t 0 = 0 ∧ win0_6.index t 1 = 0 := (by decide +kernel : ∀ t : Fin grid0.N, win0_6.index t 0 = 0 ∧ win0_6.index t 1 = 0) t
  match d with
  | ⟨0, _⟩ => show win0_6.index t 0 * 512 + 1 * a.val = a.val; rw [e.1]; omega
  | ⟨1, _⟩ => show win0_6.index t 1 * 768 + 1 * k.val = k.val; rw [e.2]; omega

/-- The keys' norm weight, whole at every point. -/
theorem iblk7 (c : Dev nD) (t : Fin cfg0.N) (k : Fin 128) :
    (iblk m c 7 t : S1x128.Idx → EReal) (ix2 0 k) = (shapeCast S1x128 (m ((c : Thread nD τ).loc main_arg7) : FVec Ideal S128 .f32) shapeCasts_S128_S1x128) (ix2 0 k) := by
  refine Eq.trans ?_ (congrFun (V_v29 m c) _)
  show (V m c main_v29 : S1x128.Idx → EReal) _ = _
  refine congrArg _ (funext fun d => Fin.ext ?_)
  have e : win0_7.index t 0 = 0 ∧ win0_7.index t 1 = 0 := (by decide +kernel : ∀ t : Fin grid0.N, win0_7.index t 0 = 0 ∧ win0_7.index t 1 = 0) t
  match d with
  | ⟨0, _⟩ => show win0_7.index t 0 * 1 + 1 * 0 = 0; rw [e.1]
  | ⟨1, _⟩ => show win0_7.index t 1 * 128 + 1 * k.val = k.val; rw [e.2]; omega

/-- The keys' weight, whole at every point. -/
theorem iblk8 (c : Dev nD) (t : Fin cfg0.N) (a : Fin 128) (k : Fin 512) :
    (iblk m c 8 t : S128x512.Idx → EReal) (ix2 a k) = (lk (m ((c : Thread nD τ).loc main_arg8) : FVec Ideal S128x1024 .f32)) (ix2 a k) := by
  refine Eq.trans ?_ (congrFun (V_v24 m c) _)
  show (V m c main_v24 : S128x512.Idx → EReal) _ = _
  refine congrArg _ (funext fun d => Fin.ext ?_)
  have e : win0_8.index t 0 = 0 ∧ win0_8.index t 1 = 0 := (by decide +kernel : ∀ t : Fin grid0.N, win0_8.index t 0 = 0 ∧ win0_8.index t 1 = 0) t
  match d with
  | ⟨0, _⟩ => show win0_8.index t 0 * 128 + 1 * a.val = a.val; rw [e.1]; omega
  | ⟨1, _⟩ => show win0_8.index t 1 * 512 + 1 * k.val = k.val; rw [e.2]; omega

/-- The values' weight, whole at every point. -/
theorem iblk9 (c : Dev nD) (t : Fin cfg0.N) (a : Fin 512) (k : Fin 128) :
    (iblk m c 9 t : S512x128.Idx → EReal) (ix2 a k) = (lv (m ((c : Thread nD τ).loc main_arg8) : FVec Ideal S128x1024 .f32)) (ix2 a k) := by
  refine Eq.trans ?_ (congrFun (V_v28 m c) _)
  show (V m c main_v28 : S512x128.Idx → EReal) _ = _
  refine congrArg _ (funext fun d => Fin.ext ?_)
  have e : win0_9.index t 0 = 0 ∧ win0_9.index t 1 = 0 := (by decide +kernel : ∀ t : Fin grid0.N, win0_9.index t 0 = 0 ∧ win0_9.index t 1 = 0) t
  match d with
  | ⟨0, _⟩ => show win0_9.index t 0 * 512 + 1 * a.val = a.val; rw [e.1]; omega
  | ⟨1, _⟩ => show win0_9.index t 1 * 128 + 1 * k.val = k.val; rw [e.2]; omega

/-- The queries at (head, row, column). -/
def w10 (c : Dev nD) (h : Fin 4) (r : Fin 16384) (j : Fin 256) : EReal :=
  row (fq (fun k => (m ((c : Thread nD τ).loc main_arg0) : FVec Ideal S16384x448 .f32) (ix2 r k)) (fun k => (m ((c : Thread nD τ).loc main_arg5) : FVec Ideal S448 .f32) (ix1 k)) (m ((c : Thread nD τ).loc main_arg6) : FVec Ideal S448x768 .f32) h) (fun k => (m ((c : Thread nD τ).loc main_arg3) : FVec Ideal S16384x32 .f32) (ix2 r k)) (fun k => (m ((c : Thread nD τ).loc main_arg4) : FVec Ideal S16384x32 .f32) (ix2 r k)) j * Ideal.ofBits .f32 0x3DD53B95#32

/-- The keys at (head, row, column). -/
def w11 (c : Dev nD) (h : Fin 4) (r : Fin 16384) (j : Fin 256) : EReal :=
  row (fk (fun k => (m ((c : Thread nD τ).loc main_arg1) : FVec Ideal S16384x128 .f32) (ix2 r k)) (fun k => (m ((c : Thread nD τ).loc main_arg7) : FVec Ideal S128 .f32) (ix1 k)) (m ((c : Thread nD τ).loc main_arg8) : FVec Ideal S128x1024 .f32) (fun k => (m ((c : Thread nD τ).loc main_arg2) : FVec Ideal S16384x64 .f32) (ix2 r k)) h) (fun k => (m ((c : Thread nD τ).loc main_arg3) : FVec Ideal S16384x32 .f32) (ix2 r k)) (fun k => (m ((c : Thread nD τ).loc main_arg4) : FVec Ideal S16384x32 .f32) (ix2 r k)) j

/-- The values at (head, block, column, row of the block). -/
def w12 (c : Dev nD) (h : Fin 4) (b : Fin 32) (d : Fin 128) (l : Fin 512) : EReal :=
  ∑ k : Fin 128, nkv (fun i => (m ((c : Thread nD τ).loc main_arg1) : FVec Ideal S16384x128 .f32) (ix2 ⟨b.val * 512 + l.val, by omega⟩ i)) (fun k => (m ((c : Thread nD τ).loc main_arg7) : FVec Ideal S128 .f32) (ix1 k)) k * (m ((c : Thread nD τ).loc main_arg8) : FVec Ideal S128x1024 .f32) (ix2 k ⟨h.val * 256 + 128 + d.val, by omega⟩)

/-- The whole first result. -/
def W10 (c : Dev nD) : Buf (Elt Ideal) ((c : Thread nD τ).loc main_v30_0) := fun i : S4x16384x256.Idx => w10 m c (i 0) (i 1) (i 2)

/-- The whole second result. -/
def W11 (c : Dev nD) : Buf (Elt Ideal) ((c : Thread nD τ).loc main_v30_1) := fun i : S4x16384x256.Idx => w11 m c (i 0) (i 1) (i 2)

/-- The whole third result. -/
def W12 (c : Dev nD) : Buf (Elt Ideal) ((c : Thread nD τ).loc main_v30_2) := fun i : S4x32x128x512.Idx => w12 m c (i 0) (i 1) (i 2) (i 3)

/-- A point of the grid, as a row block below 32. -/
theorem lt_N (t : Fin cfg0.N) : t.val < 32 := lt_of_lt_of_eq t.isLt (by decide)

/-- A point's cosines repeat the row's. -/
theorem hc (c : Dev nD) (t : Fin cfg0.N) (a : Fin 512) (h : t.val * 512 + a.val < 16384) (b : Fin 4) (k : Fin 32) :
    (iblk m c 3 t : S512x128.Idx → EReal) (ix2 a ⟨b.val * 32 + k.val, by omega⟩) = (m ((c : Thread nD τ).loc main_arg3) : FVec Ideal S16384x32 .f32) (ix2 ⟨t.val * 512 + a.val, h⟩ k) :=
  (iblk3 m c t a _ h).trans (lc_apply _ _ b k _)

/-- A point's sines, the even blocks. -/
theorem hse (c : Dev nD) (t : Fin cfg0.N) (a : Fin 512) (h : t.val * 512 + a.val < 16384) (b : Fin 2) (k : Fin 32) :
    (iblk m c 4 t : S512x128.Idx → EReal) (ix2 a ⟨b.val * 64 + k.val, by omega⟩) = Neg.neg (α := EReal) ((m ((c : Thread nD τ).loc main_arg4) : FVec Ideal S16384x32 .f32) (ix2 ⟨t.val * 512 + a.val, h⟩ k)) :=
  (iblk4 m c t a _ h).trans (ls_even _ _ b k _)

/-- A point's sines, the odd blocks. -/
theorem hso (c : Dev nD) (t : Fin cfg0.N) (a : Fin 512) (h : t.val * 512 + a.val < 16384) (b : Fin 2) (k : Fin 32) :
    (iblk m c 4 t : S512x128.Idx → EReal) (ix2 a ⟨b.val * 64 + 32 + k.val, by omega⟩) = (m ((c : Thread nD τ).loc main_arg4) : FVec Ideal S16384x32 .f32) (ix2 ⟨t.val * 512 + a.val, h⟩ k) :=
  (iblk4 m c t a _ h).trans (ls_odd _ _ b k _)

/-- A point's queries. -/
theorem hq (c : Dev nD) (t : Fin cfg0.N) (a : Fin 512) (h : t.val * 512 + a.val < 16384) (cc : Fin 768) :
    bq (iblk m c 0 t) (iblk m c 5 t) (iblk m c 6 t) a cc
      = ∑ k : Fin 448, nq (fun k => (m ((c : Thread nD τ).loc main_arg0) : FVec Ideal S16384x448 .f32) (ix2 ⟨t.val * 512 + a.val, h⟩ k)) (fun k => (m ((c : Thread nD τ).loc main_arg5) : FVec Ideal S448 .f32) (ix1 k)) k * lq0 (m ((c : Thread nD τ).loc main_arg6) : FVec Ideal S448x768 .f32) (ix2 k cc) :=
  bq_eq _ _ _ a cc _ _ (fun k => lq0 (m ((c : Thread nD τ).loc main_arg6) : FVec Ideal S448x768 .f32) (ix2 k cc))
    (fun k => (iblk0 m c t a _ h).trans (lp_q _ _ _ _ k _))
    (fun k => (iblk0 m c t a _ h).trans (Eq.trans (congrArg (fun i => lp _ _ _ (ix2 _ i)) (Fin.ext (by dsimp only; omega))) (lp_z _ _ _ _ k (by omega))))
    (fun k => (iblk5 m c t _).trans (lqn_lo _ k _))
    (fun k => (iblk6 m c t _ cc).trans (lq_lo _ k cc _))

/-- A point's compressed keys and values. -/
theorem hkv (c : Dev nD) (t : Fin cfg0.N) (a : Fin 512) (h : t.val * 512 + a.val < 16384) (k : Fin 128) :
    (iblk m c 1 t : S512x128.Idx → EReal) (ix2 a k) = (m ((c : Thread nD τ).loc main_arg1) : FVec Ideal S16384x128 .f32) (ix2 ⟨t.val * 512 + a.val, h⟩ k) :=
  (iblk1 m c t a k h).trans (lp_kv _ _ _ _ k _)

/-- The keys' norm weight. -/
theorem hn7 (c : Dev nD) (t : Fin cfg0.N) (k : Fin 128) :
    (iblk m c 7 t : S1x128.Idx → EReal) (ix2 0 k) = (m ((c : Thread nD τ).loc main_arg7) : FVec Ideal S128 .f32) (ix1 k) := by
  refine (iblk7 m c t k).trans ?_
  generalize (m ((c : Thread nD τ).loc main_arg7) : FVec Ideal S128 .f32) = y
  pointwise

/-- A point's first result over the arguments. -/
theorem b10_eq (c : Dev nD) (t : Fin cfg0.N) (h : Fin 4) (a : Fin 512) (j : Fin 256) (hr : t.val * 512 + a.val < 16384) :
    b10 (iblk m c 0 t) (iblk m c 1 t) (iblk m c 2 t) (iblk m c 3 t) (iblk m c 4 t) (iblk m c 5 t) (iblk m c 6 t) (iblk m c 7 t) (iblk m c 8 t) (iblk m c 9 t) h a j
      = w10 m c h ⟨t.val * 512 + a.val, hr⟩ j :=
  b10_row _ _ _ _ _ _ _ _ _ _ h a j _ _ _
    (fun i => (hq m c t a hr _).trans (Finset.sum_congr rfl fun k _ => congrArg _ (lq0_a _ k h i _)))
    (fun i => (hq m c t a hr _).trans (Finset.sum_congr rfl fun k _ => congrArg _ ((lq0_b _ k h i _).trans (congrArg (fun i => (m ((c : Thread nD τ).loc main_arg6) : FVec Ideal S448x768 .f32) (ix2 k i)) (Fin.ext (by dsimp only; omega))))))
    (hc m c t a hr) (hse m c t a hr) (hso m c t a hr)

/-- A point's second result over the arguments. -/
theorem b11_eq (c : Dev nD) (t : Fin cfg0.N) (h : Fin 4) (a : Fin 512) (j : Fin 256) (hr : t.val * 512 + a.val < 16384) :
    b11 (iblk m c 0 t) (iblk m c 1 t) (iblk m c 2 t) (iblk m c 3 t) (iblk m c 4 t) (iblk m c 5 t) (iblk m c 6 t) (iblk m c 7 t) (iblk m c 8 t) (iblk m c 9 t) h a j
      = w11 m c h ⟨t.val * 512 + a.val, hr⟩ j := by
  have e1 : (fun i => (iblk m c 1 t : S512x128.Idx → EReal) (ix2 a i)) = fun i => (m ((c : Thread nD τ).loc main_arg1) : FVec Ideal S16384x128 .f32) (ix2 ⟨t.val * 512 + a.val, hr⟩ i) := funext fun k => hkv m c t a hr k
  have e7 : (fun i => (iblk m c 7 t : S1x128.Idx → EReal) (ix2 0 i)) = fun i => (m ((c : Thread nD τ).loc main_arg7) : FVec Ideal S128 .f32) (ix1 i) := funext fun k => hn7 m c t k
  refine b11_row _ _ _ _ _ _ _ _ _ _ h a j _ _ _ (fun i => ?_) (fun i => ?_) (hc m c t a hr) (hse m c t a hr) (hso m c t a hr)
  · refine (Finset.sum_congr rfl fun k _ => congrArg₂ (· * ·) (congrArg₂ (fun x y => nkv x y k) e1 e7) ((iblk8 m c t k _).trans (lk_apply _ k h i _))).trans ?_
    unfold fk
    refine Eq.trans ?_ (dif_pos i.isLt).symm
    rfl
  · refine ((iblk2 m c t a _ hr).trans (lp_kr _ _ _ _ i _)).trans ?_
    unfold fk
    refine Eq.trans ?_ (dif_neg (by dsimp only; omega)).symm
    exact congrArg (fun k => (m ((c : Thread nD τ).loc main_arg2) : FVec Ideal S16384x64 .f32) (ix2 _ k)) (Fin.ext (by dsimp only; omega))

/-- A point's third result over the arguments. -/
theorem b12_eq' (c : Dev nD) (t : Fin cfg0.N) (h : Fin 4) (d : Fin 128) (l : Fin 512) (ht : t.val < 32) :
    b12 (iblk m c 0 t) (iblk m c 1 t) (iblk m c 2 t) (iblk m c 3 t) (iblk m c 4 t) (iblk m c 5 t) (iblk m c 6 t) (iblk m c 7 t) (iblk m c 8 t) (iblk m c 9 t) h d l
      = w12 m c h ⟨t.val, ht⟩ d l := by
  have hr : t.val * 512 + l.val < 16384 := by omega
  have e1 : (fun i => (iblk m c 1 t : S512x128.Idx → EReal) (ix2 l i)) = fun i => (m ((c : Thread nD τ).loc main_arg1) : FVec Ideal S16384x128 .f32) (ix2 ⟨t.val * 512 + l.val, hr⟩ i) := funext fun k => hkv m c t l hr k
  have e7 : (fun i => (iblk m c 7 t : S1x128.Idx → EReal) (ix2 0 i)) = fun i => (m ((c : Thread nD τ).loc main_arg7) : FVec Ideal S128 .f32) (ix1 i) := funext fun k => hn7 m c t k
  refine (b12_eq _ _ _ _ _ _ _ _ _ _ h d l).trans ?_
  exact Finset.sum_congr rfl fun k _ => congrArg₂ (· * ·) (congrArg₂ (fun x y => nkv x y k) e1 e7) ((iblk9 m c t _ k).trans (lv_apply _ k h d _))

/-- The block index of result 1 at point `t`. -/
theorem idx10 (t : Fin cfg0.N) : win0_10.index t 0 = 0 ∧ win0_10.index t 1 = t.val ∧ win0_10.index t 2 = 0 :=
  (by decide +kernel : ∀ t : Fin grid0.N, win0_10.index t 0 = 0 ∧ win0_10.index t 1 = t.val ∧ win0_10.index t 2 = 0) t

/-- What point `t` writes back is its block of the whole result. -/
theorem flushed_eq10 (c : Dev nD) (t : Fin cfg0.N) :
    (dats m 0 c).flushed 10 t = (win0_10.blk t).view.read (Elt Ideal) (W10 m c) := by
  rw [Value.flushed10]
  funext y
  change S4x512x256.Idx at y
  have ht := lt_N t
  obtain ⟨h, a, j, rfl⟩ : ∃ (h : Fin 4) (a : Fin 512) (j : Fin 256), y = ix3 h a j := ⟨y 0, y 1, y 2, eq_ix3 y⟩
  have hr : t.val * 512 + a.val < 16384 := by have := a.isLt; omega
  refine (out10_apply _ _ _ _ _ _ _ _ _ _ (ix3 h a j)).trans ?_
  refine (b10_eq m c t h a j hr).trans ?_
  have e : (win0_10.blk t).view.emb (ix3 h a j) = (ix3 h ⟨t.val * 512 + a.val, hr⟩ j : S4x16384x256.Idx) := by
    funext d
    apply Fin.ext
    match d with
    | ⟨0, _⟩ => show win0_10.index t 0 * 4 + 1 * h.val = h.val; rw [(idx10 t).1]; omega
    | ⟨1, _⟩ => show win0_10.index t 1 * 512 + 1 * a.val = t.val * 512 + a.val; rw [(idx10 t).2.1]; omega
    | ⟨2, _⟩ => show win0_10.index t 2 * 256 + 1 * j.val = j.val; rw [(idx10 t).2.2]; omega
  exact (congrArg (W10 m c) e).symm

/-- An index of the result is in point `t`'s block exactly when its row is among the point's 512. -/
theorem mem_blk10 (t : Fin cfg0.N) (i : S4x16384x256.Idx) (h : t.val = (i 1).val / 512) :
    i ∈ ((cfg0.win 10).blk t).view.set := by
  show i ∈ ((View.whole main_v30_0).slice (win0_10.rect t)).set
  rw [View.set_slice_whole, Rect.mem_set_unit]
  have h0 : (i 0).val < 4 := (i 0).isLt
  have h1 : (i 1).val < 16384 := (i 1).isLt
  have h2 : (i 2).val < 256 := (i 2).isLt
  intro d
  match d with
  | ⟨0, _⟩ => show win0_10.index t 0 * 4 ≤ (i 0).val ∧ (i 0).val < win0_10.index t 0 * 4 + 4; rw [(idx10 t).1]; omega
  | ⟨1, _⟩ => show win0_10.index t 1 * 512 ≤ (i 1).val ∧ (i 1).val < win0_10.index t 1 * 512 + 512; rw [(idx10 t).2.1]; omega
  | ⟨2, _⟩ => show win0_10.index t 2 * 256 ≤ (i 2).val ∧ (i 2).val < win0_10.index t 2 * 256 + 256; rw [(idx10 t).2.2]; omega

/-- The result array after the run is `W10`. -/
theorem final10 (c : Dev nD) : (dats m 0 c).arrAt 10 cfg0.N = W10 m c :=
  (dats m 0 c).arrAt_eq_of_cover 10 (W10 m c) (fun t _ => flushed_eq10 m c t) fun i => by
    have h0 : ((i : S4x16384x256.Idx) 1).val < 16384 := ((i : S4x16384x256.Idx) 1).isLt
    have hN : cfg0.N = 32 := by decide
    exact ⟨⟨((i : S4x16384x256.Idx) 1).val / 512, by omega⟩, flush0_10 _, mem_blk10 _ i rfl⟩

/-- The block index of result 2 at point `t`. -/
theorem idx11 (t : Fin cfg0.N) : win0_11.index t 0 = 0 ∧ win0_11.index t 1 = t.val ∧ win0_11.index t 2 = 0 :=
  (by decide +kernel : ∀ t : Fin grid0.N, win0_11.index t 0 = 0 ∧ win0_11.index t 1 = t.val ∧ win0_11.index t 2 = 0) t

/-- What point `t` writes back is its block of the whole result. -/
theorem flushed_eq11 (c : Dev nD) (t : Fin cfg0.N) :
    (dats m 0 c).flushed 11 t = (win0_11.blk t).view.read (Elt Ideal) (W11 m c) := by
  rw [Value.flushed11]
  funext y
  change S4x512x256.Idx at y
  have ht := lt_N t
  obtain ⟨h, a, j, rfl⟩ : ∃ (h : Fin 4) (a : Fin 512) (j : Fin 256), y = ix3 h a j := ⟨y 0, y 1, y 2, eq_ix3 y⟩
  have hr : t.val * 512 + a.val < 16384 := by have := a.isLt; omega
  refine (out11_apply _ _ _ _ _ _ _ _ _ _ (ix3 h a j)).trans ?_
  refine (b11_eq m c t h a j hr).trans ?_
  have e : (win0_11.blk t).view.emb (ix3 h a j) = (ix3 h ⟨t.val * 512 + a.val, hr⟩ j : S4x16384x256.Idx) := by
    funext d
    apply Fin.ext
    match d with
    | ⟨0, _⟩ => show win0_11.index t 0 * 4 + 1 * h.val = h.val; rw [(idx11 t).1]; omega
    | ⟨1, _⟩ => show win0_11.index t 1 * 512 + 1 * a.val = t.val * 512 + a.val; rw [(idx11 t).2.1]; omega
    | ⟨2, _⟩ => show win0_11.index t 2 * 256 + 1 * j.val = j.val; rw [(idx11 t).2.2]; omega
  exact (congrArg (W11 m c) e).symm

/-- An index of the result is in point `t`'s block exactly when its row is among the point's 512. -/
theorem mem_blk11 (t : Fin cfg0.N) (i : S4x16384x256.Idx) (h : t.val = (i 1).val / 512) :
    i ∈ ((cfg0.win 11).blk t).view.set := by
  show i ∈ ((View.whole main_v30_1).slice (win0_11.rect t)).set
  rw [View.set_slice_whole, Rect.mem_set_unit]
  have h0 : (i 0).val < 4 := (i 0).isLt
  have h1 : (i 1).val < 16384 := (i 1).isLt
  have h2 : (i 2).val < 256 := (i 2).isLt
  intro d
  match d with
  | ⟨0, _⟩ => show win0_11.index t 0 * 4 ≤ (i 0).val ∧ (i 0).val < win0_11.index t 0 * 4 + 4; rw [(idx11 t).1]; omega
  | ⟨1, _⟩ => show win0_11.index t 1 * 512 ≤ (i 1).val ∧ (i 1).val < win0_11.index t 1 * 512 + 512; rw [(idx11 t).2.1]; omega
  | ⟨2, _⟩ => show win0_11.index t 2 * 256 ≤ (i 2).val ∧ (i 2).val < win0_11.index t 2 * 256 + 256; rw [(idx11 t).2.2]; omega

/-- The result array after the run is `W11`. -/
theorem final11 (c : Dev nD) : (dats m 0 c).arrAt 11 cfg0.N = W11 m c :=
  (dats m 0 c).arrAt_eq_of_cover 11 (W11 m c) (fun t _ => flushed_eq11 m c t) fun i => by
    have h0 : ((i : S4x16384x256.Idx) 1).val < 16384 := ((i : S4x16384x256.Idx) 1).isLt
    have hN : cfg0.N = 32 := by decide
    exact ⟨⟨((i : S4x16384x256.Idx) 1).val / 512, by omega⟩, flush0_11 _, mem_blk11 _ i rfl⟩

/-- The block index of result 3 at point `t`. -/
theorem idx12 (t : Fin cfg0.N) : win0_12.index t 0 = 0 ∧ win0_12.index t 1 = t.val ∧ win0_12.index t 2 = 0 ∧ win0_12.index t 3 = 0 :=
  (by decide +kernel : ∀ t : Fin grid0.N, win0_12.index t 0 = 0 ∧ win0_12.index t 1 = t.val ∧ win0_12.index t 2 = 0 ∧ win0_12.index t 3 = 0) t

/-- What point `t` writes back is its block of the whole result. -/
theorem flushed_eq12 (c : Dev nD) (t : Fin cfg0.N) :
    (dats m 0 c).flushed 12 t = (win0_12.blk t).view.read (Elt Ideal) (W12 m c) := by
  rw [Value.flushed12]
  funext y
  change S4x1x128x512.Idx at y
  have ht := lt_N t
  obtain ⟨h, d, l, rfl⟩ : ∃ (h : Fin 4) (d : Fin 128) (l : Fin 512), y = ix4 h 0 d l :=
    ⟨y 0, y 2, y 3, (eq_ix4 y).trans (congrArg (fun b => ix4 (y 0) b (y 2) (y 3)) (Subsingleton.elim (α := Fin 1) _ _))⟩
  refine (out12_apply _ _ _ _ _ _ _ _ _ _ (ix4 h 0 d l)).trans ?_
  refine (b12_eq' m c t h d l ht).trans ?_
  have e : (win0_12.blk t).view.emb (ix4 h 0 d l) = (ix4 h ⟨t.val, ht⟩ d l : S4x32x128x512.Idx) := by
    funext b
    apply Fin.ext
    match b with
    | ⟨0, _⟩ => show win0_12.index t 0 * 4 + 1 * h.val = h.val; rw [(idx12 t).1]; omega
    | ⟨1, _⟩ => show win0_12.index t 1 * 1 + 1 * 0 = t.val; rw [(idx12 t).2.1]; omega
    | ⟨2, _⟩ => show win0_12.index t 2 * 128 + 1 * d.val = d.val; rw [(idx12 t).2.2.1]; omega
    | ⟨3, _⟩ => show win0_12.index t 3 * 512 + 1 * l.val = l.val; rw [(idx12 t).2.2.2]; omega
  exact (congrArg (W12 m c) e).symm

/-- An index of the result is in point `t`'s block exactly when its block is `t`. -/
theorem mem_blk12 (t : Fin cfg0.N) (i : S4x32x128x512.Idx) (h : t.val = (i 1).val) :
    i ∈ ((cfg0.win 12).blk t).view.set := by
  show i ∈ ((View.whole main_v30_2).slice (win0_12.rect t)).set
  rw [View.set_slice_whole, Rect.mem_set_unit]
  have h0 : (i 0).val < 4 := (i 0).isLt
  have h1 : (i 1).val < 32 := (i 1).isLt
  have h2 : (i 2).val < 128 := (i 2).isLt
  have h3 : (i 3).val < 512 := (i 3).isLt
  intro d
  match d with
  | ⟨0, _⟩ => show win0_12.index t 0 * 4 ≤ (i 0).val ∧ (i 0).val < win0_12.index t 0 * 4 + 4; rw [(idx12 t).1]; omega
  | ⟨1, _⟩ => show win0_12.index t 1 * 1 ≤ (i 1).val ∧ (i 1).val < win0_12.index t 1 * 1 + 1; rw [(idx12 t).2.1]; omega
  | ⟨2, _⟩ => show win0_12.index t 2 * 128 ≤ (i 2).val ∧ (i 2).val < win0_12.index t 2 * 128 + 128; rw [(idx12 t).2.2.1]; omega
  | ⟨3, _⟩ => show win0_12.index t 3 * 512 ≤ (i 3).val ∧ (i 3).val < win0_12.index t 3 * 512 + 512; rw [(idx12 t).2.2.2]; omega

/-- The result array after the run is `W12`. -/
theorem final12 (c : Dev nD) : (dats m 0 c).arrAt 12 cfg0.N = W12 m c :=
  (dats m 0 c).arrAt_eq_of_cover 12 (W12 m c) (fun t _ => flushed_eq12 m c t) fun i => by
    have h0 : ((i : S4x32x128x512.Idx) 1).val < 32 := ((i : S4x32x128x512.Idx) 1).isLt
    have hN : cfg0.N = 32 := by decide
    exact ⟨⟨((i : S4x32x128x512.Idx) 1).val, by omega⟩, flush0_12 _, mem_blk12 _ i rfl⟩

end Cert.KernelProjIdeal.Pj

namespace Cert.Proof

open Cert.KernelProjIdeal.Pj

/-- The float word the ideal program names is the real 1/448 up to rounding. -/
theorem preserves_proj : Cert.preserves_KernelProj_KernelProjIdeal :=
  IdealRules.named_const.statement Cert.KernelProjIdeal.κ "inv_rank" .f32 0x3B124925#32 ((448⁻¹ : ℝ) : EReal) rfl

/-- The latent attention's projection call computes the reference's function, at the ideal instance. -/
theorem algebraic_proj [Cert.ReferenceProjIdeal.Facts] : Cert.algebraic_KernelProjIdeal_ReferenceProjIdeal := by
  intro m g m' g' _ hargs
  refine ⟨fun c => W10 m c, fun c => W11 m c, fun c => W12 m c, (θ_run Cert.KernelProjIdeal.defs _ _).mono (fun r h c => ?_) (Cert.KernelProjIdeal.Value.run_blocks (F := Ideal) m g),
    (θ_run Cert.ReferenceProjIdeal.defs _ _).mono (fun r h c => ?_) (Cert.ReferenceProjIdeal.Value.run (F := Ideal) m' g')⟩
  · exact ⟨(h c).1.trans (final10 m c), (h c).2.1.trans (final11 m c), (h c).2.2.1.trans (final12 m c), (h c).2.2.2⟩
  · obtain ⟨h0, h1, h2, h3, h4, h5, h6, h7, h8⟩ := hargs c
    refine ⟨(h c).1.trans ?_, (h c).2.1.trans ?_, (h c).2.2.1.trans ?_, (h c).2.2.2⟩
    · refine (Cert.ReferenceProjIdeal.Read.val_main_v69_eq (F := Ideal) m' c).trans ?_
      rw [h0, h3, h4, h5, h6]
      funext i
      obtain ⟨a, r, l, rfl⟩ : ∃ (a : Fin 4) (r : Fin 16384) (l : Fin 256), i = ix3 a r l := ⟨i 0, i 1, i 2, eq_ix3 i⟩
      exact Cert.ReferenceProjIdeal.Pj.v69_apply _ _ _ _ _ a r l
    · refine (Cert.ReferenceProjIdeal.Read.val_main_v72_eq (F := Ideal) _ _ _ _ _ _).trans ?_
      rw [h1, h2, h3, h4, h7, h8]
      funext i
      obtain ⟨a, r, l, rfl⟩ : ∃ (a : Fin 4) (r : Fin 16384) (l : Fin 256), i = ix3 a r l := ⟨i 0, i 1, i 2, eq_ix3 i⟩
      exact Cert.ReferenceProjIdeal.Pj.v72_apply _ _ _ _ _ _ a r l
    · refine (Cert.ReferenceProjIdeal.Read.val_main_v75_eq (F := Ideal) _ _ _).trans ?_
      rw [h1, h7, h8]
      funext i
      obtain ⟨a, b, d, l, rfl⟩ : ∃ (a : Fin 4) (b : Fin 32) (d : Fin 128) (l : Fin 512), i = ix4 a b d l := ⟨i 0, i 1, i 2, i 3, eq_ix4 i⟩
      exact Cert.ReferenceProjIdeal.Pj.v75_apply _ _ _ a b d l

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.ReferenceDownIdeal.Read
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.ReferenceUpIdeal.Read
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelPre
public import proofs.«01_k».proof.Proof.Gen.KernelPre.Skeleton
public import proofs.«01_k».proof.Proof.Gen.KernelPre.Launch
public import proofs.«01_k».proof.Proof.Gen.KernelPre.Points
public import proofs.«01_k».proof.Proof.Gen.KernelPre.Frame
public import proofs.«01_k».proof.Proof.Gen.KernelPreIdeal
public import proofs.«01_k».proof.Proof.Gen.KernelPreIdeal.Skeleton
public import proofs.«01_k».proof.Proof.Gen.KernelPreIdeal.Launch
public import proofs.«01_k».proof.Proof.Gen.KernelPreIdeal.Points
public import proofs.«01_k».proof.Proof.Gen.KernelPreIdeal.Frame
public import proofs.«01_k».proof.Proof.Gen.KernelPreIdeal.Value
public import proofs.«01_k».proof.Proof.Gen.ReferencePreIdeal
public import proofs.«01_k».proof.Proof.Gen.ReferencePreIdeal.Run
public import proofs.«01_k».proof.Proof.Gen.ReferencePreIdeal.Read
public import proofs.«01_k».proof.Proof.Gen.KernelMod
public import proofs.«01_k».proof.Proof.Gen.KernelMod.Skeleton
public import proofs.«01_k».proof.Proof.Gen.KernelMod.Launch
public import proofs.«01_k».proof.Proof.Gen.KernelMod.Points
public import proofs.«01_k».proof.Proof.Gen.KernelMod.Frame
public import proofs.«01_k».proof.Proof.Gen.KernelModIdeal
public import proofs.«01_k».proof.Proof.Gen.KernelModIdeal.Skeleton
public import proofs.«01_k».proof.Proof.Gen.KernelModIdeal.Launch
public import proofs.«01_k».proof.Proof.Gen.KernelModIdeal.Points
public import proofs.«01_k».proof.Proof.Gen.KernelModIdeal.Frame
public import proofs.«01_k».proof.Proof.Gen.KernelModIdeal.Value
public import proofs.«01_k».proof.Proof.Gen.ReferenceModIdeal
public import proofs.«01_k».proof.Proof.Gen.ReferenceModIdeal.Run
public import proofs.«01_k».proof.Proof.Gen.ReferenceModIdeal.Read
public import proofs.«01_k».proof.Proof.Gen.KernelProj
public import proofs.«01_k».proof.Proof.Gen.KernelProj.Skeleton
public import proofs.«01_k».proof.Proof.Gen.KernelProj.Launch
public import proofs.«01_k».proof.Proof.Gen.KernelProj.Points
public import proofs.«01_k».proof.Proof.Gen.KernelProj.Frame
public import proofs.«01_k».proof.Proof.Gen.KernelProjIdeal
public import proofs.«01_k».proof.Proof.Gen.KernelProjIdeal.Skeleton
public import proofs.«01_k».proof.Proof.Gen.KernelProjIdeal.Launch
public import proofs.«01_k».proof.Proof.Gen.KernelProjIdeal.Points
public import proofs.«01_k».proof.Proof.Gen.KernelProjIdeal.Frame
public import proofs.«01_k».proof.Proof.Gen.KernelProjIdeal.Value
public import proofs.«01_k».proof.Proof.Gen.ReferenceProjIdeal
public import proofs.«01_k».proof.Proof.Gen.ReferenceProjIdeal.Run
public import proofs.«01_k».proof.Proof.Gen.ReferenceProjIdeal.Read
public import proofs.«01_k».proof.Proof.Gen.Pre_finite_scores
public import proofs.«01_k».proof.Proof.Gen.Pre_above_bottom
public import proofs.«01_k».proof.Proof.Swa
public import proofs.«01_k».proof.Proof.Down
public import proofs.«01_k».proof.Proof.Up
public import proofs.«01_k».proof.Proof.Out
public import proofs.«01_k».proof.Proof.In
public import proofs.«01_k».proof.Proof.Pre
public import proofs.«01_k».proof.Proof.Mod
public import proofs.«01_k».proof.Proof.Proj
public import Idealize.ShloMosaic.Adequacy
public import Idealize.ShloMosaic.Init

@[expose] public section

noncomputable section

namespace Cert.Proof

open Idealize.ShloMosaic Idealize.SL.Sem

/-- Every claim of the certificate: the eight calls' frames, their ideal programs, and what they compute. -/
theorem claim : Cert.Claim :=
  ⟨Cert.Kernel.Gen.facts,
    Cert.KernelIdeal.Gen.facts, Cert.ReferenceIdeal.Gen.facts,
    Cert.KernelDown.Gen.facts,
    Cert.KernelDownIdeal.Gen.facts, Cert.ReferenceDownIdeal.Gen.facts,
    Cert.KernelUp.Gen.facts,
    Cert.KernelUpIdeal.Gen.facts, Cert.ReferenceUpIdeal.Gen.facts,
    Cert.KernelOut.Gen.facts,
    Cert.KernelOutIdeal.Gen.facts, Cert.ReferenceOutIdeal.Gen.facts,
    Cert.KernelIn.Gen.facts,
    Cert.KernelInIdeal.Gen.facts, Cert.ReferenceInIdeal.Gen.facts,
    Cert.KernelPre.Gen.facts,
    Cert.KernelPreIdeal.Gen.facts, Cert.ReferencePreIdeal.Gen.facts,
    Cert.KernelMod.Gen.facts,
    Cert.KernelModIdeal.Gen.facts, Cert.ReferenceModIdeal.Gen.facts,
    Cert.KernelProj.Gen.facts,
    Cert.KernelProjIdeal.Gen.facts, Cert.ReferenceProjIdeal.Gen.facts, Cert.Pre_finite_scores.Gen.facts, Cert.Pre_above_bottom.Gen.facts,
    fun m ρ _ => Cert.Kernel.Gen.frame m ρ,
    fun m ρ _ => Cert.KernelIdeal.Gen.frame m ρ,
    fun m ρ _ => Cert.KernelIdeal.Gen.frame m ρ,
    fun m ρ _ => (θ_run Cert.ReferenceIdeal.defs _ _).mono (fun r h => ⟨fun c => (h c).2, sem_eq_zero_of_no_sems (by decide) r.2⟩)
      (Cert.ReferenceIdeal.Value.run m ρ),
    fun m ρ _ => (θ_run Cert.ReferenceIdeal.defs _ _).mono (fun r h => ⟨fun c => (h c).2, sem_eq_zero_of_no_sems (by decide) r.2⟩)
      (Cert.ReferenceIdeal.Value.run m ρ),
    fun m ρ _ => Cert.KernelDown.Gen.frame m ρ,
    fun m ρ _ => Cert.KernelDownIdeal.Gen.frame m ρ,
    fun m ρ _ => (θ_run Cert.ReferenceDownIdeal.defs _ _).mono (fun r h => ⟨fun c => (h c).2, sem_eq_zero_of_no_sems (by decide) r.2⟩)
      (Cert.ReferenceDownIdeal.Value.run m ρ),
    fun m ρ _ => Cert.KernelUp.Gen.frame m ρ,
    fun m ρ _ => Cert.KernelUpIdeal.Gen.frame m ρ,
    fun m ρ _ => (θ_run Cert.ReferenceUpIdeal.defs _ _).mono (fun r h => ⟨fun c => (h c).2, sem_eq_zero_of_no_sems (by decide) r.2⟩)
      (Cert.ReferenceUpIdeal.Value.run m ρ),
    fun m ρ _ => Cert.KernelOut.Gen.frame m ρ,
    fun m ρ _ => Cert.KernelOutIdeal.Gen.frame m ρ,
    fun m ρ _ => (θ_run Cert.ReferenceOutIdeal.defs _ _).mono (fun r h => ⟨fun c => (h c).2.2, sem_eq_zero_of_no_sems (by decide) r.2⟩)
      (Cert.ReferenceOutIdeal.Value.run m ρ),
    frame_in,
    frame_in_ideal,
    fun m ρ _ => (θ_run Cert.ReferenceInIdeal.defs _ _).mono (fun r h => ⟨fun c => (h c).2.2, sem_eq_zero_of_no_sems (by decide) r.2⟩)
      (Cert.ReferenceInIdeal.Value.run m ρ),
    fun m ρ _ => Cert.KernelPre.Gen.frame m ρ,
    fun m ρ _ => Cert.KernelPreIdeal.Gen.frame m ρ,
    fun m ρ _ => (θ_run Cert.ReferencePreIdeal.defs _ _).mono (fun r h => ⟨fun c => (h c).2, sem_eq_zero_of_no_sems (by decide) r.2⟩)
      (Cert.ReferencePreIdeal.Value.run m ρ),
    fun m ρ _ => Cert.KernelMod.Gen.frame m ρ,
    fun m ρ _ => Cert.KernelModIdeal.Gen.frame m ρ,
    fun m ρ _ => Cert.KernelModIdeal.Gen.frame m ρ,
    fun m ρ _ => (θ_run Cert.ReferenceModIdeal.defs _ _).mono (fun r h => ⟨fun c => (h c).2, sem_eq_zero_of_no_sems (by decide) r.2⟩)
      (Cert.ReferenceModIdeal.Value.run m ρ),
    fun m ρ _ => (θ_run Cert.ReferenceModIdeal.defs _ _).mono (fun r h => ⟨fun c => (h c).2, sem_eq_zero_of_no_sems (by decide) r.2⟩)
      (Cert.ReferenceModIdeal.Value.run m ρ),
    fun m ρ _ => Cert.KernelProj.Gen.frame m ρ,
    fun m ρ _ => Cert.KernelProjIdeal.Gen.frame m ρ,
    fun m ρ _ => (θ_run Cert.ReferenceProjIdeal.defs _ _).mono (fun r h => ⟨fun c => (h c).2.2.2, sem_eq_zero_of_no_sems (by decide) r.2⟩)
      (Cert.ReferenceProjIdeal.Value.run m ρ),
    trivial,
    algebraic_swa,
    trivial,
    algebraic_down,
    trivial,
    algebraic_up,
    trivial,
    algebraic_out,
    trivial,
    algebraic_in,
    trivial,
    algebraic_pre,
    trivial,
    algebraic_mod,
    preserves_proj,
    algebraic_proj⟩

end Cert.Proof

end
